-- ==== Defs.lean ====
def Pre_Kernel [hPre_well_formed : Cert.Pre_well_formed.Facts] (m : (ℓ : Loc Cert.Kernel.nD Cert.Kernel.τ Cert.Kernel.sig) → Buf (Elt Bits) ℓ) : Prop :=
  ∀ c : Dev Cert.Kernel.nD,
    (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))).1 = (fun _ => 1#1)
    ∧ (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))).2.1 = (fun _ => 1#1)
    ∧ (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))).2.2.1 = (fun _ => 1#1)
    ∧ (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))).2.2.2.1 = (fun _ => 1#1)
    ∧ (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))).2.2.2.2 = (fun _ => 1#1)

def Pre_KernelIdeal [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_well_formed_last : Cert.Pre_well_formed_last.Facts] (m : (ℓ : Loc Cert.Kernel4.nD Cert.Kernel4.τ Cert.Kernel4.sig) → Buf (Elt Bits) ℓ) : Prop :=
  ∀ c : Dev Cert.Kernel4.nD,
    (Cert.Pre_well_formed_last.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10))).1 = (fun _ => 1#1)
    ∧ (Cert.Pre_well_formed_last.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10))).2.1 = (fun _ => 1#1)
    ∧ (Cert.Pre_well_formed_last.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10))).2.2.1 = (fun _ => 1#1)
    ∧ (Cert.Pre_well_formed_last.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10))).2.2.2.1 = (fun _ => 1#1)
    ∧ (Cert.Pre_well_formed_last.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8)) (m ((c.tc : Thread Cert.Kernel4.nD Cert.Kernel4.τ).loc Cert.Kernel4.main_arg9)) (m ((c.tc : Thread Cert.Kernel4.nD Cert.Kernel4.τ).loc Cert.Kernel4.main_arg10))).2.2.2.2 = (fun _ => 1#1)

def Pre_Kernel4Ideal [hPre_well_formed_last : Cert.Pre_well_formed_last.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_well_formed_last.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).1 = (fun _ => 1#1)
    ∧ (Cert.Pre_well_formed_last.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.1 = (fun _ => 1#1)
    ∧ (Cert.Pre_well_formed_last.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2.1 = (fun _ => 1#1)
    ∧ (Cert.Pre_well_formed_last.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2.2.1 = (fun _ => 1#1)
    ∧ (Cert.Pre_well_formed_last.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_well_formed_last [hPre_well_formed_last : Cert.Pre_well_formed_last.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_well_formed_last.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).1 = (fun _ => 1#1)
    ∧ (Cert.Pre_well_formed_last.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.1 = (fun _ => 1#1)
    ∧ (Cert.Pre_well_formed_last.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2.1 = (fun _ => 1#1)
    ∧ (Cert.Pre_well_formed_last.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2.2.1 = (fun _ => 1#1)
    ∧ (Cert.Pre_well_formed_last.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite [hPre_finite : Cert.Pre_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite [hPre_finite : Cert.Pre_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).2 = (fun _ => 1#1)

def quiescent_Kernel [hKernel : Cert.Kernel.Facts] [hPre_well_formed : Cert.Pre_well_formed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] [hPre_well_formed_last : Cert.Pre_well_formed_last.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] [hPre_well_formed_last : Cert.Pre_well_formed_last.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_well_formed_last [hReference4Ideal : Cert.Reference4Ideal.Facts] [hPre_well_formed_last : Cert.Pre_well_formed_last.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_well_formed_last m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite [hKernel8Ideal : Cert.Kernel8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite [hReference8Ideal : Cert.Reference8Ideal.Facts] [hPre_finite : Cert.Pre_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal_on_rows_visited [hKernelIdeal : Cert.KernelIdeal.Facts] [hReferenceIdeal : Cert.ReferenceIdeal.Facts] [hPre_well_formed : Cert.Pre_well_formed.Facts] [hOn_rows_visited : Cert.On_rows_visited.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![36864, 2048]⟩ : Shape).Idx, (Cert.On_rows_visited.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) i = 1#1 → r.2.mem ((c.tc : Thread Cert.KernelIdeal.nD Cert.KernelIdeal.τ).loc Cert.KernelIdeal.main_v4) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![36864, 2048]⟩ : Shape).Idx, (Cert.On_rows_visited.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) i = 1#1 → r.2.mem ((c.tc : Thread Cert.ReferenceIdeal.nD Cert.ReferenceIdeal.τ).loc Cert.ReferenceIdeal.main_v60) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_on_rows_visited_last [hKernel4Ideal : Cert.Kernel4Ideal.Facts] [hReference4Ideal : Cert.Reference4Ideal.Facts] [hPre_well_formed_last : Cert.Pre_well_formed_last.Facts] [hOn_rows_visited_last : Cert.On_rows_visited_last.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨2, ![32768, 2048]⟩ : Shape).Idx, (Cert.On_rows_visited_last.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) i = 1#1 → r.2.mem ((c.tc : Thread Cert.Kernel4Ideal.nD Cert.Kernel4Ideal.τ).loc Cert.Kernel4Ideal.main_v4) i = v0 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨2, ![32768, 2048]⟩ : Shape).Idx, (Cert.On_rows_visited_last.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) i = 1#1 → r.2.mem ((c.tc : Thread Cert.Reference4Ideal.nD Cert.Reference4Ideal.τ).loc Cert.Reference4Ideal.main_v60) i = v0 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v53) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v42) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal_pre_finite [hKernel8Ideal : Cert.Kernel8Ideal.Facts] [hReference8Ideal : Cert.Reference8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v44) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_well_formed : Cert.Pre_well_formed.Facts) (hPre_well_formed_last : Cert.Pre_well_formed_last.Facts) (hPre_finite : Cert.Pre_finite.Facts) (hOn_rows_visited : Cert.On_rows_visited.Facts) (hOn_rows_visited_last : Cert.On_rows_visited_last.Facts),
    quiescent_Kernel (hKernel := hKernel) (hPre_well_formed := hPre_well_formed)
    ∧ quiescent_KernelIdeal (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_well_formed_last := hPre_well_formed_last)
    ∧ quiescent_Kernel4Ideal (hKernel4Ideal := hKernel4Ideal) (hPre_well_formed_last := hPre_well_formed_last)
    ∧ quiescent_Reference4Ideal (hReference4Ideal := hReference4Ideal)
    ∧ quiescent_Reference4Ideal_pre_well_formed_last (hReference4Ideal := hReference4Ideal) (hPre_well_formed_last := hPre_well_formed_last)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite (hKernel8Ideal := hKernel8Ideal) (hPre_finite := hPre_finite)
    ∧ quiescent_Reference8Ideal (hReference8Ideal := hReference8Ideal)
    ∧ quiescent_Reference8Ideal_pre_finite (hReference8Ideal := hReference8Ideal) (hPre_finite := hPre_finite)
    ∧ preserves_Kernel_KernelIdeal
    ∧ algebraic_KernelIdeal_ReferenceIdeal_on_rows_visited (hKernelIdeal := hKernelIdeal) (hReferenceIdeal := hReferenceIdeal) (hPre_well_formed := hPre_well_formed) (hOn_rows_visited := hOn_rows_visited)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_on_rows_visited_last (hKernel4Ideal := hKernel4Ideal) (hReference4Ideal := hReference4Ideal) (hPre_well_formed_last := hPre_well_formed_last) (hOn_rows_visited_last := hOn_rows_visited_last)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite (hKernel8Ideal := hKernel8Ideal) (hReference8Ideal := hReference8Ideal) (hPre_finite := hPre_finite)
-- ==== On_rows_visited.lean ====
abbrev S175 : Shape := ⟨1, ![175]⟩
abbrev S36864x2048 : Shape := ⟨2, ![36864, 2048]⟩
abbrev S4x32x2048x1024 : Shape := ⟨4, ![4, 32, 2048, 1024]⟩
abbrev S32x1024 : Shape := ⟨2, ![32, 1024]⟩
abbrev S4x32x512x2048 : Shape := ⟨4, ![4, 32, 512, 2048]⟩
abbrev S32x2048 : Shape := ⟨2, ![32, 2048]⟩
abbrev S36864 : Shape := ⟨1, ![36864]⟩
abbrev S36864x1 : Shape := ⟨2, ![36864, 1]⟩
abbrev S1x175 : Shape := ⟨2, ![1, 175]⟩
abbrev S_ : Shape := ⟨0, ![]⟩
abbrev S36864x175 : Shape := ⟨2, ![36864, 175]⟩

class Facts : Prop where
  bcast_S36864_S36864x1_0 : S36864.BroadcastsInDim S36864x1 (![0] : Fin 1 → Fin S36864x1.rank)
  bcast_S175_S1x175_1 : S175.BroadcastsInDim S1x175 (![1] : Fin 1 → Fin S1x175.rank)
  bcast_S_S1x175 : S_.BroadcastsInDim S1x175 (![] : Fin 0 → Fin S1x175.rank)
  bcast_S36864x1_S36864x175_0_1 : S36864x1.BroadcastsInDim S36864x175 (![0, 1] : Fin 2 → Fin S36864x175.rank)
  bcast_S1x175_S36864x175_0_1 : S1x175.BroadcastsInDim S36864x175 (![0, 1] : Fin 2 → Fin S36864x175.rank)
  bcast_S_S36864x175 : S_.BroadcastsInDim S36864x175 (![] : Fin 0 → Fin S36864x175.rank)
  reducesTo_S36864x175_S36864_d1 : S36864x175.ReducesTo [1] S36864
  h_S_ : 0 < S_.numel
  bcast_S36864x1_S36864x2048_0_1 : S36864x1.BroadcastsInDim S36864x2048 (![0, 1] : Fin 2 → Fin S36864x2048.rank)

variable [Facts]

def fn {F : FTy → Type} [FloatOps F] (main_arg0 : IVec S175 32) (main_arg1 : IVec S175 32) (main_arg2 : IVec S175 32) (main_arg3 : IVec S175 32) (main_arg4 : IVec S175 32) (main_arg5 : IVec S175 32) (main_arg6 : FVec F S36864x2048 .f32) (main_arg7 : FVec F S4x32x2048x1024 .f32) (main_arg8 : FVec F S32x1024 .f32) (main_arg9 : FVec F S4x32x512x2048 .f32) (main_arg10 : FVec F S32x2048 .f32) : IVec S36864x2048 1 :=
  let main_v0 : IVec S36864 32 := iotaInDim S36864 32 0
  let main_v1 : IVec S36864x1 32 := broadcastInDim S36864x1 ![0] bcast_S36864_S36864x1_0 main_v0
  let main_v2 : IVec S1x175 32 := broadcastInDim S1x175 ![1] bcast_S175_S1x175_1 main_arg0
  let main_c : IVec S_ 32 := constantI S_ 32 256#32
  let main_v3 : IVec S1x175 32 := broadcastInDim S1x175 ![] bcast_S_S1x175 main_c
  let main_v4 : IVec S1x175 32 := muli main_v3 main_v2
  let main_v5 : IVec S36864x175 32 := broadcastInDim S36864x175 ![0, 1] bcast_S36864x1_S36864x175_0_1 main_v1
  let main_v6 : IVec S36864x175 32 := broadcastInDim S36864x175 ![0, 1] bcast_S1x175_S36864x175_0_1 main_v4
  let main_v7 : IVec S36864x175 32 := subi main_v5 main_v6
  let main_c_0 : IVec S_ 32 := constantI S_ 32 0#32
  let main_v8 : IVec S36864x175 32 := broadcastInDim S36864x175 ![] bcast_S_S36864x175 main_c_0
  let main_v9 : IVec S36864x175 1 := cmpi .sge main_v7 main_v8
  let main_c_1 : IVec S_ 32 := constantI S_ 32 256#32
  let main_v10 : IVec S36864x175 32 := broadcastInDim S36864x175 ![] bcast_S_S36864x175 main_c_1
  let main_v11 : IVec S36864x175 1 := cmpi .slt main_v7 main_v10
  let main_v12 : IVec S36864x175 1 := andi main_v9 main_v11
  let main_c_2 : IVec S_ 1 := constantI S_ 1 0#1
  let main_v13 : IVec S36864 1 := (fun x v => Host.reduce IntOp.ori x v reducesTo_S36864x175_S36864_d1 h_S_) main_v12 main_c_2
  let main_v14 : IVec S36864x1 1 := broadcastInDim S36864x1 ![0] bcast_S36864_S36864x1_0 main_v13
  let main_v15 : IVec S36864x2048 1 := broadcastInDim S36864x2048 ![0, 1] bcast_S36864x1_S36864x2048_0_1 main_v14
  main_v15
-- ==== On_rows_visited_last.lean ====
abbrev S159 : Shape := ⟨1, ![159]⟩
abbrev S32768x2048 : Shape := ⟨2, ![32768, 2048]⟩
abbrev S4x32x2048x1024 : Shape := ⟨4, ![4, 32, 2048, 1024]⟩
abbrev S32x1024 : Shape := ⟨2, ![32, 1024]⟩
abbrev S4x32x512x2048 : Shape := ⟨4, ![4, 32, 512, 2048]⟩
abbrev S32x2048 : Shape := ⟨2, ![32, 2048]⟩
abbrev S32768 : Shape := ⟨1, ![32768]⟩
abbrev S32768x1 : Shape := ⟨2, ![32768, 1]⟩
abbrev S1x159 : Shape := ⟨2, ![1, 159]⟩
abbrev S_ : Shape := ⟨0, ![]⟩
abbrev S32768x159 : Shape := ⟨2, ![32768, 159]⟩

class Facts : Prop where
  bcast_S32768_S32768x1_0 : S32768.BroadcastsInDim S32768x1 (![0] : Fin 1 → Fin S32768x1.rank)
  bcast_S159_S1x159_1 : S159.BroadcastsInDim S1x159 (![1] : Fin 1 → Fin S1x159.rank)
  bcast_S_S1x159 : S_.BroadcastsInDim S1x159 (![] : Fin 0 → Fin S1x159.rank)
  bcast_S32768x1_S32768x159_0_1 : S32768x1.BroadcastsInDim S32768x159 (![0, 1] : Fin 2 → Fin S32768x159.rank)
  bcast_S1x159_S32768x159_0_1 : S1x159.BroadcastsInDim S32768x159 (![0, 1] : Fin 2 → Fin S32768x159.rank)
  bcast_S_S32768x159 : S_.BroadcastsInDim S32768x159 (![] : Fin 0 → Fin S32768x159.rank)
  reducesTo_S32768x159_S32768_d1 : S32768x159.ReducesTo [1] S32768
  h_S_ : 0 < S_.numel
  bcast_S32768x1_S32768x2048_0_1 : S32768x1.BroadcastsInDim S32768x2048 (![0, 1] : Fin 2 → Fin S32768x2048.rank)

variable [Facts]

def fn {F : FTy → Type} [FloatOps F] (main_arg0 : IVec S159 32) (main_arg1 : IVec S159 32) (main_arg2 : IVec S159 32) (main_arg3 : IVec S159 32) (main_arg4 : IVec S159 32) (main_arg5 : IVec S159 32) (main_arg6 : FVec F S32768x2048 .f32) (main_arg7 : FVec F S4x32x2048x1024 .f32) (main_arg8 : FVec F S32x1024 .f32) (main_arg9 : FVec F S4x32x512x2048 .f32) (main_arg10 : FVec F S32x2048 .f32) : IVec S32768x2048 1 :=
  let main_v0 : IVec S32768 32 := iotaInDim S32768 32 0
  let main_v1 : IVec S32768x1 32 := broadcastInDim S32768x1 ![0] bcast_S32768_S32768x1_0 main_v0
  let main_v2 : IVec S1x159 32 := broadcastInDim S1x159 ![1] bcast_S159_S1x159_1 main_arg0
  let main_c : IVec S_ 32 := constantI S_ 32 256#32
  let main_v3 : IVec S1x159 32 := broadcastInDim S1x159 ![] bcast_S_S1x159 main_c
  let main_v4 : IVec S1x159 32 := muli main_v3 main_v2
  let main_v5 : IVec S32768x159 32 := broadcastInDim S32768x159 ![0, 1] bcast_S32768x1_S32768x159_0_1 main_v1
  let main_v6 : IVec S32768x159 32 := broadcastInDim S32768x159 ![0, 1] bcast_S1x159_S32768x159_0_1 main_v4
  let main_v7 : IVec S32768x159 32 := subi main_v5 main_v6
  let main_c_0 : IVec S_ 32 := constantI S_ 32 0#32
  let main_v8 : IVec S32768x159 32 := broadcastInDim S32768x159 ![] bcast_S_S32768x159 main_c_0
  let main_v9 : IVec S32768x159 1 := cmpi .sge main_v7 main_v8
  let main_c_1 : IVec S_ 32 := constantI S_ 32 256#32
  let main_v10 : IVec S32768x159 32 := broadcastInDim S32768x159 ![] bcast_S_S32768x159 main_c_1
  let main_v11 : IVec S32768x159 1 := cmpi .slt main_v7 main_v10
  let main_v12 : IVec S32768x159 1 := andi main_v9 main_v11
  let main_c_2 : IVec S_ 1 := constantI S_ 1 0#1
  let main_v13 : IVec S32768 1 := (fun x v => Host.reduce IntOp.ori x v reducesTo_S32768x159_S32768_d1 h_S_) main_v12 main_c_2
  let main_v14 : IVec S32768x1 1 := broadcastInDim S32768x1 ![0] bcast_S32768_S32768x1_0 main_v13
  let main_v15 : IVec S32768x2048 1 := broadcastInDim S32768x2048 ![0, 1] bcast_S32768x1_S32768x2048_0_1 main_v14
  main_v15
-- ==== Pre_finite.lean ====
abbrev S4x2304x2048 : Shape := ⟨3, ![4, 2304, 2048]⟩
abbrev S4x2304x1024 : Shape := ⟨3, ![4, 2304, 1024]⟩
abbrev S_ : Shape := ⟨0, ![]⟩

class Facts : Prop where
  bitsLt_bf16_f32 : FTy.bits .bf16 < FTy.bits .f32
  bcast_S_S4x2304x2048 : S_.BroadcastsInDim S4x2304x2048 (![] : Fin 0 → Fin S4x2304x2048.rank)

variable [Facts]

def fn {F : FTy → Type} [FloatOps F] (main_arg0 : FVec F S4x2304x2048 .bf16) (main_arg1 : FVec F S4x2304x2048 .bf16) (main_arg2 : FVec F S4x2304x1024 .bf16) : IVec S4x2304x2048 1 × IVec S4x2304x2048 1 :=
  let main_v0 : FVec F S4x2304x2048 .f32 := (extf .f32 · bitsLt_bf16_f32) main_arg0
  let main_v1 : FVec F S4x2304x2048 .f32 := Host.absf main_v0
  let main_cst : FVec F S_ .f32 := constant S_ .f32 0x7F800000#32
  let main_v2 : FVec F S4x2304x2048 .f32 := broadcastInDim S4x2304x2048 ![] bcast_S_S4x2304x2048 main_cst
  let main_v3 : IVec S4x2304x2048 1 := cmpf .olt main_v1 main_v2
  let main_v4 : FVec F S4x2304x2048 .f32 := (extf .f32 · bitsLt_bf16_f32) main_arg1
  let main_v5 : FVec F S4x2304x2048 .f32 := Host.absf main_v4
  let main_cst_0 : FVec F S_ .f32 := constant S_ .f32 0x7F800000#32
  let main_v6 : FVec F S4x2304x2048 .f32 := broadcastInDim S4x2304x2048 ![] bcast_S_S4x2304x2048 main_cst_0
  let main_v7 : IVec S4x2304x2048 1 := cmpf .olt main_v5 main_v6
  (main_v3, main_v7)
-- ==== Pre_well_formed.lean ====
abbrev S175 : Shape := ⟨1, ![175]⟩
abbrev S36864x2048 : Shape := ⟨2, ![36864, 2048]⟩
abbrev S4x32x2048x1024 : Shape := ⟨4, ![4, 32, 2048, 1024]⟩
abbrev S32x1024 : Shape := ⟨2, ![32, 1024]⟩
abbrev S4x32x512x2048 : Shape := ⟨4, ![4, 32, 512, 2048]⟩
abbrev S32x2048 : Shape := ⟨2, ![32, 2048]⟩
abbrev S_ : Shape := ⟨0, ![]⟩
abbrev S1 : Shape := ⟨1, ![1]⟩
abbrev S174 : Shape := ⟨1, ![174]⟩

class Facts : Prop where
  bcast_S_S175 : S_.BroadcastsInDim S175 (![] : Fin 0 → Fin S175.rank)
  bcast_S_S1 : S_.BroadcastsInDim S1 (![] : Fin 0 → Fin S1.rank)
  slices_S175_S174_0 : S175.Slices ![0] S174
  concatenates_S1_S174_S175_d0 : Shape.Concatenates [S1, S174] S175 0
  natLt_1_32 : 1 < 32

variable [Facts]

def fn_part1 {F : FTy → Type} [FloatOps F] (main_arg0 : IVec S175 32) (main_arg1 : IVec S175 32) (main_arg2 : IVec S175 32) (main_arg3 : IVec S175 32) (main_arg4 : IVec S175 32) (main_arg5 : IVec S175 32) (main_v9 : IVec S175 1) (main_v14 : IVec S175 1) (main_v17 : IVec S175 32) : IVec S175 1 × IVec S175 1 × IVec S175 1 × IVec S175 1 × IVec S175 1 :=
  let main_v18 : IVec S175 1 := cmpi .ne main_arg0 main_v17
  let main_v19 : IVec S175 32 := (extui 32 · natLt_1_32) main_v18
  let main_v20 : IVec S175 1 := cmpi .eq main_arg4 main_v19
  let main_c_5 : IVec S_ 32 := constantI S_ 32 4294967295#32
  let main_v21 : IVec S1 32 := broadcastInDim S1 ![] bcast_S_S1 main_c_5
  let main_v22 : IVec S174 32 := (extractStridedSlice S174 ![0] · slices_S175_S174_0) main_arg1
  let main_v23 : IVec S175 32 := (fun a b => concatenate S175 0 [⟨S1, a⟩, ⟨S174, b⟩] concatenates_S1_S174_S175_d0) main_v21 main_v22
  let main_v24 : IVec S175 1 := cmpi .ne main_arg1 main_v23
  let main_v25 : IVec S175 32 := (extui 32 · natLt_1_32) main_v24
  let main_v26 : IVec S175 1 := cmpi .eq main_arg5 main_v25
  let main_c_6 : IVec S_ 32 := constantI S_ 32 0#32
  let main_v27 : IVec S175 32 := broadcastInDim S175 ![] bcast_S_S175 main_c_6
  let main_v28 : IVec S175 1 := cmpi .eq main_arg4 main_v27
  let main_v29 : IVec S175 1 := cmpi .sgt main_arg3 main_arg2
  let main_v30 : IVec S175 1 := ori main_v28 main_v29
  (main_v9, main_v14, main_v20, main_v26, main_v30)

def fn {F : FTy → Type} [FloatOps F] (main_arg0 : IVec S175 32) (main_arg1 : IVec S175 32) (main_arg2 : IVec S175 32) (main_arg3 : IVec S175 32) (main_arg4 : IVec S175 32) (main_arg5 : IVec S175 32) (main_arg6 : FVec F S36864x2048 .f32) (main_arg7 : FVec F S4x32x2048x1024 .f32) (main_arg8 : FVec F S32x1024 .f32) (main_arg9 : FVec F S4x32x512x2048 .f32) (main_arg10 : FVec F S32x2048 .f32) : IVec S175 1 × IVec S175 1 × IVec S175 1 × IVec S175 1 × IVec S175 1 :=
  let main_c : IVec S_ 32 := constantI S_ 32 0#32
  let main_v0 : IVec S175 32 := broadcastInDim S175 ![] bcast_S_S175 main_c
  let main_v1 : IVec S175 1 := cmpi .sge main_arg0 main_v0
  let main_c_0 : IVec S_ 32 := constantI S_ 32 144#32
  let main_v2 : IVec S175 32 := broadcastInDim S175 ![] bcast_S_S175 main_c_0
  let main_v3 : IVec S175 1 := cmpi .slt main_arg0 main_v2
  let main_v4 : IVec S175 1 := andi main_v1 main_v3
  let main_c_1 : IVec S_ 32 := constantI S_ 32 4294967295#32
  let main_v5 : IVec S1 32 := broadcastInDim S1 ![] bcast_S_S1 main_c_1
  let main_v6 : IVec S174 32 := (extractStridedSlice S174 ![0] · slices_S175_S174_0) main_arg0
  let main_v7 : IVec S175 32 := (fun a b => concatenate S175 0 [⟨S1, a⟩, ⟨S174, b⟩] concatenates_S1_S174_S175_d0) main_v5 main_v6
  let main_v8 : IVec S175 1 := cmpi .sge main_arg0 main_v7
  let main_v9 : IVec S175 1 := andi main_v4 main_v8
  let main_c_2 : IVec S_ 32 := constantI S_ 32 0#32
  let main_v10 : IVec S175 32 := broadcastInDim S175 ![] bcast_S_S175 main_c_2
  let main_v11 : IVec S175 1 := cmpi .sge main_arg1 main_v10
  let main_c_3 : IVec S_ 32 := constantI S_ 32 32#32
  let main_v12 : IVec S175 32 := broadcastInDim S175 ![] bcast_S_S175 main_c_3
  let main_v13 : IVec S175 1 := cmpi .slt main_arg1 main_v12
  let main_v14 : IVec S175 1 := andi main_v11 main_v13
  let main_c_4 : IVec S_ 32 := constantI S_ 32 4294967295#32
  let main_v15 : IVec S1 32 := broadcastInDim S1 ![] bcast_S_S1 main_c_4
  let main_v16 : IVec S174 32 := (extractStridedSlice S174 ![0] · slices_S175_S174_0) main_arg0
  let main_v17 : IVec S175 32 := (fun a b => concatenate S175 0 [⟨S1, a⟩, ⟨S174, b⟩] concatenates_S1_S174_S175_d0) main_v15 main_v16
  fn_part1 (F := F) main_arg0 main_arg1 main_arg2 main_arg3 main_arg4 main_arg5 main_v9 main_v14 main_v17
-- ==== Pre_well_formed_last.lean ====
abbrev S159 : Shape := ⟨1, ![159]⟩
abbrev S32768x2048 : Shape := ⟨2, ![32768, 2048]⟩
abbrev S4x32x2048x1024 : Shape := ⟨4, ![4, 32, 2048, 1024]⟩
abbrev S32x1024 : Shape := ⟨2, ![32, 1024]⟩
abbrev S4x32x512x2048 : Shape := ⟨4, ![4, 32, 512, 2048]⟩
abbrev S32x2048 : Shape := ⟨2, ![32, 2048]⟩
abbrev S_ : Shape := ⟨0, ![]⟩
abbrev S1 : Shape := ⟨1, ![1]⟩
abbrev S158 : Shape := ⟨1, ![158]⟩

class Facts : Prop where
  bcast_S_S159 : S_.BroadcastsInDim S159 (![] : Fin 0 → Fin S159.rank)
  bcast_S_S1 : S_.BroadcastsInDim S1 (![] : Fin 0 → Fin S1.rank)
  slices_S159_S158_0 : S159.Slices ![0] S158
  concatenates_S1_S158_S159_d0 : Shape.Concatenates [S1, S158] S159 0
  natLt_1_32 : 1 < 32

variable [Facts]

def fn_part1 {F : FTy → Type} [FloatOps F] (main_arg0 : IVec S159 32) (main_arg1 : IVec S159 32) (main_arg2 : IVec S159 32) (main_arg3 : IVec S159 32) (main_arg4 : IVec S159 32) (main_arg5 : IVec S159 32) (main_v9 : IVec S159 1) (main_v14 : IVec S159 1) (main_v17 : IVec S159 32) : IVec S159 1 × IVec S159 1 × IVec S159 1 × IVec S159 1 × IVec S159 1 :=
  let main_v18 : IVec S159 1 := cmpi .ne main_arg0 main_v17
  let main_v19 : IVec S159 32 := (extui 32 · natLt_1_32) main_v18
  let main_v20 : IVec S159 1 := cmpi .eq main_arg4 main_v19
  let main_c_5 : IVec S_ 32 := constantI S_ 32 4294967295#32
  let main_v21 : IVec S1 32 := broadcastInDim S1 ![] bcast_S_S1 main_c_5
  let main_v22 : IVec S158 32 := (extractStridedSlice S158 ![0] · slices_S159_S158_0) main_arg1
  let main_v23 : IVec S159 32 := (fun a b => concatenate S159 0 [⟨S1, a⟩, ⟨S158, b⟩] concatenates_S1_S158_S159_d0) main_v21 main_v22
  let main_v24 : IVec S159 1 := cmpi .ne main_arg1 main_v23
  let main_v25 : IVec S159 32 := (extui 32 · natLt_1_32) main_v24
  let main_v26 : IVec S159 1 := cmpi .eq main_arg5 main_v25
  let main_c_6 : IVec S_ 32 := constantI S_ 32 0#32
  let main_v27 : IVec S159 32 := broadcastInDim S159 ![] bcast_S_S159 main_c_6
  let main_v28 : IVec S159 1 := cmpi .eq main_arg4 main_v27
  let main_v29 : IVec S159 1 := cmpi .sgt main_arg3 main_arg2
  let main_v30 : IVec S159 1 := ori main_v28 main_v29
  (main_v9, main_v14, main_v20, main_v26, main_v30)

def fn {F : FTy → Type} [FloatOps F] (main_arg0 : IVec S159 32) (main_arg1 : IVec S159 32) (main_arg2 : IVec S159 32) (main_arg3 : IVec S159 32) (main_arg4 : IVec S159 32) (main_arg5 : IVec S159 32) (main_arg6 : FVec F S32768x2048 .f32) (main_arg7 : FVec F S4x32x2048x1024 .f32) (main_arg8 : FVec F S32x1024 .f32) (main_arg9 : FVec F S4x32x512x2048 .f32) (main_arg10 : FVec F S32x2048 .f32) : IVec S159 1 × IVec S159 1 × IVec S159 1 × IVec S159 1 × IVec S159 1 :=
  let main_c : IVec S_ 32 := constantI S_ 32 0#32
  let main_v0 : IVec S159 32 := broadcastInDim S159 ![] bcast_S_S159 main_c
  let main_v1 : IVec S159 1 := cmpi .sge main_arg0 main_v0
  let main_c_0 : IVec S_ 32 := constantI S_ 32 128#32
  let main_v2 : IVec S159 32 := broadcastInDim S159 ![] bcast_S_S159 main_c_0
  let main_v3 : IVec S159 1 := cmpi .slt main_arg0 main_v2
  let main_v4 : IVec S159 1 := andi main_v1 main_v3
  let main_c_1 : IVec S_ 32 := constantI S_ 32 4294967295#32
  let main_v5 : IVec S1 32 := broadcastInDim S1 ![] bcast_S_S1 main_c_1
  let main_v6 : IVec S158 32 := (extractStridedSlice S158 ![0] · slices_S159_S158_0) main_arg0
  let main_v7 : IVec S159 32 := (fun a b => concatenate S159 0 [⟨S1, a⟩, ⟨S158, b⟩] concatenates_S1_S158_S159_d0) main_v5 main_v6
  let main_v8 : IVec S159 1 := cmpi .sge main_arg0 main_v7
  let main_v9 : IVec S159 1 := andi main_v4 main_v8
  let main_c_2 : IVec S_ 32 := constantI S_ 32 0#32
  let main_v10 : IVec S159 32 := broadcastInDim S159 ![] bcast_S_S159 main_c_2
  let main_v11 : IVec S159 1 := cmpi .sge main_arg1 main_v10
  let main_c_3 : IVec S_ 32 := constantI S_ 32 32#32
  let main_v12 : IVec S159 32 := broadcastInDim S159 ![] bcast_S_S159 main_c_3
  let main_v13 : IVec S159 1 := cmpi .slt main_arg1 main_v12
  let main_v14 : IVec S159 1 := andi main_v11 main_v13
  let main_c_4 : IVec S_ 32 := constantI S_ 32 4294967295#32
  let main_v15 : IVec S1 32 := broadcastInDim S1 ![] bcast_S_S1 main_c_4
  let main_v16 : IVec S158 32 := (extractStridedSlice S158 ![0] · slices_S159_S158_0) main_arg0
  let main_v17 : IVec S159 32 := (fun a b => concatenate S159 0 [⟨S1, a⟩, ⟨S158, b⟩] concatenates_S1_S158_S159_d0) main_v15 main_v16
  fn_part1 (F := F) main_arg0 main_arg1 main_arg2 main_arg3 main_arg4 main_arg5 main_v9 main_v14 main_v17
-- ==== Kernel.lean ====
abbrev S175 : Shape := ⟨1, ![175]⟩
abbrev S36864x2048 : Shape := ⟨2, ![36864, 2048]⟩
abbrev S4x32x2048x1024 : Shape := ⟨4, ![4, 32, 2048, 1024]⟩
abbrev S32x1024 : Shape := ⟨2, ![32, 1024]⟩
abbrev S4x32x512x2048 : Shape := ⟨4, ![4, 32, 512, 2048]⟩
abbrev S32x2048 : Shape := ⟨2, ![32, 2048]⟩
abbrev S256x256 : Shape := ⟨2, ![256, 256]⟩
abbrev S32x4x128x2 : Shape := ⟨4, ![32, 4, 128, 2]⟩
abbrev S32x4x2x128 : Shape := ⟨4, ![32, 4, 2, 128]⟩
abbrev S32x1x1024 : Shape := ⟨3, ![32, 1, 1024]⟩
abbrev S32x1x2048 : Shape := ⟨3, ![32, 1, 2048]⟩
abbrev S256x2048 : Shape := ⟨2, ![256, 2048]⟩
abbrev S1 : Shape := ⟨1, ![1]⟩
abbrev S1x1x2048x1024 : Shape := ⟨4, ![1, 1, 2048, 1024]⟩
abbrev S1x1x1024 : Shape := ⟨3, ![1, 1, 1024]⟩
abbrev S1x1x512x2048 : Shape := ⟨4, ![1, 1, 512, 2048]⟩
abbrev S1x1x2048 : Shape := ⟨3, ![1, 1, 2048]⟩
abbrev S2048x1024 : Shape := ⟨2, ![2048, 1024]⟩
abbrev S512x2048 : Shape := ⟨2, ![512, 2048]⟩
abbrev S1x1x2048x256 : Shape := ⟨4, ![1, 1, 2048, 256]⟩
abbrev S2048x256 : Shape := ⟨2, ![2048, 256]⟩
abbrev S256x1024 : Shape := ⟨2, ![256, 1024]⟩
abbrev S1x1024 : Shape := ⟨2, ![1, 1024]⟩
abbrev S256x128 : Shape := ⟨2, ![256, 128]⟩
abbrev S256x512 : Shape := ⟨2, ![256, 512]⟩
abbrev S1x2048 : Shape := ⟨2, ![1, 2048]⟩
abbrev S256x1 : Shape := ⟨2, ![256, 1]⟩

abbrev nBuf : Space → Nat
  | .hbm => 11
  | .vmem => 15
  | .smem => 6
  | _ => 0

abbrev bufTy : (tb : Table) → Fin (tcTables nBuf tb) → BufTy
  | .hbm, ⟨0, _⟩ => ⟨S36864x2048, .f32⟩
  | .hbm, ⟨1, _⟩ => ⟨S4x32x2048x1024, .f32⟩
  | .hbm, ⟨2, _⟩ => ⟨S32x1024, .f32⟩
  | .hbm, ⟨3, _⟩ => ⟨S4x32x512x2048, .f32⟩
  | .hbm, ⟨4, _⟩ => ⟨S32x2048, .f32⟩
  | .hbm, ⟨5, _⟩ => ⟨S256x256, .bf16⟩
  | .hbm, ⟨6, _⟩ => ⟨S32x4x128x2, .f32⟩
  | .hbm, ⟨7, _⟩ => ⟨S32x4x2x128, .f32⟩
  | .hbm, ⟨8, _⟩ => ⟨S32x1x1024, .f32⟩
  | .hbm, ⟨9, _⟩ => ⟨S32x1x2048, .f32⟩
  | .hbm, ⟨10, _⟩ => ⟨S36864x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x512x2048, .f32⟩
  | .local _ .vmem, ⟨7, _⟩ => ⟨S1x1x512x2048, .f32⟩
  | .local _ .vmem, ⟨8, _⟩ => ⟨S1x1x2048, .f32⟩
  | .local _ .vmem, ⟨9, _⟩ => ⟨S1x1x2048, .f32⟩
  | .local _ .vmem, ⟨10, _⟩ => ⟨S256x256, .bf16⟩
  | .local _ .vmem, ⟨11, _⟩ => ⟨S256x2048, .f32⟩
  | .local _ .vmem, ⟨12, _⟩ => ⟨S256x2048, .f32⟩
  | .local _ .vmem, ⟨13, _⟩ => ⟨S2048x1024, .bf16⟩
  | .local _ .vmem, ⟨14, _⟩ => ⟨S512x2048, .bf16⟩
  | .local _ .smem, ⟨0, _⟩ => ⟨S175, .i32⟩
  | .local _ .smem, ⟨1, _⟩ => ⟨S175, .i32⟩
  | .local _ .smem, ⟨2, _⟩ => ⟨S175, .i32⟩
  | .local _ .smem, ⟨3, _⟩ => ⟨S175, .i32⟩
  | .local _ .smem, ⟨4, _⟩ => ⟨S175, .i32⟩
  | .local _ .smem, ⟨5, _⟩ => ⟨S175, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg6 : Ref sig .tc := ⟨.hbm, 0, rfl⟩
abbrev main_arg7 : Ref sig .tc := ⟨.hbm, 1, rfl⟩
abbrev main_arg8 : Ref sig .tc := ⟨.hbm, 2, rfl⟩
abbrev main_arg9 : Ref sig .tc := ⟨.hbm, 3, rfl⟩
abbrev main_arg10 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![175], ![false]⟩

abbrev pre0 : Pipeline.Prefetch sig := ⟨6, ![main_arg0.idx, main_arg1.idx, main_arg2.idx, main_arg3.idx, main_arg4.idx, main_arg5.idx], fun | 0 => main_arg0.names | 1 => main_arg1.names | 2 => main_arg2.names | 3 => main_arg3.names | 4 => main_arg4.names | 5 => main_arg5.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let v98 : Index := Scalar.indexCast arg0
  ![v98.toNat]
def k0_off4 (i : grid0.Coords) : Fin 1 → Nat :=
  let arg0 : BitVec 32 := BitVec.ofNat 32 (i 0).val
  let v103 : Index := Scalar.indexCast arg0
  ![v103.toNat]
def k0_cond2 (v6 : BitVec 32) (v8 : BitVec 32) : BitVec 1 :=
  let v9 : BitVec 1 := Scalar.cmpi .sgt v8 v6
  let v10 : BitVec 32 := Scalar.extui v9
  let c0_i32_0 : BitVec 32 := 0#32
  let v11 : BitVec 1 := Scalar.cmpi .ne v10 c0_i32_0
  v11

def k0_cond3 (v99 : BitVec 32) : BitVec 1 :=
  let c1_i32_34 : BitVec 32 := 1#32
  let v100 : BitVec 1 := Scalar.cmpi .eq v99 c1_i32_34
  let v101 : BitVec 32 := Scalar.extui v100
  let c0_i32_35 : BitVec 32 := 0#32
  let v102 : BitVec 1 := Scalar.cmpi .ne v101 c0_i32_35
  v102

def k0_cond4 (v104 : BitVec 32) : BitVec 1 :=
  let c0_i32_36 : BitVec 32 := 0#32
  let v105 : BitVec 1 := Scalar.cmpi .eq v104 c0_i32_36
  let v106 : BitVec 32 := Scalar.extui v105
  let c0_i32_37 : BitVec 32 := 0#32
  let v107 : BitVec 1 := Scalar.cmpi .ne v106 c0_i32_37
  v107

def cc0_transform_0 (k0_off1_inb : ∀ i : grid0.Coords, ∀ a, (k0_off1 i) a + S1.size a ≤ S175.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S175) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S175.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S175) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S175.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S175) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S175.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S175) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S175.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S175) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (k0_off1_inb : ∀ i : grid0.Coords, ∀ a, (k0_off1 i) a + S1.size a ≤ S175.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S175) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S175 : Shape := ⟨1, ![175]⟩
abbrev S36864x2048 : Shape := ⟨2, ![36864, 2048]⟩
abbrev S4x32x2048x1024 : Shape := ⟨4, ![4, 32, 2048, 1024]⟩
abbrev S32x1024 : Shape := ⟨2, ![32, 1024]⟩
abbrev S4x32x512x2048 : Shape := ⟨4, ![4, 32, 512, 2048]⟩
abbrev S32x2048 : Shape := ⟨2, ![32, 2048]⟩
abbrev S175x1 : Shape := ⟨2, ![175, 1]⟩
abbrev S32 : Shape := ⟨1, ![32]⟩
abbrev S1x32 : Shape := ⟨2, ![1, 32]⟩
abbrev S175x32 : Shape := ⟨2, ![175, 32]⟩
abbrev S36864 : Shape := ⟨1, ![36864]⟩
abbrev S36864x1 : Shape := ⟨2, ![36864, 1]⟩
abbrev S1x175 : Shape := ⟨2, ![1, 175]⟩
abbrev S_ : Shape := ⟨0, ![]⟩
abbrev S36864x175 : Shape := ⟨2, ![36864, 175]⟩
abbrev S36864x32 : Shape := ⟨2, ![36864, 32]⟩
abbrev S1x32x2048x1024 : Shape := ⟨4, ![1, 32, 2048, 1024]⟩
abbrev S32x2048x1024 : Shape := ⟨3, ![32, 2048, 1024]⟩
abbrev S36864x32x1024 : Shape := ⟨3, ![36864, 32, 1024]⟩
abbrev S1x32x1024 : Shape := ⟨3, ![1, 32, 1024]⟩
abbrev S36864x32x512 : Shape := ⟨3, ![36864, 32, 512]⟩
abbrev S1x32x512x2048 : Shape := ⟨4, ![1, 32, 512, 2048]⟩
abbrev S32x512x2048 : Shape := ⟨3, ![32, 512, 2048]⟩
abbrev S32x2048x36864 : Shape := ⟨3, ![32, 2048, 36864]⟩
abbrev S36864x32x2048 : Shape := ⟨3, ![36864, 32, 2048]⟩
abbrev S1x32x2048 : Shape := ⟨3, ![1, 32, 2048]⟩

abbrev nBuf : Space → Nat
  | .hbm => 87
  | .vmem => 0
  | .smem => 0
  | _ => 0

abbrev bufTy : (tb : Table) → Fin (tcTables nBuf tb) → BufTy
  | .hbm, ⟨0, _⟩ => ⟨S175, .i32⟩
  | .hbm, ⟨1, _⟩ => ⟨S175, .i32⟩
  | .hbm, ⟨2, _⟩ => ⟨S175, .i32⟩
  | .hbm, ⟨3, _⟩ => ⟨S175, .i32⟩
  | .hbm, ⟨4, _⟩ => ⟨S175, .i32⟩
  | .hbm, ⟨5, _⟩ => ⟨S175, .i32⟩
  | .hbm, ⟨6, _⟩ => ⟨S36864x2048, .f32⟩
  | .hbm, ⟨7, _⟩ => ⟨S4x32x2048x1024, .f32⟩
  | .hbm, ⟨8, _⟩ => ⟨S32x1024, .f32⟩
  | .hbm, ⟨9, _⟩ => ⟨S4x32x512x2048, .f32⟩
  | .hbm, ⟨10, _⟩ => ⟨S32x2048, .f32⟩
  | .hbm, ⟨11, _⟩ => ⟨S175x1, .i32⟩
  | .hbm, ⟨12, _⟩ => ⟨S32, .i32⟩
  | .hbm, ⟨13, _⟩ => ⟨S1x32, .i32⟩
  | .hbm, ⟨14, _⟩ => ⟨S175x32, .i32⟩
  | .hbm, ⟨15, _⟩ => ⟨S175x32, .i32⟩
  | .hbm, ⟨16, _⟩ => ⟨S175x32, .i1⟩
  | .hbm, ⟨17, _⟩ => ⟨S175x32, .f32⟩
  | .hbm, ⟨18, _⟩ => ⟨S36864, .i32⟩
  | .hbm, ⟨19, _⟩ => ⟨S36864x1, .i32⟩
  | .hbm, ⟨20, _⟩ => ⟨S1x175, .i32⟩
  | .hbm, ⟨21, _⟩ => ⟨S_, .i32⟩
  | .hbm, ⟨22, _⟩ => ⟨S1x175, .i32⟩
  | .hbm, ⟨23, _⟩ => ⟨S1x175, .i32⟩
  | .hbm, ⟨24, _⟩ => ⟨S36864x175, .i32⟩
  | .hbm, ⟨25, _⟩ => ⟨S36864x175, .i32⟩
  | .hbm, ⟨26, _⟩ => ⟨S36864x175, .i32⟩
  | .hbm, ⟨27, _⟩ => ⟨S1x175, .i32⟩
  | .hbm, ⟨28, _⟩ => ⟨S36864x175, .i32⟩
  | .hbm, ⟨29, _⟩ => ⟨S36864x175, .i1⟩
  | .hbm, ⟨30, _⟩ => ⟨S1x175, .i32⟩
  | .hbm, ⟨31, _⟩ => ⟨S36864x175, .i32⟩
  | .hbm, ⟨32, _⟩ => ⟨S36864x175, .i1⟩
  | .hbm, ⟨33, _⟩ => ⟨S36864x175, .i1⟩
  | .hbm, ⟨34, _⟩ => ⟨S_, .i32⟩
  | .hbm, ⟨35, _⟩ => ⟨S36864x175, .i32⟩
  | .hbm, ⟨36, _⟩ => ⟨S36864x175, .i1⟩
  | .hbm, ⟨37, _⟩ => ⟨S36864x175, .i1⟩
  | .hbm, ⟨38, _⟩ => ⟨S_, .i32⟩
  | .hbm, ⟨39, _⟩ => ⟨S36864x175, .i32⟩
  | .hbm, ⟨40, _⟩ => ⟨S36864x175, .i1⟩
  | .hbm, ⟨41, _⟩ => ⟨S36864x175, .i1⟩
  | .hbm, ⟨42, _⟩ => ⟨S36864x175, .f32⟩
  | .hbm, ⟨43, _⟩ => ⟨S36864x32, .f32⟩
  | .hbm, ⟨44, _⟩ => ⟨S1x32x2048x1024, .f32⟩
  | .hbm, ⟨45, _⟩ => ⟨S32x2048x1024, .f32⟩
  | .hbm, ⟨46, _⟩ => ⟨S36864x32x1024, .f32⟩
  | .hbm, ⟨47, _⟩ => ⟨S1x32x1024, .f32⟩
  | .hbm, ⟨48, _⟩ => ⟨S36864x32x1024, .f32⟩
  | .hbm, ⟨49, _⟩ => ⟨S36864x32x1024, .f32⟩
  | .hbm, ⟨50, _⟩ => ⟨S36864x32x512, .f32⟩
  | .hbm, ⟨51, _⟩ => ⟨S36864x32x512, .f32⟩
  | .hbm, ⟨52, _⟩ => ⟨S_, .f32⟩
  | .hbm, ⟨53, _⟩ => ⟨S36864x32x512, .f32⟩
  | .hbm, ⟨54, _⟩ => ⟨S36864x32x512, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S36864x32x512, .f32⟩
  | .hbm, ⟨59, _⟩ => ⟨S36864x32x512, .f32⟩
  | .hbm, ⟨60, _⟩ => ⟨S_, .f32⟩
  | .hbm, ⟨61, _⟩ => ⟨S36864x32x512, .f32⟩
  | .hbm, ⟨62, _⟩ => ⟨S36864x32x512, .f32⟩
  | .hbm, ⟨63, _⟩ => ⟨S_, .f32⟩
  | .hbm, ⟨64, _⟩ => ⟨S36864x32x512, .f32⟩
  | .hbm, ⟨65, _⟩ => ⟨S36864x32x512, .f32⟩
  | .hbm, ⟨66, _⟩ => ⟨S36864x32x512, .f32⟩
  | .hbm, ⟨67, _⟩ => ⟨S36864x32x512, .f32⟩
  | .hbm, ⟨68, _⟩ => ⟨S_, .f32⟩
  | .hbm, ⟨69, _⟩ => ⟨S36864x32x512, .f32⟩
  | .hbm, ⟨70, _⟩ => ⟨S36864x32x512, .f32⟩
  | .hbm, ⟨71, _⟩ => ⟨S_, .f32⟩
  | .hbm, ⟨72, _⟩ => ⟨S36864x32x512, .f32⟩
  | .hbm, ⟨73, _⟩ => ⟨S36864x32x512, .f32⟩
  | .hbm, ⟨74, _⟩ => ⟨S36864x32x512, .f32⟩
  | .hbm, ⟨75, _⟩ => ⟨S_, .f32⟩
  | .hbm, ⟨76, _⟩ => ⟨S36864x32x512, .f32⟩
  | .hbm, ⟨77, _⟩ => ⟨S36864x32x512, .f32⟩
  | .hbm, ⟨78, _⟩ => ⟨S36864x32x512, .f32⟩
  | .hbm, ⟨79, _⟩ => ⟨S1x32x512x2048, .f32⟩
  | .hbm, ⟨80, _⟩ => ⟨S32x512x2048, .f32⟩
  | .hbm, ⟨81, _⟩ => ⟨S32x2048x36864, .f32⟩
  | .hbm, ⟨82, _⟩ => ⟨S36864x32x2048, .f32⟩
  | .hbm, ⟨83, _⟩ => ⟨S1x32x2048, .f32⟩
  | .hbm, ⟨84, _⟩ => ⟨S36864x32x2048, .f32⟩
  | .hbm, ⟨85, _⟩ => ⟨S36864x32x2048, .f32⟩
  | .hbm, ⟨86, _⟩ => ⟨S36864x2048, .f32⟩
  | _, _ => ⟨S175, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst : Ref sig .tc := ⟨.hbm, 52, rfl⟩
abbrev main_v38 : Ref sig .tc := ⟨.hbm, 53, rfl⟩
abbrev main_v39 : Ref sig .tc := ⟨.hbm, 54, rfl⟩
abbrev main_cst_2 : Ref sig .tc := ⟨.hbm, 55, rfl⟩
abbrev main_cst_3 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v40 : Ref sig .tc := ⟨.hbm, 62, rfl⟩
abbrev main_cst_4 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_5 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_7 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]
-- ==== Kernel2.lean ====
abbrev S4x2304x2048 : Shape := ⟨3, ![4, 2304, 2048]⟩
abbrev S4x2x8x2048 : Shape := ⟨4, ![4, 2, 8, 2048]⟩
abbrev S2048 : Shape := ⟨1, ![2048]⟩
abbrev S2048x6272 : Shape := ⟨2, ![2048, 6272]⟩
abbrev S1x2048 : Shape := ⟨2, ![1, 2048]⟩
abbrev S4x2304x6272 : Shape := ⟨3, ![4, 2304, 6272]⟩
abbrev S1x256x2048 : Shape := ⟨3, ![1, 256, 2048]⟩
abbrev S1x1x8x2048 : Shape := ⟨4, ![1, 1, 8, 2048]⟩
abbrev S1x256x6272 : Shape := ⟨3, ![1, 256, 6272]⟩
abbrev S256x2048 : Shape := ⟨2, ![256, 2048]⟩
abbrev S1x1x1x2048 : Shape := ⟨4, ![1, 1, 1, 2048]⟩
abbrev S256 : Shape := ⟨1, ![256]⟩
abbrev S256x1 : Shape := ⟨2, ![256, 1]⟩
abbrev S256x6272 : Shape := ⟨2, ![256, 6272]⟩

abbrev nBuf : Space → Nat
  | .hbm => 7
  | .vmem => 8
  | .smem => 0
  | _ => 0

abbrev bufTy : (tb : Table) → Fin (tcTables nBuf tb) → BufTy
  | .hbm, ⟨0, _⟩ => ⟨S4x2304x2048, .f32⟩
  | .hbm, ⟨1, _⟩ => ⟨S4x2x8x2048, .f32⟩
  | .hbm, ⟨2, _⟩ => ⟨S2048, .f32⟩
  | .hbm, ⟨3, _⟩ => ⟨S2048x6272, .f32⟩
  | .hbm, ⟨4, _⟩ => ⟨S2048x6272, .bf16⟩
  | .hbm, ⟨5, _⟩ => ⟨S1x2048, .f32⟩
  | .hbm, ⟨6, _⟩ => ⟨S4x2304x6272, .f32⟩
  | .local _ .vmem, ⟨0, _⟩ => ⟨S1x256x2048, .f32⟩
  | .local _ .vmem, ⟨1, _⟩ => ⟨S1x256x2048, .f32⟩
  | .local _ .vmem, ⟨2, _⟩ => ⟨S1x1x8x2048, .f32⟩
  | .local _ .vmem, ⟨3, _⟩ => ⟨S1x1x8x2048, .f32⟩
  | .local _ .vmem, ⟨4, _⟩ => ⟨S1x2048, .f32⟩
  | .local _ .vmem, ⟨5, _⟩ => ⟨S2048x6272, .bf16⟩
  | .local _ .vmem, ⟨6, _⟩ => ⟨S1x256x6272, .f32⟩
  | .local _ .vmem, ⟨7, _⟩ => ⟨S1x256x6272, .f32⟩
  | _, _ => ⟨S4x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x6272 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x6272 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
abbrev S4x2304x2048 : Shape := ⟨3, ![4, 2304, 2048]⟩
abbrev S4x2x8x2048 : Shape := ⟨4, ![4, 2, 8, 2048]⟩
abbrev S2048 : Shape := ⟨1, ![2048]⟩
abbrev S2048x6272 : Shape := ⟨2, ![2048, 6272]⟩
abbrev S1x2048 : Shape := ⟨2, ![1, 2048]⟩
abbrev S4x2304x6272 : Shape := ⟨3, ![4, 2304, 6272]⟩
abbrev S1x256x2048 : Shape := ⟨3, ![1, 256, 2048]⟩
abbrev S1x1x8x2048 : Shape := ⟨4, ![1, 1, 8, 2048]⟩
abbrev S1x256x6272 : Shape := ⟨3, ![1, 256, 6272]⟩
abbrev S256x2048 : Shape := ⟨2, ![256, 2048]⟩
abbrev S1x1x1x2048 : Shape := ⟨4, ![1, 1, 1, 2048]⟩
abbrev S256 : Shape := ⟨1, ![256]⟩
abbrev S256x1 : Shape := ⟨2, ![256, 1]⟩
abbrev S256x6272 : Shape := ⟨2, ![256, 6272]⟩

abbrev nBuf : Space → Nat
  | .hbm => 7
  | .vmem => 8
  | .smem => 0
  | _ => 0

abbrev bufTy : (tb : Table) → Fin (tcTables nBuf tb) → BufTy
  | .hbm, ⟨0, _⟩ => ⟨S4x2304x2048, .f32⟩
  | .hbm, ⟨1, _⟩ => ⟨S4x2x8x2048, .f32⟩
  | .hbm, ⟨2, _⟩ => ⟨S2048, .f32⟩
  | .hbm, ⟨3, _⟩ => ⟨S2048x6272, .f32⟩
  | .hbm, ⟨4, _⟩ => ⟨S2048x6272, .bf16⟩
  | .hbm, ⟨5, _⟩ => ⟨S1x2048, .f32⟩
  | .hbm, ⟨6, _⟩ => ⟨S4x2304x6272, .f32⟩
  | .local _ .vmem, ⟨0, _⟩ => ⟨S1x256x2048, .f32⟩
  | .local _ .vmem, ⟨1, _⟩ => ⟨S1x256x2048, .f32⟩
  | .local _ .vmem, ⟨2, _⟩ => ⟨S1x1x8x2048, .f32⟩
  | .local _ .vmem, ⟨3, _⟩ => ⟨S1x1x8x2048, .f32⟩
  | .local _ .vmem, ⟨4, _⟩ => ⟨S1x2048, .f32⟩
  | .local _ .vmem, ⟨5, _⟩ => ⟨S2048x6272, .bf16⟩
  | .local _ .vmem, ⟨6, _⟩ => ⟨S1x256x6272, .f32⟩
  | .local _ .vmem, ⟨7, _⟩ => ⟨S1x256x6272, .f32⟩
  | _, _ => ⟨S4x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x6272 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x6272 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S4x2304x2048 : Shape := ⟨3, ![4, 2304, 2048]⟩
abbrev S4x2x8x2048 : Shape := ⟨4, ![4, 2, 8, 2048]⟩
abbrev S2048 : Shape := ⟨1, ![2048]⟩
abbrev S2048x6272 : Shape := ⟨2, ![2048, 6272]⟩
abbrev S4x1x8x2048 : Shape := ⟨4, ![4, 1, 8, 2048]⟩
abbrev S4x8x2048 : Shape := ⟨3, ![4, 8, 2048]⟩
abbrev S4x2048x2048 : Shape := ⟨3, ![4, 2048, 2048]⟩
abbrev S4x1x2048 : Shape := ⟨3, ![4, 1, 2048]⟩
abbrev S4x2048 : Shape := ⟨2, ![4, 2048]⟩
abbrev S_ : Shape := ⟨0, ![]⟩
abbrev S4x2048x1 : Shape := ⟨3, ![4, 2048, 1]⟩
abbrev S1x1x2048 : Shape := ⟨3, ![1, 1, 2048]⟩
abbrev S4x256x2048 : Shape := ⟨3, ![4, 256, 2048]⟩
abbrev S4x256 : Shape := ⟨2, ![4, 256]⟩
abbrev S4x256x1 : Shape := ⟨3, ![4, 256, 1]⟩
abbrev S4x2048x6272 : Shape := ⟨3, ![4, 2048, 6272]⟩
abbrev S4x256x6272 : Shape := ⟨3, ![4, 256, 6272]⟩
abbrev S4x2304x6272 : Shape := ⟨3, ![4, 2304, 6272]⟩

abbrev nBuf : Space → Nat
  | .hbm => 71
  | .vmem => 0
  | .smem => 0
  | _ => 0

abbrev bufTy : (tb : Table) → Fin (tcTables nBuf tb) → BufTy
  | .hbm, ⟨0, _⟩ => ⟨S4x2304x2048, .f32⟩
  | .hbm, ⟨1, _⟩ => ⟨S4x2x8x2048, .f32⟩
  | .hbm, ⟨2, _⟩ => ⟨S2048, .f32⟩
  | .hbm, ⟨3, _⟩ => ⟨S2048x6272, .f32⟩
  | .hbm, ⟨4, _⟩ => ⟨S4x1x8x2048, .f32⟩
  | .hbm, ⟨5, _⟩ => ⟨S4x8x2048, .f32⟩
  | .hbm, ⟨6, _⟩ => ⟨S4x1x8x2048, .f32⟩
  | .hbm, ⟨7, _⟩ => ⟨S4x8x2048, .f32⟩
  | .hbm, ⟨8, _⟩ => ⟨S4x2048x2048, .f32⟩
  | .hbm, ⟨9, _⟩ => ⟨S4x1x2048, .f32⟩
  | .hbm, ⟨10, _⟩ => ⟨S4x2048, .f32⟩
  | .hbm, ⟨11, _⟩ => ⟨S4x1x2048, .f32⟩
  | .hbm, ⟨12, _⟩ => ⟨S4x1x2048, .f32⟩
  | .hbm, ⟨13, _⟩ => ⟨S4x2048, .f32⟩
  | .hbm, ⟨14, _⟩ => ⟨S4x1x2048, .f32⟩
  | .hbm, ⟨15, _⟩ => ⟨S4x2048x2048, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S1x1x2048, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S4x1x2048, .f32⟩
  | .hbm, ⟨33, _⟩ => ⟨S4x1x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S4x256x2048, .f32⟩
  | .hbm, ⟨39, _⟩ => ⟨S4x1x2048, .f32⟩
  | .hbm, ⟨40, _⟩ => ⟨S4x2048, .f32⟩
  | .hbm, ⟨41, _⟩ => ⟨S4x1x2048, .f32⟩
  | .hbm, ⟨42, _⟩ => ⟨S4x1x2048, .f32⟩
  | .hbm, ⟨43, _⟩ => ⟨S4x2048, .f32⟩
  | .hbm, ⟨44, _⟩ => ⟨S4x1x2048, .f32⟩
  | .hbm, ⟨45, _⟩ => ⟨S4x256x2048, .f32⟩
  | .hbm, ⟨46, _⟩ => ⟨S_, .f32⟩
  | .hbm, ⟨47, _⟩ => ⟨S4x256, .f32⟩
  | .hbm, ⟨48, _⟩ => ⟨S4x256x1, .f32⟩
  | .hbm, ⟨49, _⟩ => ⟨S_, .f32⟩
  | .hbm, ⟨50, _⟩ => ⟨S4x256x1, .f32⟩
  | .hbm, ⟨51, _⟩ => ⟨S4x256x1, .f32⟩
  | .hbm, ⟨52, _⟩ => ⟨S_, .f32⟩
  | .hbm, ⟨53, _⟩ => ⟨S4x256x1, .f32⟩
  | .hbm, ⟨54, _⟩ => ⟨S4x256x1, .f32⟩
  | .hbm, ⟨55, _⟩ => ⟨S4x256x1, .f32⟩
  | .hbm, ⟨56, _⟩ => ⟨S4x256x2048, .f32⟩
  | .hbm, ⟨57, _⟩ => ⟨S4x256x2048, .f32⟩
  | .hbm, ⟨58, _⟩ => ⟨S1x1x2048, .f32⟩
  | .hbm, ⟨59, _⟩ => ⟨S4x256x2048, .f32⟩
  | .hbm, ⟨60, _⟩ => ⟨S4x256x2048, .f32⟩
  | .hbm, ⟨61, _⟩ => ⟨S_, .f32⟩
  | .hbm, ⟨62, _⟩ => ⟨S4x1x2048, .f32⟩
  | .hbm, ⟨63, _⟩ => ⟨S4x1x2048, .f32⟩
  | .hbm, ⟨64, _⟩ => ⟨S4x256x2048, .f32⟩
  | .hbm, ⟨65, _⟩ => ⟨S4x256x2048, .f32⟩
  | .hbm, ⟨66, _⟩ => ⟨S4x256x2048, .f32⟩
  | .hbm, ⟨67, _⟩ => ⟨S4x256x2048, .f32⟩
  | .hbm, ⟨68, _⟩ => ⟨S4x2048x6272, .f32⟩
  | .hbm, ⟨69, _⟩ => ⟨S4x256x6272, .f32⟩
  | .hbm, ⟨70, _⟩ => ⟨S4x2304x6272, .f32⟩
  | _, _ => ⟨S4x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩

abbrev nD : Nat := 1
abbrev τ : Topo := Topo.v7x

variable {F : FTy → Type} [FloatOps F]
-- ==== Kernel3.lean ====
abbrev S4x2304x2048 : Shape := ⟨3, ![4, 2304, 2048]⟩
abbrev S4x2x8x2048 : Shape := ⟨4, ![4, 2, 8, 2048]⟩
abbrev S2048 : Shape := ⟨1, ![2048]⟩
abbrev S2048x4224 : Shape := ⟨2, ![2048, 4224]⟩
abbrev S1x2048 : Shape := ⟨2, ![1, 2048]⟩
abbrev S4x2304x4224 : Shape := ⟨3, ![4, 2304, 4224]⟩
abbrev S1x256x2048 : Shape := ⟨3, ![1, 256, 2048]⟩
abbrev S1x1x8x2048 : Shape := ⟨4, ![1, 1, 8, 2048]⟩
abbrev S1x256x4224 : Shape := ⟨3, ![1, 256, 4224]⟩
abbrev S256x2048 : Shape := ⟨2, ![256, 2048]⟩
abbrev S1x1x1x2048 : Shape := ⟨4, ![1, 1, 1, 2048]⟩
abbrev S256 : Shape := ⟨1, ![256]⟩
abbrev S256x1 : Shape := ⟨2, ![256, 1]⟩
abbrev S256x4224 : Shape := ⟨2, ![256, 4224]⟩

abbrev nBuf : Space → Nat
  | .hbm => 7
  | .vmem => 8
  | .smem => 0
  | _ => 0

abbrev bufTy : (tb : Table) → Fin (tcTables nBuf tb) → BufTy
  | .hbm, ⟨0, _⟩ => ⟨S4x2304x2048, .f32⟩
  | .hbm, ⟨1, _⟩ => ⟨S4x2x8x2048, .f32⟩
  | .hbm, ⟨2, _⟩ => ⟨S2048, .f32⟩
  | .hbm, ⟨3, _⟩ => ⟨S2048x4224, .f32⟩
  | .hbm, ⟨4, _⟩ => ⟨S2048x4224, .bf16⟩
  | .hbm, ⟨5, _⟩ => ⟨S1x2048, .f32⟩
  | .hbm, ⟨6, _⟩ => ⟨S4x2304x4224, .f32⟩
  | .local _ .vmem, ⟨0, _⟩ => ⟨S1x256x2048, .f32⟩
  | .local _ .vmem, ⟨1, _⟩ => ⟨S1x256x2048, .f32⟩
  | .local _ .vmem, ⟨2, _⟩ => ⟨S1x1x8x2048, .f32⟩
  | .local _ .vmem, ⟨3, _⟩ => ⟨S1x1x8x2048, .f32⟩
  | .local _ .vmem, ⟨4, _⟩ => ⟨S1x2048, .f32⟩
  | .local _ .vmem, ⟨5, _⟩ => ⟨S2048x4224, .bf16⟩
  | .local _ .vmem, ⟨6, _⟩ => ⟨S1x256x4224, .f32⟩
  | .local _ .vmem, ⟨7, _⟩ => ⟨S1x256x4224, .f32⟩
  | _, _ => ⟨S4x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x4224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S4x2304x2048 : Shape := ⟨3, ![4, 2304, 2048]⟩
abbrev S4x2x8x2048 : Shape := ⟨4, ![4, 2, 8, 2048]⟩
abbrev S2048 : Shape := ⟨1, ![2048]⟩
abbrev S2048x4224 : Shape := ⟨2, ![2048, 4224]⟩
abbrev S4x1x8x2048 : Shape := ⟨4, ![4, 1, 8, 2048]⟩
abbrev S4x8x2048 : Shape := ⟨3, ![4, 8, 2048]⟩
abbrev S4x2048x2048 : Shape := ⟨3, ![4, 2048, 2048]⟩
abbrev S4x1x2048 : Shape := ⟨3, ![4, 1, 2048]⟩
abbrev S4x2048 : Shape := ⟨2, ![4, 2048]⟩
abbrev S_ : Shape := ⟨0, ![]⟩
abbrev S4x2048x1 : Shape := ⟨3, ![4, 2048, 1]⟩
abbrev S1x1x2048 : Shape := ⟨3, ![1, 1, 2048]⟩
abbrev S4x256x2048 : Shape := ⟨3, ![4, 256, 2048]⟩
abbrev S4x256 : Shape := ⟨2, ![4, 256]⟩
abbrev S4x256x1 : Shape := ⟨3, ![4, 256, 1]⟩
abbrev S4x2048x4224 : Shape := ⟨3, ![4, 2048, 4224]⟩
abbrev S4x256x4224 : Shape := ⟨3, ![4, 256, 4224]⟩
abbrev S4x2304x4224 : Shape := ⟨3, ![4, 2304, 4224]⟩

abbrev nBuf : Space → Nat
  | .hbm => 71
  | .vmem => 0
  | .smem => 0
  | _ => 0

abbrev bufTy : (tb : Table) → Fin (tcTables nBuf tb) → BufTy
  | .hbm, ⟨0, _⟩ => ⟨S4x2304x2048, .f32⟩
  | .hbm, ⟨1, _⟩ => ⟨S4x2x8x2048, .f32⟩
  | .hbm, ⟨2, _⟩ => ⟨S2048, .f32⟩
  | .hbm, ⟨3, _⟩ => ⟨S2048x4224, .f32⟩
  | .hbm, ⟨4, _⟩ => ⟨S4x1x8x2048, .f32⟩
  | .hbm, ⟨5, _⟩ => ⟨S4x8x2048, .f32⟩
  | .hbm, ⟨6, _⟩ => ⟨S4x1x8x2048, .f32⟩
  | .hbm, ⟨7, _⟩ => ⟨S4x8x2048, .f32⟩
  | .hbm, ⟨8, _⟩ => ⟨S4x2048x2048, .f32⟩
  | .hbm, ⟨9, _⟩ => ⟨S4x1x2048, .f32⟩
  | .hbm, ⟨10, _⟩ => ⟨S4x2048, .f32⟩
  | .hbm, ⟨11, _⟩ => ⟨S4x1x2048, .f32⟩
  | .hbm, ⟨12, _⟩ => ⟨S4x1x2048, .f32⟩
  | .hbm, ⟨13, _⟩ => ⟨S4x2048, .f32⟩
  | .hbm, ⟨14, _⟩ => ⟨S4x1x2048, .f32⟩
  | .hbm, ⟨15, _⟩ => ⟨S4x2048x2048, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S1x1x2048, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S4x1x2048, .f32⟩
  | .hbm, ⟨33, _⟩ => ⟨S4x1x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S4x256x2048, .f32⟩
  | .hbm, ⟨39, _⟩ => ⟨S4x1x2048, .f32⟩
  | .hbm, ⟨40, _⟩ => ⟨S4x2048, .f32⟩
  | .hbm, ⟨41, _⟩ => ⟨S4x1x2048, .f32⟩
  | .hbm, ⟨42, _⟩ => ⟨S4x1x2048, .f32⟩
  | .hbm, ⟨43, _⟩ => ⟨S4x2048, .f32⟩
  | .hbm, ⟨44, _⟩ => ⟨S4x1x2048, .f32⟩
  | .hbm, ⟨45, _⟩ => ⟨S4x256x2048, .f32⟩
  | .hbm, ⟨46, _⟩ => ⟨S_, .f32⟩
  | .hbm, ⟨47, _⟩ => ⟨S4x256, .f32⟩
  | .hbm, ⟨48, _⟩ => ⟨S4x256x1, .f32⟩
  | .hbm, ⟨49, _⟩ => ⟨S_, .f32⟩
  | .hbm, ⟨50, _⟩ => ⟨S4x256x1, .f32⟩
  | .hbm, ⟨51, _⟩ => ⟨S4x256x1, .f32⟩
  | .hbm, ⟨52, _⟩ => ⟨S_, .f32⟩
  | .hbm, ⟨53, _⟩ => ⟨S4x256x1, .f32⟩
  | .hbm, ⟨54, _⟩ => ⟨S4x256x1, .f32⟩
  | .hbm, ⟨55, _⟩ => ⟨S4x256x1, .f32⟩
  | .hbm, ⟨56, _⟩ => ⟨S4x256x2048, .f32⟩
  | .hbm, ⟨57, _⟩ => ⟨S4x256x2048, .f32⟩
  | .hbm, ⟨58, _⟩ => ⟨S1x1x2048, .f32⟩
  | .hbm, ⟨59, _⟩ => ⟨S4x256x2048, .f32⟩
  | .hbm, ⟨60, _⟩ => ⟨S4x256x2048, .f32⟩
  | .hbm, ⟨61, _⟩ => ⟨S_, .f32⟩
  | .hbm, ⟨62, _⟩ => ⟨S4x1x2048, .f32⟩
  | .hbm, ⟨63, _⟩ => ⟨S4x1x2048, .f32⟩
  | .hbm, ⟨64, _⟩ => ⟨S4x256x2048, .f32⟩
  | .hbm, ⟨65, _⟩ => ⟨S4x256x2048, .f32⟩
  | .hbm, ⟨66, _⟩ => ⟨S4x256x2048, .f32⟩
  | .hbm, ⟨67, _⟩ => ⟨S4x256x2048, .f32⟩
  | .hbm, ⟨68, _⟩ => ⟨S4x2048x4224, .f32⟩
  | .hbm, ⟨69, _⟩ => ⟨S4x256x4224, .f32⟩
  | .hbm, ⟨70, _⟩ => ⟨S4x2304x4224, .f32⟩
  | _, _ => ⟨S4x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩

abbrev nD : Nat := 1
abbrev τ : Topo := Topo.v7x

variable {F : FTy → Type} [FloatOps F]
-- ==== Kernel4.lean ====
abbrev S159 : Shape := ⟨1, ![159]⟩
abbrev S32768x2048 : Shape := ⟨2, ![32768, 2048]⟩
abbrev S4x32x2048x1024 : Shape := ⟨4, ![4, 32, 2048, 1024]⟩
abbrev S32x1024 : Shape := ⟨2, ![32, 1024]⟩
abbrev S4x32x512x2048 : Shape := ⟨4, ![4, 32, 512, 2048]⟩
abbrev S32x2048 : Shape := ⟨2, ![32, 2048]⟩
abbrev S256x256 : Shape := ⟨2, ![256, 256]⟩
abbrev S32x4x128x2 : Shape := ⟨4, ![32, 4, 128, 2]⟩
abbrev S32x4x2x128 : Shape := ⟨4, ![32, 4, 2, 128]⟩
abbrev S32x1x1024 : Shape := ⟨3, ![32, 1, 1024]⟩
abbrev S32x1x2048 : Shape := ⟨3, ![32, 1, 2048]⟩
abbrev S256x2048 : Shape := ⟨2, ![256, 2048]⟩
abbrev S1 : Shape := ⟨1, ![1]⟩
abbrev S1x1x2048x1024 : Shape := ⟨4, ![1, 1, 2048, 1024]⟩
abbrev S1x1x1024 : Shape := ⟨3, ![1, 1, 1024]⟩
abbrev S1x1x512x2048 : Shape := ⟨4, ![1, 1, 512, 2048]⟩
abbrev S1x1x2048 : Shape := ⟨3, ![1, 1, 2048]⟩
abbrev S2048x1024 : Shape := ⟨2, ![2048, 1024]⟩
abbrev S512x2048 : Shape := ⟨2, ![512, 2048]⟩
abbrev S1x1x2048x256 : Shape := ⟨4, ![1, 1, 2048, 256]⟩
abbrev S2048x256 : Shape := ⟨2, ![2048, 256]⟩
abbrev S256x1024 : Shape := ⟨2, ![256, 1024]⟩
abbrev S1x1024 : Shape := ⟨2, ![1, 1024]⟩
abbrev S256x128 : Shape := ⟨2, ![256, 128]⟩
abbrev S256x512 : Shape := ⟨2, ![256, 512]⟩
abbrev S1x2048 : Shape := ⟨2, ![1, 2048]⟩
abbrev S256x1 : Shape := ⟨2, ![256, 1]⟩

abbrev nBuf : Space → Nat
  | .hbm => 11
  | .vmem => 15
  | .smem => 6
  | _ => 0

abbrev bufTy : (tb : Table) → Fin (tcTables nBuf tb) → BufTy
  | .hbm, ⟨0, _⟩ => ⟨S32768x2048, .f32⟩
  | .hbm, ⟨1, _⟩ => ⟨S4x32x2048x1024, .f32⟩
  | .hbm, ⟨2, _⟩ => ⟨S32x1024, .f32⟩
  | .hbm, ⟨3, _⟩ => ⟨S4x32x512x2048, .f32⟩
  | .hbm, ⟨4, _⟩ => ⟨S32x2048, .f32⟩
  | .hbm, ⟨5, _⟩ => ⟨S256x256, .bf16⟩
  | .hbm, ⟨6, _⟩ => ⟨S32x4x128x2, .f32⟩
  | .hbm, ⟨7, _⟩ => ⟨S32x4x2x128, .f32⟩
  | .hbm, ⟨8, _⟩ => ⟨S32x1x1024, .f32⟩
  | .hbm, ⟨9, _⟩ => ⟨S32x1x2048, .f32⟩
  | .hbm, ⟨10, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x512x2048, .f32⟩
  | .local _ .vmem, ⟨7, _⟩ => ⟨S1x1x512x2048, .f32⟩
  | .local _ .vmem, ⟨8, _⟩ => ⟨S1x1x2048, .f32⟩
  | .local _ .vmem, ⟨9, _⟩ => ⟨S1x1x2048, .f32⟩
  | .local _ .vmem, ⟨10, _⟩ => ⟨S256x256, .bf16⟩
  | .local _ .vmem, ⟨11, _⟩ => ⟨S256x2048, .f32⟩
  | .local _ .vmem, ⟨12, _⟩ => ⟨S256x2048, .f32⟩
  | .local _ .vmem, ⟨13, _⟩ => ⟨S2048x1024, .bf16⟩
  | .local _ .vmem, ⟨14, _⟩ => ⟨S512x2048, .bf16⟩
  | .local _ .smem, ⟨0, _⟩ => ⟨S159, .i32⟩
  | .local _ .smem, ⟨1, _⟩ => ⟨S159, .i32⟩
  | .local _ .smem, ⟨2, _⟩ => ⟨S159, .i32⟩
  | .local _ .smem, ⟨3, _⟩ => ⟨S159, .i32⟩
  | .local _ .smem, ⟨4, _⟩ => ⟨S159, .i32⟩
  | .local _ .smem, ⟨5, _⟩ => ⟨S159, .i32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg6 : Ref sig .tc := ⟨.hbm, 0, rfl⟩
abbrev main_arg7 : Ref sig .tc := ⟨.hbm, 1, rfl⟩
abbrev main_arg8 : Ref sig .tc := ⟨.hbm, 2, rfl⟩
abbrev main_arg9 : Ref sig .tc := ⟨.hbm, 3, rfl⟩
abbrev main_arg10 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![159], ![false]⟩

abbrev pre0 : Pipeline.Prefetch sig := ⟨6, ![main_arg0.idx, main_arg1.idx, main_arg2.idx, main_arg3.idx, main_arg4.idx, main_arg5.idx], fun | 0 => main_arg0.names | 1 => main_arg1.names | 2 => main_arg2.names | 3 => main_arg3.names | 4 => main_arg4.names | 5 => main_arg5.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let v98 : Index := Scalar.indexCast arg0
  ![v98.toNat]
def k0_off4 (i : grid0.Coords) : Fin 1 → Nat :=
  let arg0 : BitVec 32 := BitVec.ofNat 32 (i 0).val
  let v103 : Index := Scalar.indexCast arg0
  ![v103.toNat]
def k0_cond2 (v6 : BitVec 32) (v8 : BitVec 32) : BitVec 1 :=
  let v9 : BitVec 1 := Scalar.cmpi .sgt v8 v6
  let v10 : BitVec 32 := Scalar.extui v9
  let c0_i32_0 : BitVec 32 := 0#32
  let v11 : BitVec 1 := Scalar.cmpi .ne v10 c0_i32_0
  v11

def k0_cond3 (v99 : BitVec 32) : BitVec 1 :=
  let c1_i32_34 : BitVec 32 := 1#32
  let v100 : BitVec 1 := Scalar.cmpi .eq v99 c1_i32_34
  let v101 : BitVec 32 := Scalar.extui v100
  let c0_i32_35 : BitVec 32 := 0#32
  let v102 : BitVec 1 := Scalar.cmpi .ne v101 c0_i32_35
  v102

def k0_cond4 (v104 : BitVec 32) : BitVec 1 :=
  let c0_i32_36 : BitVec 32 := 0#32
  let v105 : BitVec 1 := Scalar.cmpi .eq v104 c0_i32_36
  let v106 : BitVec 32 := Scalar.extui v105
  let c0_i32_37 : BitVec 32 := 0#32
  let v107 : BitVec 1 := Scalar.cmpi .ne v106 c0_i32_37
  v107

def cc0_transform_0 (k0_off1_inb : ∀ i : grid0.Coords, ∀ a, (k0_off1 i) a + S1.size a ≤ S159.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S159) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S159.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S159) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_2 (k0_off1_inb : ∀ i : grid0.Coords, ∀ a, (k0_off1 i) a + S1.size a ≤ S159.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S159) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S159.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S159) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_4 (k0_off1_inb : ∀ i : grid0.Coords, ∀ a, (k0_off1 i) a + S1.size a ≤ S159.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S159) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (k0_off1_inb : ∀ i : grid0.Coords, ∀ a, (k0_off1 i) a + S1.size a ≤ S159.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S159) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S159 : Shape := ⟨1, ![159]⟩
abbrev S32768x2048 : Shape := ⟨2, ![32768, 2048]⟩
abbrev S4x32x2048x1024 : Shape := ⟨4, ![4, 32, 2048, 1024]⟩
abbrev S32x1024 : Shape := ⟨2, ![32, 1024]⟩
abbrev S4x32x512x2048 : Shape := ⟨4, ![4, 32, 512, 2048]⟩
abbrev S32x2048 : Shape := ⟨2, ![32, 2048]⟩
abbrev S159x1 : Shape := ⟨2, ![159, 1]⟩
abbrev S32 : Shape := ⟨1, ![32]⟩
abbrev S1x32 : Shape := ⟨2, ![1, 32]⟩
abbrev S159x32 : Shape := ⟨2, ![159, 32]⟩
abbrev S32768 : Shape := ⟨1, ![32768]⟩
abbrev S32768x1 : Shape := ⟨2, ![32768, 1]⟩
abbrev S1x159 : Shape := ⟨2, ![1, 159]⟩
abbrev S_ : Shape := ⟨0, ![]⟩
abbrev S32768x159 : Shape := ⟨2, ![32768, 159]⟩
abbrev S32768x32 : Shape := ⟨2, ![32768, 32]⟩
abbrev S1x32x2048x1024 : Shape := ⟨4, ![1, 32, 2048, 1024]⟩
abbrev S32x2048x1024 : Shape := ⟨3, ![32, 2048, 1024]⟩
abbrev S32768x32x1024 : Shape := ⟨3, ![32768, 32, 1024]⟩
abbrev S1x32x1024 : Shape := ⟨3, ![1, 32, 1024]⟩
abbrev S32768x32x512 : Shape := ⟨3, ![32768, 32, 512]⟩
abbrev S1x32x512x2048 : Shape := ⟨4, ![1, 32, 512, 2048]⟩
abbrev S32x512x2048 : Shape := ⟨3, ![32, 512, 2048]⟩
abbrev S32x2048x32768 : Shape := ⟨3, ![32, 2048, 32768]⟩
abbrev S32768x32x2048 : Shape := ⟨3, ![32768, 32, 2048]⟩
abbrev S1x32x2048 : Shape := ⟨3, ![1, 32, 2048]⟩

abbrev nBuf : Space → Nat
  | .hbm => 87
  | .vmem => 0
  | .smem => 0
  | _ => 0

abbrev bufTy : (tb : Table) → Fin (tcTables nBuf tb) → BufTy
  | .hbm, ⟨0, _⟩ => ⟨S159, .i32⟩
  | .hbm, ⟨1, _⟩ => ⟨S159, .i32⟩
  | .hbm, ⟨2, _⟩ => ⟨S159, .i32⟩
  | .hbm, ⟨3, _⟩ => ⟨S159, .i32⟩
  | .hbm, ⟨4, _⟩ => ⟨S159, .i32⟩
  | .hbm, ⟨5, _⟩ => ⟨S159, .i32⟩
  | .hbm, ⟨6, _⟩ => ⟨S32768x2048, .f32⟩
  | .hbm, ⟨7, _⟩ => ⟨S4x32x2048x1024, .f32⟩
  | .hbm, ⟨8, _⟩ => ⟨S32x1024, .f32⟩
  | .hbm, ⟨9, _⟩ => ⟨S4x32x512x2048, .f32⟩
  | .hbm, ⟨10, _⟩ => ⟨S32x2048, .f32⟩
  | .hbm, ⟨11, _⟩ => ⟨S159x1, .i32⟩
  | .hbm, ⟨12, _⟩ => ⟨S32, .i32⟩
  | .hbm, ⟨13, _⟩ => ⟨S1x32, .i32⟩
  | .hbm, ⟨14, _⟩ => ⟨S159x32, .i32⟩
  | .hbm, ⟨15, _⟩ => ⟨S159x32, .i32⟩
  | .hbm, ⟨16, _⟩ => ⟨S159x32, .i1⟩
  | .hbm, ⟨17, _⟩ => ⟨S159x32, .f32⟩
  | .hbm, ⟨18, _⟩ => ⟨S32768, .i32⟩
  | .hbm, ⟨19, _⟩ => ⟨S32768x1, .i32⟩
  | .hbm, ⟨20, _⟩ => ⟨S1x159, .i32⟩
  | .hbm, ⟨21, _⟩ => ⟨S_, .i32⟩
  | .hbm, ⟨22, _⟩ => ⟨S1x159, .i32⟩
  | .hbm, ⟨23, _⟩ => ⟨S1x159, .i32⟩
  | .hbm, ⟨24, _⟩ => ⟨S32768x159, .i32⟩
  | .hbm, ⟨25, _⟩ => ⟨S32768x159, .i32⟩
  | .hbm, ⟨26, _⟩ => ⟨S32768x159, .i32⟩
  | .hbm, ⟨27, _⟩ => ⟨S1x159, .i32⟩
  | .hbm, ⟨28, _⟩ => ⟨S32768x159, .i32⟩
  | .hbm, ⟨29, _⟩ => ⟨S32768x159, .i1⟩
  | .hbm, ⟨30, _⟩ => ⟨S1x159, .i32⟩
  | .hbm, ⟨31, _⟩ => ⟨S32768x159, .i32⟩
  | .hbm, ⟨32, _⟩ => ⟨S32768x159, .i1⟩
  | .hbm, ⟨33, _⟩ => ⟨S32768x159, .i1⟩
  | .hbm, ⟨34, _⟩ => ⟨S_, .i32⟩
  | .hbm, ⟨35, _⟩ => ⟨S32768x159, .i32⟩
  | .hbm, ⟨36, _⟩ => ⟨S32768x159, .i1⟩
  | .hbm, ⟨37, _⟩ => ⟨S32768x159, .i1⟩
  | .hbm, ⟨38, _⟩ => ⟨S_, .i32⟩
  | .hbm, ⟨39, _⟩ => ⟨S32768x159, .i32⟩
  | .hbm, ⟨40, _⟩ => ⟨S32768x159, .i1⟩
  | .hbm, ⟨41, _⟩ => ⟨S32768x159, .i1⟩
  | .hbm, ⟨42, _⟩ => ⟨S32768x159, .f32⟩
  | .hbm, ⟨43, _⟩ => ⟨S32768x32, .f32⟩
  | .hbm, ⟨44, _⟩ => ⟨S1x32x2048x1024, .f32⟩
  | .hbm, ⟨45, _⟩ => ⟨S32x2048x1024, .f32⟩
  | .hbm, ⟨46, _⟩ => ⟨S32768x32x1024, .f32⟩
  | .hbm, ⟨47, _⟩ => ⟨S1x32x1024, .f32⟩
  | .hbm, ⟨48, _⟩ => ⟨S32768x32x1024, .f32⟩
  | .hbm, ⟨49, _⟩ => ⟨S32768x32x1024, .f32⟩
  | .hbm, ⟨50, _⟩ => ⟨S32768x32x512, .f32⟩
  | .hbm, ⟨51, _⟩ => ⟨S32768x32x512, .f32⟩
  | .hbm, ⟨52, _⟩ => ⟨S_, .f32⟩
  | .hbm, ⟨53, _⟩ => ⟨S32768x32x512, .f32⟩
  | .hbm, ⟨54, _⟩ => ⟨S32768x32x512, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S32768x32x512, .f32⟩
  | .hbm, ⟨59, _⟩ => ⟨S32768x32x512, .f32⟩
  | .hbm, ⟨60, _⟩ => ⟨S_, .f32⟩
  | .hbm, ⟨61, _⟩ => ⟨S32768x32x512, .f32⟩
  | .hbm, ⟨62, _⟩ => ⟨S32768x32x512, .f32⟩
  | .hbm, ⟨63, _⟩ => ⟨S_, .f32⟩
  | .hbm, ⟨64, _⟩ => ⟨S32768x32x512, .f32⟩
  | .hbm, ⟨65, _⟩ => ⟨S32768x32x512, .f32⟩
  | .hbm, ⟨66, _⟩ => ⟨S32768x32x512, .f32⟩
  | .hbm, ⟨67, _⟩ => ⟨S32768x32x512, .f32⟩
  | .hbm, ⟨68, _⟩ => ⟨S_, .f32⟩
  | .hbm, ⟨69, _⟩ => ⟨S32768x32x512, .f32⟩
  | .hbm, ⟨70, _⟩ => ⟨S32768x32x512, .f32⟩
  | .hbm, ⟨71, _⟩ => ⟨S_, .f32⟩
  | .hbm, ⟨72, _⟩ => ⟨S32768x32x512, .f32⟩
  | .hbm, ⟨73, _⟩ => ⟨S32768x32x512, .f32⟩
  | .hbm, ⟨74, _⟩ => ⟨S32768x32x512, .f32⟩
  | .hbm, ⟨75, _⟩ => ⟨S_, .f32⟩
  | .hbm, ⟨76, _⟩ => ⟨S32768x32x512, .f32⟩
  | .hbm, ⟨77, _⟩ => ⟨S32768x32x512, .f32⟩
  | .hbm, ⟨78, _⟩ => ⟨S32768x32x512, .f32⟩
  | .hbm, ⟨79, _⟩ => ⟨S1x32x512x2048, .f32⟩
  | .hbm, ⟨80, _⟩ => ⟨S32x512x2048, .f32⟩
  | .hbm, ⟨81, _⟩ => ⟨S32x2048x32768, .f32⟩
  | .hbm, ⟨82, _⟩ => ⟨S32768x32x2048, .f32⟩
  | .hbm, ⟨83, _⟩ => ⟨S1x32x2048, .f32⟩
  | .hbm, ⟨84, _⟩ => ⟨S32768x32x2048, .f32⟩
  | .hbm, ⟨85, _⟩ => ⟨S32768x32x2048, .f32⟩
  | .hbm, ⟨86, _⟩ => ⟨S32768x2048, .f32⟩
  | _, _ => ⟨S159, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst : Ref sig .tc := ⟨.hbm, 52, rfl⟩
abbrev main_v38 : Ref sig .tc := ⟨.hbm, 53, rfl⟩
abbrev main_v39 : Ref sig .tc := ⟨.hbm, 54, rfl⟩
abbrev main_cst_2 : Ref sig .tc := ⟨.hbm, 55, rfl⟩
abbrev main_cst_3 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v40 : Ref sig .tc := ⟨.hbm, 62, rfl⟩
abbrev main_cst_4 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_5 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_7 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]
-- ==== Kernel5.lean ====
abbrev S4x2304x1024 : Shape := ⟨3, ![4, 2304, 1024]⟩
abbrev S4x2x2304x1024 : Shape := ⟨4, ![4, 2, 2304, 1024]⟩
abbrev S4x2304x2048 : Shape := ⟨3, ![4, 2304, 2048]⟩
abbrev S4x2304x4224 : Shape := ⟨3, ![4, 2304, 4224]⟩
abbrev S16 : Shape := ⟨1, ![16]⟩
abbrev S1024 : Shape := ⟨1, ![1024]⟩
abbrev S2048x2048 : Shape := ⟨2, ![2048, 2048]⟩
abbrev S4x2x8x2048 : Shape := ⟨4, ![4, 2, 8, 2048]⟩
abbrev S16x64 : Shape := ⟨2, ![16, 64]⟩
abbrev S1x1024 : Shape := ⟨2, ![1, 1024]⟩
abbrev S1x256x1024 : Shape := ⟨3, ![1, 256, 1024]⟩
abbrev S1x1x256x1024 : Shape := ⟨4, ![1, 1, 256, 1024]⟩
abbrev S1x256x2048 : Shape := ⟨3, ![1, 256, 2048]⟩
abbrev S1x1x8x2048 : Shape := ⟨4, ![1, 1, 8, 2048]⟩
abbrev S256x1024 : Shape := ⟨2, ![256, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S1x1x1x2048 : Shape := ⟨4, ![1, 1, 1, 2048]⟩
abbrev S1x2048 : Shape := ⟨2, ![1, 2048]⟩

abbrev nBuf : Space → Nat
  | .hbm => 15
  | .vmem => 19
  | .smem => 0
  | _ => 0

abbrev bufTy : (tb : Table) → Fin (tcTables nBuf tb) → BufTy
  | .hbm, ⟨0, _⟩ => ⟨S4x2304x1024, .bf16⟩
  | .hbm, ⟨1, _⟩ => ⟨S4x2x2304x1024, .f32⟩
  | .hbm, ⟨2, _⟩ => ⟨S4x2304x2048, .f32⟩
  | .hbm, ⟨3, _⟩ => ⟨S4x2304x4224, .f32⟩
  | .hbm, ⟨4, _⟩ => ⟨S16, .f32⟩
  | .hbm, ⟨5, _⟩ => ⟨S1024, .f32⟩
  | .hbm, ⟨6, _⟩ => ⟨S2048x2048, .f32⟩
  | .hbm, ⟨7, _⟩ => ⟨S4x2304x2048, .f32⟩
  | .hbm, ⟨8, _⟩ => ⟨S4x2x8x2048, .f32⟩
  | .hbm, ⟨9, _⟩ => ⟨S16x64, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S2048x2048, .bf16⟩
  | .hbm, ⟨14, _⟩ => ⟨S4x2304x2048, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1x256x1024, .f32⟩
  | .local _ .vmem, ⟨3, _⟩ => ⟨S1x1x256x1024, .f32⟩
  | .local _ .vmem, ⟨4, _⟩ => ⟨S1x1x256x1024, .f32⟩
  | .local _ .vmem, ⟨5, _⟩ => ⟨S1x1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x1024, .f32⟩
  | .local _ .vmem, ⟨11, _⟩ => ⟨S1x1024, .f32⟩
  | .local _ .vmem, ⟨12, _⟩ => ⟨S2048x2048, .bf16⟩
  | .local _ .vmem, ⟨13, _⟩ => ⟨S1x256x2048, .f32⟩
  | .local _ .vmem, ⟨14, _⟩ => ⟨S1x256x2048, .f32⟩
  | .local _ .vmem, ⟨15, _⟩ => ⟨S1x1x8x2048, .f32⟩
  | .local _ .vmem, ⟨16, _⟩ => ⟨S1x1x8x2048, .f32⟩
  | .local _ .vmem, ⟨17, _⟩ => ⟨S1x256x2048, .f32⟩
  | .local _ .vmem, ⟨18, _⟩ => ⟨S1x256x2048, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x8x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S4x2304x1024 : Shape := ⟨3, ![4, 2304, 1024]⟩
abbrev S4x2x2304x1024 : Shape := ⟨4, ![4, 2, 2304, 1024]⟩
abbrev S4x2304x2048 : Shape := ⟨3, ![4, 2304, 2048]⟩
abbrev S4x2304x4224 : Shape := ⟨3, ![4, 2304, 4224]⟩
abbrev S16 : Shape := ⟨1, ![16]⟩
abbrev S1024 : Shape := ⟨1, ![1024]⟩
abbrev S2048x2048 : Shape := ⟨2, ![2048, 2048]⟩
abbrev S4x2x8x2048 : Shape := ⟨4, ![4, 2, 8, 2048]⟩
abbrev S4x1x2304x1024 : Shape := ⟨4, ![4, 1, 2304, 1024]⟩
abbrev S4x2304x16x64 : Shape := ⟨4, ![4, 2304, 16, 64]⟩
abbrev S16x1 : Shape := ⟨2, ![16, 1]⟩
abbrev S1x1x16x1 : Shape := ⟨4, ![1, 1, 16, 1]⟩
abbrev S_ : Shape := ⟨0, ![]⟩
abbrev S4x2304 : Shape := ⟨2, ![4, 2304]⟩
abbrev S4x2304x1 : Shape := ⟨3, ![4, 2304, 1]⟩
abbrev S1x1x1024 : Shape := ⟨3, ![1, 1, 1024]⟩
abbrev S4x1x8x2048 : Shape := ⟨4, ![4, 1, 8, 2048]⟩
abbrev S4x8x2048 : Shape := ⟨3, ![4, 8, 2048]⟩
abbrev S4x2048x2048 : Shape := ⟨3, ![4, 2048, 2048]⟩
abbrev S4x1x2048 : Shape := ⟨3, ![4, 1, 2048]⟩
abbrev S4x2048 : Shape := ⟨2, ![4, 2048]⟩
abbrev S4x256x2048 : Shape := ⟨3, ![4, 256, 2048]⟩

abbrev nBuf : Space → Nat
  | .hbm => 74
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S4x2x2304x1024, .f32⟩
  | .hbm, ⟨2, _⟩ => ⟨S4x2304x2048, .f32⟩
  | .hbm, ⟨3, _⟩ => ⟨S4x2304x4224, .f32⟩
  | .hbm, ⟨4, _⟩ => ⟨S16, .f32⟩
  | .hbm, ⟨5, _⟩ => ⟨S1024, .f32⟩
  | .hbm, ⟨6, _⟩ => ⟨S2048x2048, .f32⟩
  | .hbm, ⟨7, _⟩ => ⟨S4x2304x2048, .f32⟩
  | .hbm, ⟨8, _⟩ => ⟨S4x2x8x2048, .f32⟩
  | .hbm, ⟨9, _⟩ => ⟨S4x1x2304x1024, .f32⟩
  | .hbm, ⟨10, _⟩ => ⟨S4x2304x1024, .f32⟩
  | .hbm, ⟨11, _⟩ => ⟨S4x1x2304x1024, .f32⟩
  | .hbm, ⟨12, _⟩ => ⟨S4x2304x1024, .f32⟩
  | .hbm, ⟨13, _⟩ => ⟨S4x2304x1024, .f32⟩
  | .hbm, ⟨14, _⟩ => ⟨S4x2304x16x64, .f32⟩
  | .hbm, ⟨15, _⟩ => ⟨S4x2304x1024, .f32⟩
  | .hbm, ⟨16, _⟩ => ⟨S4x2304x16x64, .f32⟩
  | .hbm, ⟨17, _⟩ => ⟨S4x2304x1024, .f32⟩
  | .hbm, ⟨18, _⟩ => ⟨S16x1, .f32⟩
  | .hbm, ⟨19, _⟩ => ⟨S1x1x16x1, .f32⟩
  | .hbm, ⟨20, _⟩ => ⟨S4x2304x16x64, .f32⟩
  | .hbm, ⟨21, _⟩ => ⟨S4x2304x16x64, .f32⟩
  | .hbm, ⟨22, _⟩ => ⟨S4x2304x16x64, .f32⟩
  | .hbm, ⟨23, _⟩ => ⟨S4x2304x1024, .f32⟩
  | .hbm, ⟨24, _⟩ => ⟨S4x2304x1024, .f32⟩
  | .hbm, ⟨25, _⟩ => ⟨S4x2304x1024, .f32⟩
  | .hbm, ⟨26, _⟩ => ⟨S_, .f32⟩
  | .hbm, ⟨27, _⟩ => ⟨S4x2304x1024, .f32⟩
  | .hbm, ⟨28, _⟩ => ⟨S4x2304x1024, .f32⟩
  | .hbm, ⟨29, _⟩ => ⟨S_, .f32⟩
  | .hbm, ⟨30, _⟩ => ⟨S4x2304x1024, .f32⟩
  | .hbm, ⟨31, _⟩ => ⟨S4x2304x1024, .f32⟩
  | .hbm, ⟨32, _⟩ => ⟨S4x2304x1024, .f32⟩
  | .hbm, ⟨33, _⟩ => ⟨S4x2304x1024, .f32⟩
  | .hbm, ⟨34, _⟩ => ⟨S4x2304x1024, .f32⟩
  | .hbm, ⟨35, _⟩ => ⟨S_, .f32⟩
  | .hbm, ⟨36, _⟩ => ⟨S4x2304, .f32⟩
  | .hbm, ⟨37, _⟩ => ⟨S4x2304x1, .f32⟩
  | .hbm, ⟨38, _⟩ => ⟨S_, .f32⟩
  | .hbm, ⟨39, _⟩ => ⟨S4x2304x1, .f32⟩
  | .hbm, ⟨40, _⟩ => ⟨S4x2304x1, .f32⟩
  | .hbm, ⟨41, _⟩ => ⟨S_, .f32⟩
  | .hbm, ⟨42, _⟩ => ⟨S4x2304x1, .f32⟩
  | .hbm, ⟨43, _⟩ => ⟨S4x2304x1, .f32⟩
  | .hbm, ⟨44, _⟩ => ⟨S4x2304x1, .f32⟩
  | .hbm, ⟨45, _⟩ => ⟨S4x2304x1024, .f32⟩
  | .hbm, ⟨46, _⟩ => ⟨S4x2304x1024, .f32⟩
  | .hbm, ⟨47, _⟩ => ⟨S1x1x1024, .f32⟩
  | .hbm, ⟨48, _⟩ => ⟨S4x2304x1024, .f32⟩
  | .hbm, ⟨49, _⟩ => ⟨S4x2304x1024, .f32⟩
  | .hbm, ⟨50, _⟩ => ⟨S4x2304x1024, .f32⟩
  | .hbm, ⟨51, _⟩ => ⟨S4x2304x2048, .f32⟩
  | .hbm, ⟨52, _⟩ => ⟨S4x2304x2048, .f32⟩
  | .hbm, ⟨53, _⟩ => ⟨S4x1x8x2048, .f32⟩
  | .hbm, ⟨54, _⟩ => ⟨S4x8x2048, .f32⟩
  | .hbm, ⟨55, _⟩ => ⟨S4x1x8x2048, .f32⟩
  | .hbm, ⟨56, _⟩ => ⟨S4x8x2048, .f32⟩
  | .hbm, ⟨57, _⟩ => ⟨S4x2048x2048, .f32⟩
  | .hbm, ⟨58, _⟩ => ⟨S4x1x2048, .f32⟩
  | .hbm, ⟨59, _⟩ => ⟨S4x2048, .f32⟩
  | .hbm, ⟨60, _⟩ => ⟨S4x1x2048, .f32⟩
  | .hbm, ⟨61, _⟩ => ⟨S4x2048x2048, .f32⟩
  | .hbm, ⟨62, _⟩ => ⟨S4x2048x2048, .f32⟩
  | .hbm, ⟨63, _⟩ => ⟨S4x2048x2048, .f32⟩
  | .hbm, ⟨64, _⟩ => ⟨S4x2048x2048, .f32⟩
  | .hbm, ⟨65, _⟩ => ⟨S4x256x2048, .f32⟩
  | .hbm, ⟨66, _⟩ => ⟨S4x1x2048, .f32⟩
  | .hbm, ⟨67, _⟩ => ⟨S4x2048, .f32⟩
  | .hbm, ⟨68, _⟩ => ⟨S4x1x2048, .f32⟩
  | .hbm, ⟨69, _⟩ => ⟨S4x256x2048, .f32⟩
  | .hbm, ⟨70, _⟩ => ⟨S4x256x2048, .f32⟩
  | .hbm, ⟨71, _⟩ => ⟨S4x256x2048, .f32⟩
  | .hbm, ⟨72, _⟩ => ⟨S4x256x2048, .f32⟩
  | .hbm, ⟨73, _⟩ => ⟨S4x2304x2048, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_cst_0 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel6.lean ====
abbrev S4x2304x1024 : Shape := ⟨3, ![4, 2304, 1024]⟩
abbrev S4x2x2304x1024 : Shape := ⟨4, ![4, 2, 2304, 1024]⟩
abbrev S4x2304x6272 : Shape := ⟨3, ![4, 2304, 6272]⟩
abbrev S1024 : Shape := ⟨1, ![1024]⟩
abbrev S2048x2048 : Shape := ⟨2, ![2048, 2048]⟩
abbrev S4x2304x2048 : Shape := ⟨3, ![4, 2304, 2048]⟩
abbrev S4x2x8x2048 : Shape := ⟨4, ![4, 2, 8, 2048]⟩
abbrev S1x1024 : Shape := ⟨2, ![1, 1024]⟩
abbrev S1x256x1024 : Shape := ⟨3, ![1, 256, 1024]⟩
abbrev S1x1x256x1024 : Shape := ⟨4, ![1, 1, 256, 1024]⟩
abbrev S1x256x2048 : Shape := ⟨3, ![1, 256, 2048]⟩
abbrev S1x1x8x2048 : Shape := ⟨4, ![1, 1, 8, 2048]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S1x1x1x2048 : Shape := ⟨4, ![1, 1, 1, 2048]⟩
abbrev S1x2048 : Shape := ⟨2, ![1, 2048]⟩

abbrev nBuf : Space → Nat
  | .hbm => 10
  | .vmem => 16
  | .smem => 0
  | _ => 0

abbrev bufTy : (tb : Table) → Fin (tcTables nBuf tb) → BufTy
  | .hbm, ⟨0, _⟩ => ⟨S4x2304x1024, .bf16⟩
  | .hbm, ⟨1, _⟩ => ⟨S4x2x2304x1024, .f32⟩
  | .hbm, ⟨2, _⟩ => ⟨S4x2304x6272, .f32⟩
  | .hbm, ⟨3, _⟩ => ⟨S1024, .f32⟩
  | .hbm, ⟨4, _⟩ => ⟨S2048x2048, .f32⟩
  | .hbm, ⟨5, _⟩ => ⟨S4x2304x2048, .f32⟩
  | .hbm, ⟨6, _⟩ => ⟨S4x2x8x2048, .f32⟩
  | .hbm, ⟨7, _⟩ => ⟨S1x1024, .f32⟩
  | .hbm, ⟨8, _⟩ => ⟨S2048x2048, .bf16⟩
  | .hbm, ⟨9, _⟩ => ⟨S4x2304x2048, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1x256x1024, .f32⟩
  | .local _ .vmem, ⟨3, _⟩ => ⟨S1x1x256x1024, .f32⟩
  | .local _ .vmem, ⟨4, _⟩ => ⟨S1x1x256x1024, .f32⟩
  | .local _ .vmem, ⟨5, _⟩ => ⟨S1x1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x1024, .f32⟩
  | .local _ .vmem, ⟨9, _⟩ => ⟨S2048x2048, .bf16⟩
  | .local _ .vmem, ⟨10, _⟩ => ⟨S1x256x2048, .f32⟩
  | .local _ .vmem, ⟨11, _⟩ => ⟨S1x256x2048, .f32⟩
  | .local _ .vmem, ⟨12, _⟩ => ⟨S1x1x8x2048, .f32⟩
  | .local _ .vmem, ⟨13, _⟩ => ⟨S1x1x8x2048, .f32⟩
  | .local _ .vmem, ⟨14, _⟩ => ⟨S1x256x2048, .f32⟩
  | .local _ .vmem, ⟨15, _⟩ => ⟨S1x256x2048, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S4x2304x1024 : Shape := ⟨3, ![4, 2304, 1024]⟩
abbrev S4x2x2304x1024 : Shape := ⟨4, ![4, 2, 2304, 1024]⟩
abbrev S4x2304x6272 : Shape := ⟨3, ![4, 2304, 6272]⟩
abbrev S1024 : Shape := ⟨1, ![1024]⟩
abbrev S2048x2048 : Shape := ⟨2, ![2048, 2048]⟩
abbrev S4x2304x2048 : Shape := ⟨3, ![4, 2304, 2048]⟩
abbrev S4x2x8x2048 : Shape := ⟨4, ![4, 2, 8, 2048]⟩
abbrev S4x1x2304x1024 : Shape := ⟨4, ![4, 1, 2304, 1024]⟩
abbrev S4x2304x4x256 : Shape := ⟨4, ![4, 2304, 4, 256]⟩
abbrev S4x256 : Shape := ⟨2, ![4, 256]⟩
abbrev S_ : Shape := ⟨0, ![]⟩
abbrev S4x2304x4 : Shape := ⟨3, ![4, 2304, 4]⟩
abbrev S4x2304x4x1 : Shape := ⟨4, ![4, 2304, 4, 1]⟩
abbrev S1x1x4x256 : Shape := ⟨4, ![1, 1, 4, 256]⟩
abbrev S4x1x8x2048 : Shape := ⟨4, ![4, 1, 8, 2048]⟩
abbrev S4x8x2048 : Shape := ⟨3, ![4, 8, 2048]⟩
abbrev S4x2048x2048 : Shape := ⟨3, ![4, 2048, 2048]⟩
abbrev S4x1x2048 : Shape := ⟨3, ![4, 1, 2048]⟩
abbrev S4x2048 : Shape := ⟨2, ![4, 2048]⟩
abbrev S4x256x2048 : Shape := ⟨3, ![4, 256, 2048]⟩

abbrev nBuf : Space → Nat
  | .hbm => 66
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S4x2x2304x1024, .f32⟩
  | .hbm, ⟨2, _⟩ => ⟨S4x2304x6272, .f32⟩
  | .hbm, ⟨3, _⟩ => ⟨S1024, .f32⟩
  | .hbm, ⟨4, _⟩ => ⟨S2048x2048, .f32⟩
  | .hbm, ⟨5, _⟩ => ⟨S4x2304x2048, .f32⟩
  | .hbm, ⟨6, _⟩ => ⟨S4x2x8x2048, .f32⟩
  | .hbm, ⟨7, _⟩ => ⟨S4x1x2304x1024, .f32⟩
  | .hbm, ⟨8, _⟩ => ⟨S4x2304x1024, .f32⟩
  | .hbm, ⟨9, _⟩ => ⟨S4x1x2304x1024, .f32⟩
  | .hbm, ⟨10, _⟩ => ⟨S4x2304x1024, .f32⟩
  | .hbm, ⟨11, _⟩ => ⟨S4x2304x1024, .f32⟩
  | .hbm, ⟨12, _⟩ => ⟨S4x2304x4x256, .f32⟩
  | .hbm, ⟨13, _⟩ => ⟨S4x2304x1024, .f32⟩
  | .hbm, ⟨14, _⟩ => ⟨S4x256, .f32⟩
  | .hbm, ⟨15, _⟩ => ⟨S4x2304x4x256, .f32⟩
  | .hbm, ⟨16, _⟩ => ⟨S_, .f32⟩
  | .hbm, ⟨17, _⟩ => ⟨S4x2304x4, .f32⟩
  | .hbm, ⟨18, _⟩ => ⟨S4x2304x4x1, .f32⟩
  | .hbm, ⟨19, _⟩ => ⟨S_, .f32⟩
  | .hbm, ⟨20, _⟩ => ⟨S4x2304x4x1, .f32⟩
  | .hbm, ⟨21, _⟩ => ⟨S4x2304x4x1, .f32⟩
  | .hbm, ⟨22, _⟩ => ⟨S_, .f32⟩
  | .hbm, ⟨23, _⟩ => ⟨S4x2304x4x1, .f32⟩
  | .hbm, ⟨24, _⟩ => ⟨S4x2304x4x1, .f32⟩
  | .hbm, ⟨25, _⟩ => ⟨S4x2304x4x1, .f32⟩
  | .hbm, ⟨26, _⟩ => ⟨S4x2304x4x256, .f32⟩
  | .hbm, ⟨27, _⟩ => ⟨S4x2304x4x256, .f32⟩
  | .hbm, ⟨28, _⟩ => ⟨S1x1x4x256, .f32⟩
  | .hbm, ⟨29, _⟩ => ⟨S4x2304x4x256, .f32⟩
  | .hbm, ⟨30, _⟩ => ⟨S4x2304x4x256, .f32⟩
  | .hbm, ⟨31, _⟩ => ⟨S4x2304x1024, .f32⟩
  | .hbm, ⟨32, _⟩ => ⟨S4x2304x1024, .f32⟩
  | .hbm, ⟨33, _⟩ => ⟨S_, .f32⟩
  | .hbm, ⟨34, _⟩ => ⟨S4x2304x1024, .f32⟩
  | .hbm, ⟨35, _⟩ => ⟨S4x2304x1024, .f32⟩
  | .hbm, ⟨36, _⟩ => ⟨S_, .f32⟩
  | .hbm, ⟨37, _⟩ => ⟨S4x2304x1024, .f32⟩
  | .hbm, ⟨38, _⟩ => ⟨S4x2304x1024, .f32⟩
  | .hbm, ⟨39, _⟩ => ⟨S4x2304x4x256, .f32⟩
  | .hbm, ⟨40, _⟩ => ⟨S4x2304x4x256, .f32⟩
  | .hbm, ⟨41, _⟩ => ⟨S4x2304x1024, .f32⟩
  | .hbm, ⟨42, _⟩ => ⟨S4x2304x1024, .f32⟩
  | .hbm, ⟨43, _⟩ => ⟨S4x2304x2048, .f32⟩
  | .hbm, ⟨44, _⟩ => ⟨S4x2304x2048, .f32⟩
  | .hbm, ⟨45, _⟩ => ⟨S4x1x8x2048, .f32⟩
  | .hbm, ⟨46, _⟩ => ⟨S4x8x2048, .f32⟩
  | .hbm, ⟨47, _⟩ => ⟨S4x1x8x2048, .f32⟩
  | .hbm, ⟨48, _⟩ => ⟨S4x8x2048, .f32⟩
  | .hbm, ⟨49, _⟩ => ⟨S4x2048x2048, .f32⟩
  | .hbm, ⟨50, _⟩ => ⟨S4x1x2048, .f32⟩
  | .hbm, ⟨51, _⟩ => ⟨S4x2048, .f32⟩
  | .hbm, ⟨52, _⟩ => ⟨S4x1x2048, .f32⟩
  | .hbm, ⟨53, _⟩ => ⟨S4x2048x2048, .f32⟩
  | .hbm, ⟨54, _⟩ => ⟨S4x2048x2048, .f32⟩
  | .hbm, ⟨55, _⟩ => ⟨S4x2048x2048, .f32⟩
  | .hbm, ⟨56, _⟩ => ⟨S4x2048x2048, .f32⟩
  | .hbm, ⟨57, _⟩ => ⟨S4x256x2048, .f32⟩
  | .hbm, ⟨58, _⟩ => ⟨S4x1x2048, .f32⟩
  | .hbm, ⟨59, _⟩ => ⟨S4x2048, .f32⟩
  | .hbm, ⟨60, _⟩ => ⟨S4x1x2048, .f32⟩
  | .hbm, ⟨61, _⟩ => ⟨S4x256x2048, .f32⟩
  | .hbm, ⟨62, _⟩ => ⟨S4x256x2048, .f32⟩
  | .hbm, ⟨63, _⟩ => ⟨S4x256x2048, .f32⟩
  | .hbm, ⟨64, _⟩ => ⟨S4x256x2048, .f32⟩
  | .hbm, ⟨65, _⟩ => ⟨S4x2304x2048, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Kernel7.lean ====
abbrev S4x2304x1024 : Shape := ⟨3, ![4, 2304, 1024]⟩
abbrev S4x2x2304x1024 : Shape := ⟨4, ![4, 2, 2304, 1024]⟩
abbrev S4x2304x6272 : Shape := ⟨3, ![4, 2304, 6272]⟩
abbrev S1024 : Shape := ⟨1, ![1024]⟩
abbrev S2048x2048 : Shape := ⟨2, ![2048, 2048]⟩
abbrev S4x2304x2048 : Shape := ⟨3, ![4, 2304, 2048]⟩
abbrev S4x2x8x2048 : Shape := ⟨4, ![4, 2, 8, 2048]⟩
abbrev S1x1024 : Shape := ⟨2, ![1, 1024]⟩
abbrev S4x2048x2048 : Shape := ⟨3, ![4, 2048, 2048]⟩
abbrev S1x256x1024 : Shape := ⟨3, ![1, 256, 1024]⟩
abbrev S1x1x256x1024 : Shape := ⟨4, ![1, 1, 256, 1024]⟩
abbrev S1x256x2048 : Shape := ⟨3, ![1, 256, 2048]⟩
abbrev S1x1x8x2048 : Shape := ⟨4, ![1, 1, 8, 2048]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S1x1x1x2048 : Shape := ⟨4, ![1, 1, 1, 2048]⟩
abbrev S1x2048 : Shape := ⟨2, ![1, 2048]⟩

abbrev nBuf : Space → Nat
  | .hbm => 10
  | .vmem => 16
  | .smem => 0
  | _ => 0

abbrev bufTy : (tb : Table) → Fin (tcTables nBuf tb) → BufTy
  | .hbm, ⟨0, _⟩ => ⟨S4x2304x1024, .bf16⟩
  | .hbm, ⟨1, _⟩ => ⟨S4x2x2304x1024, .f32⟩
  | .hbm, ⟨2, _⟩ => ⟨S4x2304x6272, .f32⟩
  | .hbm, ⟨3, _⟩ => ⟨S1024, .f32⟩
  | .hbm, ⟨4, _⟩ => ⟨S2048x2048, .f32⟩
  | .hbm, ⟨5, _⟩ => ⟨S4x2304x2048, .f32⟩
  | .hbm, ⟨6, _⟩ => ⟨S4x2x8x2048, .f32⟩
  | .hbm, ⟨7, _⟩ => ⟨S1x1024, .f32⟩
  | .hbm, ⟨8, _⟩ => ⟨S2048x2048, .bf16⟩
  | .hbm, ⟨9, _⟩ => ⟨S4x2048x2048, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1x256x1024, .f32⟩
  | .local _ .vmem, ⟨3, _⟩ => ⟨S1x1x256x1024, .f32⟩
  | .local _ .vmem, ⟨4, _⟩ => ⟨S1x1x256x1024, .f32⟩
  | .local _ .vmem, ⟨5, _⟩ => ⟨S1x1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x1024, .f32⟩
  | .local _ .vmem, ⟨9, _⟩ => ⟨S2048x2048, .bf16⟩
  | .local _ .vmem, ⟨10, _⟩ => ⟨S1x256x2048, .f32⟩
  | .local _ .vmem, ⟨11, _⟩ => ⟨S1x256x2048, .f32⟩
  | .local _ .vmem, ⟨12, _⟩ => ⟨S1x1x8x2048, .f32⟩
  | .local _ .vmem, ⟨13, _⟩ => ⟨S1x1x8x2048, .f32⟩
  | .local _ .vmem, ⟨14, _⟩ => ⟨S1x256x2048, .f32⟩
  | .local _ .vmem, ⟨15, _⟩ => ⟨S1x256x2048, .f32⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S4x2304x1024 : Shape := ⟨3, ![4, 2304, 1024]⟩
abbrev S4x2x2304x1024 : Shape := ⟨4, ![4, 2, 2304, 1024]⟩
abbrev S4x2304x6272 : Shape := ⟨3, ![4, 2304, 6272]⟩
abbrev S1024 : Shape := ⟨1, ![1024]⟩
abbrev S2048x2048 : Shape := ⟨2, ![2048, 2048]⟩
abbrev S4x2304x2048 : Shape := ⟨3, ![4, 2304, 2048]⟩
abbrev S4x2x8x2048 : Shape := ⟨4, ![4, 2, 8, 2048]⟩
abbrev S4x2048x1024 : Shape := ⟨3, ![4, 2048, 1024]⟩
abbrev S4x2x2048x1024 : Shape := ⟨4, ![4, 2, 2048, 1024]⟩
abbrev S4x2048x6272 : Shape := ⟨3, ![4, 2048, 6272]⟩
abbrev S4x1x2048x1024 : Shape := ⟨4, ![4, 1, 2048, 1024]⟩
abbrev S4x2048x4x256 : Shape := ⟨4, ![4, 2048, 4, 256]⟩
abbrev S4x256 : Shape := ⟨2, ![4, 256]⟩
abbrev S_ : Shape := ⟨0, ![]⟩
abbrev S4x2048x4 : Shape := ⟨3, ![4, 2048, 4]⟩
abbrev S4x2048x4x1 : Shape := ⟨4, ![4, 2048, 4, 1]⟩
abbrev S1x1x4x256 : Shape := ⟨4, ![1, 1, 4, 256]⟩
abbrev S4x2048x2048 : Shape := ⟨3, ![4, 2048, 2048]⟩
abbrev S4x1x1x2048 : Shape := ⟨4, ![4, 1, 1, 2048]⟩
abbrev S4x2048 : Shape := ⟨2, ![4, 2048]⟩
abbrev S4x1x2048 : Shape := ⟨3, ![4, 1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S4x2x2304x1024, .f32⟩
  | .hbm, ⟨2, _⟩ => ⟨S4x2304x6272, .f32⟩
  | .hbm, ⟨3, _⟩ => ⟨S1024, .f32⟩
  | .hbm, ⟨4, _⟩ => ⟨S2048x2048, .f32⟩
  | .hbm, ⟨5, _⟩ => ⟨S4x2304x2048, .f32⟩
  | .hbm, ⟨6, _⟩ => ⟨S4x2x8x2048, .f32⟩
  | .hbm, ⟨7, _⟩ => ⟨S4x2048x1024, .bf16⟩
  | .hbm, ⟨8, _⟩ => ⟨S4x2x2048x1024, .f32⟩
  | .hbm, ⟨9, _⟩ => ⟨S4x2048x6272, .f32⟩
  | .hbm, ⟨10, _⟩ => ⟨S4x1x2048x1024, .f32⟩
  | .hbm, ⟨11, _⟩ => ⟨S4x2048x1024, .f32⟩
  | .hbm, ⟨12, _⟩ => ⟨S4x1x2048x1024, .f32⟩
  | .hbm, ⟨13, _⟩ => ⟨S4x2048x1024, .f32⟩
  | .hbm, ⟨14, _⟩ => ⟨S4x2048x1024, .f32⟩
  | .hbm, ⟨15, _⟩ => ⟨S4x2048x4x256, .f32⟩
  | .hbm, ⟨16, _⟩ => ⟨S4x2048x1024, .f32⟩
  | .hbm, ⟨17, _⟩ => ⟨S4x256, .f32⟩
  | .hbm, ⟨18, _⟩ => ⟨S4x2048x4x256, .f32⟩
  | .hbm, ⟨19, _⟩ => ⟨S_, .f32⟩
  | .hbm, ⟨20, _⟩ => ⟨S4x2048x4, .f32⟩
  | .hbm, ⟨21, _⟩ => ⟨S4x2048x4x1, .f32⟩
  | .hbm, ⟨22, _⟩ => ⟨S_, .f32⟩
  | .hbm, ⟨23, _⟩ => ⟨S4x2048x4x1, .f32⟩
  | .hbm, ⟨24, _⟩ => ⟨S4x2048x4x1, .f32⟩
  | .hbm, ⟨25, _⟩ => ⟨S_, .f32⟩
  | .hbm, ⟨26, _⟩ => ⟨S4x2048x4x1, .f32⟩
  | .hbm, ⟨27, _⟩ => ⟨S4x2048x4x1, .f32⟩
  | .hbm, ⟨28, _⟩ => ⟨S4x2048x4x1, .f32⟩
  | .hbm, ⟨29, _⟩ => ⟨S4x2048x4x256, .f32⟩
  | .hbm, ⟨30, _⟩ => ⟨S4x2048x4x256, .f32⟩
  | .hbm, ⟨31, _⟩ => ⟨S1x1x4x256, .f32⟩
  | .hbm, ⟨32, _⟩ => ⟨S4x2048x4x256, .f32⟩
  | .hbm, ⟨33, _⟩ => ⟨S4x2048x4x256, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S4x2048x1024, .f32⟩
  | .hbm, ⟨38, _⟩ => ⟨S4x2048x1024, .f32⟩
  | .hbm, ⟨39, _⟩ => ⟨S_, .f32⟩
  | .hbm, ⟨40, _⟩ => ⟨S4x2048x1024, .f32⟩
  | .hbm, ⟨41, _⟩ => ⟨S4x2048x1024, .f32⟩
  | .hbm, ⟨42, _⟩ => ⟨S4x2048x4x256, .f32⟩
  | .hbm, ⟨43, _⟩ => ⟨S4x2048x4x256, .f32⟩
  | .hbm, ⟨44, _⟩ => ⟨S4x2048x1024, .f32⟩
  | .hbm, ⟨45, _⟩ => ⟨S4x2048x1024, .f32⟩
  | .hbm, ⟨46, _⟩ => ⟨S4x2048x2048, .f32⟩
  | .hbm, ⟨47, _⟩ => ⟨S4x2048x2048, .f32⟩
  | .hbm, ⟨48, _⟩ => ⟨S4x2048x2048, .f32⟩
  | .hbm, ⟨49, _⟩ => ⟨S4x1x1x2048, .f32⟩
  | .hbm, ⟨50, _⟩ => ⟨S4x2048, .f32⟩
  | .hbm, ⟨51, _⟩ => ⟨S4x1x2048, .f32⟩
  | .hbm, ⟨52, _⟩ => ⟨S4x2048x2048, .f32⟩
  | .hbm, ⟨53, _⟩ => ⟨S4x2048x2048, .f32⟩
  | .hbm, ⟨54, _⟩ => ⟨S4x2048x2048, .f32⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Kernel8.lean ====
abbrev S4x2304x2048 : Shape := ⟨3, ![4, 2304, 2048]⟩
abbrev S4x2304x1024 : Shape := ⟨3, ![4, 2304, 1024]⟩
abbrev S1x256x256 : Shape := ⟨3, ![1, 256, 256]⟩
abbrev S1x2304x256 : Shape := ⟨3, ![1, 2304, 256]⟩
abbrev S1x2304x128 : Shape := ⟨3, ![1, 2304, 128]⟩
abbrev S1x256x128 : Shape := ⟨3, ![1, 256, 128]⟩
abbrev S256x256 : Shape := ⟨2, ![256, 256]⟩
abbrev S2304x256 : Shape := ⟨2, ![2304, 256]⟩
abbrev S256x2304 : Shape := ⟨2, ![256, 2304]⟩
abbrev S2304x128 : Shape := ⟨2, ![2304, 128]⟩
abbrev S256 : Shape := ⟨1, ![256]⟩
abbrev S256x1 : Shape := ⟨2, ![256, 1]⟩
abbrev S256x128 : Shape := ⟨2, ![256, 128]⟩

abbrev nBuf : Space → Nat
  | .hbm => 4
  | .vmem => 8
  | .smem => 0
  | _ => 0

abbrev bufTy : (tb : Table) → Fin (tcTables nBuf tb) → BufTy
  | .hbm, ⟨0, _⟩ => ⟨S4x2304x2048, .bf16⟩
  | .hbm, ⟨1, _⟩ => ⟨S4x2304x2048, .bf16⟩
  | .hbm, ⟨2, _⟩ => ⟨S4x2304x1024, .bf16⟩
  | .hbm, ⟨3, _⟩ => ⟨S4x2304x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x256x128, .bf16⟩
  | .local _ .vmem, ⟨7, _⟩ => ⟨S1x256x128, .bf16⟩
  | _, _ => ⟨S4x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 9], ![false, false, false]⟩

def k0_cond1 (i : grid0.Coords) : BitVec 1 :=
  let arg2 : BitVec 32 := BitVec.ofNat 32 (i 2).val
  let c256_i32 : BitVec 32 := 256#32
  let v2 : BitVec 32 := Scalar.muli arg2 c256_i32
  let c2048_i32 : BitVec 32 := 2048#32
  let v3 : BitVec 1 := Scalar.cmpi .slt v2 c2048_i32
  let v4 : BitVec 32 := Scalar.extui v3
  let c0_i32 : BitVec 32 := 0#32
  let v5 : BitVec 1 := Scalar.cmpi .ne v4 c0_i32
  v5

def k0_cond2 (i : grid0.Coords) : BitVec 1 :=
  let arg2 : BitVec 32 := BitVec.ofNat 32 (i 2).val
  let c256_i32_2 : BitVec 32 := 256#32
  let v6 : BitVec 32 := Scalar.muli arg2 c256_i32_2
  let c2048_i32_3 : BitVec 32 := 2048#32
  let v7 : BitVec 1 := Scalar.cmpi .sge v6 c2048_i32_3
  let v8 : BitVec 32 := Scalar.extui v7
  let c0_i32_4 : BitVec 32 := 0#32
  let v9 : BitVec 1 := Scalar.cmpi .ne v8 c0_i32_4
  v9

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference8Ideal.lean ====
abbrev S4x2304x2048 : Shape := ⟨3, ![4, 2304, 2048]⟩
abbrev S4x2304x1024 : Shape := ⟨3, ![4, 2304, 1024]⟩
abbrev S4x2304x8x256 : Shape := ⟨4, ![4, 2304, 8, 256]⟩
abbrev S4x2304x8x128 : Shape := ⟨4, ![4, 2304, 8, 128]⟩
abbrev S4x2048x8x256 : Shape := ⟨4, ![4, 2048, 8, 256]⟩
abbrev S4x8x2048x2304 : Shape := ⟨4, ![4, 8, 2048, 2304]⟩
abbrev S_ : Shape := ⟨0, ![]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x2048x8x128 : Shape := ⟨4, ![4, 2048, 8, 128]⟩
abbrev S4x256x8x256 : Shape := ⟨4, ![4, 256, 8, 256]⟩
abbrev S4x256x8x128 : Shape := ⟨4, ![4, 256, 8, 128]⟩
abbrev S4x8x256x256 : Shape := ⟨4, ![4, 8, 256, 256]⟩
abbrev S4x8x256 : Shape := ⟨3, ![4, 8, 256]⟩
abbrev S4x8x256x1 : Shape := ⟨4, ![4, 8, 256, 1]⟩
abbrev S4x8x128x256 : Shape := ⟨4, ![4, 8, 128, 256]⟩

abbrev nBuf : Space → Nat
  | .hbm => 56
  | .vmem => 0
  | .smem => 0
  | _ => 0

abbrev bufTy : (tb : Table) → Fin (tcTables nBuf tb) → BufTy
  | .hbm, ⟨0, _⟩ => ⟨S4x2304x2048, .bf16⟩
  | .hbm, ⟨1, _⟩ => ⟨S4x2304x2048, .bf16⟩
  | .hbm, ⟨2, _⟩ => ⟨S4x2304x1024, .bf16⟩
  | .hbm, ⟨3, _⟩ => ⟨S4x2304x2048, .f32⟩
  | .hbm, ⟨4, _⟩ => ⟨S4x2304x8x256, .f32⟩
  | .hbm, ⟨5, _⟩ => ⟨S4x2304x2048, .f32⟩
  | .hbm, ⟨6, _⟩ => ⟨S4x2304x8x256, .f32⟩
  | .hbm, ⟨7, _⟩ => ⟨S4x2304x1024, .f32⟩
  | .hbm, ⟨8, _⟩ => ⟨S4x2304x8x128, .f32⟩
  | .hbm, ⟨9, _⟩ => ⟨S4x2048x8x256, .f32⟩
  | .hbm, ⟨10, _⟩ => ⟨S4x8x2048x2304, .f32⟩
  | .hbm, ⟨11, _⟩ => ⟨S_, .f32⟩
  | .hbm, ⟨12, _⟩ => ⟨S4x8x2048x2304, .f32⟩
  | .hbm, ⟨13, _⟩ => ⟨S4x8x2048x2304, .f32⟩
  | .hbm, ⟨14, _⟩ => ⟨S_, .f32⟩
  | .hbm, ⟨15, _⟩ => ⟨S4x8x2048, .f32⟩
  | .hbm, ⟨16, _⟩ => ⟨S_, .f32⟩
  | .hbm, ⟨17, _⟩ => ⟨S4x8x2048, .f32⟩
  | .hbm, ⟨18, _⟩ => ⟨S4x8x2048, .f32⟩
  | .hbm, ⟨19, _⟩ => ⟨S4x8x2048x1, .f32⟩
  | .hbm, ⟨20, _⟩ => ⟨S4x8x2048x2304, .f32⟩
  | .hbm, ⟨21, _⟩ => ⟨S4x8x2048x2304, .f32⟩
  | .hbm, ⟨22, _⟩ => ⟨S4x8x2048x2304, .f32⟩
  | .hbm, ⟨23, _⟩ => ⟨S_, .f32⟩
  | .hbm, ⟨24, _⟩ => ⟨S4x8x2048, .f32⟩
  | .hbm, ⟨25, _⟩ => ⟨S4x8x2048x1, .f32⟩
  | .hbm, ⟨26, _⟩ => ⟨S4x8x2048x2304, .f32⟩
  | .hbm, ⟨27, _⟩ => ⟨S4x8x2048x2304, .f32⟩
  | .hbm, ⟨28, _⟩ => ⟨S4x8x128x2048, .f32⟩
  | .hbm, ⟨29, _⟩ => ⟨S4x2048x8x128, .f32⟩
  | .hbm, ⟨30, _⟩ => ⟨S4x256x8x256, .f32⟩
  | .hbm, ⟨31, _⟩ => ⟨S4x256x8x256, .f32⟩
  | .hbm, ⟨32, _⟩ => ⟨S4x256x8x128, .f32⟩
  | .hbm, ⟨33, _⟩ => ⟨S4x8x256x256, .f32⟩
  | .hbm, ⟨34, _⟩ => ⟨S_, .f32⟩
  | .hbm, ⟨35, _⟩ => ⟨S4x8x256x256, .f32⟩
  | .hbm, ⟨36, _⟩ => ⟨S4x8x256x256, .f32⟩
  | .hbm, ⟨37, _⟩ => ⟨S_, .f32⟩
  | .hbm, ⟨38, _⟩ => ⟨S4x8x256, .f32⟩
  | .hbm, ⟨39, _⟩ => ⟨S_, .f32⟩
  | .hbm, ⟨40, _⟩ => ⟨S4x8x256, .f32⟩
  | .hbm, ⟨41, _⟩ => ⟨S4x8x256, .f32⟩
  | .hbm, ⟨42, _⟩ => ⟨S4x8x256x1, .f32⟩
  | .hbm, ⟨43, _⟩ => ⟨S4x8x256x256, .f32⟩
  | .hbm, ⟨44, _⟩ => ⟨S4x8x256x256, .f32⟩
  | .hbm, ⟨45, _⟩ => ⟨S4x8x256x256, .f32⟩
  | .hbm, ⟨46, _⟩ => ⟨S_, .f32⟩
  | .hbm, ⟨47, _⟩ => ⟨S4x8x256, .f32⟩
  | .hbm, ⟨48, _⟩ => ⟨S4x8x256x1, .f32⟩
  | .hbm, ⟨49, _⟩ => ⟨S4x8x256x256, .f32⟩
  | .hbm, ⟨50, _⟩ => ⟨S4x8x256x256, .f32⟩
  | .hbm, ⟨51, _⟩ => ⟨S4x8x128x256, .f32⟩
  | .hbm, ⟨52, _⟩ => ⟨S4x256x8x128, .f32⟩
  | .hbm, ⟨53, _⟩ => ⟨S4x2304x8x128, .f32⟩
  | .hbm, ⟨54, _⟩ => ⟨S4x2304x1024, .f32⟩
  | .hbm, ⟨55, _⟩ => ⟨S4x2304x1024, .bf16⟩
  | _, _ => ⟨S4x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Proof.Items.lean ====
/- What the precondition says of the item tables: the tiles rise, the experts are in range, the two flags mark a
   first item of a tile and of an expert, and a tile's first item owns a row. -/
module

public import proofs.«01_k».proof.Defs
public import proofs.«01_k».proof.Proof.Gen.Pre_well_formed
public import Idealize.ShloMosaic.Lib.Pointwise
public import Idealize.ShloMosaic.Lib.StableHlo.Predicate

@[expose] public section

set_option maxRecDepth 16384

noncomputable section

namespace Cert.Items

open Idealize.ShloMosaic Idealize.ShloMosaic.StableHlo Cert.Pre_well_formed Cert.Pre_well_formed.Gen

/-- The item before. -/
abbrev prev (n : Fin 175) : Fin 175 := ⟨n.val - 1, by have := n.isLt; omega⟩

/-- Well-formed item tables, item by item. -/
structure WellFormed (tile e lo hi first newe : IVec S175 32) : Prop where
  tile_lt : ∀ n : Fin 175, (tile (ix1 n)).toNat < 144
  tile_mono : ∀ n : Fin 175, n.val ≠ 0 → (tile (ix1 (prev n))).toNat ≤ (tile (ix1 n)).toNat
  e_lt : ∀ n : Fin 175, (e (ix1 n)).toNat < 32
  first_eq : ∀ n : Fin 175, first (ix1 n) = if n.val = 0 ∨ tile (ix1 n) ≠ tile (ix1 (prev n)) then 1#32 else 0#32
  new_eq : ∀ n : Fin 175, newe (ix1 n) = if n.val = 0 ∨ e (ix1 n) ≠ e (ix1 (prev n)) then 1#32 else 0#32
  owns : ∀ n : Fin 175, first (ix1 n) = 1#32 → IntOp.cmpi .sgt (hi (ix1 n)) (lo (ix1 n)) = 1#1

/-- A comparison whose bit is one holds. -/
theorem of_bit {p : Prop} {hp : Decidable p} (h : BitVec.ofBool (decide p) = 1#1) : p := by
  by_contra hn
  rw [decide_eq_false hn] at h
  exact absurd h (by decide)

/-- Both bits of a conjunction that is one are one. -/
theorem both {a b : BitVec 1} (h : IntOp.andi a b = 1#1) : a = 1#1 ∧ b = 1#1 := by
  revert a b; decide

/-- A signed word at least zero and below a small bound is that small as a natural number. -/
theorem small (w : BitVec 32) (k : ℕ) (hk : k < 2 ^ 31) (h0 : IntOp.cmpi .sge w 0#32 = 1#1) (h1 : IntOp.cmpi .slt w (BitVec.ofNat 32 k) = 1#1) : w.toNat < k := by
  simp only [IntOp.cmpi, Predicate.ofBool_eq_one_iff, BitVec.sle_iff_toInt_le, BitVec.slt_iff_toInt_lt] at h0 h1
  have e1 : (BitVec.ofNat 32 k).toInt = k := by
    rw [BitVec.toInt_eq_toNat_of_lt (by rw [BitVec.toNat_ofNat]; omega), BitVec.toNat_ofNat]; omega
  have e0 : (0#32 : BitVec 32).toInt = 0 := by decide
  rw [e1] at h1; rw [e0] at h0
  rw [BitVec.toInt_eq_toNat_cond] at h0 h1
  split at h0 <;> omega

/-- Signed order of small words is the order of naturals. -/
theorem le_of_sge (a b : BitVec 32) (ha : a.toNat < 2 ^ 31) (hb : b.toNat < 2 ^ 31) (h : IntOp.cmpi .sge a b = 1#1) : b.toNat ≤ a.toNat := by
  simp only [IntOp.cmpi, Predicate.ofBool_eq_one_iff, BitVec.sle_iff_toInt_le] at h
  rw [BitVec.toInt_eq_toNat_of_lt (by omega), BitVec.toInt_eq_toNat_of_lt (by omega)] at h
  omega

/-- A flag equal to the widened bit of an inequality is one where it holds and zero elsewhere. -/
theorem flag (f a b : BitVec 32) (h : IntOp.cmpi .eq f (BitVec.setWidth 32 (IntOp.cmpi .ne a b)) = 1#1) : f = if a ≠ b then 1#32 else 0#32 := by
  simp only [IntOp.cmpi, Predicate.ofBool_eq_one_iff, beq_iff_eq] at h
  rw [h]
  by_cases k : a = b
  · subst k; simp
  · rw [if_pos k, show (a != b) = true from by simpa using k]; rfl

variable {F : FTy → Type} [FloatOps F]
variable (tile e lo hi first newe : IVec S175 32) (xs : FVec F S36864x2048 .f32) (w1 : FVec F S4x32x2048x1024 .f32) (b1 : FVec F S32x1024 .f32) (w2 : FVec F S4x32x512x2048 .f32) (b2 : FVec F S32x2048 .f32)

/-- The precondition's five arrays of ones say the tables are well formed. -/
theorem wellFormed
    (h1 : (fn (F := F) tile e lo hi first newe xs w1 b1 w2 b2).1 = fun _ => 1#1)
    (h2 : (fn (F := F) tile e lo hi first newe xs w1 b1 w2 b2).2.1 = fun _ => 1#1)
    (h3 : (fn (F := F) tile e lo hi first newe xs w1 b1 w2 b2).2.2.1 = fun _ => 1#1)
    (h4 : (fn (F := F) tile e lo hi first newe xs w1 b1 w2 b2).2.2.2.1 = fun _ => 1#1)
    (h5 : (fn (F := F) tile e lo hi first newe xs w1 b1 w2 b2).2.2.2.2 = fun _ => 1#1) : WellFormed tile e lo hi first newe := by
  have t1 : ∀ n : Fin 175, (tile (ix1 n)).toNat < 144 := fun n => by
    have q := congrFun h1 (ix1 n)
    unfold fn fn_part1 at q
    pointwise at q
    exact small _ 144 (by norm_num) (both (both q).1).1 (both (both q).1).2
  have e1 : ∀ n : Fin 175, (e (ix1 n)).toNat < 32 := fun n => by
    have q := congrFun h2 (ix1 n)
    unfold fn fn_part1 at q
    pointwise at q
    exact small _ 32 (by norm_num) (both q).1 (both q).2
  refine ⟨t1, fun n hn => ?_, e1, fun n => ?_, fun n => ?_, fun n hf => ?_⟩
  · have q := congrFun h1 (ix1 n)
    unfold fn fn_part1 at q
    pointwise at q
    have q2 := (both q).2
    rw [dif_neg (show ¬ n.val < 1 by omega)] at q2
    exact le_of_sge _ _ (lt_trans (t1 n) (by norm_num)) (lt_trans (t1 (prev n)) (by norm_num)) q2
  · have q := congrFun h3 (ix1 n)
    unfold fn fn_part1 at q
    pointwise at q
    rw [flag _ _ _ q]
    by_cases hn : n.val < 1
    · rw [dif_pos hn, if_pos (show n.val = 0 ∨ tile (ix1 n) ≠ tile (ix1 (prev n)) from .inl (by omega)), if_pos]
      intro k
      have := t1 n
      rw [k] at this
      exact absurd this (by decide)
    · rw [dif_neg hn]
      by_cases k : tile (ix1 n) = tile (ix1 (prev n))
      · rw [if_neg (fun z => z k), if_neg (by rintro (z | z); exacts [hn (by omega), z k])]
      · rw [if_pos k, if_pos (.inr k)]
  · have q := congrFun h4 (ix1 n)
    unfold fn fn_part1 at q
    pointwise at q
    rw [flag _ _ _ q]
    by_cases hn : n.val < 1
    · rw [dif_pos hn, if_pos (show n.val = 0 ∨ e (ix1 n) ≠ e (ix1 (prev n)) from .inl (by omega)), if_pos]
      intro k
      have := e1 n
      rw [k] at this
      exact absurd this (by decide)
    · rw [dif_neg hn]
      by_cases k : e (ix1 n) = e (ix1 (prev n))
      · rw [if_neg (fun z => z k), if_neg (by rintro (z | z); exacts [hn (by omega), z k])]
      · rw [if_pos k, if_pos (.inr k)]
  · have q := congrFun h5 (ix1 n)
    unfold fn fn_part1 at q
    pointwise at q
    rw [hf] at q
    revert q
    generalize IntOp.cmpi .sgt (hi (ix1 n)) (lo (ix1 n)) = b
    revert b; decide

end Cert.Items
end
-- ==== Proof.RunIdeal.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one item computes from the blocks it is handed -/

/-- The first weights as the scratch holds them: the four strips of 256 columns, each multiplied by the selection matrix. -/
def gathered (w : Vec F S1x1x2048x1024 .f32) (p : Vec F S256x256 .bf16) : Vec F S2048x1024 .bf16 :=
  View.canon
    [⟨Rect.unit (s := S2048x1024) ![0, 768] S2048x256.size inb_S2048x1024_S2048x256_0_768,
        k0_pay1 (View.ld w (Rect.unit (s := S1x1x2048x1024) ![0, 0, 0, 768] S1x1x2048x256.size inb_S1x1x2048x1024_S1x1x2048x256_0_0_0_768))
          (View.ld p (Rect.unit (s := S256x256) ![0, 0] S256x256.size inb_S256x256_S256x256_0_0))⟩,
     ⟨Rect.unit (s := S2048x1024) ![0, 512] S2048x256.size inb_S2048x1024_S2048x256_0_512,
        k0_pay7 (View.ld w (Rect.unit (s := S1x1x2048x1024) ![0, 0, 0, 512] S1x1x2048x256.size inb_S1x1x2048x1024_S1x1x2048x256_0_0_0_512))
          (View.ld p (Rect.unit (s := S256x256) ![0, 0] S256x256.size inb_S256x256_S256x256_0_0))⟩,
     ⟨Rect.unit (s := S2048x1024) ![0, 256] S2048x256.size inb_S2048x1024_S2048x256_0_256,
        k0_pay6 (View.ld w (Rect.unit (s := S1x1x2048x1024) ![0, 0, 0, 256] S1x1x2048x256.size inb_S1x1x2048x1024_S1x1x2048x256_0_0_0_256))
          (View.ld p (Rect.unit (s := S256x256) ![0, 0] S256x256.size inb_S256x256_S256x256_0_0))⟩,
     ⟨Rect.unit (s := S2048x1024) ![0, 0] S2048x256.size inb_S2048x1024_S2048x256_0_0,
        k0_pay5 (View.ld w (Rect.unit (s := S1x1x2048x1024) ![0, 0, 0, 0] S1x1x2048x256.size inb_S1x1x2048x1024_S1x1x2048x256_0_0_0_0))
          (View.ld p (Rect.unit (s := S256x256) ![0, 0] S256x256.size inb_S256x256_S256x256_0_0))⟩]

/-- The second weights as the scratch holds them: the block itself, rounded. -/
def rounded (w : Vec F S1x1x512x2048 .f32) : Vec F S512x2048 .bf16 :=
  View.canon
    [⟨Rect.unit (s := S512x2048) ![0, 0] S512x2048.size inb_S512x2048_S512x2048_0_0,
        k0_pay2 (View.ld w (Rect.unit (s := S1x1x512x2048) ![0, 0, 0, 0] S1x1x512x2048.size inb_S1x1x512x2048_S1x1x512x2048_0_0_0_0))⟩]

/-- A whole block read through the rectangle the body reads it through. -/
abbrev whX (x : Vec F S256x2048 .f32) : Vec F S256x2048 .f32 := View.ld x (Rect.unit (s := S256x2048) ![0, 0] S256x2048.size inb_S256x2048_S256x2048_0_0)
abbrev whW (x : Vec F S2048x1024 .bf16) : Vec F S2048x1024 .bf16 := View.ld x (Rect.unit (s := S2048x1024) ![0, 0] S2048x1024.size inb_S2048x1024_S2048x1024_0_0)
abbrev whB (x : Vec F S1x1x1024 .f32) : Vec F S1x1x1024 .f32 := View.ld x (Rect.unit (s := S1x1x1024) ![0, 0, 0] S1x1x1024.size inb_S1x1x1024_S1x1x1024_0_0_0)
abbrev whV (x : Vec F S512x2048 .bf16) : Vec F S512x2048 .bf16 := View.ld x (Rect.unit (s := S512x2048) ![0, 0] S512x2048.size inb_S512x2048_S512x2048_0_0)
abbrev whD (x : Vec F S1x1x2048 .f32) : Vec F S1x1x2048 .f32 := View.ld x (Rect.unit (s := S1x1x2048) ![0, 0, 0] S1x1x2048.size inb_S1x1x2048_S1x1x2048_0_0_0)

/-- The expert's layer on the tile of rows `x`, with the weights of the scratch buffers and the two biases. -/
def layer (x : Vec F S256x2048 .f32) (w1 : Vec F S2048x1024 .bf16) (b1 : Vec F S1x1x1024 .f32) (w2 : Vec F S512x2048 .bf16) (b2 : Vec F S1x1x2048 .f32) :
    FVec F S256x2048 .f32 :=
  k0_pay12 (k0_pay8 (whX x) (whW w1) (whB b1)) (k0_pay9 (whX x) (whW w1) (whB b1)) (k0_pay10 (whX x) (whW w1) (whB b1))
    (k0_pay11 (whX x) (whW w1) (whB b1)) (whV w2) (whD b2)

/-- A tile's block after its first item: the layer on the rows the item owns, zero on the others. -/
def opened (y : FVec F S256x2048 .f32) (lo hi : BitVec 32) : Vec F S256x2048 .f32 :=
  View.canon [⟨Rect.unit (s := S256x2048) ![0, 0] S256x2048.size inb_S256x2048_S256x2048_0_0, k0_pay3 y (k0_pay13 (F := F) lo hi) k0_pay14⟩]

/-- A tile's block after a later item: that item's rows added to the block `o`. -/
def added (y : FVec F S256x2048 .f32) (lo hi : BitVec 32) (o : Vec F S256x2048 .f32) : Vec F S256x2048 .f32 :=
  View.canon [⟨Rect.unit (s := S256x2048) ![0, 0] S256x2048.size inb_S256x2048_S256x2048_0_0, k0_pay4 y (k0_pay13 (F := F) lo hi) k0_pay14 (whX o)⟩]

/-! ## The tables as the body reads them -/

abbrev tbM0 : Memref sig .tc .smem S175 .i32 := Memref.whole main_arg0
abbrev tbM1 : Memref sig .tc .smem S175 .i32 := Memref.whole main_arg1
abbrev tbM2 : Memref sig .tc .smem S175 .i32 := Memref.whole main_arg2
abbrev tbM3 : Memref sig .tc .smem S175 .i32 := Memref.whole main_arg3
abbrev tbM4 : Memref sig .tc .smem S175 .i32 := Memref.whole main_arg4
abbrev tbM5 : Memref sig .tc .smem S175 .i32 := Memref.whole main_arg5

/-- The contents of a table on core `c`, and half of the table's share at given contents. -/
abbrev TbBuf (c : Dev nD) (M : Memref sig .tc .smem S175 .i32) : Type := Buf (Elt F) (M.view.loc (c : Thread nD τ))
abbrev tbPt (c : Dev nD) (M : Memref sig .tc .smem S175 .i32) (f : TbBuf (F := F) c M) : sProp 𝕄 :=
  M.view.loc (c : Thread nD τ) ↦{fullShare.right} f

/-- The words the body reads at point `i`. -/
abbrev rdNew (c : Dev nD) (i : grid0.Coords) (f : TbBuf (F := F) c tbM5) : BitVec 32 :=
  tbM5.view.readAt (Elt F) (Rect.unit (s := S175) (k0_off1 i) S1.size (k0_off1_inb i)).toLoadRect f (Shape.Idx.first (numel1_S1.symm ▸ Nat.one_pos))
abbrev rdLo (c : Dev nD) (i : grid0.Coords) (f : TbBuf (F := F) c tbM2) : BitVec 32 :=
  tbM2.view.readAt (Elt F) (Rect.unit (s := S175) (k0_off2 i) S1.size (k0_off2_inb i)).toLoadRect f (Shape.Idx.first (numel1_S1.symm ▸ Nat.one_pos))
abbrev rdHi (c : Dev nD) (i : grid0.Coords) (f : TbBuf (F := F) c tbM3) : BitVec 32 :=
  tbM3.view.readAt (Elt F) (Rect.unit (s := S175) (k0_off2 i) S1.size (k0_off2_inb i)).toLoadRect f (Shape.Idx.first (numel1_S1.symm ▸ Nat.one_pos))
abbrev rdFirst (c : Dev nD) (i : grid0.Coords) (f : TbBuf (F := F) c tbM4) : BitVec 32 :=
  tbM4.view.readAt (Elt F) (Rect.unit (s := S175) (k0_off3 i) S1.size (k0_off3_inb i)).toLoadRect f (Shape.Idx.first (numel1_S1.symm ▸ Nat.one_pos))
abbrev rdLater (c : Dev nD) (i : grid0.Coords) (f : TbBuf (F := F) c tbM4) : BitVec 32 :=
  tbM4.view.readAt (Elt F) (Rect.unit (s := S175) (k0_off4 i) S1.size (k0_off4_inb i)).toLoadRect f (Shape.Idx.first (numel1_S1.symm ▸ Nat.one_pos))

/-- The body's four conditions on the words it reads: a new expert, an item that owns rows, a tile's first item, a tile's later item. -/
abbrev isNew (w : BitVec 32) : Prop := (Scalar.cmpi .ne (Scalar.extui (Scalar.cmpi .eq w 1#32)) 0#32) = 1#1
abbrev isLive (lo hi : BitVec 32) : Prop := k0_cond2 lo hi = 1#1
abbrev isFirst (w : BitVec 32) : Prop := k0_cond3 w = 1#1
abbrev isLater (w : BitVec 32) : Prop := k0_cond4 w = 1#1

/-! ## The body, case by case -/

variable (c : Dev nD) (i : grid0.Coords) (arg7 : Memref sig .tc .vmem S256x2048 .f32) (harg7 : arg7.IsWhole) (arg8 : Memref sig .tc .vmem S1x1x2048x1024 .f32) (harg8 : arg8.IsWhole) (arg9 : Memref sig .tc .vmem S1x1x1024 .f32) (harg9 : arg9.IsWhole) (arg10 : Memref sig .tc .vmem S1x1x512x2048 .f32) (harg10 : arg10.IsWhole) (arg11 : Memref sig .tc .vmem S1x1x2048 .f32) (harg11 : arg11.IsWhole) (arg12 : Memref sig .tc .vmem S256x256 .bf16) (harg12 : arg12.IsWhole) (arg13 : Memref sig .tc .vmem S256x2048 .f32) (harg13 : arg13.IsWhole) (arg14 : Memref sig .tc .vmem S2048x1024 .bf16) (harg14 : arg14.IsWhole) (arg15 : Memref sig .tc .vmem S512x2048 .bf16) (harg15 : arg15.IsWhole)
    (x0 : Vec F S256x2048 .f32) (x1 : Vec F S1x1x2048x1024 .f32) (x2 : Vec F S1x1x1024 .f32) (x3 : Vec F S1x1x512x2048 .f32) (x4 : Vec F S1x1x2048 .f32) (x5 : Vec F S256x256 .bf16)
    (u : Vec F S2048x1024 .bf16) (v : Vec F S512x2048 .bf16) (o : Vec F S256x2048 .f32)
    (T0 : TbBuf (F := F) c tbM0) (T1 : TbBuf (F := F) c tbM1) (T2 : TbBuf (F := F) c tbM2) (T3 : TbBuf (F := F) c tbM3) (T4 : TbBuf (F := F) c tbM4) (T5 : TbBuf (F := F) c tbM5)

include x0 x1 x2 x3 x4 x5 u v o T0 T1 T2 T3 T4 T5

set_option maxHeartbeats 1600000 in
/-- An item of a new expert that opens the tile's block: from the blocks, the scratch buffers and the tables the body runs to its end,
    the scratch holding the new expert's weights. -/
theorem run_new_first
    (hnew : isNew (rdNew c i T5)) (hlive : isLive (rdLo c i T2) (rdHi c i T3)) (hfirst : isFirst (rdFirst c i T4)) (hlater : ¬isLater (rdLater c i T4))
    (E : Set ℕ) (K : PUnit → sProp 𝕄) :
    iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ (∃ d, owns (c : Thread nD τ) arg13 fullShare d) ∗ (∃ d, owns (c : Thread nD τ) arg14 fullShare d) ∗ (∃ d, owns (c : Thread nD τ) arg15 fullShare d) ∗ tbPt c tbM0 T0 ∗ tbPt c tbM1 T1 ∗ tbPt c tbM2 T2 ∗ tbPt c tbM3 T3 ∗ tbPt c tbM4 T4 ∗ tbPt c tbM5 T5
        ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare (opened (layer x0 (gathered x1 x5) x2 (rounded x3) x4) (rdLo c i T2) (rdHi c i T3)) ∗ owns (c : Thread nD τ) arg14 fullShare (gathered x1 x5) ∗ owns (c : Thread nD τ) arg15 fullShare (rounded x3) ∗ tbPt c tbM0 T0 ∗ tbPt c tbM1 T1 ∗ tbPt c tbM2 T2 ∗ tbPt c tbM3 T3 ∗ tbPt c tbM4 T4 ∗ tbPt c tbM5 T5) -∗ K ⟨⟩))
      ⊢ wp frame (wpE (defs₀ (F := F)) Variants.none c none) E (cc0_moe_experts i tbM0 (Memref.isWhole_whole _) tbM1 (Memref.isWhole_whole _) tbM2 (Memref.isWhole_whole _) tbM3 (Memref.isWhole_whole _) tbM4 (Memref.isWhole_whole _) tbM5 (Memref.isWhole_whole _) arg7 harg7 arg8 harg8 arg9 harg9 arg10 harg10 arg11 harg11 arg12 harg12 arg13 harg13 arg14 harg14 arg15 harg15) K := by
  simp only [cc0_moe_experts_eq_skeleton]; unfold cc0_moe_experts_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, HT0, HT1, HT2, HT3, HT4, HT5, Hk⟩
  subst hf0; subst hf1; subst hf2; subst hf3; subst hf4; subst hf5
  sl_exec (disch := first | sl_exact hnew | sl_exact hlive | sl_exact hfirst | sl_exact hlater)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    refine (View.read_writes_eq_canon (Val := Elt F) _ _ _ (fun y => View.cover_of_tiledL _ S256x2048.size (by sl_kernel_rfl) y)).trans ?_
    delta run_new_first.sl.r_7 run_new_first.sl.r_6 run_new_first.sl.r_5 run_new_first.sl.r_4 run_new_first.sl.r_3 run_new_first.sl.r_2 run_new_first.sl.r_1 run_new_first.sl.v14 run_new_first.sl.v82
    simp only [View.readCov_eq_canon']
    rfl
  isplitl [HS0]
  · iexists _; isplitr; swap; · iexact HS0
    ipureintro
    refine (View.read_writes_eq_canon (Val := Elt F) _ _ _ (fun y => View.cover_of_tiledL (s := S2048x1024) _ S2048x256.size (by sl_kernel_rfl) y)).trans ?_
    rfl
  isplitl [HS1]
  · iexists _; isplitr; swap; · iexact HS1
    ipureintro
    refine (View.read_writes_eq_canon (Val := Elt F) _ _ _ (fun y => View.cover_of_tiledL _ S512x2048.size (by sl_kernel_rfl) y)).trans ?_
    rfl
  isplitl [HT0]; · iexact HT0
  isplitl [HT1]; · iexact HT1
  isplitl [HT2]; · iexact HT2
  isplitl [HT3]; · iexact HT3
  isplitl [HT4]; · iexact HT4
  iexact HT5

set_option maxHeartbeats 1600000 in
/-- An item of a new expert that adds its rows to the tile's block: from the blocks, the scratch buffers and the tables the body runs to its end,
    the scratch holding the new expert's weights. -/
theorem run_new_later
    (hnew : isNew (rdNew c i T5)) (hlive : isLive (rdLo c i T2) (rdHi c i T3)) (hfirst : ¬isFirst (rdFirst c i T4)) (hlater : isLater (rdLater c i T4))
    (E : Set ℕ) (K : PUnit → sProp 𝕄) :
    iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare o ∗ (∃ d, owns (c : Thread nD τ) arg14 fullShare d) ∗ (∃ d, owns (c : Thread nD τ) arg15 fullShare d) ∗ tbPt c tbM0 T0 ∗ tbPt c tbM1 T1 ∗ tbPt c tbM2 T2 ∗ tbPt c tbM3 T3 ∗ tbPt c tbM4 T4 ∗ tbPt c tbM5 T5
        ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare (added (layer x0 (gathered x1 x5) x2 (rounded x3) x4) (rdLo c i T2) (rdHi c i T3) o) ∗ owns (c : Thread nD τ) arg14 fullShare (gathered x1 x5) ∗ owns (c : Thread nD τ) arg15 fullShare (rounded x3) ∗ tbPt c tbM0 T0 ∗ tbPt c tbM1 T1 ∗ tbPt c tbM2 T2 ∗ tbPt c tbM3 T3 ∗ tbPt c tbM4 T4 ∗ tbPt c tbM5 T5) -∗ K ⟨⟩))
      ⊢ wp frame (wpE (defs₀ (F := F)) Variants.none c none) E (cc0_moe_experts i tbM0 (Memref.isWhole_whole _) tbM1 (Memref.isWhole_whole _) tbM2 (Memref.isWhole_whole _) tbM3 (Memref.isWhole_whole _) tbM4 (Memref.isWhole_whole _) tbM5 (Memref.isWhole_whole _) arg7 harg7 arg8 harg8 arg9 harg9 arg10 harg10 arg11 harg11 arg12 harg12 arg13 harg13 arg14 harg14 arg15 harg15) K := by
  simp only [cc0_moe_experts_eq_skeleton]; unfold cc0_moe_experts_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, HT0, HT1, HT2, HT3, HT4, HT5, Hk⟩
  subst hf0; subst hf1; subst hf2; subst hf3; subst hf4; subst hf5; subst hf6
  sl_exec (disch := first | sl_exact hnew | sl_exact hlive | sl_exact hfirst | sl_exact hlater)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    refine (View.read_writes_eq_canon (Val := Elt F) _ _ _ (fun y => View.cover_of_tiledL _ S256x2048.size (by sl_kernel_rfl) y)).trans ?_
    delta run_new_later.sl.r_7 run_new_later.sl.r_6 run_new_later.sl.r_5 run_new_later.sl.r_4 run_new_later.sl.r_3 run_new_later.sl.r_2 run_new_later.sl.r_1 run_new_later.sl.v14 run_new_later.sl.v82
    simp only [View.readCov_eq_canon']
    rfl
  isplitl [HS0]
  · iexists _; isplitr; swap; · iexact HS0
    ipureintro
    refine (View.read_writes_eq_canon (Val := Elt F) _ _ _ (fun y => View.cover_of_tiledL (s := S2048x1024) _ S2048x256.size (by sl_kernel_rfl) y)).trans ?_
    rfl
  isplitl [HS1]
  · iexists _; isplitr; swap; · iexact HS1
    ipureintro
    refine (View.read_writes_eq_canon (Val := Elt F) _ _ _ (fun y => View.cover_of_tiledL _ S512x2048.size (by sl_kernel_rfl) y)).trans ?_
    rfl
  isplitl [HT0]; · iexact HT0
  isplitl [HT1]; · iexact HT1
  isplitl [HT2]; · iexact HT2
  isplitl [HT3]; · iexact HT3
  isplitl [HT4]; · iexact HT4
  iexact HT5

set_option maxHeartbeats 1600000 in
/-- An item of a new expert that owns no row and leaves the tile's block: from the blocks, the scratch buffers and the tables the body runs to its end,
    the scratch holding the new expert's weights. -/
theorem run_new_idle
    (hnew : isNew (rdNew c i T5)) (hlive : ¬isLive (rdLo c i T2) (rdHi c i T3))
    (E : Set ℕ) (K : PUnit → sProp 𝕄) :
    iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare o ∗ (∃ d, owns (c : Thread nD τ) arg14 fullShare d) ∗ (∃ d, owns (c : Thread nD τ) arg15 fullShare d) ∗ tbPt c tbM0 T0 ∗ tbPt c tbM1 T1 ∗ tbPt c tbM2 T2 ∗ tbPt c tbM3 T3 ∗ tbPt c tbM4 T4 ∗ tbPt c tbM5 T5
        ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare o ∗ owns (c : Thread nD τ) arg14 fullShare (gathered x1 x5) ∗ owns (c : Thread nD τ) arg15 fullShare (rounded x3) ∗ tbPt c tbM0 T0 ∗ tbPt c tbM1 T1 ∗ tbPt c tbM2 T2 ∗ tbPt c tbM3 T3 ∗ tbPt c tbM4 T4 ∗ tbPt c tbM5 T5) -∗ K ⟨⟩))
      ⊢ wp frame (wpE (defs₀ (F := F)) Variants.none c none) E (cc0_moe_experts i tbM0 (Memref.isWhole_whole _) tbM1 (Memref.isWhole_whole _) tbM2 (Memref.isWhole_whole _) tbM3 (Memref.isWhole_whole _) tbM4 (Memref.isWhole_whole _) tbM5 (Memref.isWhole_whole _) arg7 harg7 arg8 harg8 arg9 harg9 arg10 harg10 arg11 harg11 arg12 harg12 arg13 harg13 arg14 harg14 arg15 harg15) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, HT0, HT1, HT2, HT3, HT4, HT5, Hk⟩
  subst hf0; subst hf1; subst hf2; subst hf3; subst hf4; subst hf5; subst hf6
  sl_exec (disch := first | sl_exact hnew | sl_exact hlive)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [HS0]
  · iexists _; isplitr; swap; · iexact HS0
    ipureintro
    refine (View.read_writes_eq_canon (Val := Elt F) _ _ _ (fun y => View.cover_of_tiledL (s := S2048x1024) _ S2048x256.size (by sl_kernel_rfl) y)).trans ?_
    rfl
  isplitl [HS1]
  · iexists _; isplitr; swap; · iexact HS1
    ipureintro
    refine (View.read_writes_eq_canon (Val := Elt F) _ _ _ (fun y => View.cover_of_tiledL _ S512x2048.size (by sl_kernel_rfl) y)).trans ?_
    rfl
  isplitl [HT0]; · iexact HT0
  isplitl [HT1]; · iexact HT1
  isplitl [HT2]; · iexact HT2
  isplitl [HT3]; · iexact HT3
  isplitl [HT4]; · iexact HT4
  iexact HT5

set_option maxHeartbeats 1600000 in
/-- An item of the expert before that opens the tile's block: from the blocks, the scratch buffers and the tables the body runs to its end,
    the scratch holding what it held. -/
theorem run_kept_first
    (hnew : ¬isNew (rdNew c i T5)) (hlive : isLive (rdLo c i T2) (rdHi c i T3)) (hfirst : isFirst (rdFirst c i T4)) (hlater : ¬isLater (rdLater c i T4))
    (E : Set ℕ) (K : PUnit → sProp 𝕄) :
    iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ (∃ d, owns (c : Thread nD τ) arg13 fullShare d) ∗ owns (c : Thread nD τ) arg14 fullShare u ∗ owns (c : Thread nD τ) arg15 fullShare v ∗ tbPt c tbM0 T0 ∗ tbPt c tbM1 T1 ∗ tbPt c tbM2 T2 ∗ tbPt c tbM3 T3 ∗ tbPt c tbM4 T4 ∗ tbPt c tbM5 T5
        ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare (opened (layer x0 u x2 v x4) (rdLo c i T2) (rdHi c i T3)) ∗ owns (c : Thread nD τ) arg14 fullShare u ∗ owns (c : Thread nD τ) arg15 fullShare v ∗ tbPt c tbM0 T0 ∗ tbPt c tbM1 T1 ∗ tbPt c tbM2 T2 ∗ tbPt c tbM3 T3 ∗ tbPt c tbM4 T4 ∗ tbPt c tbM5 T5) -∗ K ⟨⟩))
      ⊢ wp frame (wpE (defs₀ (F := F)) Variants.none c none) E (cc0_moe_experts i tbM0 (Memref.isWhole_whole _) tbM1 (Memref.isWhole_whole _) tbM2 (Memref.isWhole_whole _) tbM3 (Memref.isWhole_whole _) tbM4 (Memref.isWhole_whole _) tbM5 (Memref.isWhole_whole _) arg7 harg7 arg8 harg8 arg9 harg9 arg10 harg10 arg11 harg11 arg12 harg12 arg13 harg13 arg14 harg14 arg15 harg15) K := by
  simp only [cc0_moe_experts_eq_skeleton]; unfold cc0_moe_experts_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, HT0, HT1, HT2, HT3, HT4, HT5, Hk⟩
  subst hf0; subst hf1; subst hf2; subst hf3; subst hf4; subst hf5; subst hs0; subst hs1
  sl_exec (disch := first | sl_exact hnew | sl_exact hlive | sl_exact hfirst | sl_exact hlater)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    refine (View.read_writes_eq_canon (Val := Elt F) _ _ _ (fun y => View.cover_of_tiledL _ S256x2048.size (by sl_kernel_rfl) y)).trans ?_
    rfl
  isplitl [HS0]
  · iexists _; isplitr; · ipureintro; rfl
    iexact HS0
  isplitl [HS1]
  · iexists _; isplitr; · ipureintro; rfl
    iexact HS1
  isplitl [HT0]; · iexact HT0
  isplitl [HT1]; · iexact HT1
  isplitl [HT2]; · iexact HT2
  isplitl [HT3]; · iexact HT3
  isplitl [HT4]; · iexact HT4
  iexact HT5

set_option maxHeartbeats 1600000 in
/-- An item of the expert before that adds its rows to the tile's block: from the blocks, the scratch buffers and the tables the body runs to its end,
    the scratch holding what it held. -/
theorem run_kept_later
    (hnew : ¬isNew (rdNew c i T5)) (hlive : isLive (rdLo c i T2) (rdHi c i T3)) (hfirst : ¬isFirst (rdFirst c i T4)) (hlater : isLater (rdLater c i T4))
    (E : Set ℕ) (K : PUnit → sProp 𝕄) :
    iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare o ∗ owns (c : Thread nD τ) arg14 fullShare u ∗ owns (c : Thread nD τ) arg15 fullShare v ∗ tbPt c tbM0 T0 ∗ tbPt c tbM1 T1 ∗ tbPt c tbM2 T2 ∗ tbPt c tbM3 T3 ∗ tbPt c tbM4 T4 ∗ tbPt c tbM5 T5
        ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare (added (layer x0 u x2 v x4) (rdLo c i T2) (rdHi c i T3) o) ∗ owns (c : Thread nD τ) arg14 fullShare u ∗ owns (c : Thread nD τ) arg15 fullShare v ∗ tbPt c tbM0 T0 ∗ tbPt c tbM1 T1 ∗ tbPt c tbM2 T2 ∗ tbPt c tbM3 T3 ∗ tbPt c tbM4 T4 ∗ tbPt c tbM5 T5) -∗ K ⟨⟩))
      ⊢ wp frame (wpE (defs₀ (F := F)) Variants.none c none) E (cc0_moe_experts i tbM0 (Memref.isWhole_whole _) tbM1 (Memref.isWhole_whole _) tbM2 (Memref.isWhole_whole _) tbM3 (Memref.isWhole_whole _) tbM4 (Memref.isWhole_whole _) tbM5 (Memref.isWhole_whole _) arg7 harg7 arg8 harg8 arg9 harg9 arg10 harg10 arg11 harg11 arg12 harg12 arg13 harg13 arg14 harg14 arg15 harg15) K := by
  simp only [cc0_moe_experts_eq_skeleton]; unfold cc0_moe_experts_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩, HT0, HT1, HT2, HT3, HT4, HT5, Hk⟩
  subst hf0; subst hf1; subst hf2; subst hf3; subst hf4; subst hf5; subst hf6; subst hs0; subst hs1
  sl_exec (disch := first | sl_exact hnew | sl_exact hlive | sl_exact hfirst | sl_exact hlater)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    refine (View.read_writes_eq_canon (Val := Elt F) _ _ _ (fun y => View.cover_of_tiledL _ S256x2048.size (by sl_kernel_rfl) y)).trans ?_
    rfl
  isplitl [HS0]
  · iexists _; isplitr; · ipureintro; rfl
    iexact HS0
  isplitl [HS1]
  · iexists _; isplitr; · ipureintro; rfl
    iexact HS1
  isplitl [HT0]; · iexact HT0
  isplitl [HT1]; · iexact HT1
  isplitl [HT2]; · iexact HT2
  isplitl [HT3]; · iexact HT3
  isplitl [HT4]; · iexact HT4
  iexact HT5

set_option maxHeartbeats 1600000 in
/-- An item of the expert before that owns no row and leaves the tile's block: from the blocks, the scratch buffers and the tables the body runs to its end,
    the scratch holding what it held. -/
theorem run_kept_idle
    (hnew : ¬isNew (rdNew c i T5)) (hlive : ¬isLive (rdLo c i T2) (rdHi c i T3))
    (E : Set ℕ) (K : PUnit → sProp 𝕄) :
    iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare o ∗ owns (c : Thread nD τ) arg14 fullShare u ∗ owns (c : Thread nD τ) arg15 fullShare v ∗ tbPt c tbM0 T0 ∗ tbPt c tbM1 T1 ∗ tbPt c tbM2 T2 ∗ tbPt c tbM3 T3 ∗ tbPt c tbM4 T4 ∗ tbPt c tbM5 T5
        ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare o ∗ owns (c : Thread nD τ) arg14 fullShare u ∗ owns (c : Thread nD τ) arg15 fullShare v ∗ tbPt c tbM0 T0 ∗ tbPt c tbM1 T1 ∗ tbPt c tbM2 T2 ∗ tbPt c tbM3 T3 ∗ tbPt c tbM4 T4 ∗ tbPt c tbM5 T5) -∗ K ⟨⟩))
      ⊢ wp frame (wpE (defs₀ (F := F)) Variants.none c none) E (cc0_moe_experts i tbM0 (Memref.isWhole_whole _) tbM1 (Memref.isWhole_whole _) tbM2 (Memref.isWhole_whole _) tbM3 (Memref.isWhole_whole _) tbM4 (Memref.isWhole_whole _) tbM5 (Memref.isWhole_whole _) arg7 harg7 arg8 harg8 arg9 harg9 arg10 harg10 arg11 harg11 arg12 harg12 arg13 harg13 arg14 harg14 arg15 harg15) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩, HT0, HT1, HT2, HT3, HT4, HT5, Hk⟩
  subst hf0; subst hf1; subst hf2; subst hf3; subst hf4; subst hf5; subst hf6; subst hs0; subst hs1
  sl_exec (disch := first | sl_exact hnew | sl_exact hlive)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [HS0]
  · iexists _; isplitr; · ipureintro; rfl
    iexact HS0
  isplitl [HS1]
  · iexists _; isplitr; · ipureintro; rfl
    iexact HS1
  isplitl [HT0]; · iexact HT0
  isplitl [HT1]; · iexact HT1
  isplitl [HT2]; · iexact HT2
  isplitl [HT3]; · iexact HT3
  isplitl [HT4]; · iexact HT4
  iexact HT5

end Cert.KernelIdeal.Experts

end
-- ==== Proof.FrameIdeal.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim
public import proofs.«01_k».proof.Proof.RunIdeal

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory when the call starts -/

/-- Core `c`'s buffers once the host operations before the call have run. -/
abbrev V (c : Dev nD) (b : Ref sig .tc) : Buf (Elt F) ((c : Thread nD τ).loc b) := StableHlo.after hostOps0 (fun b => m (c, b)) b

/-- No host operation allocates. -/
theorem host_fresh : (hostOps0 : List (HloOp τ sig (Elt F))).Forall fun op => op.fresh = ∅ := by
  simp only [List.Forall]; repeat' constructor

set_option maxHeartbeats 800000 in
/-- The program is its host operations followed by the call. -/
theorem main_prefix (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- The region finds an array that no host operation writes as it was at the start. -/
theorem V_kept (c : Dev nD) (b : Ref sig .tc) (h : ∀ w ∈ [main_cst, main_v0, main_v1, main_v2, main_v3], b ≠ w) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.reshape_writes, Finset.mem_singleton]
    repeat' apply And.intro
    all_goals exact StableHlo.devRef_ne_of_ne (h _ (by simp))))

/-! ## The tables -/

/-- The six tables when the call starts. -/
def tbl : pre0.Contents (Elt F) := fun j => V m (0 : Dev nD) (pre0.ref j)

/-- There is one core, so every core's tables are those. -/
theorem V_table (c : Dev nD) (j : Fin 6) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The halves of the tables the call hands the body, table by table. -/
theorem tables_eq (c : Dev nD) : (Pipeline.ΦT pre0 (tbl m) c : sProp 𝕄)
    = iprop(tbPt c tbM0 (tbl m 0) ∗ tbPt c tbM1 (tbl m 1) ∗ tbPt c tbM2 (tbl m 2) ∗ tbPt c tbM3 (tbl m 3) ∗ tbPt c tbM4 (tbl m 4) ∗ tbPt c tbM5 (tbl m 5)) := by
  unfold Pipeline.ΦT Pipeline.prefHeld
  rw [show (Finset.univ : Finset (Fin 6)) = insert (0 : Fin 6) (insert (1 : Fin 6) (insert (2 : Fin 6) (insert (3 : Fin 6) (insert (4 : Fin 6) {(5 : Fin 6)})))) from by decide,
    bigSep_insert (by decide), bigSep_insert (by decide), bigSep_insert (by decide), bigSep_insert (by decide), bigSep_insert (by decide), bigSep_singleton]
  rfl

/-- The scratch buffers as the body is handed them. -/
abbrev scM0 : Memref sig .tc .vmem S2048x1024 .bf16 := Memref.whole cc0_scratch0
abbrev scM1 : Memref sig .tc .vmem S512x2048 .bf16 := Memref.whole cc0_scratch1

/-- What the call hands the body besides the windows and tables: the two scratch buffers at some contents and the generator register. -/
theorem rest_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the tables say of a point -/

/-- Whether the item at point `t` is the first of its expert, owns rows, is the first of its tile, is a later one of its tile. -/
abbrev New (t : Fin grid0.N) : Prop := isNew (rdNew (F := F) 0 (grid0.coords t) (tbl m 5))
abbrev lo (t : Fin grid0.N) : BitVec 32 := rdLo (F := F) 0 (grid0.coords t) (tbl m 2)
abbrev hi (t : Fin grid0.N) : BitVec 32 := rdHi (F := F) 0 (grid0.coords t) (tbl m 3)
abbrev Live (t : Fin grid0.N) : Prop := isLive (lo m t) (hi m t)
abbrev First (t : Fin grid0.N) : Prop := isFirst (rdFirst (F := F) 0 (grid0.coords t) (tbl m 4))
abbrev Later (t : Fin grid0.N) : Prop := isLater (rdLater (F := F) 0 (grid0.coords t) (tbl m 4))
/-- The block of the result the item at point `t` works on. -/
abbrev tileOf (t : Fin grid0.N) : Fin 2 → ℕ := cc0_transform_6 k0_off1_inb numel1_S1 (tbl m) (grid0.coords t)

/-- What the run needs of the tables: the first item is the first of its expert; an item that owns rows is either
    its tile's first or a later one; an item that does not open its tile follows one of the same tile. -/
structure Sched : Prop where
  new0 : ∀ t : Fin grid0.N, t.val = 0 → New m t
  kinds : ∀ t : Fin grid0.N, Live m t → (First m t ∧ ¬Later m t) ∨ (¬First m t ∧ Later m t)
  carry : ∀ t : Fin grid0.N, ¬(Live m t ∧ First m t) → ∃ h : t.val ≠ 0, tileOf m ⟨t.val - 1, by have := t.isLt; omega⟩ = tileOf m t

/-! ## The blocks, the scratch buffers and the result point by point -/

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What the two scratch buffers hold before point `n`. -/
def held1 (hO : Ok m) (c : Dev nD) : ℕ → Vec F S2048x1024 .bf16
  | 0 => View.canon []
  | n + 1 => if h : n < grid0.N then (if New m ⟨n, h⟩ then gathered (iblk m hO c 1 ⟨n, h⟩) (iblk m hO c 5 ⟨n, h⟩) else held1 hO c n) else held1 hO c n
def held2 (hO : Ok m) (c : Dev nD) : ℕ → Vec F S512x2048 .bf16
  | 0 => View.canon []
  | n + 1 => if h : n < grid0.N then (if New m ⟨n, h⟩ then rounded (iblk m hO c 3 ⟨n, h⟩) else held2 hO c n) else held2 hO c n

/-- The layer of the item at point `t`. -/
def itemLayer (hO : Ok m) (c : Dev nD) (t : Fin grid0.N) : FVec F S256x2048 .f32 :=
  layer (iblk m hO c 0 t) (held1 m hO c (t.val + 1)) (iblk m hO c 2 t) (held2 m hO c (t.val + 1)) (iblk m hO c 4 t)

/-- What the result's block in flight holds before point `n`. -/
def flying (hO : Ok m) (c : Dev nD) : ℕ → Vec F S256x2048 .f32
  | 0 => View.canon []
  | n + 1 => if h : n < grid0.N then
      (if Live m ⟨n, h⟩ then
        (if First m ⟨n, h⟩ then opened (itemLayer m hO c ⟨n, h⟩) (lo m ⟨n, h⟩) (hi m ⟨n, h⟩)
          else added (itemLayer m hO c ⟨n, h⟩) (lo m ⟨n, h⟩) (hi m ⟨n, h⟩) (flying hO c n))
        else flying hO c n) else flying hO c n

theorem held1_new (hO : Ok m) (c : Dev nD) (t : Fin grid0.N) (h : New m t) : held1 m hO c (t.val + 1) = gathered (iblk m hO c 1 t) (iblk m hO c 5 t) := by
  rw [held1, dif_pos t.isLt, if_pos h]
theorem held1_kept (hO : Ok m) (c : Dev nD) (t : Fin grid0.N) (h : ¬New m t) : held1 m hO c (t.val + 1) = held1 m hO c t.val := by
  rw [held1, dif_pos t.isLt, if_neg h]
theorem held2_new (hO : Ok m) (c : Dev nD) (t : Fin grid0.N) (h : New m t) : held2 m hO c (t.val + 1) = rounded (iblk m hO c 3 t) := by
  rw [held2, dif_pos t.isLt, if_pos h]
theorem held2_kept (hO : Ok m) (c : Dev nD) (t : Fin grid0.N) (h : ¬New m t) : held2 m hO c (t.val + 1) = held2 m hO c t.val := by
  rw [held2, dif_pos t.isLt, if_neg h]
theorem flying_first (hO : Ok m) (c : Dev nD) (t : Fin grid0.N) (hl : Live m t) (hf : First m t) :
    flying m hO c (t.val + 1) = opened (itemLayer m hO c t) (lo m t) (hi m t) := by
  rw [flying, dif_pos t.isLt, if_pos hl, if_pos hf]
theorem flying_later (hO : Ok m) (c : Dev nD) (t : Fin grid0.N) (hl : Live m t) (hf : ¬First m t) :
    flying m hO c (t.val + 1) = added (itemLayer m hO c t) (lo m t) (hi m t) (flying m hO c t.val) := by
  rw [flying, dif_pos t.isLt, if_pos hl, if_neg hf]
theorem flying_idle (hO : Ok m) (c : Dev nD) (t : Fin grid0.N) (hl : ¬Live m t) : flying m hO c (t.val + 1) = flying m hO c t.val := by
  rw [flying, dif_pos t.isLt, if_neg hl]

/-! ## The proof data -/

/-- The invariant before point `n`: the scratch buffers at `held1`, `held2` (anything before the first point), the generator register, the tables. -/
def inv (hO : Ok m) (c : Dev nD) (n : ℕ) : sProp 𝕄 :=
  iprop(iprop(iprop((∃ a, ⌜n ≠ 0 → a = held1 m hO c n⌝ ∗ owns (c : Thread nD τ) scM0 fullShare a)
      ∗ (∃ a, ⌜n ≠ 0 → a = held2 m hO c n⌝ ∗ owns (c : Thread nD τ) scM1 fullShare a)) ∗ (∃ r, prngReg c r)) ∗ Pipeline.ΦT pre0 (tbl m) c)

/-- The call's proof data: the arrays as found, the blocks left in place, the result's block at `flying`, the invariant `inv`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => flying m hO c (t.val + 1)
  Φ t := inv m hO c t.val
  q _ := fullShare
  owed _ := 0

theorem A_eq (hO : Ok m) (c : Dev nD) (w : Fin (cfgM m hO).W) : (dats m hO 0 c).A w = V m c (Pipeline.arrRef spec0 w) := by
  dsimp only [dats]
theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = flying m hO c (t.val + 1) := by dsimp only [dats]; try rfl

/-! Each input's staging buffer holds its block at every point. -/

theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)
theorem before5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)

/-! ## The result's window: where it is idle, and what its buffer holds -/

/-- A table's word by its offsets is the word the body reads. -/
theorem word_eq (j : Fin 6) (i : grid0.Coords) (off : Fin 1 → ℕ) (inb : ∀ a, off a + S1.size a ≤ S175.size a) (f : S175.Idx → BitVec 32) :
    (if h : ∀ a, off a + 1 ≤ S175.size a then f (fun a => ⟨off a, h a⟩) else default)
      = f ((Rect.unit (s := S175) off S1.size inb).emb (Shape.Idx.first (numel1_S1.symm ▸ Nat.one_pos))) := by
  have h : ∀ a, off a + 1 ≤ S175.size a := fun a => by
    have := inb a; rw [show S1.size a = 1 from by rw [Subsingleton.elim a 0]; rfl] at this; exact this
  rw [dif_pos h]
  congr 1

/-- The result's window is idle at a point unless the item there owns rows and opens its tile or adds to it. -/
theorem idle6 (hO : Ok m) (t : Fin (cfgM m hO).N) :
    (cfgM m hO).idle 6 ((cfgM m hO).grid.coords t) = true → ¬(Live m t ∧ (First m t ∨ Later m t)) := by
  intro h
  have e : (cfgM m hO).idle 6 ((cfgM m hO).grid.coords t)
      = (!(k0_cond2 (lo m t) (hi m t) == 1#1 && k0_cond3 (rdFirst (F := F) 0 (grid0.coords t) (tbl m 4)) == 1#1)
        && !(k0_cond2 (lo m t) (hi m t) == 1#1 && k0_cond4 (rdLater (F := F) 0 (grid0.coords t) (tbl m 4)) == 1#1)) := by
    show idle0 (tbl m) 6 (grid0.coords t) = _
    simp only [idle0]
    have e2 := word_eq 2 (grid0.coords t) _ (k0_off2_inb (grid0.coords t)) (tbl m 2)
    have e3 := word_eq 3 (grid0.coords t) _ (k0_off2_inb (grid0.coords t)) (tbl m 3)
    have e4 := word_eq 4 (grid0.coords t) _ (k0_off3_inb (grid0.coords t)) (tbl m 4)
    have e5 := word_eq 4 (grid0.coords t) _ (k0_off4_inb (grid0.coords t)) (tbl m 4)
    exact congr (congrArg _ (congrArg not (congr (congrArg _ (congrArg (· == 1#1) (congr (congrArg _ e2) e3))) (congrArg (fun w => k0_cond3 w == 1#1) e4))))
      (congrArg not (congr (congrArg _ (congrArg (· == 1#1) (congr (congrArg _ e2) e3))) (congrArg (fun w => k0_cond4 w == 1#1) e5)))
  rw [e] at h
  rintro ⟨hl, hf | hf⟩
  · rw [show k0_cond2 (lo m t) (hi m t) = 1#1 from hl, show k0_cond3 (rdFirst (F := F) 0 (grid0.coords t) (tbl m 4)) = 1#1 from hf] at h
    simp at h
  · rw [show k0_cond2 (lo m t) (hi m t) = 1#1 from hl, show k0_cond4 (rdLater (F := F) 0 (grid0.coords t) (tbl m 4)) = 1#1 from hf] at h
    simp at h

variable {m} in
theorem Sched.not_live (hS : Sched m) (hO : Ok m) (t : Fin (cfgM m hO).N) (h : (cfgM m hO).idle 6 ((cfgM m hO).grid.coords t) = true) : ¬Live m t := fun hl =>
  idle6 m hO t h ⟨hl, (hS.kinds t hl).elim (fun k => .inl k.1) (fun k => .inr k.2)⟩

/-- The item before one of the same tile leaves the block in flight. -/
theorem flush_before (hO : Ok m) (n : ℕ) (h : n + 1 < grid0.N) (e : tileOf m ⟨n, by omega⟩ = tileOf m ⟨n + 1, h⟩) :
    ((cfgM m hO).win 6).flush ⟨n, by show n < grid0.N; omega⟩ = false := by
  rw [Pipeline.Window.flush_eq_flushOf]
  unfold Pipeline.Window.flushOf
  rw [Bool.and_eq_false_iff]; right
  rw [Bool.or_eq_false_iff]
  refine ⟨decide_eq_false (by show ¬(n + 1 = grid0.N); omega), decide_eq_false ?_⟩
  rintro ⟨h', hne⟩
  exact hne e.symm

/-- One more point: the block is not fresh after a point that neither writes it back nor finds it idle and fresh. -/
theorem fresh_after (hO : Ok m) (n : ℕ) (h : n < grid0.N) (hf : ((cfgM m hO).win 6).flush ⟨n, h⟩ = false)
    (hi : (cfgM m hO).idle 6 ((cfgM m hO).grid.coords ⟨n, h⟩) = true → (cfgM m hO).fresh 6 n = false) : (cfgM m hO).fresh 6 (n + 1) = false := by
  have e := Pipeline.Cfg.fresh_succ (cfgM m hO) 6 n h
  rw [hf, Bool.false_or] at e
  refine e.trans ?_
  by_cases k : (cfgM m hO).idle 6 ((cfgM m hO).grid.coords ⟨n, h⟩) = true
  · exact (congrArg _ (hi k)).trans (Bool.and_false _)
  · rw [Bool.not_eq_true] at k
    exact (congrArg (· && _) k).trans (Bool.false_and _)

variable {m} in
/-- At an item that does not open its tile the block in flight is the tile's. -/
theorem Sched.carried (hS : Sched m) (hO : Ok m) (n : ℕ) : ∀ h : n < grid0.N, ¬(Live m ⟨n, h⟩ ∧ First m ⟨n, h⟩) → (cfgM m hO).fresh 6 n = false := by
  induction n with
  | zero => exact fun h hn => absurd rfl (hS.carry ⟨0, h⟩ hn).1
  | succ n ih =>
    intro h hn
    obtain ⟨_, e⟩ := hS.carry ⟨n + 1, h⟩ hn
    exact fresh_after m hO n (by omega) (flush_before m hO n h e) fun hi => ih (by omega) fun k => hS.not_live hO ⟨n, by show n < grid0.N; omega⟩ hi k.1

variable {m} in
/-- There its staging buffer holds `flying`. -/
theorem Sched.before6 (hS : Sched m) (hO : Ok m) (c : Dev nD) (t : Fin (cfgM m hO).N) (d) (hn : ¬(Live m t ∧ First m t)) :
    (dats m hO 0 c).before 6 t d = flying m hO c t.val := by
  rw [(dats m hO 0 c).before_out_traj 6 rfl (fun _ _ => rfl) (fun t ht hi hf => by
    rw [after6, after6]
    have hp : t.val - 1 + 1 = t.val := by omega
    show flying m hO c (t.val + 1) = flying m hO c (t.val - 1 + 1)
    rw [hp, flying_idle m hO c t (hS.not_live hO t hi)]) t.val t rfl d, hS.carried hO t.val t.isLt hn, after6]
  show flying m hO c (t.val - 1 + 1) = _
  have := (hS.carry t hn).1
  rw [show t.val - 1 + 1 = t.val by omega]

/-! ## The body at a point -/

abbrev ms0 (hO : Ok m) (t : Fin (cfgM m hO).N) : Memref sig .tc .vmem S256x2048 .f32 := spec0_0.stage ((cfgM m hO).slots t 0)
abbrev ms1 (hO : Ok m) (t : Fin (cfgM m hO).N) : Memref sig .tc .vmem S1x1x2048x1024 .f32 := spec0_1.stage ((cfgM m hO).slots t 1)
abbrev ms2 (hO : Ok m) (t : Fin (cfgM m hO).N) : Memref sig .tc .vmem S1x1x1024 .f32 := spec0_2.stage ((cfgM m hO).slots t 2)
abbrev ms3 (hO : Ok m) (t : Fin (cfgM m hO).N) : Memref sig .tc .vmem S1x1x512x2048 .f32 := spec0_3.stage ((cfgM m hO).slots t 3)
abbrev ms4 (hO : Ok m) (t : Fin (cfgM m hO).N) : Memref sig .tc .vmem S1x1x2048 .f32 := spec0_4.stage ((cfgM m hO).slots t 4)
abbrev ms5 (hO : Ok m) (t : Fin (cfgM m hO).N) : Memref sig .tc .vmem S256x256 .bf16 := spec0_5.stage ((cfgM m hO).slots t 5)
abbrev ms6 (hO : Ok m) (t : Fin (cfgM m hO).N) : Memref sig .tc .vmem S256x2048 .f32 := spec0_6.stage ((cfgM m hO).slots t 6)

/-- The body at point `t` on the staging buffers of that point. -/
abbrev bodyAt (hO : Ok m) (t : Fin (cfgM m hO).N) : Prog (TpuEff nD τ sig (Elt F) Λ₀ .tc) PUnit :=
  cc0_moe_experts (grid0.coords t) tbM0 (Memref.isWhole_whole _) tbM1 (Memref.isWhole_whole _) tbM2 (Memref.isWhole_whole _) tbM3 (Memref.isWhole_whole _) tbM4 (Memref.isWhole_whole _) tbM5 (Memref.isWhole_whole _)
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4)) (ms5 m hO t) (hstage0_5 (((cfgM m hO).slots t 5).cast nbuf0_5))
    (ms6 m hO t) (hstage0_6 (((cfgM m hO).slots t 6).cast nbuf0_6)) scM0 (Memref.isWhole_whole _) scM1 (Memref.isWhole_whole _)

/-- What the body is handed at point `t`, -/
def bodyPre (hO : Ok m) (c : Dev nD) (t : Fin (cfgM m hO).N) : sProp 𝕄 :=
  iprop(inv m hO c t.val ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d)))

/-- and what it gives back. -/
def bodyPost (hO : Ok m) (c : Dev nD) (t : Fin (cfgM m hO).N) : sProp 𝕄 :=
  iprop(inv m hO c (t.val + 1) ∗ (dats m hO 0 c).owesAt () t.castSucc
    ∗ owns (c : Thread nD τ) (ms0 m hO t) fullShare (iblk m hO c 0 t)
    ∗ owns (c : Thread nD τ) (ms1 m hO t) fullShare (iblk m hO c 1 t)
    ∗ owns (c : Thread nD τ) (ms2 m hO t) fullShare (iblk m hO c 2 t)
    ∗ owns (c : Thread nD τ) (ms3 m hO t) fullShare (iblk m hO c 3 t)
    ∗ owns (c : Thread nD τ) (ms4 m hO t) fullShare (iblk m hO c 4 t)
    ∗ owns (c : Thread nD τ) (ms5 m hO t) fullShare (iblk m hO c 5 t)
    ∗ owns (c : Thread nD τ) (ms6 m hO t) fullShare (flying m hO c (t.val + 1)))

variable {m} in
set_option maxHeartbeats 3200000 in
/-- The body at any point: one of the six cases of the run. -/
theorem Sched.sound_body (hS : Sched m) (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4, before5]
  unfold inv
  rw [exists_held (show t.val + 1 ≠ 0 by omega) (held1 m hO c (t.val + 1)) (fun a => owns (c : Thread nD τ) scM0 fullShare a),
    exists_held (show t.val + 1 ≠ 0 by omega) (held2 m hO c (t.val + 1)) (fun a => owns (c : Thread nD τ) scM1 fullShare a), tables_eq]
  by_cases hn : New m t
  · rw [held1_new m hO c t hn, held2_new m hO c t hn]
    by_cases hl : Live m t
    · rcases hS.kinds t hl with ⟨hf, hg⟩ | ⟨hf, hg⟩
      · rw [flying_first m hO c t hl hf]
        unfold itemLayer
        rw [held1_new m hO c t hn, held2_new m hO c t hn]
        iintro ⟨⟨⟨⟨⟨%z0, -, HS0⟩, ⟨%z1, -, HS1⟩⟩, Hg⟩, ⟨HT0, HT1, HT2, HT3, HT4, HT5⟩⟩, Ho, ⟨%d0, H0⟩, ⟨%d1, H1⟩, ⟨%d2, H2⟩, ⟨%d3, H3⟩, ⟨%d4, H4⟩, ⟨%d5, H5⟩, ⟨%d6, H6⟩⟩
        iapply (run_new_first c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (View.canon []) (View.canon []) (View.canon []) (tbl m 0) (tbl m 1) (tbl m 2) (tbl m 3) (tbl m 4) (tbl m 5) hn hl hf hg Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexists _; iexact HS0
        isplitl [HS1]; · iexists _; iexact HS1
        isplitl [HT0]; · iexact HT0
        isplitl [HT1]; · iexact HT1
        isplitl [HT2]; · iexact HT2
        isplitl [HT3]; · iexact HT3
        isplitl [HT4]; · iexact HT4
        isplitl [HT5]; · iexact HT5
        iintro ⟨H0, H1, H2, H3, H4, H5, H6, HS0, HS1, HT0, HT1, HT2, HT3, HT4, HT5⟩
        isplitl [HS0 HS1 Hg HT0 HT1 HT2 HT3 HT4 HT5]
        · isplitl [HS0 HS1 Hg]
          · isplitl [HS0 HS1]
            · isplitl [HS0]; · iexact HS0
              iexact HS1
            iexact Hg
          isplitl [HT0]; · iexact HT0
          isplitl [HT1]; · iexact HT1
          isplitl [HT2]; · iexact HT2
          isplitl [HT3]; · iexact HT3
          isplitl [HT4]; · iexact HT4
          iexact HT5
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · simp only [hS.before6 hO c t _ (fun k => hf k.2)]
        rw [flying_later m hO c t hl hf]
        unfold itemLayer
        rw [held1_new m hO c t hn, held2_new m hO c t hn]
        iintro ⟨⟨⟨⟨⟨%z0, -, HS0⟩, ⟨%z1, -, HS1⟩⟩, Hg⟩, ⟨HT0, HT1, HT2, HT3, HT4, HT5⟩⟩, Ho, ⟨%d0, H0⟩, ⟨%d1, H1⟩, ⟨%d2, H2⟩, ⟨%d3, H3⟩, ⟨%d4, H4⟩, ⟨%d5, H5⟩, ⟨%d6, H6⟩⟩
        iapply (run_new_later c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (View.canon []) (View.canon []) (flying m hO c t.val) (tbl m 0) (tbl m 1) (tbl m 2) (tbl m 3) (tbl m 4) (tbl m 5) hn hl hf hg Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HT0]; · iexact HT0
        isplitl [HT1]; · iexact HT1
        isplitl [HT2]; · iexact HT2
        isplitl [HT3]; · iexact HT3
        isplitl [HT4]; · iexact HT4
        isplitl [HT5]; · iexact HT5
        iintro ⟨H0, H1, H2, H3, H4, H5, H6, HS0, HS1, HT0, HT1, HT2, HT3, HT4, HT5⟩
        isplitl [HS0 HS1 Hg HT0 HT1 HT2 HT3 HT4 HT5]
        · isplitl [HS0 HS1 Hg]
          · isplitl [HS0 HS1]
            · isplitl [HS0]; · iexact HS0
              iexact HS1
            iexact Hg
          isplitl [HT0]; · iexact HT0
          isplitl [HT1]; · iexact HT1
          isplitl [HT2]; · iexact HT2
          isplitl [HT3]; · iexact HT3
          isplitl [HT4]; · iexact HT4
          iexact HT5
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · simp only [hS.before6 hO c t _ (fun k => hl k.1)]
      rw [flying_idle m hO c t hl]
      iintro ⟨⟨⟨⟨⟨%z0, -, HS0⟩, ⟨%z1, -, HS1⟩⟩, Hg⟩, ⟨HT0, HT1, HT2, HT3, HT4, HT5⟩⟩, Ho, ⟨%d0, H0⟩, ⟨%d1, H1⟩, ⟨%d2, H2⟩, ⟨%d3, H3⟩, ⟨%d4, H4⟩, ⟨%d5, H5⟩, ⟨%d6, H6⟩⟩
      iapply (run_new_idle c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (View.canon []) (View.canon []) (flying m hO c t.val) (tbl m 0) (tbl m 1) (tbl m 2) (tbl m 3) (tbl m 4) (tbl m 5) hn hl Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HT0]; · iexact HT0
      isplitl [HT1]; · iexact HT1
      isplitl [HT2]; · iexact HT2
      isplitl [HT3]; · iexact HT3
      isplitl [HT4]; · iexact HT4
      isplitl [HT5]; · iexact HT5
      iintro ⟨H0, H1, H2, H3, H4, H5, H6, HS0, HS1, HT0, HT1, HT2, HT3, HT4, HT5⟩
      isplitl [HS0 HS1 Hg HT0 HT1 HT2 HT3 HT4 HT5]
      · isplitl [HS0 HS1 Hg]
        · isplitl [HS0 HS1]
          · isplitl [HS0]; · iexact HS0
            iexact HS1
          iexact Hg
        isplitl [HT0]; · iexact HT0
        isplitl [HT1]; · iexact HT1
        isplitl [HT2]; · iexact HT2
        isplitl [HT3]; · iexact HT3
        isplitl [HT4]; · iexact HT4
        iexact HT5
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have h0 : t.val ≠ 0 := fun h => hn (hS.new0 t h)
    rw [held1_kept m hO c t hn, held2_kept m hO c t hn,
      exists_held h0 (held1 m hO c t.val) (fun a => owns (c : Thread nD τ) scM0 fullShare a),
      exists_held h0 (held2 m hO c t.val) (fun a => owns (c : Thread nD τ) scM1 fullShare a)]
    by_cases hl : Live m t
    · rcases hS.kinds t hl with ⟨hf, hg⟩ | ⟨hf, hg⟩
      · rw [flying_first m hO c t hl hf]
        unfold itemLayer
        rw [held1_kept m hO c t hn, held2_kept m hO c t hn]
        iintro ⟨⟨⟨⟨HS0, HS1⟩, Hg⟩, ⟨HT0, HT1, HT2, HT3, HT4, HT5⟩⟩, Ho, ⟨%d0, H0⟩, ⟨%d1, H1⟩, ⟨%d2, H2⟩, ⟨%d3, H3⟩, ⟨%d4, H4⟩, ⟨%d5, H5⟩, ⟨%d6, H6⟩⟩
        iapply (run_kept_first c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (held1 m hO c t.val) (held2 m hO c t.val) (View.canon []) (tbl m 0) (tbl m 1) (tbl m 2) (tbl m 3) (tbl m 4) (tbl m 5) hn hl hf hg Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HT0]; · iexact HT0
        isplitl [HT1]; · iexact HT1
        isplitl [HT2]; · iexact HT2
        isplitl [HT3]; · iexact HT3
        isplitl [HT4]; · iexact HT4
        isplitl [HT5]; · iexact HT5
        iintro ⟨H0, H1, H2, H3, H4, H5, H6, HS0, HS1, HT0, HT1, HT2, HT3, HT4, HT5⟩
        isplitl [HS0 HS1 Hg HT0 HT1 HT2 HT3 HT4 HT5]
        · isplitl [HS0 HS1 Hg]
          · isplitl [HS0 HS1]
            · isplitl [HS0]; · iexact HS0
              iexact HS1
            iexact Hg
          isplitl [HT0]; · iexact HT0
          isplitl [HT1]; · iexact HT1
          isplitl [HT2]; · iexact HT2
          isplitl [HT3]; · iexact HT3
          isplitl [HT4]; · iexact HT4
          iexact HT5
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · simp only [hS.before6 hO c t _ (fun k => hf k.2)]
        rw [flying_later m hO c t hl hf]
        unfold itemLayer
        rw [held1_kept m hO c t hn, held2_kept m hO c t hn]
        iintro ⟨⟨⟨⟨HS0, HS1⟩, Hg⟩, ⟨HT0, HT1, HT2, HT3, HT4, HT5⟩⟩, Ho, ⟨%d0, H0⟩, ⟨%d1, H1⟩, ⟨%d2, H2⟩, ⟨%d3, H3⟩, ⟨%d4, H4⟩, ⟨%d5, H5⟩, ⟨%d6, H6⟩⟩
        iapply (run_kept_later c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (held1 m hO c t.val) (held2 m hO c t.val) (flying m hO c t.val) (tbl m 0) (tbl m 1) (tbl m 2) (tbl m 3) (tbl m 4) (tbl m 5) hn hl hf hg Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HT0]; · iexact HT0
        isplitl [HT1]; · iexact HT1
        isplitl [HT2]; · iexact HT2
        isplitl [HT3]; · iexact HT3
        isplitl [HT4]; · iexact HT4
        isplitl [HT5]; · iexact HT5
        iintro ⟨H0, H1, H2, H3, H4, H5, H6, HS0, HS1, HT0, HT1, HT2, HT3, HT4, HT5⟩
        isplitl [HS0 HS1 Hg HT0 HT1 HT2 HT3 HT4 HT5]
        · isplitl [HS0 HS1 Hg]
          · isplitl [HS0 HS1]
            · isplitl [HS0]; · iexact HS0
              iexact HS1
            iexact Hg
          isplitl [HT0]; · iexact HT0
          isplitl [HT1]; · iexact HT1
          isplitl [HT2]; · iexact HT2
          isplitl [HT3]; · iexact HT3
          isplitl [HT4]; · iexact HT4
          iexact HT5
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · simp only [hS.before6 hO c t _ (fun k => hl k.1)]
      rw [flying_idle m hO c t hl]
      iintro ⟨⟨⟨⟨HS0, HS1⟩, Hg⟩, ⟨HT0, HT1, HT2, HT3, HT4, HT5⟩⟩, Ho, ⟨%d0, H0⟩, ⟨%d1, H1⟩, ⟨%d2, H2⟩, ⟨%d3, H3⟩, ⟨%d4, H4⟩, ⟨%d5, H5⟩, ⟨%d6, H6⟩⟩
      iapply (run_kept_idle c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (held1 m hO c t.val) (held2 m hO c t.val) (flying m hO c t.val) (tbl m 0) (tbl m 1) (tbl m 2) (tbl m 3) (tbl m 4) (tbl m 5) hn hl Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HT0]; · iexact HT0
      isplitl [HT1]; · iexact HT1
      isplitl [HT2]; · iexact HT2
      isplitl [HT3]; · iexact HT3
      isplitl [HT4]; · iexact HT4
      isplitl [HT5]; · iexact HT5
      iintro ⟨H0, H1, H2, H3, H4, H5, H6, HS0, HS1, HT0, HT1, HT2, HT3, HT4, HT5⟩
      isplitl [HS0 HS1 Hg HT0 HT1 HT2 HT3 HT4 HT5]
      · isplitl [HS0 HS1 Hg]
        · isplitl [HS0 HS1]
          · isplitl [HS0]; · iexact HS0
            iexact HS1
          iexact Hg
        isplitl [HT0]; · iexact HT0
        isplitl [HT1]; · iexact HT1
        isplitl [HT2]; · iexact HT2
        isplitl [HT3]; · iexact HT3
        isplitl [HT4]; · iexact HT4
        iexact HT5
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The call's body at the staging buffers of point `t` is the body of that point. -/
theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

variable {m} in
/-- The result's buffer at `flying` is what the call asks back of it, whether the point is idle or not. -/
theorem Sched.leaves6 (hS : Sched m) (hO : Ok m) (c : Dev nD) (t : Fin (cfgM m hO).N) :
    owns (c : Thread nD τ) (ms6 m hO t) fullShare (flying m hO c (t.val + 1)) ⊢ (dats m hO 0 c).leavesExact 6 t := by
  by_cases hi : (cfgM m hO).idle 6 ((cfgM m hO).grid.coords t) = true
  · have hl := hS.not_live hO t hi
    cases hf : ((cfgM m hO).win 6).flush t
    · rw [(dats m hO 0 c).leavesExact_idle 6 t hi hf]
      simp only [hS.before6 hO c t _ (fun k => hl k.1)]
      rw [flying_idle m hO c t hl]
      iintro H
      iexists (flying m hO c t.val); iexact H
    · unfold Dat.leavesExact
      rw [hi, hf]
      show _ ⊢ owns (c : Thread nD τ) (ms6 m hO t) fullShare ((dats m hO 0 c).after 6 t)
      rw [after6]
  · rw [Bool.not_eq_true] at hi
    unfold Dat.leavesExact
    rw [hi]
    show _ ⊢ owns (c : Thread nD τ) (ms6 m hO t) fullShare ((dats m hO 0 c).after 6 t)
    rw [after6]

variable {m} in
/-- The body meets what the call asks of it, at every point. -/
theorem Sched.body_obligation (hS : Sched m) (hO : Ok m) (c : Dev nD) : BodyObligation (dats (F := F) m hO 0 c) (defs₀ (F := F)) Variants.none () Set.univ := fun t => by
  rw [bigSep_W0, bigSep_W0, body_row m hO]
  refine triple_restated (hS.sound_body hO c t) rfl .rfl fun _ => ?_
  unfold bodyPost
  rw [← after0 m hO c t, ← after1 m hO c t, ← after2 m hO c t, ← after3 m hO c t, ← after4 m hO c t, ← after5 m hO c t]
  iintro ⟨HI, Ho, H0, H1, H2, H3, H4, H5, H6⟩
  isplitl [HI]; · iapply (BIBase.Entails.of_eq (show inv m hO c (t.val + 1) = (dats m hO 0 c).Φ t.succ from rfl)); iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (hS.leaves6 hO c t)
  iexact H6

/-! ## The run -/

variable {m} in
set_option backward.isDefEq.respectTransparency.types false in
/-- The program runs to its end, leaving every array of the call at what the proof data say and every other buffer
    as the host operations left it, with every counter at zero. -/
theorem Sched.run_main (hS : Sched m) (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (hS.body_obligation hO c).loose) (hshare := fun c => (dats m hO 0 c).share_full fun _ => rfl)
    (howed := fun _ _ => rfl) (V := V m) (hmain := main_prefix m Variants.none) (hA := A_eq m hO) (hpf := V_table m)
    (hin := fun c => by
      show _ ⊢ inv m hO c 0
      unfold inv
      show iprop(Pipeline.ΦA spec0 c ∗ Pipeline.ΦT pre0 (tbl m) c) ⊢ _
      rw [rest_eq]
      iintro ⟨⟨⟨⟨%a, H0⟩, ⟨%b, H1⟩⟩, Hg⟩, HT⟩
      isplitl [H0 H1 Hg]
      · isplitl [H0 H1]
        · isplitl [H0]
          · iexists a; isplitr
            · ipureintro; exact fun h => absurd rfl h
            iexact H0
          iexists b; isplitr
          · ipureintro; exact fun h => absurd rfl h
          iexact H1
        iexact Hg
      iexact HT)
    (hout := fun c => by
      show inv m hO c grid0.N ⊢ Pipeline.ΦA spec0 c
      unfold inv
      rw [rest_eq]
      iintro ⟨⟨⟨⟨%a, -, H0⟩, ⟨%b, -, H1⟩⟩, Hg⟩, -⟩
      isplitl [H0 H1]
      · isplitl [H0]
        · iexists a; iexact H0
        iexists b; iexact H1
      iexact Hg)

/-- After such a run the arguments are as they were. -/
theorem kept (hO : Ok m) (r : PUnit × MemSt nD τ sig (Elt F)) (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (by decide : main_arg0 ∈ Pipeline.restRefs sig spec0)).trans (V_kept m c main_arg0 (by decide)),
    ((h c).2 main_arg1 (by decide : main_arg1 ∈ Pipeline.restRefs sig spec0)).trans (V_kept m c main_arg1 (by decide)),
    ((h c).2 main_arg2 (by decide : main_arg2 ∈ Pipeline.restRefs sig spec0)).trans (V_kept m c main_arg2 (by decide)),
    ((h c).2 main_arg3 (by decide : main_arg3 ∈ Pipeline.restRefs sig spec0)).trans (V_kept m c main_arg3 (by decide)),
    ((h c).2 main_arg4 (by decide : main_arg4 ∈ Pipeline.restRefs sig spec0)).trans (V_kept m c main_arg4 (by decide)),
    ((h c).2 main_arg5 (by decide : main_arg5 ∈ Pipeline.restRefs sig spec0)).trans (V_kept m c main_arg5 (by decide)),
    ((h c).1 0).trans (((dats m hO 0 c).arrAt_in 0 rfl _).trans ((A_eq m hO c 0).trans (V_kept m c main_arg6 (by decide)))),
    ((h c).1 1).trans (((dats m hO 0 c).arrAt_in 1 rfl _).trans ((A_eq m hO c 1).trans (V_kept m c main_arg7 (by decide)))),
    ((h c).2 main_arg8 (by decide : main_arg8 ∈ Pipeline.restRefs sig spec0)).trans (V_kept m c main_arg8 (by decide)),
    ((h c).1 3).trans (((dats m hO 0 c).arrAt_in 3 rfl _).trans ((A_eq m hO c 3).trans (V_kept m c main_arg9 (by decide)))),
    ((h c).2 main_arg10 (by decide : main_arg10 ∈ Pipeline.restRefs sig spec0)).trans (V_kept m c main_arg10 (by decide))⟩

variable {m} in
/-- The frame: the program runs to its end with the arguments unchanged and every counter at zero. -/
theorem Sched.frame (hS : Sched m) (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => kept m hO r h.1 c, h.2⟩) (hS.run_main ρ hO)

end Cert.KernelIdeal.Experts

end
-- ==== Proof.ScheduleIdeal.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.StableHlo.Predicate
public import proofs.«01_k».proof.Proof.Items
public import proofs.«01_k».proof.Proof.FrameIdeal

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The tables' words as the arguments' -/

/-- Item `t`. -/
abbrev item (t : Fin grid0.N) : Fin 175 := ⟨t.val, lt_of_lt_of_eq t.isLt N_0⟩

/-- The argument tables. -/
abbrev argTile : IVec S175 32 := m ((0 : Dev nD).tc.loc main_arg0)
abbrev argExpert : IVec S175 32 := m ((0 : Dev nD).tc.loc main_arg1)
abbrev argLo : IVec S175 32 := m ((0 : Dev nD).tc.loc main_arg2)
abbrev argHi : IVec S175 32 := m ((0 : Dev nD).tc.loc main_arg3)
abbrev argFirst : IVec S175 32 := m ((0 : Dev nD).tc.loc main_arg4)
abbrev argNew : IVec S175 32 := m ((0 : Dev nD).tc.loc main_arg5)

/-- The tables are well formed. -/
abbrev Wf : Prop := Cert.Items.WellFormed (argTile m) (argExpert m) (argLo m) (argHi m) (argFirst m) (argNew m)

/-- The offset the kernel computes from a point is the point's number. -/
theorem off_eq : ∀ t : Fin grid0.N, k0_off1 (grid0.coords t) 0 = t.val ∧ k0_off2 (grid0.coords t) 0 = t.val ∧ k0_off3 (grid0.coords t) 0 = t.val ∧ k0_off4 (grid0.coords t) 0 = t.val := by
  decide +kernel

/-- A one-word rectangle of a table reads the item its offset names. -/
theorem word_at (f : S175.Idx → BitVec 32) (off : Fin 1 → ℕ) (inb : ∀ a, off a + S1.size a ≤ S175.size a) (n : Fin 175) (h : off 0 = n.val) :
    f ((Rect.unit (s := S175) off S1.size inb).emb (Shape.Idx.first (numel1_S1.symm ▸ Nat.one_pos))) = f (ix1 n) := by
  refine congrArg f (funext fun a => ?_)
  match a with
  | ⟨0, _⟩ => exact Fin.ext h

/-- The same word by the item's coordinate of the grid, at any point. -/
theorem point_of (i : grid0.Coords) : ∃ t : Fin grid0.N, i = grid0.coords t := by
  refine ⟨⟨(i 0).val, lt_of_lt_of_eq (i 0).isLt N_0.symm⟩, funext fun a => ?_⟩
  match a with
  | ⟨0, _⟩ =>
    refine Fin.ext ?_
    show (i 0).val = (i 0).val / 1 % 175
    have : (i 0).val < 175 := (i 0).isLt
    omega

theorem tbl0 : tbl m 0 = argTile m := V_kept m 0 main_arg0 (by decide)
theorem tbl1 : tbl m 1 = argExpert m := V_kept m 0 main_arg1 (by decide)
theorem tbl2 : tbl m 2 = argLo m := V_kept m 0 main_arg2 (by decide)
theorem tbl3 : tbl m 3 = argHi m := V_kept m 0 main_arg3 (by decide)
theorem tbl4 : tbl m 4 = argFirst m := V_kept m 0 main_arg4 (by decide)
theorem tbl5 : tbl m 5 = argNew m := V_kept m 0 main_arg5 (by decide)

theorem new_word (t : Fin grid0.N) : rdNew (F := F) 0 (grid0.coords t) (tbl m 5) = argNew m (ix1 (item t)) :=
  (word_at (tbl m 5) _ (k0_off1_inb _) (item t) (off_eq t).1).trans (congrFun (tbl5 m) _)
theorem lo_word (t : Fin grid0.N) : lo m t = argLo m (ix1 (item t)) :=
  (word_at (tbl m 2) _ (k0_off2_inb _) (item t) (off_eq t).2.1).trans (congrFun (tbl2 m) _)
theorem hi_word (t : Fin grid0.N) : hi m t = argHi m (ix1 (item t)) :=
  (word_at (tbl m 3) _ (k0_off2_inb _) (item t) (off_eq t).2.1).trans (congrFun (tbl3 m) _)
theorem first_word (t : Fin grid0.N) : rdFirst (F := F) 0 (grid0.coords t) (tbl m 4) = argFirst m (ix1 (item t)) :=
  (word_at (tbl m 4) _ (k0_off3_inb _) (item t) (off_eq t).2.2.1).trans (congrFun (tbl4 m) _)
theorem later_word (t : Fin grid0.N) : rdLater (F := F) 0 (grid0.coords t) (tbl m 4) = argFirst m (ix1 (item t)) :=
  (word_at (tbl m 4) _ (k0_off4_inb _) (item t) (off_eq t).2.2.2).trans (congrFun (tbl4 m) _)
theorem tile_word (t : Fin grid0.N) : Pipeline.Prefetch.Contents.at (tbl m) 0 (Rect.unit (s := S175) (k0_off1 (grid0.coords t)) S1.size (k0_off1_inb (grid0.coords t))) numel1_S1 = argTile m (ix1 (item t)) :=
  (word_at (tbl m 0) _ (k0_off1_inb _) (item t) (off_eq t).1).trans (congrFun (tbl0 m) _)
theorem expert_word (t : Fin grid0.N) : Pipeline.Prefetch.Contents.at (tbl m) 1 (Rect.unit (s := S175) (k0_off1 (grid0.coords t)) S1.size (k0_off1_inb (grid0.coords t))) numel1_S1 = argExpert m (ix1 (item t)) :=
  (word_at (tbl m 1) _ (k0_off1_inb _) (item t) (off_eq t).1).trans (congrFun (tbl1 m) _)

/-! The windows' block indices at point `t`. -/

theorem index0 (t : Fin grid0.N) : cc0_transform_0 k0_off1_inb numel1_S1 (tbl m) (grid0.coords t) = ![(argTile m (ix1 (item t))).toNat, 0] :=
  congrArg (fun w : BitVec 32 => (![w.toNat, (0#32).toNat] : Fin 2 → ℕ)) (tile_word m t)
theorem index1 (t : Fin grid0.N) : cc0_transform_1 k0_off1_inb numel1_S1 (tbl m) (grid0.coords t) = ![0, (argExpert m (ix1 (item t))).toNat, 0, 0] :=
  congrArg (fun w : BitVec 32 => (![(0#32).toNat, w.toNat, (0#32).toNat, (0#32).toNat] : Fin 4 → ℕ)) (expert_word m t)
theorem index2 (t : Fin grid0.N) : cc0_transform_2 k0_off1_inb numel1_S1 (tbl m) (grid0.coords t) = ![(argExpert m (ix1 (item t))).toNat, 0, 0] :=
  congrArg (fun w : BitVec 32 => (![w.toNat, (0#32).toNat, (0#32).toNat] : Fin 3 → ℕ)) (expert_word m t)
theorem index3 (t : Fin grid0.N) : cc0_transform_3 k0_off1_inb numel1_S1 (tbl m) (grid0.coords t) = ![0, (argExpert m (ix1 (item t))).toNat, 0, 0] :=
  congrArg (fun w : BitVec 32 => (![(0#32).toNat, w.toNat, (0#32).toNat, (0#32).toNat] : Fin 4 → ℕ)) (expert_word m t)
theorem index4 (t : Fin grid0.N) : cc0_transform_4 k0_off1_inb numel1_S1 (tbl m) (grid0.coords t) = ![(argExpert m (ix1 (item t))).toNat, 0, 0] :=
  congrArg (fun w : BitVec 32 => (![w.toNat, (0#32).toNat, (0#32).toNat] : Fin 3 → ℕ)) (expert_word m t)
theorem index6 (t : Fin grid0.N) : tileOf m t = ![(argTile m (ix1 (item t))).toNat, 0] :=
  congrArg (fun w : BitVec 32 => (![w.toNat, (0#32).toNat] : Fin 2 → ℕ)) (tile_word m t)

/-! ## The body's conditions on the tables' words -/

theorem bit_wide : ∀ b : BitVec 1, Scalar.cmpi .ne (Scalar.extui b : BitVec 32) 0#32 = 1#1 ↔ b = 1#1 := by decide

theorem isNew_iff (w : BitVec 32) : isNew w ↔ w = 1#32 := (bit_wide _).trans StableHlo.Predicate.cmpi_eq_iff
theorem isFirst_iff (w : BitVec 32) : isFirst w ↔ w = 1#32 := (bit_wide _).trans StableHlo.Predicate.cmpi_eq_iff
theorem isLater_iff (w : BitVec 32) : isLater w ↔ w = 0#32 := (bit_wide _).trans StableHlo.Predicate.cmpi_eq_iff
theorem isLive_iff (a b : BitVec 32) : isLive a b ↔ IntOp.cmpi .sgt b a = 1#1 := bit_wide _

variable {m} in
/-- Well-formed tables name blocks inside the arrays, -/
theorem ok_of (h : Wf m) : Ok m := by
  refine ⟨fun i => ?_, fun i => ?_, fun i => ?_, fun i => ?_, fun i => ?_, fun i => ?_⟩ <;>
    obtain ⟨t, rfl⟩ := point_of i <;> have ht := h.tile_lt (item t) <;> have he := h.e_lt (item t)
  · refine ⟨?_, .inl rfl⟩
    rw [index0]; intro a
    match a with
    | ⟨0, _⟩ => show ((argTile m (ix1 (item t))).toNat + 1) * 256 ≤ 36864; omega
    | ⟨1, _⟩ => show (0 + 1) * 2048 ≤ 2048; omega
  · refine ⟨?_, .inl rfl⟩
    rw [index1]; intro a
    match a with
    | ⟨0, _⟩ => show (0 + 1) * 1 ≤ 4; omega
    | ⟨1, _⟩ => show ((argExpert m (ix1 (item t))).toNat + 1) * 1 ≤ 32; omega
    | ⟨2, _⟩ => show (0 + 1) * 2048 ≤ 2048; omega
    | ⟨3, _⟩ => show (0 + 1) * 1024 ≤ 1024; omega
  · refine ⟨?_, .inl rfl⟩
    rw [index2]; intro a
    match a with
    | ⟨0, _⟩ => show ((argExpert m (ix1 (item t))).toNat + 1) * 1 ≤ 32; omega
    | ⟨1, _⟩ => show (0 + 1) * 1 ≤ 1; omega
    | ⟨2, _⟩ => show (0 + 1) * 1024 ≤ 1024; omega
  · refine ⟨?_, .inl rfl⟩
    rw [index3]; intro a
    match a with
    | ⟨0, _⟩ => show (0 + 1) * 1 ≤ 4; omega
    | ⟨1, _⟩ => show ((argExpert m (ix1 (item t))).toNat + 1) * 1 ≤ 32; omega
    | ⟨2, _⟩ => show (0 + 1) * 512 ≤ 512; omega
    | ⟨3, _⟩ => show (0 + 1) * 2048 ≤ 2048; omega
  · refine ⟨?_, .inl rfl⟩
    rw [index4]; intro a
    match a with
    | ⟨0, _⟩ => show ((argExpert m (ix1 (item t))).toNat + 1) * 1 ≤ 32; omega
    | ⟨1, _⟩ => show (0 + 1) * 1 ≤ 1; omega
    | ⟨2, _⟩ => show (0 + 1) * 2048 ≤ 2048; omega
  · refine ⟨?_, .inl rfl⟩
    rw [show cc0_transform_6 k0_off1_inb numel1_S1 (tbl m) (grid0.coords t) = ![(argTile m (ix1 (item t))).toNat, 0] from index6 m t]; intro a
    match a with
    | ⟨0, _⟩ => show ((argTile m (ix1 (item t))).toNat + 1) * 256 ≤ 36864; omega
    | ⟨1, _⟩ => show (0 + 1) * 2048 ≤ 2048; omega

/-- An item opens its tile exactly when its flag is one, and then it owns rows. -/
theorem first_iff (t : Fin grid0.N) : First m t ↔ argFirst m (ix1 (item t)) = 1#32 := by
  unfold First; rw [first_word, isFirst_iff]
theorem live_iff (t : Fin grid0.N) : Live m t ↔ IntOp.cmpi .sgt (argHi m (ix1 (item t))) (argLo m (ix1 (item t))) = 1#1 := by
  unfold Live; rw [lo_word, hi_word, isLive_iff]
theorem new_iff (t : Fin grid0.N) : New m t ↔ argNew m (ix1 (item t)) = 1#32 := by
  unfold New; rw [new_word, isNew_iff]

variable {m} in
theorem first_live (h : Wf m) (t : Fin grid0.N) (hf : First m t) : Live m t :=
  (live_iff m t).mpr (h.owns _ ((first_iff m t).mp hf))
variable {m} in
theorem first_iff_tile (h : Wf m) (t : Fin grid0.N) : First m t ↔ t.val = 0 ∨ argTile m (ix1 (item t)) ≠ argTile m (ix1 (Cert.Items.prev (item t))) := by
  rw [first_iff, h.first_eq]
  split
  · rename_i k; exact ⟨fun _ => k, fun _ => rfl⟩
  · rename_i k; exact ⟨fun z => absurd z (by decide), fun z => absurd z k⟩
variable {m} in
theorem new_iff_expert (h : Wf m) (t : Fin grid0.N) : New m t ↔ t.val = 0 ∨ argExpert m (ix1 (item t)) ≠ argExpert m (ix1 (Cert.Items.prev (item t))) := by
  rw [new_iff, h.new_eq]
  split
  · rename_i k; exact ⟨fun _ => k, fun _ => rfl⟩
  · rename_i k; exact ⟨fun z => absurd z (by decide), fun z => absurd z k⟩

variable {m} in
/-- and what the run needs of them. -/
theorem sched_of (h : Wf m) : Sched m where
  new0 t ht := (new_iff_expert h t).mpr (.inl ht)
  kinds t _ := by
    have q := h.first_eq (item t)
    have l : Later m t ↔ argFirst m (ix1 (item t)) = 0#32 := by unfold Later; rw [later_word, isLater_iff]
    rw [first_iff, l]
    split at q
    · left; rw [q]; exact ⟨rfl, by decide⟩
    · right; rw [q]; exact ⟨by decide, rfl⟩
  carry t hn := by
    have nf : ¬First m t := fun k => hn ⟨first_live h t k, k⟩
    rw [first_iff_tile h t, not_or, not_not] at nf
    refine ⟨nf.1, ?_⟩
    rw [index6, index6, nf.2]

end Cert.KernelIdeal.Experts

end
-- ==== Proof.Math.lean ====
/- The mathematics both programs compute: one expert's layer on one row of its input. -/
module

public import Idealize.ShloMosaic.Lib.Pointwise

@[expose] public section

noncomputable section

namespace Cert.Math

open Idealize.ShloMosaic

/-- The clamped gated unit: the gate clipped above at seven, its sigmoid at slope 1.702, and the linear part clipped to `[-7, 7]`, plus one. -/
def act (g l : EReal) : EReal :=
  min g (Ideal.ofBits FTy.f32 0x40E00000#32) * Ideal.logistic (Ideal.ofBits FTy.f32 0x3FD9DB23#32 * min g (Ideal.ofBits FTy.f32 0x40E00000#32))
    * (min (Ideal.ofBits FTy.f32 0x40E00000#32) (max (Ideal.ofBits FTy.f32 0xC0E00000#32) l) + 1)

/-- The columns of the first weights that hidden unit `j` reads: its gate's and its linear part's. -/
def even (j : Fin 512) : Fin 1024 := ⟨2 * j.val, by omega⟩
def odd (j : Fin 512) : Fin 1024 := ⟨2 * j.val + 1, by omega⟩

/-- Column `c` of the first layer on the row `x`. -/
def pre (x : Fin 2048 → EReal) (w1 : Fin 2048 → Fin 1024 → EReal) (b1 : Fin 1024 → EReal) (c : Fin 1024) : EReal :=
  (∑ k : Fin 2048, x k * w1 k c) + b1 c

/-- An expert's layer on the row `x`, at output `d`. -/
def expert (x : Fin 2048 → EReal) (w1 : Fin 2048 → Fin 1024 → EReal) (b1 : Fin 1024 → EReal) (w2 : Fin 512 → Fin 2048 → EReal)
    (b2 : Fin 2048 → EReal) (d : Fin 2048) : EReal :=
  (∑ j : Fin 512, act (pre x w1 b1 (even j)) (pre x w1 b1 (odd j)) * w2 j d) + b2 d

/-- Where column `c` of a row of width 1024 lies once each strip of 256 columns has its even columns before its odd ones. -/
def split (c : Fin 1024) : Fin 1024 := ⟨c.val / 256 * 256 + c.val % 2 * 128 + c.val / 2 % 128, by omega⟩

/-- The column of the unsplit row found at column `q` of the split one. -/
def joined (q : Fin 1024) : Fin 1024 :=
  ⟨q.val / 256 * 256 + (if q.val % 256 < 128 then 2 * (q.val % 256) else 2 * (q.val % 256 - 128) + 1), by split <;> omega⟩

theorem joined_split (c : Fin 1024) : joined (split c) = c := by
  have key : ∀ s n : ℕ, s = n / 256 * 256 + n % 2 * 128 + n / 2 % 128 → s / 256 * 256 + (if s % 256 < 128 then 2 * (s % 256) else 2 * (s % 256 - 128) + 1) = n := by
    intro s n h
    have two : n / 2 / 128 = n / 256 := by rw [Nat.div_div_eq_div_mul]
    have lt : n % 2 * 128 + n / 2 % 128 < 256 := by omega
    have div : s / 256 = n / 256 := by omega
    by_cases k : s % 256 < 128
    · rw [if_pos k]; omega
    · rw [if_neg k]; omega
  exact Fin.ext (key _ c.val rfl)

end Cert.Math

end
-- ==== Proof.Source.lean ====
/- Where the columns of a gathered strip come from. -/
module

public import proofs.«01_k».proof.Proof.Gen.KernelIdeal

@[expose] public section

set_option maxRecDepth 16384

noncomputable section

namespace Cert.KernelIdeal.Experts

open Cert.KernelIdeal Cert.KernelIdeal.Gen Idealize.ShloMosaic

/-- The column of a strip that the gathered strip's column `q` comes from: the even ones first, then the odd ones. -/
abbrev source (q : ℕ) : ℕ := if q < 128 then 2 * q else 2 * (q - 128) + 1

end Cert.KernelIdeal.Experts

end
-- ==== Proof.Layer.lean ====
/- What one item computes, at an index, on the extended reals: the gathered weights are the weights with their columns
   split, and the layer on a tile's row is the expert's layer of that row. -/
module

public import proofs.«01_k».proof.Proof.ScheduleIdeal
public import proofs.«01_k».proof.Proof.Math
public import proofs.«01_k».proof.Proof.Source
public import Idealize.ShloMosaic.Lib.Pointwise
public import Idealize.ShloMosaic.Lib.MatmulPlain
public import Idealize.ShloMosaic.Lib.Pipeline.ValueKit.Tiles

@[expose] public section

set_option maxRecDepth 16384

noncomputable section

namespace Cert.KernelIdeal.Experts

open Cert.KernelIdeal Cert.KernelIdeal.Gen
open Idealize.ShloMosaic Idealize.ShloMosaic.Tactic
open Cert.Math

local notation "𝔻" => Ideal

/-! ## The weights in the scratch buffers -/

/-- A matrix that selects: column `q` has a one in row `source q` and zeros elsewhere. -/
def Selects (p : Vec 𝔻 S256x256 .bf16) : Prop := ∀ a q : Fin 256, p (ix2 a q) = if a.val = source q.val then (1 : EReal) else 0

/-- A strip times a selecting matrix is the strip with its columns selected. -/
theorem selected (p : Vec 𝔻 S256x256 .bf16) (hp : Selects p) (f : Fin 256 → EReal) (q : Fin 256) :
    ∑ j : Fin 256, f j * p (ix2 j q) = f ⟨source q.val, by have := q.isLt; unfold source; split <;> omega⟩ := by
  rw [Finset.sum_eq_single ⟨source q.val, by have := q.isLt; unfold source; split <;> omega⟩]
  · rw [hp, if_pos rfl, mul_one]
  · intro j _ hj
    rw [hp, if_neg (fun e => hj (Fin.ext e)), mul_zero]
  · intro h; exact absurd (Finset.mem_univ _) h

theorem pay1_apply (w : Vec 𝔻 S1x1x2048x256 .f32) (p : Vec 𝔻 S256x256 .bf16) (k : Fin 2048) (q : Fin 256) :
    k0_pay1 w p (ix2 k q) = ∑ j : Fin 256, w (ix4 0 0 k j) * p (ix2 j q) := by
  unfold k0_pay1
  pointwise

theorem pay5_apply (w : Vec 𝔻 S1x1x2048x256 .f32) (p : Vec 𝔻 S256x256 .bf16) (k : Fin 2048) (q : Fin 256) :
    k0_pay5 w p (ix2 k q) = ∑ j : Fin 256, w (ix4 0 0 k j) * p (ix2 j q) := by
  unfold k0_pay5
  pointwise

theorem pay6_apply (w : Vec 𝔻 S1x1x2048x256 .f32) (p : Vec 𝔻 S256x256 .bf16) (k : Fin 2048) (q : Fin 256) :
    k0_pay6 w p (ix2 k q) = ∑ j : Fin 256, w (ix4 0 0 k j) * p (ix2 j q) := by
  unfold k0_pay6
  pointwise

theorem pay7_apply (w : Vec 𝔻 S1x1x2048x256 .f32) (p : Vec 𝔻 S256x256 .bf16) (k : Fin 2048) (q : Fin 256) :
    k0_pay7 w p (ix2 k q) = ∑ j : Fin 256, w (ix4 0 0 k j) * p (ix2 j q) := by
  unfold k0_pay7
  pointwise

/-- The strip of 256 columns from column `o` on, selected, at column `q`. -/
theorem strip (w : Vec 𝔻 S1x1x2048x1024 .f32) (p : Vec 𝔻 S256x256 .bf16) (hp : Selects p) (o : ℕ) (ho : o = 0 ∨ o = 256 ∨ o = 512 ∨ o = 768)
    (inb) (inb') (k : Fin 2048) (q : Fin 256) (c : Fin 1024) (hc : c.val = o + q.val) :
    ∑ j : Fin 256, (View.ld w (Rect.unit (s := S1x1x2048x1024) ![0, 0, 0, o] S1x1x2048x256.size inb) : Vec 𝔻 S1x1x2048x256 .f32) (ix4 0 0 k j)
        * (View.ld p (Rect.unit (s := S256x256) ![0, 0] S256x256.size inb') : Vec 𝔻 S256x256 .bf16) (ix2 j q)
      = w (ix4 0 0 k (joined c)) := by
  rw [View.ld_unit_lit inb' p (by intro a; fin_cases a <;> rfl), selected p hp]
  refine View.ld_unit_apply_of w _ _ _ _ _ (fun a => ?_)
  match a with
  | ⟨0, _⟩ => rfl
  | ⟨1, _⟩ => rfl
  | ⟨2, _⟩ => show k.val = 0 + k.val; omega
  | ⟨3, _⟩ =>
    show c.val / 256 * 256 + (if c.val % 256 < 128 then 2 * (c.val % 256) else 2 * (c.val % 256 - 128) + 1) = o + (if q.val < 128 then 2 * q.val else 2 * (q.val - 128) + 1)
    have := q.isLt
    split <;> split <;> omega

/-- The first weights in the scratch, at an index. -/
theorem gathered_apply (w : Vec 𝔻 S1x1x2048x1024 .f32) (p : Vec 𝔻 S256x256 .bf16) (hp : Selects p) (k : Fin 2048) (c : Fin 1024) :
    gathered w p (ix2 k c) = w (ix4 0 0 k (joined c)) := by
  unfold gathered
  canon_tiles x h
  all_goals idx_vars x
  all_goals (obtain rfl : x0 = k := Fin.ext (by omega))
  · exact (pay1_apply _ _ _ _).trans (strip w p hp 768 (by omega) _ _ _ _ c (by omega))
  · exact (pay7_apply _ _ _ _).trans (strip w p hp 512 (by omega) _ _ _ _ c (by omega))
  · exact (pay6_apply _ _ _ _).trans (strip w p hp 256 (by omega) _ _ _ _ c (by omega))
  · exact (pay5_apply _ _ _ _).trans (strip w p hp 0 (by omega) _ _ _ _ c (by omega))

/-- The second weights in the scratch, at an index. -/
theorem rounded_apply (w : Vec 𝔻 S1x1x512x2048 .f32) (j : Fin 512) (d : Fin 2048) : rounded w (ix2 j d) = w (ix4 0 0 j d) := by
  unfold rounded
  rw [View.canon_cons_unit_lit _ _ _ (by intro a; fin_cases a <;> rfl), View.ld_unit_lit _ w (by intro a; fin_cases a <;> rfl)]
  unfold k0_pay2
  pointwise

/-! ## The layer -/

theorem pay8_apply (x : Vec 𝔻 S256x2048 .f32) (w : Vec 𝔻 S2048x1024 .bf16) (b : Vec 𝔻 S1x1x1024 .f32) (r : Fin 256) (q : Fin 1024) :
    k0_pay8 x w b (ix2 r q) = (∑ j : Fin 2048, x (ix2 r j) * w (ix2 j q)) + b (ix3 0 0 q) := by
  unfold k0_pay8
  pointwise

theorem pay9_apply (x : Vec 𝔻 S256x2048 .f32) (w : Vec 𝔻 S2048x1024 .bf16) (b : Vec 𝔻 S1x1x1024 .f32) (r : Fin 256) (q : Fin 128) :
    k0_pay9 x w b (ix2 r q) = act (k0_pay8 x w b (ix2 r ⟨q.val, by omega⟩)) (k0_pay8 x w b (ix2 r ⟨128 + q.val, by omega⟩)) := by
  unfold k0_pay9
  generalize k0_pay8 x w b = u
  pointwise
  rfl

theorem pay10_apply (x : Vec 𝔻 S256x2048 .f32) (w : Vec 𝔻 S2048x1024 .bf16) (b : Vec 𝔻 S1x1x1024 .f32) (r : Fin 256) (q : Fin 128) :
    k0_pay10 x w b (ix2 r q) = act (k0_pay8 x w b (ix2 r ⟨256 + q.val, by omega⟩)) (k0_pay8 x w b (ix2 r ⟨384 + q.val, by omega⟩)) := by
  unfold k0_pay10
  generalize k0_pay8 x w b = u
  pointwise
  rfl

theorem pay11_apply (x : Vec 𝔻 S256x2048 .f32) (w : Vec 𝔻 S2048x1024 .bf16) (b : Vec 𝔻 S1x1x1024 .f32) (r : Fin 256) (q : Fin 128) :
    k0_pay11 x w b (ix2 r q) = min (k0_pay8 x w b (ix2 r ⟨512 + q.val, by omega⟩)) (Ideal.ofBits FTy.f32 0x40E00000#32) := by
  unfold k0_pay11
  generalize k0_pay8 x w b = u
  pointwise

/-- From the first layer's split columns to the item's result. -/
theorem pay12_apply (u : FVec 𝔻 S256x1024 .f32) (a b c : FVec 𝔻 S256x128 .f32) (w : Vec 𝔻 S512x2048 .bf16) (d : Vec 𝔻 S1x1x2048 .f32)
    (ha : ∀ (r : Fin 256) (q : Fin 128), a (ix2 r q) = act (u (ix2 r ⟨q.val, by omega⟩)) (u (ix2 r ⟨128 + q.val, by omega⟩)))
    (hb : ∀ (r : Fin 256) (q : Fin 128), b (ix2 r q) = act (u (ix2 r ⟨256 + q.val, by omega⟩)) (u (ix2 r ⟨384 + q.val, by omega⟩)))
    (hc : ∀ (r : Fin 256) (q : Fin 128), c (ix2 r q) = min (u (ix2 r ⟨512 + q.val, by omega⟩)) (Ideal.ofBits FTy.f32 0x40E00000#32))
    (r : Fin 256) (q : Fin 2048) :
    k0_pay12 u a b c w d (ix2 r q) = (∑ j : Fin 512, act (u (ix2 r (split (even j)))) (u (ix2 r (split (odd j)))) * w (ix2 j q)) + d (ix3 0 0 q) := by
  unfold k0_pay12
  pointwise
  refine congrArg (· + _) (Finset.sum_congr rfl fun j _ => congrArg (· * _) ?_)
  have at_ : ∀ (s t : Fin 1024), s.val = t.val → u (ix2 r s) = u (ix2 r t) := fun s t e => by rw [Fin.ext e]
  have hj := j.isLt
  have dv : j.val / 128 = 2 * j.val / 256 := by omega
  by_cases h1 : j.val < 128
  · rw [dif_pos h1, ha]
    refine congr (congrArg act (at_ _ _ ?_)) (at_ _ _ ?_) <;> simp only [split, even, odd] <;> omega
  rw [dif_neg h1]
  by_cases h2 : j.val - 128 < 128
  · rw [dif_pos h2, hb]
    refine congr (congrArg act (at_ _ _ ?_)) (at_ _ _ ?_) <;> simp only [split, even, odd] <;> omega
  rw [dif_neg h2]
  by_cases h3 : j.val - 128 - 128 < 128
  · rw [dif_pos h3, hc]
    refine Eq.trans (show _ = act (u (ix2 r ⟨512 + (j.val - 128 - 128), by omega⟩)) (u (ix2 r ⟨640 + (j.val - 128 - 128), by omega⟩)) from rfl) (congr (congrArg act (at_ _ _ ?_)) (at_ _ _ ?_)) <;> simp only [split, even, odd] <;> omega
  · rw [dif_neg h3]
    refine Eq.trans (show _ = act (u (ix2 r ⟨768 + (j.val - 128 - 128 - 128), by omega⟩)) (u (ix2 r ⟨896 + (j.val - 128 - 128 - 128), by omega⟩)) from rfl) (congr (congrArg act (at_ _ _ ?_)) (at_ _ _ ?_)) <;> simp only [split, even, odd] <;> omega

/-- The layer with the scratch holding an expert's weights (the first ones split): the expert's layer of the tile's row. -/
theorem layer_apply (x : Vec 𝔻 S256x2048 .f32) (u : Vec 𝔻 S2048x1024 .bf16) (b1 : Vec 𝔻 S1x1x1024 .f32) (v : Vec 𝔻 S512x2048 .bf16) (b2 : Vec 𝔻 S1x1x2048 .f32)
    (X : Fin 2048 → EReal) (W1 : Fin 2048 → Fin 1024 → EReal) (B1 : Fin 1024 → EReal) (W2 : Fin 512 → Fin 2048 → EReal) (B2 : Fin 2048 → EReal) (r : Fin 256)
    (hx : ∀ k, x (ix2 r k) = X k) (hu : ∀ k c, u (ix2 k (split c)) = W1 k c) (hb1 : ∀ c, b1 (ix3 0 0 (split c)) = B1 c) (hv : ∀ j d, v (ix2 j d) = W2 j d)
    (hb2 : ∀ d, b2 (ix3 0 0 d) = B2 d) (d : Fin 2048) :
    layer x u b1 v b2 (ix2 r d) = expert X W1 B1 W2 B2 d := by
  unfold layer whX whW whB whV whD
  rw [View.ld_unit_lit _ x (by intro a; fin_cases a <;> rfl), View.ld_unit_lit _ u (by intro a; fin_cases a <;> rfl),
    View.ld_unit_lit _ b1 (by intro a; fin_cases a <;> rfl), View.ld_unit_lit _ v (by intro a; fin_cases a <;> rfl),
    View.ld_unit_lit _ b2 (by intro a; fin_cases a <;> rfl),
    pay12_apply _ _ _ _ _ _ (pay9_apply x u b1) (pay10_apply x u b1) (pay11_apply x u b1)]
  unfold expert
  have col : ∀ c : Fin 1024, k0_pay8 x u b1 (ix2 r (split c)) = pre X W1 B1 c := by
    intro c
    rw [pay8_apply, hb1]
    unfold pre
    refine congrArg (· + _) (Finset.sum_congr rfl fun k _ => ?_)
    rw [hx, hu]
  rw [hb2]
  refine congrArg (· + _) (Finset.sum_congr rfl fun j _ => ?_)
  rw [col, col, hv]

/-! ## The rows an item owns -/

/-- Row `r` of a tile is among an item's: its bounds hold `r`. -/
def Own (lo hi : BitVec 32) (r : ℕ) : Prop := lo.toInt ≤ r ∧ (r : ℤ) < hi.toInt

theorem pay13_apply (lo hi : BitVec 32) (r : Fin 256) (q : Fin 2048) :
    k0_pay13 (F := 𝔻) lo hi (ix2 r q) = IntOp.andi (IntOp.cmpi CmpIPredicate.sge (BitVec.ofNat 32 r.val) lo) (IntOp.cmpi CmpIPredicate.slt (BitVec.ofNat 32 r.val) hi) := by
  unfold k0_pay13
  pointwise

theorem pay13_iff (lo hi : BitVec 32) (r : Fin 256) (q : Fin 2048) : k0_pay13 (F := 𝔻) lo hi (ix2 r q) = 1#1 ↔ Own lo hi r.val := by
  rw [pay13_apply]
  have hr := r.isLt
  have e : (BitVec.ofNat 32 r.val).toInt = r.val := by rw [BitVec.toInt_ofNat']; simp [Int.bmod]; omega
  have a : ∀ a b : BitVec 1, IntOp.andi a b = 1#1 ↔ a = 1#1 ∧ b = 1#1 := by decide
  rw [a]
  unfold Own IntOp.cmpi
  rw [StableHlo.Predicate.ofBool_eq_one_iff, StableHlo.Predicate.ofBool_eq_one_iff]
  simp [BitVec.sle, BitVec.slt, e]

open Classical in
theorem opened_apply (y : FVec 𝔻 S256x2048 .f32) (lo hi : BitVec 32) (r : Fin 256) (q : Fin 2048) :
    opened y lo hi (ix2 r q) = if Own lo hi r.val then (y (ix2 r q) : EReal) else 0 := by
  unfold opened
  rw [View.canon_cons_unit_lit _ _ _ (by intro a; fin_cases a <;> rfl)]
  unfold k0_pay3 k0_pay14
  pointwise
  simp only [Scalar.select, show (1 : BitVec 1) = 1#1 from rfl, pay13_iff]

open Classical in
theorem added_apply (y : FVec 𝔻 S256x2048 .f32) (lo hi : BitVec 32) (o : Vec 𝔻 S256x2048 .f32) (r : Fin 256) (q : Fin 2048) :
    added y lo hi o (ix2 r q) = (o (ix2 r q) : EReal) + if Own lo hi r.val then (y (ix2 r q) : EReal) else 0 := by
  unfold added whX
  rw [View.canon_cons_unit_lit _ _ _ (by intro a; fin_cases a <;> rfl), View.ld_unit_lit _ o (by intro a; fin_cases a <;> rfl)]
  unfold k0_pay4 k0_pay3 k0_pay14
  pointwise
  simp only [Scalar.select, show (1 : BitVec 1) = 1#1 from rfl, pay13_iff]

end Cert.KernelIdeal.Experts

end
-- ==== Proof.Rows0.lean ====
/- The selection matrix's entries, rows 0 to 63: column `q` holds a one in row `source q` and zeros elsewhere. -/
module

public import proofs.«01_k».proof.Proof.Source

@[expose] public section

set_option maxRecDepth 16384

noncomputable section

namespace Cert.KernelIdeal.Experts

open Cert.KernelIdeal Cert.KernelIdeal.Gen Idealize.ShloMosaic

theorem rows0 : ∀ p : Fin 16, ∀ q : Fin 256, lit0 ⟨(0 + p.val) * 256 + q.val, by omega⟩ = if 0 + p.val = source q.val then 0x3F80#16 else 0x0000#16 := by
  decide +kernel

theorem rows16 : ∀ p : Fin 16, ∀ q : Fin 256, lit0 ⟨(16 + p.val) * 256 + q.val, by omega⟩ = if 16 + p.val = source q.val then 0x3F80#16 else 0x0000#16 := by
  decide +kernel

theorem rows32 : ∀ p : Fin 16, ∀ q : Fin 256, lit0 ⟨(32 + p.val) * 256 + q.val, by omega⟩ = if 32 + p.val = source q.val then 0x3F80#16 else 0x0000#16 := by
  decide +kernel

theorem rows48 : ∀ p : Fin 16, ∀ q : Fin 256, lit0 ⟨(48 + p.val) * 256 + q.val, by omega⟩ = if 48 + p.val = source q.val then 0x3F80#16 else 0x0000#16 := by
  decide +kernel

end Cert.KernelIdeal.Experts

end
-- ==== Proof.Rows1.lean ====
/- The selection matrix's entries, rows 64 to 127: column `q` holds a one in row `source q` and zeros elsewhere. -/
module

public import proofs.«01_k».proof.Proof.Source

@[expose] public section

set_option maxRecDepth 16384

noncomputable section

namespace Cert.KernelIdeal.Experts

open Cert.KernelIdeal Cert.KernelIdeal.Gen Idealize.ShloMosaic

theorem rows64 : ∀ p : Fin 16, ∀ q : Fin 256, lit0 ⟨(64 + p.val) * 256 + q.val, by omega⟩ = if 64 + p.val = source q.val then 0x3F80#16 else 0x0000#16 := by
  decide +kernel

theorem rows80 : ∀ p : Fin 16, ∀ q : Fin 256, lit0 ⟨(80 + p.val) * 256 + q.val, by omega⟩ = if 80 + p.val = source q.val then 0x3F80#16 else 0x0000#16 := by
  decide +kernel

theorem rows96 : ∀ p : Fin 16, ∀ q : Fin 256, lit0 ⟨(96 + p.val) * 256 + q.val, by omega⟩ = if 96 + p.val = source q.val then 0x3F80#16 else 0x0000#16 := by
  decide +kernel

theorem rows112 : ∀ p : Fin 16, ∀ q : Fin 256, lit0 ⟨(112 + p.val) * 256 + q.val, by omega⟩ = if 112 + p.val = source q.val then 0x3F80#16 else 0x0000#16 := by
  decide +kernel

end Cert.KernelIdeal.Experts

end
-- ==== Proof.Rows2.lean ====
/- The selection matrix's entries, rows 128 to 191: column `q` holds a one in row `source q` and zeros elsewhere. -/
module

public import proofs.«01_k».proof.Proof.Source

@[expose] public section

set_option maxRecDepth 16384

noncomputable section

namespace Cert.KernelIdeal.Experts

open Cert.KernelIdeal Cert.KernelIdeal.Gen Idealize.ShloMosaic

theorem rows128 : ∀ p : Fin 16, ∀ q : Fin 256, lit0 ⟨(128 + p.val) * 256 + q.val, by omega⟩ = if 128 + p.val = source q.val then 0x3F80#16 else 0x0000#16 := by
  decide +kernel

theorem rows144 : ∀ p : Fin 16, ∀ q : Fin 256, lit0 ⟨(144 + p.val) * 256 + q.val, by omega⟩ = if 144 + p.val = source q.val then 0x3F80#16 else 0x0000#16 := by
  decide +kernel

theorem rows160 : ∀ p : Fin 16, ∀ q : Fin 256, lit0 ⟨(160 + p.val) * 256 + q.val, by omega⟩ = if 160 + p.val = source q.val then 0x3F80#16 else 0x0000#16 := by
  decide +kernel

theorem rows176 : ∀ p : Fin 16, ∀ q : Fin 256, lit0 ⟨(176 + p.val) * 256 + q.val, by omega⟩ = if 176 + p.val = source q.val then 0x3F80#16 else 0x0000#16 := by
  decide +kernel

end Cert.KernelIdeal.Experts

end
-- ==== Proof.Rows3.lean ====
/- The selection matrix's entries, rows 192 to 255: column `q` holds a one in row `source q` and zeros elsewhere. -/
module

public import proofs.«01_k».proof.Proof.Source

@[expose] public section

set_option maxRecDepth 16384

noncomputable section

namespace Cert.KernelIdeal.Experts

open Cert.KernelIdeal Cert.KernelIdeal.Gen Idealize.ShloMosaic

theorem rows192 : ∀ p : Fin 16, ∀ q : Fin 256, lit0 ⟨(192 + p.val) * 256 + q.val, by omega⟩ = if 192 + p.val = source q.val then 0x3F80#16 else 0x0000#16 := by
  decide +kernel

theorem rows208 : ∀ p : Fin 16, ∀ q : Fin 256, lit0 ⟨(208 + p.val) * 256 + q.val, by omega⟩ = if 208 + p.val = source q.val then 0x3F80#16 else 0x0000#16 := by
  decide +kernel

theorem rows224 : ∀ p : Fin 16, ∀ q : Fin 256, lit0 ⟨(224 + p.val) * 256 + q.val, by omega⟩ = if 224 + p.val = source q.val then 0x3F80#16 else 0x0000#16 := by
  decide +kernel

theorem rows240 : ∀ p : Fin 16, ∀ q : Fin 256, lit0 ⟨(240 + p.val) * 256 + q.val, by omega⟩ = if 240 + p.val = source q.val then 0x3F80#16 else 0x0000#16 := by
  decide +kernel

end Cert.KernelIdeal.Experts

end
-- ==== Proof.Selection.lean ====
/- The selection matrix the first weights' strips are multiplied by, entry by entry. -/
module

public import proofs.«01_k».proof.Proof.Rows0
public import proofs.«01_k».proof.Proof.Rows1
public import proofs.«01_k».proof.Proof.Rows2
public import proofs.«01_k».proof.Proof.Rows3

@[expose] public section

set_option maxRecDepth 16384

noncomputable section

namespace Cert.KernelIdeal.Experts

open Cert.KernelIdeal Cert.KernelIdeal.Gen Idealize.ShloMosaic

/-- The literal at row `p`, column `q`: one in row `source q`, zero elsewhere. -/
theorem literal (p q : Fin 256) : lit0 ⟨p.val * 256 + q.val, by omega⟩ = if p.val = source q.val then 0x3F80#16 else 0x0000#16 := by
  have key : ∀ (k : ℕ) (r : Fin 16) (e : k + r.val = p.val), (lit0 ⟨(k + r.val) * 256 + q.val, by omega⟩ = if k + r.val = source q.val then 0x3F80#16 else 0x0000#16) →
      lit0 ⟨p.val * 256 + q.val, by omega⟩ = if p.val = source q.val then 0x3F80#16 else 0x0000#16 := by
    intro k r e h
    simp only [e] at h
    exact h
  by_cases h0 : p.val < 16
  · exact key 0 ⟨p.val - 0, by omega⟩ (by show 0 + (p.val - 0) = p.val; omega) (rows0 ⟨p.val - 0, by omega⟩ q)
  by_cases h16 : p.val < 32
  · exact key 16 ⟨p.val - 16, by omega⟩ (by show 16 + (p.val - 16) = p.val; omega) (rows16 ⟨p.val - 16, by omega⟩ q)
  by_cases h32 : p.val < 48
  · exact key 32 ⟨p.val - 32, by omega⟩ (by show 32 + (p.val - 32) = p.val; omega) (rows32 ⟨p.val - 32, by omega⟩ q)
  by_cases h48 : p.val < 64
  · exact key 48 ⟨p.val - 48, by omega⟩ (by show 48 + (p.val - 48) = p.val; omega) (rows48 ⟨p.val - 48, by omega⟩ q)
  by_cases h64 : p.val < 80
  · exact key 64 ⟨p.val - 64, by omega⟩ (by show 64 + (p.val - 64) = p.val; omega) (rows64 ⟨p.val - 64, by omega⟩ q)
  by_cases h80 : p.val < 96
  · exact key 80 ⟨p.val - 80, by omega⟩ (by show 80 + (p.val - 80) = p.val; omega) (rows80 ⟨p.val - 80, by omega⟩ q)
  by_cases h96 : p.val < 112
  · exact key 96 ⟨p.val - 96, by omega⟩ (by show 96 + (p.val - 96) = p.val; omega) (rows96 ⟨p.val - 96, by omega⟩ q)
  by_cases h112 : p.val < 128
  · exact key 112 ⟨p.val - 112, by omega⟩ (by show 112 + (p.val - 112) = p.val; omega) (rows112 ⟨p.val - 112, by omega⟩ q)
  by_cases h128 : p.val < 144
  · exact key 128 ⟨p.val - 128, by omega⟩ (by show 128 + (p.val - 128) = p.val; omega) (rows128 ⟨p.val - 128, by omega⟩ q)
  by_cases h144 : p.val < 160
  · exact key 144 ⟨p.val - 144, by omega⟩ (by show 144 + (p.val - 144) = p.val; omega) (rows144 ⟨p.val - 144, by omega⟩ q)
  by_cases h160 : p.val < 176
  · exact key 160 ⟨p.val - 160, by omega⟩ (by show 160 + (p.val - 160) = p.val; omega) (rows160 ⟨p.val - 160, by omega⟩ q)
  by_cases h176 : p.val < 192
  · exact key 176 ⟨p.val - 176, by omega⟩ (by show 176 + (p.val - 176) = p.val; omega) (rows176 ⟨p.val - 176, by omega⟩ q)
  by_cases h192 : p.val < 208
  · exact key 192 ⟨p.val - 192, by omega⟩ (by show 192 + (p.val - 192) = p.val; omega) (rows192 ⟨p.val - 192, by omega⟩ q)
  by_cases h208 : p.val < 224
  · exact key 208 ⟨p.val - 208, by omega⟩ (by show 208 + (p.val - 208) = p.val; omega) (rows208 ⟨p.val - 208, by omega⟩ q)
  by_cases h224 : p.val < 240
  · exact key 224 ⟨p.val - 224, by omega⟩ (by show 224 + (p.val - 224) = p.val; omega) (rows224 ⟨p.val - 224, by omega⟩ q)
  · exact key 240 ⟨p.val - 240, by omega⟩ (by show 240 + (p.val - 240) = p.val; omega) (rows240 ⟨p.val - 240, by omega⟩ q)

end Cert.KernelIdeal.Experts

end
-- ==== Proof.Tiles.lean ====
/- The blocks a point is handed, read off the arguments. -/
module

public import proofs.«01_k».proof.Proof.Layer
public import proofs.«01_k».proof.Proof.Selection
public import Idealize.ShloMosaic.Lib.Pipeline.Value
public import Idealize.ShloMosaic.Lib.Pipeline.ValueKit

@[expose] public section

set_option maxRecDepth 16384

noncomputable section

namespace Cert.KernelIdeal.Experts

open Cert.KernelIdeal Cert.KernelIdeal.Gen
open Idealize.ShloMosaic Idealize.ShloMosaic.Tactic Idealize.ShloMosaic.TcCoe
open Cert.Math

local notation "𝔻" => Ideal

variable (m : (ℓ : Loc nD τ sig) → Buf (Elt 𝔻) ℓ)

/-- Item `t`'s tile and expert as numbers. -/
abbrev tileNo (t : Fin grid0.N) : ℕ := (argTile m (ix1 (item t))).toNat
abbrev expertNo (t : Fin grid0.N) : ℕ := (argExpert m (ix1 (item t))).toNat

theorem iblk0 (hO : Ok m) (c : Dev nD) (t : Fin grid0.N) (r : Fin 256) (k : Fin 2048) (R : Fin 36864) (hR : R.val = tileNo m t * 256 + r.val) :
    iblk m hO c 0 t (ix2 r k) = m ((c : Thread nD τ).loc main_arg6) (ix2 R k) := by
  rw [← V_kept m c main_arg6 (by decide)]
  refine congrArg (V m c main_arg6) (funext fun a => Fin.ext ?_)
  refine (Pipeline.Window.rect_emb_val ((cfgM m hO).win 0) t (ix2 r k) a).trans ?_
  have e := congrFun (index0 m t) a
  match a with
  | ⟨0, _⟩ => exact (congrArg (· * 256 + r.val) e).trans hR.symm
  | ⟨1, _⟩ => exact (congrArg (· * 2048 + k.val) e).trans (by show 0 * 2048 + k.val = k.val; omega)

theorem iblk1 (hO : Ok m) (c : Dev nD) (t : Fin grid0.N) (k : Fin 2048) (q : Fin 1024) (E : Fin 32) (hE : E.val = expertNo m t) :
    iblk m hO c 1 t (ix4 0 0 k q) = m ((c : Thread nD τ).loc main_arg7) (ix4 0 E k q) := by
  rw [← V_kept m c main_arg7 (by decide)]
  refine congrArg (V m c main_arg7) (funext fun a => Fin.ext ?_)
  refine (Pipeline.Window.rect_emb_val ((cfgM m hO).win 1) t (ix4 0 0 k q) a).trans ?_
  have e := congrFun (index1 m t) a
  match a with
  | ⟨0, _⟩ => exact (congrArg (· * 1 + 0) e).trans rfl
  | ⟨1, _⟩ => exact (congrArg (· * 1 + 0) e).trans (by show expertNo m t * 1 + 0 = E.val; omega)
  | ⟨2, _⟩ => exact (congrArg (· * 2048 + k.val) e).trans (by show 0 * 2048 + k.val = k.val; omega)
  | ⟨3, _⟩ => exact (congrArg (· * 1024 + q.val) e).trans (by show 0 * 1024 + q.val = q.val; omega)

theorem iblk3 (hO : Ok m) (c : Dev nD) (t : Fin grid0.N) (k : Fin 512) (q : Fin 2048) (E : Fin 32) (hE : E.val = expertNo m t) :
    iblk m hO c 3 t (ix4 0 0 k q) = m ((c : Thread nD τ).loc main_arg9) (ix4 0 E k q) := by
  rw [← V_kept m c main_arg9 (by decide)]
  refine congrArg (V m c main_arg9) (funext fun a => Fin.ext ?_)
  refine (Pipeline.Window.rect_emb_val ((cfgM m hO).win 3) t (ix4 0 0 k q) a).trans ?_
  have e := congrFun (index3 m t) a
  match a with
  | ⟨0, _⟩ => exact (congrArg (· * 1 + 0) e).trans rfl
  | ⟨1, _⟩ => exact (congrArg (· * 1 + 0) e).trans (by show expertNo m t * 1 + 0 = E.val; omega)
  | ⟨2, _⟩ => exact (congrArg (· * 512 + k.val) e).trans (by show 0 * 512 + k.val = k.val; omega)
  | ⟨3, _⟩ => exact (congrArg (· * 2048 + q.val) e).trans (by show 0 * 2048 + q.val = q.val; omega)

/-- The split bias the call is handed. -/
theorem V_bias1 (c : Dev nD) (E : Fin 32) (q : Fin 1024) :
    V m c main_v2 (ix3 E 0 q) = m ((c : Thread nD τ).loc main_arg8) (ix2 E (joined q)) := by
  entry_read
  pointwise
  refine congrArg (m ((c : Thread nD τ).loc main_arg8)) (congrArg (ix2 E) (Fin.ext ?_))
  have hq := q.isLt
  have key : ∀ n : ℕ, n / 256 * 256 + n % 128 * 2 + n / 128 % 2 = n / 256 * 256 + (if n % 256 < 128 then 2 * (n % 256) else 2 * (n % 256 - 128) + 1) := by
    intro n
    by_cases h : n % 256 < 128
    · rw [if_pos h]; omega
    · rw [if_neg h]; omega
  exact key q.val

theorem V_bias2 (c : Dev nD) (E : Fin 32) (q : Fin 2048) :
    V m c main_v3 (ix3 E 0 q) = m ((c : Thread nD τ).loc main_arg10) (ix2 E q) := by
  entry_read
  pointwise

theorem V_perm (c : Dev nD) (a q : Fin 256) : V m c main_cst (ix2 a q) = Ideal.ofBits FTy.bf16 (lit0 (S256x256.rowMajor (ix2 a q))) := by
  entry_read
  rfl

/-- The constant matrix selects. -/
theorem selects (hO : Ok m) (c : Dev nD) (t : Fin grid0.N) : Selects (iblk m hO c 5 t) := by
  intro a q
  have e : S256x256.rowMajor (ix2 a q) = ⟨a.val * 256 + q.val, by have := a.isLt; have := q.isLt; show _ < 65536; omega⟩ := by
    exact Fin.ext (Shape.rowMajor_val_two (d := ![256, 256]) (ix2 a q))
  refine Eq.trans (b := V m c main_cst (ix2 a q)) ?_ ?_
  · refine congrArg (V m c main_cst) (funext fun x => Fin.ext ?_)
    refine (Pipeline.Window.rect_emb_val ((cfgM m hO).win 5) t (ix2 a q) x).trans ?_
    match x with
    | ⟨0, _⟩ => show 0 * 256 + a.val = a.val; omega
    | ⟨1, _⟩ => show 0 * 256 + q.val = q.val; omega
  · rw [V_perm, e, show lit0 ⟨a.val * 256 + q.val, _⟩ = _ from literal a q]
    by_cases h : a.val = source q.val
    · rw [if_pos h, if_pos h]; simp [Ideal.ofBits, Ideal.ieee]; rw [← EReal.coe_mul]; norm_num
    · rw [if_neg h, if_neg h]; simp [Ideal.ofBits, Ideal.ieee]

theorem iblk2 (hO : Ok m) (c : Dev nD) (t : Fin grid0.N) (q : Fin 1024) (E : Fin 32) (hE : E.val = expertNo m t) :
    iblk m hO c 2 t (ix3 0 0 (split q)) = m ((c : Thread nD τ).loc main_arg8) (ix2 E q) := by
  refine Eq.trans (b := V m c main_v2 (ix3 E 0 (split q))) ?_ ((V_bias1 m c E (split q)).trans (by rw [joined_split]))
  refine congrArg (V m c main_v2) (funext fun a => Fin.ext ?_)
  refine (Pipeline.Window.rect_emb_val ((cfgM m hO).win 2) t (ix3 0 0 (split q)) a).trans ?_
  have e := congrFun (index2 m t) a
  match a with
  | ⟨0, _⟩ => exact (congrArg (· * 1 + 0) e).trans (by show expertNo m t * 1 + 0 = E.val; omega)
  | ⟨1, _⟩ => exact (congrArg (· * 1 + 0) e).trans rfl
  | ⟨2, _⟩ => exact (congrArg (· * 1024 + (split q).val) e).trans (by show 0 * 1024 + (split q).val = (split q).val; omega)

theorem iblk4 (hO : Ok m) (c : Dev nD) (t : Fin grid0.N) (q : Fin 2048) (E : Fin 32) (hE : E.val = expertNo m t) :
    iblk m hO c 4 t (ix3 0 0 q) = m ((c : Thread nD τ).loc main_arg10) (ix2 E q) := by
  refine Eq.trans (b := V m c main_v3 (ix3 E 0 q)) ?_ (V_bias2 m c E q)
  refine congrArg (V m c main_v3) (funext fun a => Fin.ext ?_)
  refine (Pipeline.Window.rect_emb_val ((cfgM m hO).win 4) t (ix3 0 0 q) a).trans ?_
  have e := congrFun (index4 m t) a
  match a with
  | ⟨0, _⟩ => exact (congrArg (· * 1 + 0) e).trans (by show expertNo m t * 1 + 0 = E.val; omega)
  | ⟨1, _⟩ => exact (congrArg (· * 1 + 0) e).trans rfl
  | ⟨2, _⟩ => exact (congrArg (· * 2048 + q.val) e).trans (by show 0 * 2048 + q.val = q.val; omega)

/-! ## The scratch buffers and an item's layer -/

/-- The expert of item `s`, as an index. -/
def expertOf (h : Wf m) (s : Fin 175) : Fin 32 := ⟨(argExpert m (ix1 s)).toNat, h.e_lt s⟩

variable {m} in
/-- An item that keeps the scratch has the expert of the one before. -/
theorem expert_kept (h : Wf m) (t : Fin grid0.N) (hn : ¬New m t) :
    ∃ k : t.val ≠ 0, expertOf m h (item ⟨t.val - 1, by have := t.isLt; omega⟩) = expertOf m h (item t) := by
  rw [new_iff_expert h t, not_or, not_not] at hn
  exact ⟨hn.1, Fin.ext (by show (argExpert m (ix1 (Cert.Items.prev (item t)))).toNat = (argExpert m (ix1 (item t))).toNat; rw [← hn.2])⟩

variable {m} in
/-- The first scratch after item `t`: its expert's first weights, split. -/
theorem held1_apply (h : Wf m) (hO : Ok m) (c : Dev nD) (k : Fin 2048) (q : Fin 1024) : ∀ (n : ℕ) (hn : n < grid0.N),
    held1 m hO c (n + 1) (ix2 k q) = m ((c : Thread nD τ).loc main_arg7) (ix4 0 (expertOf m h (item ⟨n, hn⟩)) k (joined q)) := by
  intro n
  induction n with
  | zero =>
    intro hn
    exact (congrFun (held1_new m hO c ⟨0, hn⟩ ((new_iff_expert h ⟨0, hn⟩).mpr (.inl rfl))) (ix2 k q)).trans
      ((gathered_apply _ _ (selects m hO c _) k q).trans (iblk1 m hO c _ _ _ (expertOf m h (item ⟨0, hn⟩)) rfl))
  | succ n ih =>
    intro hn
    by_cases hN : New m ⟨n + 1, hn⟩
    · exact (congrFun (held1_new m hO c ⟨n + 1, hn⟩ hN) (ix2 k q)).trans
        ((gathered_apply _ _ (selects m hO c _) k q).trans (iblk1 m hO c _ _ _ (expertOf m h (item ⟨n + 1, hn⟩)) rfl))
    · refine (congrFun (held1_kept m hO c ⟨n + 1, hn⟩ hN) (ix2 k q)).trans ((ih (by omega)).trans ?_)
      obtain ⟨_, e⟩ := expert_kept h ⟨n + 1, hn⟩ hN
      rw [← e]; rfl

variable {m} in
/-- The second scratch after item `t`: its expert's second weights. -/
theorem held2_apply (h : Wf m) (hO : Ok m) (c : Dev nD) (k : Fin 512) (q : Fin 2048) : ∀ (n : ℕ) (hn : n < grid0.N),
    held2 m hO c (n + 1) (ix2 k q) = m ((c : Thread nD τ).loc main_arg9) (ix4 0 (expertOf m h (item ⟨n, hn⟩)) k q) := by
  intro n
  induction n with
  | zero =>
    intro hn
    exact (congrFun (held2_new m hO c ⟨0, hn⟩ ((new_iff_expert h ⟨0, hn⟩).mpr (.inl rfl))) (ix2 k q)).trans
      ((rounded_apply _ k q).trans (iblk3 m hO c _ _ _ (expertOf m h (item ⟨0, hn⟩)) rfl))
  | succ n ih =>
    intro hn
    by_cases hN : New m ⟨n + 1, hn⟩
    · exact (congrFun (held2_new m hO c ⟨n + 1, hn⟩ hN) (ix2 k q)).trans
        ((rounded_apply _ k q).trans (iblk3 m hO c _ _ _ (expertOf m h (item ⟨n + 1, hn⟩)) rfl))
    · refine (congrFun (held2_kept m hO c ⟨n + 1, hn⟩ hN) (ix2 k q)).trans ((ih (by omega)).trans ?_)
      obtain ⟨_, e⟩ := expert_kept h ⟨n + 1, hn⟩ hN
      rw [← e]; rfl

/-- Expert `E`'s layer on row `R` of the argument, at column `d`. -/
def rowLayer (c : Dev nD) (R : Fin 36864) (E : Fin 32) (d : Fin 2048) : EReal :=
  expert (fun k => m ((c : Thread nD τ).loc main_arg6) (ix2 R k)) (fun k q => m ((c : Thread nD τ).loc main_arg7) (ix4 0 E k q))
    (fun q => m ((c : Thread nD τ).loc main_arg8) (ix2 E q)) (fun j d => m ((c : Thread nD τ).loc main_arg9) (ix4 0 E j d))
    (fun d => m ((c : Thread nD τ).loc main_arg10) (ix2 E d)) d

variable {m} in
/-- The layer of the item at point `t`, on row `r` of its tile. -/
theorem itemLayer_apply (h : Wf m) (hO : Ok m) (c : Dev nD) (t : Fin grid0.N) (r : Fin 256) (d : Fin 2048) (R : Fin 36864)
    (hR : R.val = tileNo m t * 256 + r.val) : itemLayer m hO c t (ix2 r d) = rowLayer m c R (expertOf m h (item t)) d := by
  unfold itemLayer rowLayer
  refine layer_apply _ _ _ _ _ _ _ _ _ _ r (fun k => iblk0 m hO c t r k R hR) (fun k q => ?_) (fun q => iblk2 m hO c t q _ rfl)
    (fun j d => held2_apply h hO c j d t.val t.isLt) (fun d => iblk4 m hO c t d _ rfl) d
  rw [held1_apply h hO c k (split q) t.val t.isLt, joined_split]

end Cert.KernelIdeal.Experts

end
-- ==== Proof.Values.lean ====
/- What the result's array holds after the run: at a row whose tile some item names, the sum of the parts of the items. -/
module

public import proofs.«01_k».proof.Proof.Tiles

@[expose] public section

set_option maxRecDepth 16384

noncomputable section

namespace Cert.KernelIdeal.Experts

open Cert.KernelIdeal Cert.KernelIdeal.Gen
open Idealize.ShloMosaic Idealize.ShloMosaic.Tactic Idealize.ShloMosaic.TcCoe
open Cert.Math

local notation "𝔻" => Ideal

variable (m : (ℓ : Loc nD τ sig) → Buf (Elt 𝔻) ℓ)

/-- Item `s` owns row `R`: the row is in its tile, within its bounds. -/
def Owns (s : Fin 175) (R : ℕ) : Prop :=
  (argTile m (ix1 s)).toNat = R / 256 ∧ Own (argLo m (ix1 s)) (argHi m (ix1 s)) (R % 256)

open Classical in
/-- Item `s`'s part of row `R`: its expert's layer if it owns the row. -/
def part (h : Wf m) (c : Dev nD) (R : Fin 36864) (d : Fin 2048) (s : Fin 175) : EReal :=
  if Owns m s R.val then rowLayer m c R (expertOf m h s) d else 0

variable {m} in
/-- Tiles do not decrease along the items. -/
theorem tile_le (h : Wf m) : ∀ (k : ℕ) (s : Fin 175) (hk : s.val + k < 175), (argTile m (ix1 s)).toNat ≤ (argTile m (ix1 ⟨s.val + k, hk⟩)).toNat := by
  intro k
  induction k with
  | zero => intro s hk; exact le_of_eq rfl
  | succ k ih =>
    intro s hk
    refine (ih s (by omega)).trans ?_
    exact h.tile_mono ⟨s.val + (k + 1), hk⟩ (by show s.val + (k + 1) ≠ 0; omega)

variable {m} in
theorem tile_le_of_le (h : Wf m) (s t : Fin 175) (hst : s.val ≤ t.val) : (argTile m (ix1 s)).toNat ≤ (argTile m (ix1 t)).toNat := by
  have := tile_le h (t.val - s.val) s (by have := t.isLt; omega)
  rwa [show (⟨s.val + (t.val - s.val), _⟩ : Fin 175) = t from Fin.ext (by show s.val + (t.val - s.val) = t.val; omega)] at this

/-- A sum over the items up to `t` is the sum over those before it and `t`'s term. -/
theorem sum_upto (f : Fin 175 → EReal) (t : Fin 175) :
    ∑ s ∈ Finset.univ.filter (fun s : Fin 175 => s.val ≤ t.val), f s = ∑ s ∈ Finset.univ.filter (fun s : Fin 175 => s.val < t.val), f s + f t := by
  rw [show Finset.univ.filter (fun s : Fin 175 => s.val ≤ t.val) = insert t (Finset.univ.filter (fun s : Fin 175 => s.val < t.val)) from by
    ext s; simp only [Finset.mem_filter, Finset.mem_univ, true_and, Finset.mem_insert, Fin.ext_iff]; omega,
    Finset.sum_insert (by simp), add_comm]

variable {m} in
open Classical in
/-- The block in flight after item `t`: the sum of the parts of the items so far. -/
theorem flying_apply (h : Wf m) (hO : Ok m) (c : Dev nD) (r : Fin 256) (d : Fin 2048) (R : Fin 36864) : ∀ (n : ℕ) (hn : n < grid0.N)
    (hR : R.val = tileNo m ⟨n, hn⟩ * 256 + r.val),
    flying m hO c (n + 1) (ix2 r d) = ∑ s ∈ Finset.univ.filter (fun s : Fin 175 => s.val ≤ n), part m h c R d s := by
  have hr := r.isLt
  have own : ∀ (t : Fin grid0.N), R.val = tileNo m t * 256 + r.val → (Owns m (item t) R.val ↔ Own (lo m t) (hi m t) r.val) := by
    intro t hR
    have e1 : R.val / 256 = tileNo m t := by omega
    have e2 : R.val % 256 = r.val := by omega
    unfold Owns
    rw [e1, e2, lo_word, hi_word]
    exact ⟨fun k => k.2, fun k => ⟨rfl, k⟩⟩
  have first : ∀ (t : Fin grid0.N), R.val = tileNo m t * 256 + r.val → First m t →
      flying m hO c (t.val + 1) (ix2 r d) = ∑ s ∈ Finset.univ.filter (fun s : Fin 175 => s.val ≤ t.val), part m h c R d s := by
    intro t hR hf
    rw [flying_first m hO c t (first_live h t hf) hf, opened_apply, sum_upto _ (item t), Finset.sum_eq_zero, zero_add]
    · unfold part
      rw [itemLayer_apply h hO c t r d R hR]
      exact if_congr (own t hR).symm rfl rfl
    · intro s hs
      have hst : s.val < t.val := (Finset.mem_filter.mp hs).2
      unfold part
      refine if_neg fun k => ?_
      have k1 := k.1
      rcases (first_iff_tile h t).mp hf with z | z
      · omega
      · have l1 := tile_le_of_le h s (Cert.Items.prev (item t)) (by show s.val ≤ t.val - 1; omega)
        have l2 := h.tile_mono (item t) (by show t.val ≠ 0; omega)
        refine z (BitVec.eq_of_toNat_eq ?_)
        have e1 : R.val / 256 = tileNo m t := by omega
        have e3 : tileNo m t = (argTile m (ix1 (item t))).toNat := rfl
        omega
  intro n
  induction n with
  | zero =>
    intro hn hR
    exact first ⟨0, hn⟩ hR ((first_iff_tile h ⟨0, hn⟩).mpr (.inl rfl))
  | succ n ih =>
    intro hn hR
    by_cases hf : First m ⟨n + 1, hn⟩
    · exact first ⟨n + 1, hn⟩ hR hf
    have hf' := hf
    rw [first_iff_tile h, not_or, not_not] at hf'
    have before := ih (by omega) (hR.trans (congrArg (fun w : BitVec 32 => w.toNat * 256 + r.val) hf'.2))
    have upto : ∑ s ∈ Finset.univ.filter (fun s : Fin 175 => s.val ≤ n + 1), part m h c R d s
        = ∑ s ∈ Finset.univ.filter (fun s : Fin 175 => s.val ≤ n), part m h c R d s + part m h c R d (item ⟨n + 1, hn⟩) := by
      refine (sum_upto _ (item ⟨n + 1, hn⟩)).trans (congrArg (· + _) (Finset.sum_congr ?_ fun _ _ => rfl))
      ext s; simp only [Finset.mem_filter, Finset.mem_univ, true_and]; omega
    rw [upto, ← before]
    by_cases hl : Live m ⟨n + 1, hn⟩
    · rw [show flying m hO c (n + 1 + 1) = _ from flying_later m hO c ⟨n + 1, hn⟩ hl hf, added_apply]
      refine congrArg (_ + ·) ?_
      unfold part
      rw [itemLayer_apply h hO c ⟨n + 1, hn⟩ r d R hR]
      exact if_congr (own _ hR).symm rfl rfl
    · rw [show flying m hO c (n + 1 + 1) = flying m hO c (n + 1) from flying_idle m hO c ⟨n + 1, hn⟩ hl]
      unfold part
      rw [if_neg, add_zero]
      rw [own _ hR]
      rintro ⟨a, b⟩
      refine hl ?_
      show isLive (lo m _) (hi m _)
      rw [isLive_iff]
      unfold IntOp.cmpi
      rw [StableHlo.Predicate.ofBool_eq_one_iff]
      simp only [BitVec.slt_iff_toInt_lt]
      omega

/-! ## The array -/

variable {m} in
/-- The result's block goes back after the last item of its tile. -/
theorem flush_iff (hO : Ok m) (t : Fin grid0.N) : ((cfgM m hO).win 6).flush t = true ↔ t.val + 1 = grid0.N ∨ ∃ k : t.val + 1 < grid0.N, tileOf m ⟨t.val + 1, k⟩ ≠ tileOf m t := by
  rw [Pipeline.Window.flush_eq_flushOf]
  unfold Pipeline.Window.flushOf
  rw [show ((cfgM m hO).win 6).isOut = true from rfl, Bool.true_and, Bool.or_eq_true, decide_eq_true_iff, decide_eq_true_iff]
  rfl

variable {m} in
/-- Two write-backs are of different tiles. -/
theorem flush_ne (h : Wf m) (hO : Ok m) (t t' : Fin grid0.N) (ht : ((cfgM m hO).win 6).flush t = true) (hlt : t.val < t'.val) : tileOf m t ≠ tileOf m t' := by
  have hN : grid0.N = 175 := N_0
  have b := t'.isLt
  rcases (flush_iff hO t).mp ht with z | ⟨k, z⟩
  · omega
  · intro e
    rw [index6, index6] at z e
    have e0 := congrFun e 0
    have l1 := h.tile_mono (item ⟨t.val + 1, k⟩) (by show t.val + 1 ≠ 0; omega)
    have l2 := tile_le_of_le h (item ⟨t.val + 1, k⟩) (item t') (by show t.val + 1 ≤ t'.val; omega)
    have e0' : (argTile m (ix1 (item t))).toNat = (argTile m (ix1 (item t'))).toNat := e0
    have l1' : (argTile m (ix1 (item t))).toNat ≤ (argTile m (ix1 (item ⟨t.val + 1, k⟩))).toNat := l1
    refine z ?_
    rw [show (argTile m (ix1 (item ⟨t.val + 1, k⟩))).toNat = (argTile m (ix1 (item t))).toNat from by omega]

/-- Element `(r, d)` of the result's block at point `t` is row `tile * 256 + r` of the array. -/
theorem out_place (hO : Ok m) (t : Fin grid0.N) (A : Vec 𝔻 S36864x2048 .f32) (r : Fin 256) (d : Fin 2048) (R : Fin 36864) (hR : R.val = tileNo m t * 256 + r.val) :
    (((cfgM m hO).win 6).blk t).view.read (Elt 𝔻) A (ix2 r d) = A (ix2 R d) := by
  refine congrArg A (funext fun a => Fin.ext ?_)
  refine (Pipeline.Window.rect_emb_val ((cfgM m hO).win 6) t (ix2 r d) a).trans ?_
  have e := congrFun (index6 m t) a
  match a with
  | ⟨0, _⟩ => exact (congrArg (· * 256 + r.val) e).trans hR.symm
  | ⟨1, _⟩ => exact (congrArg (· * 2048 + d.val) e).trans (by show 0 * 2048 + d.val = d.val; omega)

variable {m} in
/-- After the run, a row whose tile some item names holds the sum of the items' parts. -/
theorem out_apply (h : Wf m) (hO : Ok m) (c : Dev nD) (R : Fin 36864) (d : Fin 2048) (hs : ∃ s : Fin 175, (argTile m (ix1 s)).toNat = R.val / 256) :
    (dats m hO 0 c).arrAt 6 (cfgM m hO).N (ix2 R d) = ∑ s : Fin 175, part m h c R d s := by
  have hN : grid0.N = 175 := N_0
  classical
  -- the last item of the row's tile
  obtain ⟨s, hs, hmax⟩ : ∃ s : Fin 175, (argTile m (ix1 s)).toNat = R.val / 256 ∧ ∀ s' : Fin 175, (argTile m (ix1 s')).toNat = R.val / 256 → s'.val ≤ s.val := by
    obtain ⟨s₀, h₀⟩ := hs
    have ne : (Finset.univ.filter fun s : Fin 175 => (argTile m (ix1 s)).toNat = R.val / 256).Nonempty := ⟨s₀, by simp [h₀]⟩
    refine ⟨Finset.max' _ ne, (Finset.mem_filter.mp (Finset.max'_mem _ ne)).2, fun s' k => ?_⟩
    exact Finset.le_max' _ s' (by simp [k])
  have hsN : s.val < grid0.N := by have := s.isLt; omega
  have fl : ((cfgM m hO).win 6).flush ⟨s.val, hsN⟩ = true := by
    rw [flush_iff]
    by_cases k : s.val + 1 = grid0.N
    · exact .inl k
    · refine .inr ⟨by show s.val + 1 < grid0.N; have := s.isLt; omega, fun e => ?_⟩
      rw [index6, index6] at e
      have e0 : (argTile m (ix1 ⟨s.val + 1, by have := s.isLt; omega⟩)).toNat = (argTile m (ix1 s)).toNat := congrFun e 0
      have := hmax ⟨s.val + 1, by have := s.isLt; omega⟩ (e0.trans hs)
      have : s.val + 1 ≤ s.val := this
      omega
  have disj : ∀ t t' : Fin (cfgM m hO).N, ((cfgM m hO).win 6).flush t = true → ((cfgM m hO).win 6).flush t' = true → t ≠ t' →
      Disjoint (((cfgM m hO).win 6).blk t).view.set (((cfgM m hO).win 6).blk t').view.set := by
    intro t t' ht ht' hne
    refine ((cfgM m hO).win 6).disjoint_blk ?_
    rcases Nat.lt_or_gt_of_ne (fun e => hne (Fin.ext e)) with k | k
    · exact flush_ne h hO t t' ht k
    · exact (flush_ne h hO t' t ht' k).symm
  have hr : R.val % 256 < 256 := Nat.mod_lt _ (by norm_num)
  have hR : R.val = tileNo m ⟨s.val, hsN⟩ * 256 + R.val % 256 := by
    have : tileNo m ⟨s.val, hsN⟩ = R.val / 256 := hs
    omega
  have read := congrFun ((dats m hO 0 c).read_blk_arrAt_eq_flushed 6 disj (cfgM m hO).N ⟨s.val, hsN⟩ hsN fl) (ix2 ⟨R.val % 256, hr⟩ d)
  refine (out_place m hO ⟨s.val, hsN⟩ _ ⟨R.val % 256, hr⟩ d R hR).symm.trans (read.trans ?_)
  refine Eq.trans (b := flying m hO c (s.val + 1) (ix2 ⟨R.val % 256, hr⟩ d)) ?_ ?_
  · exact congrFun (after6 m hO c ⟨s.val, hsN⟩) _
  rw [flying_apply h hO c ⟨R.val % 256, hr⟩ d R s.val hsN hR]
  refine Finset.sum_subset (Finset.filter_subset _ _) fun s' _ hs' => ?_
  unfold part
  refine if_neg fun k => hs' ?_
  exact Finset.mem_filter.mpr ⟨Finset.mem_univ _, hmax s' k.1⟩

end Cert.KernelIdeal.Experts

end
-- ==== Proof.Mixture.lean ====
/- Sums of parts that indicators select, and the signed words that say which rows an item owns. -/
module

public import Idealize.ShloMosaic.Lib.Pointwise
public import Idealize.ShloMosaic.Lib.StableHlo.Predicate

@[expose] public section

noncomputable section

namespace Cert.Mixture

open Idealize.ShloMosaic Idealize.ShloMosaic.StableHlo

/-- Over sums of nonnegative terms, multiplication distributes. -/
theorem sum_mul_of_nonneg {ι : Type} (S : Finset ι) (a : ι → EReal) (ha : ∀ i, 0 ≤ a i) (y : EReal) : (∑ i ∈ S, a i) * y = ∑ i ∈ S, a i * y := by
  classical
  induction S using Finset.induction_on with
  | empty => simp
  | insert i S hi ih =>
    rw [Finset.sum_insert hi, Finset.sum_insert hi, EReal.right_distrib_of_nonneg (ha i) (Finset.sum_nonneg fun j _ => ha j), ih]

/-- Combining the experts' values with the counts of owning items, expert by expert, sums the values of the owning items' experts. -/
theorem mix {n k : ℕ} (own : Fin n → Prop) [DecidablePred own] (E : Fin n → Fin k) (x : Fin k → EReal) :
    ∑ e : Fin k, (∑ s : Fin n, (if own s then (1 : EReal) else 0) * (if E s = e then 1 else 0)) * x e = ∑ s : Fin n, if own s then x (E s) else 0 := by
  have one : ∀ (p : Prop) [Decidable p], (0 : EReal) ≤ if p then 1 else 0 := fun p _ => by split <;> simp
  simp only [sum_mul_of_nonneg _ _ (fun s => mul_nonneg (one _) (one _))]
  rw [Finset.sum_comm]
  refine Finset.sum_congr rfl fun s _ => ?_
  rw [Finset.sum_eq_single (E s)]
  · by_cases h : own s <;> simp [h]
  · intro e _ he
    rw [if_neg (Ne.symm he), mul_zero, zero_mul]
  · intro h; exact absurd (Finset.mem_univ _) h

/-- A row's offset from a tile's first row, as a signed word, is the offset. -/
theorem offset (R : ℕ) (hR : R < 36864) (w : BitVec 32) (hw : w.toNat < 144) :
    (IntOp.subi (BitVec.ofNat 32 R) (IntOp.muli 256#32 w)).toInt = (R : ℤ) - 256 * (w.toNat : ℤ) := by
  show (BitVec.ofNat 32 R - 256#32 * w).toInt = _
  have e : (256#32 * w).toNat = 256 * w.toNat := by
    rw [BitVec.toNat_mul]; show 256 * w.toNat % 2 ^ 32 = _; omega
  rw [BitVec.toInt_eq_toNat_cond, BitVec.toNat_sub, BitVec.toNat_ofNat, e]
  split <;> omega

/-- The offset's word is between zero and 256 exactly on the tile's rows. -/
theorem tile_iff (R : ℕ) (hR : R < 36864) (w : BitVec 32) (hw : w.toNat < 144) :
    (IntOp.cmpi .sge (IntOp.subi (BitVec.ofNat 32 R) (IntOp.muli 256#32 w)) 0#32 = 1#1
      ∧ IntOp.cmpi .slt (IntOp.subi (BitVec.ofNat 32 R) (IntOp.muli 256#32 w)) 256#32 = 1#1) ↔ w.toNat = R / 256 := by
  simp only [IntOp.cmpi, Predicate.ofBool_eq_one_iff, BitVec.sle_iff_toInt_le, BitVec.slt_iff_toInt_lt, offset R hR w hw]
  rw [show (0#32 : BitVec 32).toInt = 0 from by decide, show (256#32 : BitVec 32).toInt = 256 from by decide]
  omega

/-- The conjunction of two bits is one exactly when both are. -/
theorem andi_iff (a b : BitVec 1) : IntOp.andi a b = 1#1 ↔ a = 1#1 ∧ b = 1#1 := by
  revert a b; decide

/-- The bit the reference computes: the item owns the row. -/
theorem owned_iff (R : ℕ) (hR : R < 36864) (w lo hi : BitVec 32) (hw : w.toNat < 144) :
    IntOp.andi (IntOp.andi (IntOp.andi (IntOp.cmpi .sge (IntOp.subi (BitVec.ofNat 32 R) (IntOp.muli 256#32 w)) lo)
      (IntOp.cmpi .slt (IntOp.subi (BitVec.ofNat 32 R) (IntOp.muli 256#32 w)) hi))
      (IntOp.cmpi .sge (IntOp.subi (BitVec.ofNat 32 R) (IntOp.muli 256#32 w)) 0#32))
      (IntOp.cmpi .slt (IntOp.subi (BitVec.ofNat 32 R) (IntOp.muli 256#32 w)) 256#32) = 1#1
    ↔ w.toNat = R / 256 ∧ lo.toInt ≤ ((R % 256 : ℕ) : ℤ) ∧ ((R % 256 : ℕ) : ℤ) < hi.toInt := by
  rw [andi_iff, andi_iff, andi_iff, and_assoc, tile_iff R hR w hw]
  simp only [IntOp.cmpi, Predicate.ofBool_eq_one_iff, BitVec.sle_iff_toInt_le, BitVec.slt_iff_toInt_lt, offset R hR w hw]
  constructor
  · rintro ⟨⟨a, b⟩, t⟩; refine ⟨t, ?_, ?_⟩ <;> omega
  · rintro ⟨t, a, b⟩; refine ⟨⟨?_, ?_⟩, t⟩ <;> omega

/-- A bit as a number is the indicator of its being one. -/
theorem indicator (b : BitVec 1) (p : Prop) [Decidable p] (h : b = 1#1 ↔ p) : (FloatOps.uitofp .f32 b : Ideal .f32) = ((if p then 1 else 0 : EReal)) := by
  have two : b = 1#1 ∨ b = 0#1 := by clear h; revert b; decide
  rcases two with rfl | rfl
  · rw [if_pos (h.1 rfl)]
    show (((1#1 : BitVec 1).toNat : ℝ) : EReal) = 1
    simp
  · rw [if_neg (fun q => absurd (h.2 q) (by decide))]
    show (((0#1 : BitVec 1).toNat : ℝ) : EReal) = 0
    simp

end Cert.Mixture

end
-- ==== Proof.Reference.lean ====
/- What the reference computes at a row: the sum, over the items that own the row, of their experts' layers. -/
module

public import proofs.«01_k».proof.Proof.Gen.ReferenceIdeal.Read
public import proofs.«01_k».proof.Proof.Math
public import proofs.«01_k».proof.Proof.Mixture
public import Idealize.ShloMosaic.Lib.IdealHost

@[expose] public section

set_option maxRecDepth 16384

noncomputable section

namespace Cert.ReferenceIdeal.Experts

open Cert.ReferenceIdeal Cert.ReferenceIdeal.Gen Cert.ReferenceIdeal.Read
open Idealize.ShloMosaic Cert.Math Cert.Mixture

variable (x0 x1 x2 x3 : IVec S175 32) (x6 : FVec Ideal S36864x2048 .f32) (x7 : FVec Ideal S4x32x2048x1024 .f32) (x8 : FVec Ideal S32x1024 .f32)
  (x9 : FVec Ideal S4x32x512x2048 .f32) (x10 : FVec Ideal S32x2048 .f32)

/-- The first weights of expert `e` are those of the first layer's. -/
theorem w1_apply (e : Fin 32) (k : Fin 2048) (c : Fin 1024) : val_main_v31 (F := Ideal) x7 (ix3 e k c) = x7 (ix4 0 e k c) := by
  rw [val_main_v31_apply, val_main_v30_apply]
  refine congrArg x7 (funext fun a => Fin.ext ?_)
  have := e.isLt; have := k.isLt; have := c.isLt
  match a with
  | ⟨0, _⟩ => rfl
  | ⟨1, _⟩ => show ((e.val * 2048 + k.val) * 1024 + c.val) / 2097152 % 32 = e.val; omega
  | ⟨2, _⟩ => show ((e.val * 2048 + k.val) * 1024 + c.val) / 1024 % 2048 = k.val; omega
  | ⟨3, _⟩ => show ((e.val * 2048 + k.val) * 1024 + c.val) % 1024 = c.val; omega

/-- The second weights of expert `e` are those of the first layer's. -/
theorem w2_apply (e : Fin 32) (j : Fin 512) (d : Fin 2048) : val_main_v54 (F := Ideal) x9 (ix3 e j d) = x9 (ix4 0 e j d) := by
  rw [val_main_v54_apply, val_main_v53_apply]
  refine congrArg x9 (funext fun a => Fin.ext ?_)
  have := e.isLt; have := j.isLt; have := d.isLt
  match a with
  | ⟨0, _⟩ => rfl
  | ⟨1, _⟩ => show ((e.val * 512 + j.val) * 2048 + d.val) / 1048576 % 32 = e.val; omega
  | ⟨2, _⟩ => show ((e.val * 512 + j.val) * 2048 + d.val) / 2048 % 512 = j.val; omega
  | ⟨3, _⟩ => show ((e.val * 512 + j.val) * 2048 + d.val) % 2048 = d.val; omega

/-- The first layer of expert `e` on row `R`. -/
theorem first_apply (R : Fin 36864) (e : Fin 32) (c : Fin 1024) : val_main_v35 (F := Ideal) x6 x7 x8 (ix3 R e c)
    = pre (fun k => x6 (ix2 R k)) (fun k c => x7 (ix4 0 e k c)) (fun c => x8 (ix2 e c)) c := by
  rw [val_main_v35_apply, val_main_v32_apply, val_main_v34_apply, val_main_v33_apply]
  refine congrArg₂ (· + ·) (Finset.sum_congr rfl fun k _ => congrArg₂ (· * ·) (congrArg x6 ?_) ((congrArg _ ?_).trans (w1_apply x7 e k c))) (congrArg x8 ?_)
  · exact funext fun a => by match a with | ⟨0, _⟩ => rfl | ⟨1, _⟩ => rfl
  · exact funext fun a => by match a with | ⟨0, _⟩ => rfl | ⟨1, _⟩ => rfl | ⟨2, _⟩ => rfl
  · exact funext fun a => by match a with | ⟨0, _⟩ => rfl | ⟨1, _⟩ => rfl

/-- The gates are the even columns of the first layer. -/
theorem gate_apply (R : Fin 36864) (e : Fin 32) (j : Fin 512) : val_main_v36 (F := Ideal) x6 x7 x8 (ix3 R e j) = val_main_v35 (F := Ideal) x6 x7 x8 (ix3 R e (even j)) := by
  unfold val_main_v36
  generalize val_main_v35 (F := Ideal) x6 x7 x8 = y
  refine congrArg y (funext fun a => Fin.ext ?_)
  match a with
  | ⟨0, _⟩ => show 0 + 1 * R.val = R.val; omega
  | ⟨1, _⟩ => show 0 + 1 * e.val = e.val; omega
  | ⟨2, _⟩ => show 0 + 2 * j.val = 2 * j.val; omega

/-- The linear parts are the odd columns of the first layer. -/
theorem linear_apply (R : Fin 36864) (e : Fin 32) (j : Fin 512) : val_main_v37 (F := Ideal) x6 x7 x8 (ix3 R e j) = val_main_v35 (F := Ideal) x6 x7 x8 (ix3 R e (odd j)) := by
  unfold val_main_v37
  generalize val_main_v35 (F := Ideal) x6 x7 x8 = y
  refine congrArg y (funext fun a => Fin.ext ?_)
  match a with
  | ⟨0, _⟩ => show 0 + 1 * R.val = R.val; omega
  | ⟨1, _⟩ => show 0 + 1 * e.val = e.val; omega
  | ⟨2, _⟩ => show 1 + 2 * j.val = 2 * j.val + 1; omega

/-- The hidden units are the clamped gated units of the first layer's columns. -/
theorem hidden_apply (R : Fin 36864) (e : Fin 32) (j : Fin 512) : val_main_v52 (F := Ideal) x6 x7 x8 (ix3 R e j)
    = act (val_main_v35 (F := Ideal) x6 x7 x8 (ix3 R e (even j))) (val_main_v35 (F := Ideal) x6 x7 x8 (ix3 R e (odd j))) := by
  simp only [val_main_v52_apply, val_main_v51_apply, val_main_v50_apply, val_main_cst_7_apply, val_main_v49_apply, val_main_v48_apply, val_main_v47_apply,
    val_main_cst_6_apply, val_main_v46_apply, val_main_v45_apply, val_main_cst_5_apply, val_main_v44_apply, val_main_v43_apply, val_main_v42_apply,
    val_main_v41_apply, val_main_cst_4_apply, val_main_v40_apply, val_main_call0_v4_apply, val_main_call0_v3_apply, val_main_cst_3_apply,
    val_main_call0_v2_apply, val_main_call0_v1_apply, val_main_call0_v0_apply, val_main_cst_2_apply, val_main_v39_apply, val_main_v38_apply,
    val_main_cst_apply, gate_apply, linear_apply]
  generalize val_main_v35 (F := Ideal) x6 x7 x8 (ix3 R e (even j)) = g
  generalize val_main_v35 (F := Ideal) x6 x7 x8 (ix3 R e (odd j)) = l
  show min g (Ideal.ofBits FTy.f32 0x40E00000#32) * Ideal.div (Ideal.ofBits FTy.f32 0x3F800000#32) (Ideal.ofBits FTy.f32 0x3F800000#32 + Ideal.exp (-(Ideal.ofBits FTy.f32 0x3FD9DB23#32 * min g (Ideal.ofBits FTy.f32 0x40E00000#32))))
    * (min (Ideal.ofBits FTy.f32 0x40E00000#32) (max (Ideal.ofBits FTy.f32 0xC0E00000#32) l) + Ideal.ofBits FTy.f32 0x3F800000#32) = _
  rw [Ideal.ofBits_one_f32]
  rfl

/-- Expert `e`'s layer on row `R`. -/
theorem layer_apply (R : Fin 36864) (e : Fin 32) (d : Fin 2048) : val_main_v59 (F := Ideal) x6 x7 x8 x9 x10 (ix3 R e d)
    = expert (fun k => x6 (ix2 R k)) (fun k c => x7 (ix4 0 e k c)) (fun c => x8 (ix2 e c)) (fun j d => x9 (ix4 0 e j d)) (fun d => x10 (ix2 e d)) d := by
  rw [val_main_v59_apply, val_main_v56_apply, val_main_v55_apply, val_main_v58_apply, val_main_v57_apply]
  refine congrArg₂ (· + ·) (Finset.sum_congr rfl fun j _ => ?_) (congrArg x10 ?_)
  · rw [mul_comm]
    refine congrArg₂ (· * ·) ((congrArg _ ?_).trans ((hidden_apply x6 x7 x8 R e j).trans ?_)) ((congrArg _ ?_).trans (w2_apply x9 e j d))
    · exact funext fun a => by match a with | ⟨0, _⟩ => rfl | ⟨1, _⟩ => rfl | ⟨2, _⟩ => rfl
    · rw [first_apply, first_apply]
    · exact funext fun a => by match a with | ⟨0, _⟩ => rfl | ⟨1, _⟩ => rfl | ⟨2, _⟩ => rfl
  · exact funext fun a => by match a with | ⟨0, _⟩ => rfl | ⟨1, _⟩ => rfl

open Classical in
/-- Which rows item `s` owns. -/
theorem owned_apply (R : Fin 36864) (s : Fin 175) (hw : (x0 (ix1 s)).toNat < 144) : val_main_v28 (F := Ideal) x0 x2 x3 (ix2 R s)
    = (if (x0 (ix1 s)).toNat = R.val / 256 ∧ (x2 (ix1 s)).toInt ≤ ((R.val % 256 : ℕ) : ℤ) ∧ ((R.val % 256 : ℕ) : ℤ) < (x3 (ix1 s)).toInt then (1 : EReal) else 0) := by
  have i1 : ∀ i : S175.Idx, i 0 = s → i = ix1 s := fun i h => funext fun a => by match a with | ⟨0, _⟩ => exact h
  rw [val_main_v28_apply]
  refine indicator _ _ ?_
  rw [← owned_iff R.val R.isLt (x0 (ix1 s)) (x2 (ix1 s)) (x3 (ix1 s)) hw]
  simp only [val_main_v27_apply, val_main_v26_apply, val_main_v25_apply, val_main_c_1_apply, val_main_v24_apply, val_main_v23_apply, val_main_v22_apply,
    val_main_c_0_apply, val_main_v21_apply, val_main_v20_apply, val_main_v19_apply, val_main_v18_apply, val_main_v17_apply, val_main_v16_apply,
    val_main_v15_apply, val_main_v14_apply, val_main_v13_apply, val_main_v11_apply, val_main_v10_apply, val_main_c_apply, val_main_v9_apply,
    val_main_v12_apply, val_main_v8_apply, val_main_v7_apply]
  rw [i1 (idx_main_v9 _) rfl, i1 (idx_main_v15 _) rfl, i1 (idx_main_v18 _) rfl]
  exact Iff.rfl

open Classical in
/-- Whether item `s`'s expert is `e`. -/
theorem onehot_apply (s : Fin 175) (e E : Fin 32) (hE : (x1 (ix1 s)).toNat = E.val) : val_main_v6 (F := Ideal) x1 (ix2 s e) = (if E = e then (1 : EReal) else 0) := by
  have i1 : ∀ i : S175.Idx, i 0 = s → i = ix1 s := fun i h => funext fun a => by match a with | ⟨0, _⟩ => exact h
  rw [val_main_v6_apply]
  refine indicator _ _ ?_
  simp only [val_main_v5_apply, val_main_v4_apply, val_main_v3_apply, val_main_v2_apply, val_main_v1_apply, val_main_v0_apply]
  rw [i1 (idx_main_v0 _) rfl]
  show IntOp.cmpi .eq (x1 (ix1 s)) (BitVec.ofNat 32 e.val) = 1#1 ↔ E = e
  simp only [IntOp.cmpi, StableHlo.Predicate.ofBool_eq_one_iff, beq_iff_eq]
  have := e.isLt
  constructor
  · intro h
    refine Fin.ext ?_
    rw [← hE, h, BitVec.toNat_ofNat]; omega
  · rintro rfl
    refine BitVec.eq_of_toNat_eq ?_
    rw [hE, BitVec.toNat_ofNat]; omega

open Classical in
/-- The reference at `(R, d)`: the sum over the items that own row `R` of their experts' layers on it. -/
theorem result_apply (R : Fin 36864) (d : Fin 2048) (E : Fin 175 → Fin 32) (hE : ∀ s, (x1 (ix1 s)).toNat = (E s).val) (hw : ∀ s : Fin 175, (x0 (ix1 s)).toNat < 144) :
    val_main_v60 (F := Ideal) x0 x1 x2 x3 x6 x7 x8 x9 x10 (ix2 R d)
    = ∑ s : Fin 175, if (x0 (ix1 s)).toNat = R.val / 256 ∧ (x2 (ix1 s)).toInt ≤ ((R.val % 256 : ℕ) : ℤ) ∧ ((R.val % 256 : ℕ) : ℤ) < (x3 (ix1 s)).toInt then
        expert (fun k => x6 (ix2 R k)) (fun k c => x7 (ix4 0 (E s) k c)) (fun c => x8 (ix2 (E s) c)) (fun j d => x9 (ix4 0 (E s) j d)) (fun d => x10 (ix2 (E s) d)) d
      else 0 := by
  rw [val_main_v60_apply, ← mix _ E (fun e => expert (fun k => x6 (ix2 R k)) (fun k c => x7 (ix4 0 e k c)) (fun c => x8 (ix2 e c)) (fun j d => x9 (ix4 0 e j d)) (fun d => x10 (ix2 e d)) d)]
  refine Finset.sum_congr rfl fun e _ => congrArg₂ (· * ·) ?_ ((congrArg _ ?_).trans (layer_apply x6 x7 x8 x9 x10 R e d))
  · rw [val_main_v29_apply]
    refine Finset.sum_congr rfl fun s _ => congrArg₂ (· * ·) ((congrArg _ ?_).trans (owned_apply x0 x2 x3 R s (hw s))) ((congrArg _ ?_).trans (onehot_apply x1 s e (E s) (hE s)))
    · exact funext fun a => by match a with | ⟨0, _⟩ => rfl | ⟨1, _⟩ => rfl
    · exact funext fun a => by match a with | ⟨0, _⟩ => rfl | ⟨1, _⟩ => rfl
  · exact funext fun a => by match a with | ⟨0, _⟩ => rfl | ⟨1, _⟩ => rfl | ⟨2, _⟩ => rfl

end Cert.ReferenceIdeal.Experts

end
-- ==== Proof.Mask.lean ====
/- What the mask says of a row: some item's tile holds it. -/
module

public import proofs.«01_k».proof.Defs
public import proofs.«01_k».proof.Proof.Gen.On_rows_visited
public import proofs.«01_k».proof.Proof.Mixture
public import Idealize.ShloMosaic.Lib.Routing.OpsOrder
public import Idealize.ShloMosaic.Lib.Tactic.CleanTypes

@[expose] public section

set_option maxRecDepth 16384

noncomputable section

namespace Cert.Mask

open Idealize.ShloMosaic Cert.On_rows_visited Cert.On_rows_visited.Gen Cert.Mixture

variable (tile e lo hi first newe : IVec S175 32) (xs : FVec Ideal S36864x2048 .f32) (w1 : FVec Ideal S4x32x2048x1024 .f32) (b1 : FVec Ideal S32x1024 .f32)
  (w2 : FVec Ideal S4x32x512x2048 .f32) (b2 : FVec Ideal S32x2048 .f32)

/-- Where the mask is one, the row lies in some item's tile. -/
theorem visited (ht : ∀ s : Fin 175, (tile (ix1 s)).toNat < 144) (R : Fin 36864) (d : Fin 2048)
    (h : fn (F := Ideal) tile e lo hi first newe xs w1 b1 w2 b2 (ix2 R d) = 1#1) : ∃ s : Fin 175, (tile (ix1 s)).toNat = R.val / 256 := by
  unfold fn at h
  pointwise at h
  rw [Routing.fold_ori] at h
  obtain ⟨s, _, hs⟩ := h
  exact ⟨s, (tile_iff R.val R.isLt _ (ht s)).1 ((andi_iff _ _).1 hs)⟩

end Cert.Mask

end
-- ==== Proof.Norm.lean ====
/- The modulated norm of one row, and its product with a column of weights: what the projections into the mixers compute. -/
module

public import Idealize.ShloMosaic.Lib.Pointwise

@[expose] public section

noncomputable section

namespace Cert.Norm

open Idealize.ShloMosaic

/-- Entry `k` of the row `x`, divided by the root of the row's mean square, times its gain, scaled and shifted. -/
def modulated (x g shift scale : Fin 2048 → EReal) (k : Fin 2048) : EReal :=
  x k * Ideal.rsqrt (Ideal.div (∑ j : Fin 2048, x j * x j) (Ideal.ofBits FTy.f32 0x45000000#32) + Ideal.ofBits FTy.f32 0x358637BD#32) * g k * (1 + scale k) + shift k

/-- The modulated row times a column of weights. -/
def projected (x g shift scale w : Fin 2048 → EReal) : EReal := ∑ k : Fin 2048, modulated x g shift scale k * w k

/-- Two products over equal rows, gains, modulations and columns are equal. -/
theorem projected_congr {x x' g g' a a' b b' w w' : Fin 2048 → EReal} (hx : ∀ k, x k = x' k) (hg : ∀ k, g k = g' k) (ha : ∀ k, a k = a' k)
    (hb : ∀ k, b k = b' k) (hw : ∀ k, w k = w' k) : projected x g a b w = projected x' g' a' b' w' := by
  rw [funext hx, funext hg, funext ha, funext hb, funext hw]

end Cert.Norm

end
-- ==== Proof.InProj2.lean ====
/- The projection into the odd layers' mixer: what the kernel leaves in the result, and what the reference computes there. -/
module

public import proofs.«01_k».proof.Proof.Gen.Kernel2Ideal.Value
public import proofs.«01_k».proof.Proof.Gen.Reference2Ideal.Read
public import proofs.«01_k».proof.Proof.Norm
public import Idealize.ShloMosaic.Lib.Pointwise
public import Idealize.ShloMosaic.Lib.MatmulPlain
public import Idealize.ShloMosaic.Lib.Pipeline.ValueKit
public import Idealize.ShloMosaic.Lib.IdealHost

@[expose] public section

set_option maxRecDepth 16384

noncomputable section

namespace Cert.Kernel2Ideal.Project

open Idealize.ShloMosaic Idealize.ShloMosaic.TcCoe Idealize.SL.Sem
open Idealize.ShloMosaic.Pipeline (Dat)
open Cert.Kernel2Ideal Cert.Kernel2Ideal.Gen Cert.Norm

variable (m : (ℓ : Loc nD τ sig) → Buf (Elt Ideal) ℓ)

/-- Where each window's block lies at grid point `t`, in blocks. -/
theorem idx : ∀ t : Fin cfg0.N, win0_0.index t = ![t.val / 9, t.val % 9, 0] ∧ win0_1.index t = ![t.val / 9, t.val % 9 / 8, 0, 0]
    ∧ win0_2.index t = ![0, 0] ∧ win0_3.index t = ![0, 0] ∧ win0_4.index t = ![t.val / 9, t.val % 9, 0] ∧ t.val < 36 :=
  (by decide +kernel : ∀ t : Fin grid0.N, _)

/-- One block's rows times the weights, at an index. -/
theorem block_apply (x : Vec Ideal S1x256x2048 .f32) (g : Vec Ideal S1x2048 .f32) (shift scale : Vec Ideal S1x1x1x2048 .f32) (w : Vec Ideal S2048x6272 .bf16)
    (r : Fin 256) (q : Fin 6272) :
    k0_pay1 (F := Ideal) x g shift scale w (ix3 0 r q)
      = projected (fun k => x (ix3 0 r k)) (fun k => g (ix2 0 k)) (fun k => shift (ix4 0 0 0 k)) (fun k => scale (ix4 0 0 0 k)) (fun k => w (ix2 k q)) := by
  pointwise [k0_pay1]
  rfl

/-- The projection at an index of the result, from the argument arrays. -/
def out (x : FVec Ideal S4x2304x2048 .f32) (mods : FVec Ideal S4x2x8x2048 .f32) (g : FVec Ideal S2048 .f32) (w : FVec Ideal S2048x6272 .f32) (i : S4x2304x6272.Idx) : EReal :=
  projected (fun k => x (ix3 (i 0) (i 1) k)) (fun k => g (ix1 k)) (fun k => mods (ix4 (i 0) ⟨(i 1).val / 2048, by have : (i 1).val < 2304 := (i 1).isLt; omega⟩ 0 k))
    (fun k => mods (ix4 (i 0) ⟨(i 1).val / 2048, by have : (i 1).val < 2304 := (i 1).isLt; omega⟩ 1 k)) (fun k => w (ix2 k (i 2)))

/-- Where element `y` of the result's block at point `t` lies in the array. -/
theorem place (t : Fin cfg0.N) (y : S1x256x6272.Idx) :
    (((((cfg0.win 4).blk t).view.emb y) 0 : ℕ) = t.val / 9) ∧ (((((cfg0.win 4).blk t).view.emb y) 1 : ℕ) = t.val % 9 * 256 + (y 1).val)
      ∧ (((((cfg0.win 4).blk t).view.emb y) 2 : ℕ) = (y 2).val) := by
  have y0 : (y 0).val < 1 := (y 0).isLt
  refine ⟨?_, ?_, ?_⟩ <;> blk_simp [idx t] <;> (try omega)

/-- The gain the call is handed. -/
theorem V_gain (c : Dev nD) (k : Fin 2048) : V m c main_v1 (ix2 0 k) = m ((c : Thread nD τ).loc main_arg2) (ix1 k) := by
  entry_read
  pointwise

/-- The weights the call is handed. -/
theorem V_weights (c : Dev nD) (k : Fin 2048) (q : Fin 6272) : V m c main_v0 (ix2 k q) = m ((c : Thread nD τ).loc main_arg3) (ix2 k q) := by
  entry_read
  rfl

/-- The kernel's result array after the run: the projection at every index. -/
theorem final (c : Dev nD) : (dats m 0 c).arrAt 4 cfg0.N
    = out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨p0, p1, p2⟩ := place t y
  generalize ((cfg0.win 4).blk t).view.emb y = i at p0 p1 p2 ⊢
  change S4x2304x6272.Idx at i
  idx_vars i
  frame_out
  idx_vars y
  obtain rfl : y0 = 0 := Subsingleton.elim _ _
  refine (block_apply _ _ _ _ _ y1 y2).trans ?_
  unfold out
  refine projected_congr (fun k => ?_) (fun k => ?_) (fun k => ?_) (fun k => ?_) (fun k => ?_)
  · blk_ext [iblk, V, idx t]
  · refine Eq.trans (b := V m c main_v1 (ix2 0 k)) ?_ (V_gain m c k)
    refine congrArg (V m c main_v1) (funext fun a => Fin.ext ?_)
    refine (Pipeline.Window.rect_emb_val (cfg0.win 2) t (ix2 0 k) a).trans ?_
    have e := congrFun (idx t).2.2.1 a
    match a with
    | ⟨0, _⟩ => exact (congrArg (· * 1 + 0) e).trans rfl
    | ⟨1, _⟩ => exact (congrArg (· * 2048 + k.val) e).trans (by show 0 * 2048 + k.val = k.val; omega)
  · pointwise; blk_ext [iblk, V, idx t]
  · pointwise; blk_ext [iblk, V, idx t]
  · obtain rfl : y2 = i2 := Fin.ext (by omega)
    refine Eq.trans (b := V m c main_v0 (ix2 k y2)) ?_ (V_weights m c k y2)
    refine congrArg (V m c main_v0) (funext fun a => Fin.ext ?_)
    refine (Pipeline.Window.rect_emb_val (cfg0.win 3) t (ix2 k y2) a).trans ?_
    have e := congrFun (idx t).2.2.2.1 a
    match a with
    | ⟨0, _⟩ => exact (congrArg (· * 2048 + k.val) e).trans (by show 0 * 2048 + k.val = k.val; omega)
    | ⟨1, _⟩ => exact (congrArg (· * 6272 + y2.val) e).trans (by show 0 * 6272 + y2.val = y2.val; omega)

end Cert.Kernel2Ideal.Project

namespace Cert.Reference2Ideal.Project

open Cert.Reference2Ideal Cert.Reference2Ideal.Gen Cert.Reference2Ideal.Read
open Idealize.ShloMosaic Cert.Norm

variable (x0 : FVec Ideal S4x2304x2048 .f32) (x1 : FVec Ideal S4x2x8x2048 .f32) (x2 : FVec Ideal S2048 .f32) (x3 : FVec Ideal S2048x6272 .f32)

/-- A modulated latent row of the reference. -/
theorem latent_apply (b : Fin 4) (r k : Fin 2048) : val_main_v29 (F := Ideal) x0 x1 x2 (ix3 b r k)
    = modulated (fun k => x0 (ix3 b ⟨r.val, by omega⟩ k)) (fun k => x2 (ix1 k)) (fun k => x1 (ix4 b 0 0 k)) (fun k => x1 (ix4 b 0 1 k)) k := by
  simp only [val_main_v29_apply, val_main_v28_apply, val_main_v27_apply, val_main_v26_apply, val_main_v25_apply, val_main_v24_apply, val_main_cst_2_apply,
    val_main_v23_apply, val_main_v22_apply, val_main_v21_apply, val_main_v20_apply, val_main_v19_apply, val_main_v18_apply, val_main_v17_apply,
    val_main_v16_apply, val_main_cst_1_apply, val_main_v15_apply, val_main_v14_apply, val_main_cst_0_apply, val_main_v13_apply, val_main_v12_apply,
    val_main_cst_apply, val_main_v11_apply, val_main_v10_apply, val_main_v9_apply, val_main_v8_apply, val_main_v7_apply, val_main_v6_apply,
    val_main_v5_apply, val_main_v4_apply, val_main_v1_apply, val_main_v0_apply]
  have e4 : ∀ j : Fin 2048, idx_main_v4 (ix3 b r j) = ix3 b ⟨r.val, by omega⟩ j := fun j => funext fun a => Fin.ext (by
    match a with
    | ⟨0, _⟩ => rfl
    | ⟨1, _⟩ => rfl
    | ⟨2, _⟩ => rfl)
  have e12 : ∀ j : Fin 2048, idx_main_v12 (idx_main_v13 (idx_main_v19 (ix3 b r k))) j = ix3 b r j := fun j => funext fun a => Fin.ext (by
    match a with
    | ⟨0, _⟩ => rfl
    | ⟨1, _⟩ => rfl
    | ⟨2, _⟩ => rfl)
  have e21 : idx_main_v21 (idx_main_v22 (ix3 b r k)) = ix1 k := funext fun a => Fin.ext (by
    match a with
    | ⟨0, _⟩ => rfl)
  have hb := b.isLt
  have hk := k.isLt
  have e8 : idx_main_v0 (idx_main_v1 (idx_main_v8 (idx_main_v9 (idx_main_v10 (idx_main_v26 (ix3 b r k)))))) = ix4 b 0 1 k := funext fun a => Fin.ext (by
    match a with
    | ⟨0, _⟩ => show _ = b.val; simp; try omega
    | ⟨1, _⟩ => show _ = 0; simp
    | ⟨2, _⟩ => show _ = 1; simp; try omega
    | ⟨3, _⟩ => show _ = k.val; simp; try omega)
  have e5 : idx_main_v0 (idx_main_v1 (idx_main_v5 (idx_main_v6 (idx_main_v7 (idx_main_v28 (ix3 b r k)))))) = ix4 b 0 0 k := funext fun a => Fin.ext (by
    match a with
    | ⟨0, _⟩ => show _ = b.val; simp; try omega
    | ⟨1, _⟩ => show _ = 0; simp
    | ⟨2, _⟩ => show _ = 0; simp; try omega
    | ⟨3, _⟩ => show _ = k.val; simp; try omega)
  simp only [e12, e4, e21, e8, e5]
  generalize hz : FloatOps.ofBits (F := Ideal) FTy.f32 0#32 = z
  obtain rfl : z = (0 : EReal) := hz.symm.trans (by simp [FloatOps.ofBits, Ideal.ofBits, Ideal.ieee])
  rw [zero_add]
  show x0 (ix3 b _ k) * Ideal.rsqrt (Ideal.div (∑ j : Fin 2048, x0 (ix3 b _ j) * x0 (ix3 b _ j)) (Ideal.ofBits FTy.f32 0x45000000#32) + Ideal.ofBits FTy.f32 0x358637BD#32)
    * x2 (ix1 k) * (Ideal.ofBits FTy.f32 0x3F800000#32 + x1 (ix4 b 0 1 k)) + x1 (ix4 b 0 0 k) = _
  rw [Ideal.ofBits_one_f32]
  rfl

/-- A modulated context row of the reference. -/
theorem context_apply (b : Fin 4) (r : Fin 256) (k : Fin 2048) : val_main_v55 (F := Ideal) x0 x1 x2 (ix3 b r k)
    = modulated (fun k => x0 (ix3 b ⟨2048 + r.val, by omega⟩ k)) (fun k => x2 (ix1 k)) (fun k => x1 (ix4 b 1 0 k)) (fun k => x1 (ix4 b 1 1 k)) k := by
  simp only [val_main_v55_apply, val_main_v54_apply, val_main_v53_apply, val_main_v52_apply, val_main_v51_apply, val_main_v50_apply, val_main_cst_6_apply,
    val_main_v49_apply, val_main_v48_apply, val_main_v47_apply, val_main_v46_apply, val_main_v45_apply, val_main_v44_apply, val_main_v43_apply,
    val_main_v42_apply, val_main_cst_5_apply, val_main_v41_apply, val_main_v40_apply, val_main_cst_4_apply, val_main_v39_apply, val_main_v38_apply,
    val_main_cst_3_apply, val_main_v37_apply, val_main_v36_apply, val_main_v35_apply, val_main_v34_apply, val_main_v33_apply, val_main_v32_apply,
    val_main_v31_apply, val_main_v30_apply, val_main_v3_apply, val_main_v2_apply]
  have e30 : ∀ j : Fin 2048, idx_main_v30 (ix3 b r j) = ix3 b ⟨2048 + r.val, by omega⟩ j := fun j => funext fun a => Fin.ext (by
    match a with
    | ⟨0, _⟩ => rfl
    | ⟨1, _⟩ => rfl
    | ⟨2, _⟩ => rfl)
  have e38 : ∀ j : Fin 2048, idx_main_v38 (idx_main_v39 (idx_main_v45 (ix3 b r k))) j = ix3 b r j := fun j => funext fun a => Fin.ext (by
    match a with
    | ⟨0, _⟩ => rfl
    | ⟨1, _⟩ => rfl
    | ⟨2, _⟩ => rfl)
  have e47 : idx_main_v47 (idx_main_v48 (ix3 b r k)) = ix1 k := funext fun a => Fin.ext (by
    match a with
    | ⟨0, _⟩ => rfl)
  have hb := b.isLt
  have hk := k.isLt
  have e34 : idx_main_v2 (idx_main_v3 (idx_main_v34 (idx_main_v35 (idx_main_v36 (idx_main_v52 (ix3 b r k)))))) = ix4 b 1 1 k := funext fun a => Fin.ext (by
    match a with
    | ⟨0, _⟩ => show _ = b.val; simp; try omega
    | ⟨1, _⟩ => show _ = 1; simp
    | ⟨2, _⟩ => show _ = 1; simp; try omega
    | ⟨3, _⟩ => show _ = k.val; simp; try omega)
  have e31 : idx_main_v2 (idx_main_v3 (idx_main_v31 (idx_main_v32 (idx_main_v33 (idx_main_v54 (ix3 b r k)))))) = ix4 b 1 0 k := funext fun a => Fin.ext (by
    match a with
    | ⟨0, _⟩ => show _ = b.val; simp; try omega
    | ⟨1, _⟩ => show _ = 1; simp
    | ⟨2, _⟩ => show _ = 0; simp; try omega
    | ⟨3, _⟩ => show _ = k.val; simp; try omega)
  simp only [e38, e30, e47, e34, e31]
  generalize hz : FloatOps.ofBits (F := Ideal) FTy.f32 0#32 = z
  obtain rfl : z = (0 : EReal) := hz.symm.trans (by simp [FloatOps.ofBits, Ideal.ofBits, Ideal.ieee])
  rw [zero_add]
  show x0 (ix3 b _ k) * Ideal.rsqrt (Ideal.div (∑ j : Fin 2048, x0 (ix3 b _ j) * x0 (ix3 b _ j)) (Ideal.ofBits FTy.f32 0x45000000#32) + Ideal.ofBits FTy.f32 0x358637BD#32)
    * x2 (ix1 k) * (Ideal.ofBits FTy.f32 0x3F800000#32 + x1 (ix4 b 1 1 k)) + x1 (ix4 b 1 0 k) = _
  rw [Ideal.ofBits_one_f32]
  rfl

/-- The two parts side by side, at an index. -/
theorem glue (S : FVec Ideal S4x2048x6272 .f32) (T : FVec Ideal S4x256x6272 .f32) (b : Fin 4) (r : Fin 2304) (q : Fin 6272) :
    concatenate S4x2304x6272 1 [⟨S4x2048x6272, S⟩, ⟨S4x256x6272, T⟩] concatenates_S4x2048x6272_S4x256x6272_S4x2304x6272_d1 (ix3 b r q)
      = if h : r.val < 2048 then S (ix3 b ⟨r.val, h⟩ q) else T (ix3 b ⟨r.val - 2048, by omega⟩ q) := by
  pointwise

/-- The reference's result is the kernel's. -/
theorem result : val_main_v58 (F := Ideal) x0 x1 x2 x3 = Cert.Kernel2Ideal.Project.out x0 x1 x2 x3 := by
  funext i
  obtain ⟨b, r, q, rfl⟩ : ∃ (b : Fin 4) (r : Fin 2304) (q : Fin 6272), i = ix3 b r q := ⟨i 0, i 1, i 2, eq_ix3 i⟩
  unfold val_main_v58 Cert.Kernel2Ideal.Project.out
  rw [glue]
  by_cases h : r.val < 2048
  · rw [dif_pos h, val_main_v56_apply]
    have e : (⟨r.val / 2048, by omega⟩ : Fin 2) = 0 := Fin.ext (by show r.val / 2048 = 0; omega)
    refine Finset.sum_congr rfl fun k _ => congrArg₂ (· * ·) ((congrArg _ ?_).trans ((latent_apply x0 x1 x2 b ⟨r.val, h⟩ k).trans ?_)) (congrArg x3 ?_)
    · exact funext fun a => by match a with | ⟨0, _⟩ => rfl | ⟨1, _⟩ => rfl | ⟨2, _⟩ => rfl
    · simp only [ix3_0, ix3_1, ix3_2, e]
    · exact funext fun a => by match a with | ⟨0, _⟩ => rfl | ⟨1, _⟩ => rfl
  · rw [dif_neg h, val_main_v57_apply]
    have e : (⟨r.val / 2048, by omega⟩ : Fin 2) = 1 := Fin.ext (by show r.val / 2048 = 1; omega)
    have er : (⟨2048 + (r.val - 2048), by omega⟩ : Fin 2304) = r := Fin.ext (by show 2048 + (r.val - 2048) = r.val; omega)
    refine Finset.sum_congr rfl fun k _ => congrArg₂ (· * ·) ((congrArg _ ?_).trans ((context_apply x0 x1 x2 b ⟨r.val - 2048, by omega⟩ k).trans ?_)) (congrArg x3 ?_)
    · exact funext fun a => by match a with | ⟨0, _⟩ => rfl | ⟨1, _⟩ => rfl | ⟨2, _⟩ => rfl
    · simp only [ix3_0, ix3_1, ix3_2, e, er]
    · exact funext fun a => by match a with | ⟨0, _⟩ => rfl | ⟨1, _⟩ => rfl

end Cert.Reference2Ideal.Project

end
-- ==== Proof.InProj3.lean ====
/- The projection into the even layers' mixer: what the kernel leaves in the result, and what the reference computes there. -/
module

public import proofs.«01_k».proof.Proof.Gen.Kernel3Ideal.Value
public import proofs.«01_k».proof.Proof.Gen.Reference3Ideal.Read
public import proofs.«01_k».proof.Proof.InProj2
public import Idealize.ShloMosaic.Lib.Pointwise
public import Idealize.ShloMosaic.Lib.MatmulPlain
public import Idealize.ShloMosaic.Lib.Pipeline.ValueKit
public import Idealize.ShloMosaic.Lib.IdealHost

@[expose] public section

set_option maxRecDepth 16384

noncomputable section

namespace Cert.Kernel3Ideal.Project

open Idealize.ShloMosaic Idealize.ShloMosaic.TcCoe Idealize.SL.Sem
open Idealize.ShloMosaic.Pipeline (Dat)
open Cert.Kernel3Ideal Cert.Kernel3Ideal.Gen Cert.Norm

variable (m : (ℓ : Loc nD τ sig) → Buf (Elt Ideal) ℓ)

/-- Where each window's block lies at grid point `t`, in blocks. -/
theorem idx : ∀ t : Fin cfg0.N, win0_0.index t = ![t.val / 9, t.val % 9, 0] ∧ win0_1.index t = ![t.val / 9, t.val % 9 / 8, 0, 0]
    ∧ win0_2.index t = ![0, 0] ∧ win0_3.index t = ![0, 0] ∧ win0_4.index t = ![t.val / 9, t.val % 9, 0] ∧ t.val < 36 :=
  (by decide +kernel : ∀ t : Fin grid0.N, _)

/-- One block's rows times the weights, at an index. -/
theorem block_apply (x : Vec Ideal S1x256x2048 .f32) (g : Vec Ideal S1x2048 .f32) (shift scale : Vec Ideal S1x1x1x2048 .f32) (w : Vec Ideal S2048x4224 .bf16)
    (r : Fin 256) (q : Fin 4224) :
    k0_pay1 (F := Ideal) x g shift scale w (ix3 0 r q)
      = projected (fun k => x (ix3 0 r k)) (fun k => g (ix2 0 k)) (fun k => shift (ix4 0 0 0 k)) (fun k => scale (ix4 0 0 0 k)) (fun k => w (ix2 k q)) := by
  pointwise [k0_pay1]
  rfl

/-- The projection at an index of the result, from the argument arrays. -/
def out (x : FVec Ideal S4x2304x2048 .f32) (mods : FVec Ideal S4x2x8x2048 .f32) (g : FVec Ideal S2048 .f32) (w : FVec Ideal S2048x4224 .f32) (i : S4x2304x4224.Idx) : EReal :=
  projected (fun k => x (ix3 (i 0) (i 1) k)) (fun k => g (ix1 k)) (fun k => mods (ix4 (i 0) ⟨(i 1).val / 2048, by have : (i 1).val < 2304 := (i 1).isLt; omega⟩ 0 k))
    (fun k => mods (ix4 (i 0) ⟨(i 1).val / 2048, by have : (i 1).val < 2304 := (i 1).isLt; omega⟩ 1 k)) (fun k => w (ix2 k (i 2)))

/-- Where element `y` of the result's block at point `t` lies in the array. -/
theorem place (t : Fin cfg0.N) (y : S1x256x4224.Idx) :
    (((((cfg0.win 4).blk t).view.emb y) 0 : ℕ) = t.val / 9) ∧ (((((cfg0.win 4).blk t).view.emb y) 1 : ℕ) = t.val % 9 * 256 + (y 1).val)
      ∧ (((((cfg0.win 4).blk t).view.emb y) 2 : ℕ) = (y 2).val) := by
  have y0 : (y 0).val < 1 := (y 0).isLt
  refine ⟨?_, ?_, ?_⟩ <;> blk_simp [idx t] <;> (try omega)

/-- The gain the call is handed. -/
theorem V_gain (c : Dev nD) (k : Fin 2048) : V m c main_v1 (ix2 0 k) = m ((c : Thread nD τ).loc main_arg2) (ix1 k) := by
  entry_read
  pointwise

/-- The weights the call is handed. -/
theorem V_weights (c : Dev nD) (k : Fin 2048) (q : Fin 4224) : V m c main_v0 (ix2 k q) = m ((c : Thread nD τ).loc main_arg3) (ix2 k q) := by
  entry_read
  rfl

/-- The kernel's result array after the run: the projection at every index. -/
theorem final (c : Dev nD) : (dats m 0 c).arrAt 4 cfg0.N
    = out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨p0, p1, p2⟩ := place t y
  generalize ((cfg0.win 4).blk t).view.emb y = i at p0 p1 p2 ⊢
  change S4x2304x4224.Idx at i
  idx_vars i
  frame_out
  idx_vars y
  obtain rfl : y0 = 0 := Subsingleton.elim _ _
  refine (block_apply _ _ _ _ _ y1 y2).trans ?_
  unfold out
  refine projected_congr (fun k => ?_) (fun k => ?_) (fun k => ?_) (fun k => ?_) (fun k => ?_)
  · blk_ext [iblk, V, idx t]
  · refine Eq.trans (b := V m c main_v1 (ix2 0 k)) ?_ (V_gain m c k)
    refine congrArg (V m c main_v1) (funext fun a => Fin.ext ?_)
    refine (Pipeline.Window.rect_emb_val (cfg0.win 2) t (ix2 0 k) a).trans ?_
    have e := congrFun (idx t).2.2.1 a
    match a with
    | ⟨0, _⟩ => exact (congrArg (· * 1 + 0) e).trans rfl
    | ⟨1, _⟩ => exact (congrArg (· * 2048 + k.val) e).trans (by show 0 * 2048 + k.val = k.val; omega)
  · pointwise; blk_ext [iblk, V, idx t]
  · pointwise; blk_ext [iblk, V, idx t]
  · obtain rfl : y2 = i2 := Fin.ext (by omega)
    refine Eq.trans (b := V m c main_v0 (ix2 k y2)) ?_ (V_weights m c k y2)
    refine congrArg (V m c main_v0) (funext fun a => Fin.ext ?_)
    refine (Pipeline.Window.rect_emb_val (cfg0.win 3) t (ix2 k y2) a).trans ?_
    have e := congrFun (idx t).2.2.2.1 a
    match a with
    | ⟨0, _⟩ => exact (congrArg (· * 2048 + k.val) e).trans (by show 0 * 2048 + k.val = k.val; omega)
    | ⟨1, _⟩ => exact (congrArg (· * 4224 + y2.val) e).trans (by show 0 * 4224 + y2.val = y2.val; omega)

end Cert.Kernel3Ideal.Project

namespace Cert.Reference3Ideal.Project

open Cert.Reference3Ideal Cert.Reference3Ideal.Gen Cert.Reference3Ideal.Read
open Idealize.ShloMosaic Cert.Norm

variable (x0 : FVec Ideal S4x2304x2048 .f32) (x1 : FVec Ideal S4x2x8x2048 .f32) (x2 : FVec Ideal S2048 .f32) (x3 : FVec Ideal S2048x4224 .f32)

/-- A modulated latent row of the reference. -/
theorem latent_apply (b : Fin 4) (r k : Fin 2048) : val_main_v29 (F := Ideal) x0 x1 x2 (ix3 b r k)
    = modulated (fun k => x0 (ix3 b ⟨r.val, by omega⟩ k)) (fun k => x2 (ix1 k)) (fun k => x1 (ix4 b 0 0 k)) (fun k => x1 (ix4 b 0 1 k)) k :=
  Cert.Reference2Ideal.Project.latent_apply x0 x1 x2 b r k

/-- A modulated context row of the reference. -/
theorem context_apply (b : Fin 4) (r : Fin 256) (k : Fin 2048) : val_main_v55 (F := Ideal) x0 x1 x2 (ix3 b r k)
    = modulated (fun k => x0 (ix3 b ⟨2048 + r.val, by omega⟩ k)) (fun k => x2 (ix1 k)) (fun k => x1 (ix4 b 1 0 k)) (fun k => x1 (ix4 b 1 1 k)) k :=
  Cert.Reference2Ideal.Project.context_apply x0 x1 x2 b r k

/-- The two parts side by side, at an index. -/
theorem glue (S : FVec Ideal S4x2048x4224 .f32) (T : FVec Ideal S4x256x4224 .f32) (b : Fin 4) (r : Fin 2304) (q : Fin 4224) :
    concatenate S4x2304x4224 1 [⟨S4x2048x4224, S⟩, ⟨S4x256x4224, T⟩] concatenates_S4x2048x4224_S4x256x4224_S4x2304x4224_d1 (ix3 b r q)
      = if h : r.val < 2048 then S (ix3 b ⟨r.val, h⟩ q) else T (ix3 b ⟨r.val - 2048, by omega⟩ q) := by
  pointwise

/-- The reference's result is the kernel's. -/
theorem result : val_main_v58 (F := Ideal) x0 x1 x2 x3 = Cert.Kernel3Ideal.Project.out x0 x1 x2 x3 := by
  funext i
  obtain ⟨b, r, q, rfl⟩ : ∃ (b : Fin 4) (r : Fin 2304) (q : Fin 4224), i = ix3 b r q := ⟨i 0, i 1, i 2, eq_ix3 i⟩
  unfold val_main_v58 Cert.Kernel3Ideal.Project.out
  rw [glue]
  by_cases h : r.val < 2048
  · rw [dif_pos h, val_main_v56_apply]
    have e : (⟨r.val / 2048, by omega⟩ : Fin 2) = 0 := Fin.ext (by show r.val / 2048 = 0; omega)
    refine Finset.sum_congr rfl fun k _ => congrArg₂ (· * ·) ((congrArg _ ?_).trans ((latent_apply x0 x1 x2 b ⟨r.val, h⟩ k).trans ?_)) (congrArg x3 ?_)
    · exact funext fun a => by match a with | ⟨0, _⟩ => rfl | ⟨1, _⟩ => rfl | ⟨2, _⟩ => rfl
    · simp only [ix3_0, ix3_1, ix3_2, e]
    · exact funext fun a => by match a with | ⟨0, _⟩ => rfl | ⟨1, _⟩ => rfl
  · rw [dif_neg h, val_main_v57_apply]
    have e : (⟨r.val / 2048, by omega⟩ : Fin 2) = 1 := Fin.ext (by show r.val / 2048 = 1; omega)
    have er : (⟨2048 + (r.val - 2048), by omega⟩ : Fin 2304) = r := Fin.ext (by show 2048 + (r.val - 2048) = r.val; omega)
    refine Finset.sum_congr rfl fun k _ => congrArg₂ (· * ·) ((congrArg _ ?_).trans ((context_apply x0 x1 x2 b ⟨r.val - 2048, by omega⟩ k).trans ?_)) (congrArg x3 ?_)
    · exact funext fun a => by match a with | ⟨0, _⟩ => rfl | ⟨1, _⟩ => rfl | ⟨2, _⟩ => rfl
    · simp only [ix3_0, ix3_1, ix3_2, e, er]
    · exact funext fun a => by match a with | ⟨0, _⟩ => rfl | ⟨1, _⟩ => rfl

end Cert.Reference3Ideal.Project

end
-- ==== Proof.Items4.lean ====
/- What the precondition says of the item tables: the tiles rise, the experts are in range, the two flags mark a
   first item of a tile and of an expert, and a tile's first item owns a row. -/
module

public import proofs.«01_k».proof.Defs
public import proofs.«01_k».proof.Proof.Gen.Pre_well_formed_last
public import Idealize.ShloMosaic.Lib.Pointwise
public import Idealize.ShloMosaic.Lib.StableHlo.Predicate

@[expose] public section

set_option maxRecDepth 16384

noncomputable section

namespace Cert.Items4

open Idealize.ShloMosaic Idealize.ShloMosaic.StableHlo Cert.Pre_well_formed_last Cert.Pre_well_formed_last.Gen

/-- The item before. -/
abbrev prev (n : Fin 159) : Fin 159 := ⟨n.val - 1, by have := n.isLt; omega⟩

/-- Well-formed item tables, item by item. -/
structure WellFormed (tile e lo hi first newe : IVec S159 32) : Prop where
  tile_lt : ∀ n : Fin 159, (tile (ix1 n)).toNat < 128
  tile_mono : ∀ n : Fin 159, n.val ≠ 0 → (tile (ix1 (prev n))).toNat ≤ (tile (ix1 n)).toNat
  e_lt : ∀ n : Fin 159, (e (ix1 n)).toNat < 32
  first_eq : ∀ n : Fin 159, first (ix1 n) = if n.val = 0 ∨ tile (ix1 n) ≠ tile (ix1 (prev n)) then 1#32 else 0#32
  new_eq : ∀ n : Fin 159, newe (ix1 n) = if n.val = 0 ∨ e (ix1 n) ≠ e (ix1 (prev n)) then 1#32 else 0#32
  owns : ∀ n : Fin 159, first (ix1 n) = 1#32 → IntOp.cmpi .sgt (hi (ix1 n)) (lo (ix1 n)) = 1#1

/-- A comparison whose bit is one holds. -/
theorem of_bit {p : Prop} {hp : Decidable p} (h : BitVec.ofBool (decide p) = 1#1) : p := by
  by_contra hn
  rw [decide_eq_false hn] at h
  exact absurd h (by decide)

/-- Both bits of a conjunction that is one are one. -/
theorem both {a b : BitVec 1} (h : IntOp.andi a b = 1#1) : a = 1#1 ∧ b = 1#1 := by
  revert a b; decide

/-- A signed word at least zero and below a small bound is that small as a natural number. -/
theorem small (w : BitVec 32) (k : ℕ) (hk : k < 2 ^ 31) (h0 : IntOp.cmpi .sge w 0#32 = 1#1) (h1 : IntOp.cmpi .slt w (BitVec.ofNat 32 k) = 1#1) : w.toNat < k := by
  simp only [IntOp.cmpi, Predicate.ofBool_eq_one_iff, BitVec.sle_iff_toInt_le, BitVec.slt_iff_toInt_lt] at h0 h1
  have e1 : (BitVec.ofNat 32 k).toInt = k := by
    rw [BitVec.toInt_eq_toNat_of_lt (by rw [BitVec.toNat_ofNat]; omega), BitVec.toNat_ofNat]; omega
  have e0 : (0#32 : BitVec 32).toInt = 0 := by decide
  rw [e1] at h1; rw [e0] at h0
  rw [BitVec.toInt_eq_toNat_cond] at h0 h1
  split at h0 <;> omega

/-- Signed order of small words is the order of naturals. -/
theorem le_of_sge (a b : BitVec 32) (ha : a.toNat < 2 ^ 31) (hb : b.toNat < 2 ^ 31) (h : IntOp.cmpi .sge a b = 1#1) : b.toNat ≤ a.toNat := by
  simp only [IntOp.cmpi, Predicate.ofBool_eq_one_iff, BitVec.sle_iff_toInt_le] at h
  rw [BitVec.toInt_eq_toNat_of_lt (by omega), BitVec.toInt_eq_toNat_of_lt (by omega)] at h
  omega

/-- A flag equal to the widened bit of an inequality is one where it holds and zero elsewhere. -/
theorem flag (f a b : BitVec 32) (h : IntOp.cmpi .eq f (BitVec.setWidth 32 (IntOp.cmpi .ne a b)) = 1#1) : f = if a ≠ b then 1#32 else 0#32 := by
  simp only [IntOp.cmpi, Predicate.ofBool_eq_one_iff, beq_iff_eq] at h
  rw [h]
  by_cases k : a = b
  · subst k; simp
  · rw [if_pos k, show (a != b) = true from by simpa using k]; rfl

variable {F : FTy → Type} [FloatOps F]
variable (tile e lo hi first newe : IVec S159 32) (xs : FVec F S32768x2048 .f32) (w1 : FVec F S4x32x2048x1024 .f32) (b1 : FVec F S32x1024 .f32) (w2 : FVec F S4x32x512x2048 .f32) (b2 : FVec F S32x2048 .f32)

/-- The precondition's five arrays of ones say the tables are well formed. -/
theorem wellFormed
    (h1 : (fn (F := F) tile e lo hi first newe xs w1 b1 w2 b2).1 = fun _ => 1#1)
    (h2 : (fn (F := F) tile e lo hi first newe xs w1 b1 w2 b2).2.1 = fun _ => 1#1)
    (h3 : (fn (F := F) tile e lo hi first newe xs w1 b1 w2 b2).2.2.1 = fun _ => 1#1)
    (h4 : (fn (F := F) tile e lo hi first newe xs w1 b1 w2 b2).2.2.2.1 = fun _ => 1#1)
    (h5 : (fn (F := F) tile e lo hi first newe xs w1 b1 w2 b2).2.2.2.2 = fun _ => 1#1) : WellFormed tile e lo hi first newe := by
  have t1 : ∀ n : Fin 159, (tile (ix1 n)).toNat < 128 := fun n => by
    have q := congrFun h1 (ix1 n)
    unfold fn fn_part1 at q
    pointwise at q
    exact small _ 128 (by norm_num) (both (both q).1).1 (both (both q).1).2
  have e1 : ∀ n : Fin 159, (e (ix1 n)).toNat < 32 := fun n => by
    have q := congrFun h2 (ix1 n)
    unfold fn fn_part1 at q
    pointwise at q
    exact small _ 32 (by norm_num) (both q).1 (both q).2
  refine ⟨t1, fun n hn => ?_, e1, fun n => ?_, fun n => ?_, fun n hf => ?_⟩
  · have q := congrFun h1 (ix1 n)
    unfold fn fn_part1 at q
    pointwise at q
    have q2 := (both q).2
    rw [dif_neg (show ¬ n.val < 1 by omega)] at q2
    exact le_of_sge _ _ (lt_trans (t1 n) (by norm_num)) (lt_trans (t1 (prev n)) (by norm_num)) q2
  · have q := congrFun h3 (ix1 n)
    unfold fn fn_part1 at q
    pointwise at q
    rw [flag _ _ _ q]
    by_cases hn : n.val < 1
    · rw [dif_pos hn, if_pos (show n.val = 0 ∨ tile (ix1 n) ≠ tile (ix1 (prev n)) from .inl (by omega)), if_pos]
      intro k
      have := t1 n
      rw [k] at this
      exact absurd this (by decide)
    · rw [dif_neg hn]
      by_cases k : tile (ix1 n) = tile (ix1 (prev n))
      · rw [if_neg (fun z => z k), if_neg (by rintro (z | z); exacts [hn (by omega), z k])]
      · rw [if_pos k, if_pos (.inr k)]
  · have q := congrFun h4 (ix1 n)
    unfold fn fn_part1 at q
    pointwise at q
    rw [flag _ _ _ q]
    by_cases hn : n.val < 1
    · rw [dif_pos hn, if_pos (show n.val = 0 ∨ e (ix1 n) ≠ e (ix1 (prev n)) from .inl (by omega)), if_pos]
      intro k
      have := e1 n
      rw [k] at this
      exact absurd this (by decide)
    · rw [dif_neg hn]
      by_cases k : e (ix1 n) = e (ix1 (prev n))
      · rw [if_neg (fun z => z k), if_neg (by rintro (z | z); exacts [hn (by omega), z k])]
      · rw [if_pos k, if_pos (.inr k)]
  · have q := congrFun h5 (ix1 n)
    unfold fn fn_part1 at q
    pointwise at q
    rw [hf] at q
    revert q
    generalize IntOp.cmpi .sgt (hi (ix1 n)) (lo (ix1 n)) = b
    revert b; decide

end Cert.Items4
end
-- ==== Proof.RunIdeal4.lean ====
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel4Ideal.Experts

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one item computes from the blocks it is handed -/

/-- The first weights as the scratch holds them: the four strips of 256 columns, each multiplied by the selection matrix. -/
def gathered (w : Vec F S1x1x2048x1024 .f32) (p : Vec F S256x256 .bf16) : Vec F S2048x1024 .bf16 :=
  View.canon
    [⟨Rect.unit (s := S2048x1024) ![0, 768] S2048x256.size inb_S2048x1024_S2048x256_0_768,
        k0_pay1 (View.ld w (Rect.unit (s := S1x1x2048x1024) ![0, 0, 0, 768] S1x1x2048x256.size inb_S1x1x2048x1024_S1x1x2048x256_0_0_0_768))
          (View.ld p (Rect.unit (s := S256x256) ![0, 0] S256x256.size inb_S256x256_S256x256_0_0))⟩,
     ⟨Rect.unit (s := S2048x1024) ![0, 512] S2048x256.size inb_S2048x1024_S2048x256_0_512,
        k0_pay7 (View.ld w (Rect.unit (s := S1x1x2048x1024) ![0, 0, 0, 512] S1x1x2048x256.size inb_S1x1x2048x1024_S1x1x2048x256_0_0_0_512))
          (View.ld p (Rect.unit (s := S256x256) ![0, 0] S256x256.size inb_S256x256_S256x256_0_0))⟩,
     ⟨Rect.unit (s := S2048x1024) ![0, 256] S2048x256.size inb_S2048x1024_S2048x256_0_256,
        k0_pay6 (View.ld w (Rect.unit (s := S1x1x2048x1024) ![0, 0, 0, 256] S1x1x2048x256.size inb_S1x1x2048x1024_S1x1x2048x256_0_0_0_256))
          (View.ld p (Rect.unit (s := S256x256) ![0, 0] S256x256.size inb_S256x256_S256x256_0_0))⟩,
     ⟨Rect.unit (s := S2048x1024) ![0, 0] S2048x256.size inb_S2048x1024_S2048x256_0_0,
        k0_pay5 (View.ld w (Rect.unit (s := S1x1x2048x1024) ![0, 0, 0, 0] S1x1x2048x256.size inb_S1x1x2048x1024_S1x1x2048x256_0_0_0_0))
          (View.ld p (Rect.unit (s := S256x256) ![0, 0] S256x256.size inb_S256x256_S256x256_0_0))⟩]

/-- The second weights as the scratch holds them: the block itself, rounded. -/
def rounded (w : Vec F S1x1x512x2048 .f32) : Vec F S512x2048 .bf16 :=
  View.canon
    [⟨Rect.unit (s := S512x2048) ![0, 0] S512x2048.size inb_S512x2048_S512x2048_0_0,
        k0_pay2 (View.ld w (Rect.unit (s := S1x1x512x2048) ![0, 0, 0, 0] S1x1x512x2048.size inb_S1x1x512x2048_S1x1x512x2048_0_0_0_0))⟩]

/-- A whole block read through the rectangle the body reads it through. -/
abbrev whX (x : Vec F S256x2048 .f32) : Vec F S256x2048 .f32 := View.ld x (Rect.unit (s := S256x2048) ![0, 0] S256x2048.size inb_S256x2048_S256x2048_0_0)
abbrev whW (x : Vec F S2048x1024 .bf16) : Vec F S2048x1024 .bf16 := View.ld x (Rect.unit (s := S2048x1024) ![0, 0] S2048x1024.size inb_S2048x1024_S2048x1024_0_0)
abbrev whB (x : Vec F S1x1x1024 .f32) : Vec F S1x1x1024 .f32 := View.ld x (Rect.unit (s := S1x1x1024) ![0, 0, 0] S1x1x1024.size inb_S1x1x1024_S1x1x1024_0_0_0)
abbrev whV (x : Vec F S512x2048 .bf16) : Vec F S512x2048 .bf16 := View.ld x (Rect.unit (s := S512x2048) ![0, 0] S512x2048.size inb_S512x2048_S512x2048_0_0)
abbrev whD (x : Vec F S1x1x2048 .f32) : Vec F S1x1x2048 .f32 := View.ld x (Rect.unit (s := S1x1x2048) ![0, 0, 0] S1x1x2048.size inb_S1x1x2048_S1x1x2048_0_0_0)

/-- The expert's layer on the tile of rows `x`, with the weights of the scratch buffers and the two biases. -/
def layer (x : Vec F S256x2048 .f32) (w1 : Vec F S2048x1024 .bf16) (b1 : Vec F S1x1x1024 .f32) (w2 : Vec F S512x2048 .bf16) (b2 : Vec F S1x1x2048 .f32) :
    FVec F S256x2048 .f32 :=
  k0_pay12 (k0_pay8 (whX x) (whW w1) (whB b1)) (k0_pay9 (whX x) (whW w1) (whB b1)) (k0_pay10 (whX x) (whW w1) (whB b1))
    (k0_pay11 (whX x) (whW w1) (whB b1)) (whV w2) (whD b2)

/-- A tile's block after its first item: the layer on the rows the item owns, zero on the others. -/
def opened (y : FVec F S256x2048 .f32) (lo hi : BitVec 32) : Vec F S256x2048 .f32 :=
  View.canon [⟨Rect.unit (s := S256x2048) ![0, 0] S256x2048.size inb_S256x2048_S256x2048_0_0, k0_pay3 y (k0_pay13 (F := F) lo hi) k0_pay14⟩]

/-- A tile's block after a later item: that item's rows added to the block `o`. -/
def added (y : FVec F S256x2048 .f32) (lo hi : BitVec 32) (o : Vec F S256x2048 .f32) : Vec F S256x2048 .f32 :=
  View.canon [⟨Rect.unit (s := S256x2048) ![0, 0] S256x2048.size inb_S256x2048_S256x2048_0_0, k0_pay4 y (k0_pay13 (F := F) lo hi) k0_pay14 (whX o)⟩]

/-! ## The tables as the body reads them -/

abbrev tbM0 : Memref sig .tc .smem S159 .i32 := Memref.whole main_arg0
abbrev tbM1 : Memref sig .tc .smem S159 .i32 := Memref.whole main_arg1
abbrev tbM2 : Memref sig .tc .smem S159 .i32 := Memref.whole main_arg2
abbrev tbM3 : Memref sig .tc .smem S159 .i32 := Memref.whole main_arg3
abbrev tbM4 : Memref sig .tc .smem S159 .i32 := Memref.whole main_arg4
abbrev tbM5 : Memref sig .tc .smem S159 .i32 := Memref.whole main_arg5

/-- The contents of a table on core `c`, and half of the table's share at given contents. -/
abbrev TbBuf (c : Dev nD) (M : Memref sig .tc .smem S159 .i32) : Type := Buf (Elt F) (M.view.loc (c : Thread nD τ))
abbrev tbPt (c : Dev nD) (M : Memref sig .tc .smem S159 .i32) (f : TbBuf (F := F) c M) : sProp 𝕄 :=
  M.view.loc (c : Thread nD τ) ↦{fullShare.right} f

/-- The words the body reads at point `i`. -/
abbrev rdNew (c : Dev nD) (i : grid0.Coords) (f : TbBuf (F := F) c tbM5) : BitVec 32 :=
  tbM5.view.readAt (Elt F) (Rect.unit (s := S159) (k0_off1 i) S1.size (k0_off1_inb i)).toLoadRect f (Shape.Idx.first (numel1_S1.symm ▸ Nat.one_pos))
abbrev rdLo (c : Dev nD) (i : grid0.Coords) (f : TbBuf (F := F) c tbM2) : BitVec 32 :=
  tbM2.view.readAt (Elt F) (Rect.unit (s := S159) (k0_off2 i) S1.size (k0_off2_inb i)).toLoadRect f (Shape.Idx.first (numel1_S1.symm ▸ Nat.one_pos))
abbrev rdHi (c : Dev nD) (i : grid0.Coords) (f : TbBuf (F := F) c tbM3) : BitVec 32 :=
  tbM3.view.readAt (Elt F) (Rect.unit (s := S159) (k0_off2 i) S1.size (k0_off2_inb i)).toLoadRect f (Shape.Idx.first (numel1_S1.symm ▸ Nat.one_pos))
abbrev rdFirst (c : Dev nD) (i : grid0.Coords) (f : TbBuf (F := F) c tbM4) : BitVec 32 :=
  tbM4.view.readAt (Elt F) (Rect.unit (s := S159) (k0_off3 i) S1.size (k0_off3_inb i)).toLoadRect f (Shape.Idx.first (numel1_S1.symm ▸ Nat.one_pos))
abbrev rdLater (c : Dev nD) (i : grid0.Coords) (f : TbBuf (F := F) c tbM4) : BitVec 32 :=
  tbM4.view.readAt (Elt F) (Rect.unit (s := S159) (k0_off4 i) S1.size (k0_off4_inb i)).toLoadRect f (Shape.Idx.first (numel1_S1.symm ▸ Nat.one_pos))

/-- The body's four conditions on the words it reads: a new expert, an item that owns rows, a tile's first item, a tile's later item. -/
abbrev isNew (w : BitVec 32) : Prop := (Scalar.cmpi .ne (Scalar.extui (Scalar.cmpi .eq w 1#32)) 0#32) = 1#1
abbrev isLive (lo hi : BitVec 32) : Prop := k0_cond2 lo hi = 1#1
abbrev isFirst (w : BitVec 32) : Prop := k0_cond3 w = 1#1
abbrev isLater (w : BitVec 32) : Prop := k0_cond4 w = 1#1

/-! ## The body, case by case -/

variable (c : Dev nD) (i : grid0.Coords) (arg7 : Memref sig .tc .vmem S256x2048 .f32) (harg7 : arg7.IsWhole) (arg8 : Memref sig .tc .vmem S1x1x2048x1024 .f32) (harg8 : arg8.IsWhole) (arg9 : Memref sig .tc .vmem S1x1x1024 .f32) (harg9 : arg9.IsWhole) (arg10 : Memref sig .tc .vmem S1x1x512x2048 .f32) (harg10 : arg10.IsWhole) (arg11 : Memref sig .tc .vmem S1x1x2048 .f32) (harg11 : arg11.IsWhole) (arg12 : Memref sig .tc .vmem S256x256 .bf16) (harg12 : arg12.IsWhole) (arg13 : Memref sig .tc .vmem S256x2048 .f32) (harg13 : arg13.IsWhole) (arg14 : Memref sig .tc .vmem S2048x1024 .bf16) (harg14 : arg14.IsWhole) (arg15 : Memref sig .tc .vmem S512x2048 .bf16) (harg15 : arg15.IsWhole)
    (x0 : Vec F S256x2048 .f32) (x1 : Vec F S1x1x2048x1024 .f32) (x2 : Vec F S1x1x1024 .f32) (x3 : Vec F S1x1x512x2048 .f32) (x4 : Vec F S1x1x2048 .f32) (x5 : Vec F S256x256 .bf16)
    (u : Vec F S2048x1024 .bf16) (v : Vec F S512x2048 .bf16) (o : Vec F S256x2048 .f32)
    (T0 : TbBuf (F := F) c tbM0) (T1 : TbBuf (F := F) c tbM1) (T2 : TbBuf (F := F) c tbM2) (T3 : TbBuf (F := F) c tbM3) (T4 : TbBuf (F := F) c tbM4) (T5 : TbBuf (F := F) c tbM5)

include x0 x1 x2 x3 x4 x5 u v o T0 T1 T2 T3 T4 T5

set_option maxHeartbeats 1600000 in
/-- An item of a new expert that opens the tile's block: from the blocks, the scratch buffers and the tables the body runs to its end,
    the scratch holding the new expert's weights. -/
theorem run_new_first
    (hnew : isNew (rdNew c i T5)) (hlive : isLive (rdLo c i T2) (rdHi c i T3)) (hfirst : isFirst (rdFirst c i T4)) (hlater : ¬isLater (rdLater c i T4))
    (E : Set ℕ) (K : PUnit → sProp 𝕄) :
    iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ (∃ d, owns (c : Thread nD τ) arg13 fullShare d) ∗ (∃ d, owns (c : Thread nD τ) arg14 fullShare d) ∗ (∃ d, owns (c : Thread nD τ) arg15 fullShare d) ∗ tbPt c tbM0 T0 ∗ tbPt c tbM1 T1 ∗ tbPt c tbM2 T2 ∗ tbPt c tbM3 T3 ∗ tbPt c tbM4 T4 ∗ tbPt c tbM5 T5
        ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare (opened (layer x0 (gathered x1 x5) x2 (rounded x3) x4) (rdLo c i T2) (rdHi c i T3)) ∗ owns (c : Thread nD τ) arg14 fullShare (gathered x1 x5) ∗ owns (c : Thread nD τ) arg15 fullShare (rounded x3) ∗ tbPt c tbM0 T0 ∗ tbPt c tbM1 T1 ∗ tbPt c tbM2 T2 ∗ tbPt c tbM3 T3 ∗ tbPt c tbM4 T4 ∗ tbPt c tbM5 T5) -∗ K ⟨⟩))
      ⊢ wp frame (wpE (defs₀ (F := F)) Variants.none c none) E (cc0_moe_experts i tbM0 (Memref.isWhole_whole _) tbM1 (Memref.isWhole_whole _) tbM2 (Memref.isWhole_whole _) tbM3 (Memref.isWhole_whole _) tbM4 (Memref.isWhole_whole _) tbM5 (Memref.isWhole_whole _) arg7 harg7 arg8 harg8 arg9 harg9 arg10 harg10 arg11 harg11 arg12 harg12 arg13 harg13 arg14 harg14 arg15 harg15) K := by
  simp only [cc0_moe_experts_eq_skeleton]; unfold cc0_moe_experts_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, HT0, HT1, HT2, HT3, HT4, HT5, Hk⟩
  subst hf0; subst hf1; subst hf2; subst hf3; subst hf4; subst hf5
  sl_exec (disch := first | sl_exact hnew | sl_exact hlive | sl_exact hfirst | sl_exact hlater)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    refine (View.read_writes_eq_canon (Val := Elt F) _ _ _ (fun y => View.cover_of_tiledL _ S256x2048.size (by sl_kernel_rfl) y)).trans ?_
    delta run_new_first.sl.r_7 run_new_first.sl.r_6 run_new_first.sl.r_5 run_new_first.sl.r_4 run_new_first.sl.r_3 run_new_first.sl.r_2 run_new_first.sl.r_1 run_new_first.sl.v14 run_new_first.sl.v82
    simp only [View.readCov_eq_canon']
    rfl
  isplitl [HS0]
  · iexists _; isplitr; swap; · iexact HS0
    ipureintro
    refine (View.read_writes_eq_canon (Val := Elt F) _ _ _ (fun y => View.cover_of_tiledL (s := S2048x1024) _ S2048x256.size (by sl_kernel_rfl) y)).trans ?_
    rfl
  isplitl [HS1]
  · iexists _; isplitr; swap; · iexact HS1
    ipureintro
    refine (View.read_writes_eq_canon (Val := Elt F) _ _ _ (fun y => View.cover_of_tiledL _ S512x2048.size (by sl_kernel_rfl) y)).trans ?_
    rfl
  isplitl [HT0]; · iexact HT0
  isplitl [HT1]; · iexact HT1
  isplitl [HT2]; · iexact HT2
  isplitl [HT3]; · iexact HT3
  isplitl [HT4]; · iexact HT4
  iexact HT5

set_option maxHeartbeats 1600000 in
/-- An item of a new expert that adds its rows to the tile's block: from the blocks, the scratch buffers and the tables the body runs to its end,
    the scratch holding the new expert's weights. -/
theorem run_new_later
    (hnew : isNew (rdNew c i T5)) (hlive : isLive (rdLo c i T2) (rdHi c i T3)) (hfirst : ¬isFirst (rdFirst c i T4)) (hlater : isLater (rdLater c i T4))
    (E : Set ℕ) (K : PUnit → sProp 𝕄) :
    iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare o ∗ (∃ d, owns (c : Thread nD τ) arg14 fullShare d) ∗ (∃ d, owns (c : Thread nD τ) arg15 fullShare d) ∗ tbPt c tbM0 T0 ∗ tbPt c tbM1 T1 ∗ tbPt c tbM2 T2 ∗ tbPt c tbM3 T3 ∗ tbPt c tbM4 T4 ∗ tbPt c tbM5 T5
        ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare (added (layer x0 (gathered x1 x5) x2 (rounded x3) x4) (rdLo c i T2) (rdHi c i T3) o) ∗ owns (c : Thread nD τ) arg14 fullShare (gathered x1 x5) ∗ owns (c : Thread nD τ) arg15 fullShare (rounded x3) ∗ tbPt c tbM0 T0 ∗ tbPt c tbM1 T1 ∗ tbPt c tbM2 T2 ∗ tbPt c tbM3 T3 ∗ tbPt c tbM4 T4 ∗ tbPt c tbM5 T5) -∗ K ⟨⟩))
      ⊢ wp frame (wpE (defs₀ (F := F)) Variants.none c none) E (cc0_moe_experts i tbM0 (Memref.isWhole_whole _) tbM1 (Memref.isWhole_whole _) tbM2 (Memref.isWhole_whole _) tbM3 (Memref.isWhole_whole _) tbM4 (Memref.isWhole_whole _) tbM5 (Memref.isWhole_whole _) arg7 harg7 arg8 harg8 arg9 harg9 arg10 harg10 arg11 harg11 arg12 harg12 arg13 harg13 arg14 harg14 arg15 harg15) K := by
  simp only [cc0_moe_experts_eq_skeleton]; unfold cc0_moe_experts_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, HT0, HT1, HT2, HT3, HT4, HT5, Hk⟩
  subst hf0; subst hf1; subst hf2; subst hf3; subst hf4; subst hf5; subst hf6
  sl_exec (disch := first | sl_exact hnew | sl_exact hlive | sl_exact hfirst | sl_exact hlater)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    refine (View.read_writes_eq_canon (Val := Elt F) _ _ _ (fun y => View.cover_of_tiledL _ S256x2048.size (by sl_kernel_rfl) y)).trans ?_
    delta run_new_later.sl.r_7 run_new_later.sl.r_6 run_new_later.sl.r_5 run_new_later.sl.r_4 run_new_later.sl.r_3 run_new_later.sl.r_2 run_new_later.sl.r_1 run_new_later.sl.v14 run_new_later.sl.v82
    simp only [View.readCov_eq_canon']
    rfl
  isplitl [HS0]
  · iexists _; isplitr; swap; · iexact HS0
    ipureintro
    refine (View.read_writes_eq_canon (Val := Elt F) _ _ _ (fun y => View.cover_of_tiledL (s := S2048x1024) _ S2048x256.size (by sl_kernel_rfl) y)).trans ?_
    rfl
  isplitl [HS1]
  · iexists _; isplitr; swap; · iexact HS1
    ipureintro
    refine (View.read_writes_eq_canon (Val := Elt F) _ _ _ (fun y => View.cover_of_tiledL _ S512x2048.size (by sl_kernel_rfl) y)).trans ?_
    rfl
  isplitl [HT0]; · iexact HT0
  isplitl [HT1]; · iexact HT1
  isplitl [HT2]; · iexact HT2
  isplitl [HT3]; · iexact HT3
  isplitl [HT4]; · iexact HT4
  iexact HT5

set_option maxHeartbeats 1600000 in
/-- An item of a new expert that owns no row and leaves the tile's block: from the blocks, the scratch buffers and the tables the body runs to its end,
    the scratch holding the new expert's weights. -/
theorem run_new_idle
    (hnew : isNew (rdNew c i T5)) (hlive : ¬isLive (rdLo c i T2) (rdHi c i T3))
    (E : Set ℕ) (K : PUnit → sProp 𝕄) :
    iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare o ∗ (∃ d, owns (c : Thread nD τ) arg14 fullShare d) ∗ (∃ d, owns (c : Thread nD τ) arg15 fullShare d) ∗ tbPt c tbM0 T0 ∗ tbPt c tbM1 T1 ∗ tbPt c tbM2 T2 ∗ tbPt c tbM3 T3 ∗ tbPt c tbM4 T4 ∗ tbPt c tbM5 T5
        ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare o ∗ owns (c : Thread nD τ) arg14 fullShare (gathered x1 x5) ∗ owns (c : Thread nD τ) arg15 fullShare (rounded x3) ∗ tbPt c tbM0 T0 ∗ tbPt c tbM1 T1 ∗ tbPt c tbM2 T2 ∗ tbPt c tbM3 T3 ∗ tbPt c tbM4 T4 ∗ tbPt c tbM5 T5) -∗ K ⟨⟩))
      ⊢ wp frame (wpE (defs₀ (F := F)) Variants.none c none) E (cc0_moe_experts i tbM0 (Memref.isWhole_whole _) tbM1 (Memref.isWhole_whole _) tbM2 (Memref.isWhole_whole _) tbM3 (Memref.isWhole_whole _) tbM4 (Memref.isWhole_whole _) tbM5 (Memref.isWhole_whole _) arg7 harg7 arg8 harg8 arg9 harg9 arg10 harg10 arg11 harg11 arg12 harg12 arg13 harg13 arg14 harg14 arg15 harg15) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, HT0, HT1, HT2, HT3, HT4, HT5, Hk⟩
  subst hf0; subst hf1; subst hf2; subst hf3; subst hf4; subst hf5; subst hf6
  sl_exec (disch := first | sl_exact hnew | sl_exact hlive)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [HS0]
  · iexists _; isplitr; swap; · iexact HS0
    ipureintro
    refine (View.read_writes_eq_canon (Val := Elt F) _ _ _ (fun y => View.cover_of_tiledL (s := S2048x1024) _ S2048x256.size (by sl_kernel_rfl) y)).trans ?_
    rfl
  isplitl [HS1]
  · iexists _; isplitr; swap; · iexact HS1
    ipureintro
    refine (View.read_writes_eq_canon (Val := Elt F) _ _ _ (fun y => View.cover_of_tiledL _ S512x2048.size (by sl_kernel_rfl) y)).trans ?_
    rfl
  isplitl [HT0]; · iexact HT0
  isplitl [HT1]; · iexact HT1
  isplitl [HT2]; · iexact HT2
  isplitl [HT3]; · iexact HT3
  isplitl [HT4]; · iexact HT4
  iexact HT5

set_option maxHeartbeats 1600000 in
/-- An item of the expert before that opens the tile's block: from the blocks, the scratch buffers and the tables the body runs to its end,
    the scratch holding what it held. -/
theorem run_kept_first
    (hnew : ¬isNew (rdNew c i T5)) (hlive : isLive (rdLo c i T2) (rdHi c i T3)) (hfirst : isFirst (rdFirst c i T4)) (hlater : ¬isLater (rdLater c i T4))
    (E : Set ℕ) (K : PUnit → sProp 𝕄) :
    iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ (∃ d, owns (c : Thread nD τ) arg13 fullShare d) ∗ owns (c : Thread nD τ) arg14 fullShare u ∗ owns (c : Thread nD τ) arg15 fullShare v ∗ tbPt c tbM0 T0 ∗ tbPt c tbM1 T1 ∗ tbPt c tbM2 T2 ∗ tbPt c tbM3 T3 ∗ tbPt c tbM4 T4 ∗ tbPt c tbM5 T5
        ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare (opened (layer x0 u x2 v x4) (rdLo c i T2) (rdHi c i T3)) ∗ owns (c : Thread nD τ) arg14 fullShare u ∗ owns (c : Thread nD τ) arg15 fullShare v ∗ tbPt c tbM0 T0 ∗ tbPt c tbM1 T1 ∗ tbPt c tbM2 T2 ∗ tbPt c tbM3 T3 ∗ tbPt c tbM4 T4 ∗ tbPt c tbM5 T5) -∗ K ⟨⟩))
      ⊢ wp frame (wpE (defs₀ (F := F)) Variants.none c none) E (cc0_moe_experts i tbM0 (Memref.isWhole_whole _) tbM1 (Memref.isWhole_whole _) tbM2 (Memref.isWhole_whole _) tbM3 (Memref.isWhole_whole _) tbM4 (Memref.isWhole_whole _) tbM5 (Memref.isWhole_whole _) arg7 harg7 arg8 harg8 arg9 harg9 arg10 harg10 arg11 harg11 arg12 harg12 arg13 harg13 arg14 harg14 arg15 harg15) K := by
  simp only [cc0_moe_experts_eq_skeleton]; unfold cc0_moe_experts_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, HT0, HT1, HT2, HT3, HT4, HT5, Hk⟩
  subst hf0; subst hf1; subst hf2; subst hf3; subst hf4; subst hf5; subst hs0; subst hs1
  sl_exec (disch := first | sl_exact hnew | sl_exact hlive | sl_exact hfirst | sl_exact hlater)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    refine (View.read_writes_eq_canon (Val := Elt F) _ _ _ (fun y => View.cover_of_tiledL _ S256x2048.size (by sl_kernel_rfl) y)).trans ?_
    rfl
  isplitl [HS0]
  · iexists _; isplitr; · ipureintro; rfl
    iexact HS0
  isplitl [HS1]
  · iexists _; isplitr; · ipureintro; rfl
    iexact HS1
  isplitl [HT0]; · iexact HT0
  isplitl [HT1]; · iexact HT1
  isplitl [HT2]; · iexact HT2
  isplitl [HT3]; · iexact HT3
  isplitl [HT4]; · iexact HT4
  iexact HT5

set_option maxHeartbeats 1600000 in
/-- An item of the expert before that adds its rows to the tile's block: from the blocks, the scratch buffers and the tables the body runs to its end,
    the scratch holding what it held. -/
theorem run_kept_later
    (hnew : ¬isNew (rdNew c i T5)) (hlive : isLive (rdLo c i T2) (rdHi c i T3)) (hfirst : ¬isFirst (rdFirst c i T4)) (hlater : isLater (rdLater c i T4))
    (E : Set ℕ) (K : PUnit → sProp 𝕄) :
    iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare o ∗ owns (c : Thread nD τ) arg14 fullShare u ∗ owns (c : Thread nD τ) arg15 fullShare v ∗ tbPt c tbM0 T0 ∗ tbPt c tbM1 T1 ∗ tbPt c tbM2 T2 ∗ tbPt c tbM3 T3 ∗ tbPt c tbM4 T4 ∗ tbPt c tbM5 T5
        ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare (added (layer x0 u x2 v x4) (rdLo c i T2) (rdHi c i T3) o) ∗ owns (c : Thread nD τ) arg14 fullShare u ∗ owns (c : Thread nD τ) arg15 fullShare v ∗ tbPt c tbM0 T0 ∗ tbPt c tbM1 T1 ∗ tbPt c tbM2 T2 ∗ tbPt c tbM3 T3 ∗ tbPt c tbM4 T4 ∗ tbPt c tbM5 T5) -∗ K ⟨⟩))
      ⊢ wp frame (wpE (defs₀ (F := F)) Variants.none c none) E (cc0_moe_experts i tbM0 (Memref.isWhole_whole _) tbM1 (Memref.isWhole_whole _) tbM2 (Memref.isWhole_whole _) tbM3 (Memref.isWhole_whole _) tbM4 (Memref.isWhole_whole _) tbM5 (Memref.isWhole_whole _) arg7 harg7 arg8 harg8 arg9 harg9 arg10 harg10 arg11 harg11 arg12 harg12 arg13 harg13 arg14 harg14 arg15 harg15) K := by
  simp only [cc0_moe_experts_eq_skeleton]; unfold cc0_moe_experts_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩, HT0, HT1, HT2, HT3, HT4, HT5, Hk⟩
  subst hf0; subst hf1; subst hf2; subst hf3; subst hf4; subst hf5; subst hf6; subst hs0; subst hs1
  sl_exec (disch := first | sl_exact hnew | sl_exact hlive | sl_exact hfirst | sl_exact hlater)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    refine (View.read_writes_eq_canon (Val := Elt F) _ _ _ (fun y => View.cover_of_tiledL _ S256x2048.size (by sl_kernel_rfl) y)).trans ?_
    rfl
  isplitl [HS0]
  · iexists _; isplitr; · ipureintro; rfl
    iexact HS0
  isplitl [HS1]
  · iexists _; isplitr; · ipureintro; rfl
    iexact HS1
  isplitl [HT0]; · iexact HT0
  isplitl [HT1]; · iexact HT1
  isplitl [HT2]; · iexact HT2
  isplitl [HT3]; · iexact HT3
  isplitl [HT4]; · iexact HT4
  iexact HT5

set_option maxHeartbeats 1600000 in
/-- An item of the expert before that owns no row and leaves the tile's block: from the blocks, the scratch buffers and the tables the body runs to its end,
    the scratch holding what it held. -/
theorem run_kept_idle
    (hnew : ¬isNew (rdNew c i T5)) (hlive : ¬isLive (rdLo c i T2) (rdHi c i T3))
    (E : Set ℕ) (K : PUnit → sProp 𝕄) :
    iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare o ∗ owns (c : Thread nD τ) arg14 fullShare u ∗ owns (c : Thread nD τ) arg15 fullShare v ∗ tbPt c tbM0 T0 ∗ tbPt c tbM1 T1 ∗ tbPt c tbM2 T2 ∗ tbPt c tbM3 T3 ∗ tbPt c tbM4 T4 ∗ tbPt c tbM5 T5
        ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare o ∗ owns (c : Thread nD τ) arg14 fullShare u ∗ owns (c : Thread nD τ) arg15 fullShare v ∗ tbPt c tbM0 T0 ∗ tbPt c tbM1 T1 ∗ tbPt c tbM2 T2 ∗ tbPt c tbM3 T3 ∗ tbPt c tbM4 T4 ∗ tbPt c tbM5 T5) -∗ K ⟨⟩))
      ⊢ wp frame (wpE (defs₀ (F := F)) Variants.none c none) E (cc0_moe_experts i tbM0 (Memref.isWhole_whole _) tbM1 (Memref.isWhole_whole _) tbM2 (Memref.isWhole_whole _) tbM3 (Memref.isWhole_whole _) tbM4 (Memref.isWhole_whole _) tbM5 (Memref.isWhole_whole _) arg7 harg7 arg8 harg8 arg9 harg9 arg10 harg10 arg11 harg11 arg12 harg12 arg13 harg13 arg14 harg14 arg15 harg15) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩, HT0, HT1, HT2, HT3, HT4, HT5, Hk⟩
  subst hf0; subst hf1; subst hf2; subst hf3; subst hf4; subst hf5; subst hf6; subst hs0; subst hs1
  sl_exec (disch := first | sl_exact hnew | sl_exact hlive)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [HS0]
  · iexists _; isplitr; · ipureintro; rfl
    iexact HS0
  isplitl [HS1]
  · iexists _; isplitr; · ipureintro; rfl
    iexact HS1
  isplitl [HT0]; · iexact HT0
  isplitl [HT1]; · iexact HT1
  isplitl [HT2]; · iexact HT2
  isplitl [HT3]; · iexact HT3
  isplitl [HT4]; · iexact HT4
  iexact HT5

end Cert.Kernel4Ideal.Experts

end
-- ==== Proof.FrameIdeal4.lean ====
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim
public import proofs.«01_k».proof.Proof.RunIdeal4

@[expose] public section

set_option maxRecDepth 16384

noncomputable section

namespace Cert.Kernel4Ideal.Experts

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory when the call starts -/

/-- Core `c`'s buffers once the host operations before the call have run. -/
abbrev V (c : Dev nD) (b : Ref sig .tc) : Buf (Elt F) ((c : Thread nD τ).loc b) := StableHlo.after hostOps0 (fun b => m (c, b)) b

/-- No host operation allocates. -/
theorem host_fresh : (hostOps0 : List (HloOp τ sig (Elt F))).Forall fun op => op.fresh = ∅ := by
  simp only [List.Forall]; repeat' constructor

set_option maxHeartbeats 800000 in
/-- The program is its host operations followed by the call. -/
theorem main_prefix (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- The region finds an array that no host operation writes as it was at the start. -/
theorem V_kept (c : Dev nD) (b : Ref sig .tc) (h : ∀ w ∈ [main_cst, main_v0, main_v1, main_v2, main_v3], b ≠ w) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.reshape_writes, Finset.mem_singleton]
    repeat' apply And.intro
    all_goals exact StableHlo.devRef_ne_of_ne (h _ (by simp))))

/-! ## The tables -/

/-- The six tables when the call starts. -/
def tbl : pre0.Contents (Elt F) := fun j => V m (0 : Dev nD) (pre0.ref j)

/-- There is one core, so every core's tables are those. -/
theorem V_table (c : Dev nD) (j : Fin 6) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The halves of the tables the call hands the body, table by table. -/
theorem tables_eq (c : Dev nD) : (Pipeline.ΦT pre0 (tbl m) c : sProp 𝕄)
    = iprop(tbPt c tbM0 (tbl m 0) ∗ tbPt c tbM1 (tbl m 1) ∗ tbPt c tbM2 (tbl m 2) ∗ tbPt c tbM3 (tbl m 3) ∗ tbPt c tbM4 (tbl m 4) ∗ tbPt c tbM5 (tbl m 5)) := by
  unfold Pipeline.ΦT Pipeline.prefHeld
  rw [show (Finset.univ : Finset (Fin 6)) = insert (0 : Fin 6) (insert (1 : Fin 6) (insert (2 : Fin 6) (insert (3 : Fin 6) (insert (4 : Fin 6) {(5 : Fin 6)})))) from by decide,
    bigSep_insert (by decide), bigSep_insert (by decide), bigSep_insert (by decide), bigSep_insert (by decide), bigSep_insert (by decide), bigSep_singleton]
  rfl

/-- The scratch buffers as the body is handed them. -/
abbrev scM0 : Memref sig .tc .vmem S2048x1024 .bf16 := Memref.whole cc0_scratch0
abbrev scM1 : Memref sig .tc .vmem S512x2048 .bf16 := Memref.whole cc0_scratch1

/-- What the call hands the body besides the windows and tables: the two scratch buffers at some contents and the generator register. -/
theorem rest_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the tables say of a point -/

/-- Whether the item at point `t` is the first of its expert, owns rows, is the first of its tile, is a later one of its tile. -/
abbrev New (t : Fin grid0.N) : Prop := isNew (rdNew (F := F) 0 (grid0.coords t) (tbl m 5))
abbrev lo (t : Fin grid0.N) : BitVec 32 := rdLo (F := F) 0 (grid0.coords t) (tbl m 2)
abbrev hi (t : Fin grid0.N) : BitVec 32 := rdHi (F := F) 0 (grid0.coords t) (tbl m 3)
abbrev Live (t : Fin grid0.N) : Prop := isLive (lo m t) (hi m t)
abbrev First (t : Fin grid0.N) : Prop := isFirst (rdFirst (F := F) 0 (grid0.coords t) (tbl m 4))
abbrev Later (t : Fin grid0.N) : Prop := isLater (rdLater (F := F) 0 (grid0.coords t) (tbl m 4))
/-- The block of the result the item at point `t` works on. -/
abbrev tileOf (t : Fin grid0.N) : Fin 2 → ℕ := cc0_transform_6 k0_off1_inb numel1_S1 (tbl m) (grid0.coords t)

/-- What the run needs of the tables: the first item is the first of its expert; an item that owns rows is either
    its tile's first or a later one; an item that does not open its tile follows one of the same tile. -/
structure Sched : Prop where
  new0 : ∀ t : Fin grid0.N, t.val = 0 → New m t
  kinds : ∀ t : Fin grid0.N, Live m t → (First m t ∧ ¬Later m t) ∨ (¬First m t ∧ Later m t)
  carry : ∀ t : Fin grid0.N, ¬(Live m t ∧ First m t) → ∃ h : t.val ≠ 0, tileOf m ⟨t.val - 1, by have := t.isLt; omega⟩ = tileOf m t

/-! ## The blocks, the scratch buffers and the result point by point -/

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What the two scratch buffers hold before point `n`. -/
def held1 (hO : Ok m) (c : Dev nD) : ℕ → Vec F S2048x1024 .bf16
  | 0 => View.canon []
  | n + 1 => if h : n < grid0.N then (if New m ⟨n, h⟩ then gathered (iblk m hO c 1 ⟨n, h⟩) (iblk m hO c 5 ⟨n, h⟩) else held1 hO c n) else held1 hO c n
def held2 (hO : Ok m) (c : Dev nD) : ℕ → Vec F S512x2048 .bf16
  | 0 => View.canon []
  | n + 1 => if h : n < grid0.N then (if New m ⟨n, h⟩ then rounded (iblk m hO c 3 ⟨n, h⟩) else held2 hO c n) else held2 hO c n

/-- The layer of the item at point `t`. -/
def itemLayer (hO : Ok m) (c : Dev nD) (t : Fin grid0.N) : FVec F S256x2048 .f32 :=
  layer (iblk m hO c 0 t) (held1 m hO c (t.val + 1)) (iblk m hO c 2 t) (held2 m hO c (t.val + 1)) (iblk m hO c 4 t)

/-- What the result's block in flight holds before point `n`. -/
def flying (hO : Ok m) (c : Dev nD) : ℕ → Vec F S256x2048 .f32
  | 0 => View.canon []
  | n + 1 => if h : n < grid0.N then
      (if Live m ⟨n, h⟩ then
        (if First m ⟨n, h⟩ then opened (itemLayer m hO c ⟨n, h⟩) (lo m ⟨n, h⟩) (hi m ⟨n, h⟩)
          else added (itemLayer m hO c ⟨n, h⟩) (lo m ⟨n, h⟩) (hi m ⟨n, h⟩) (flying hO c n))
        else flying hO c n) else flying hO c n

theorem held1_new (hO : Ok m) (c : Dev nD) (t : Fin grid0.N) (h : New m t) : held1 m hO c (t.val + 1) = gathered (iblk m hO c 1 t) (iblk m hO c 5 t) := by
  rw [held1, dif_pos t.isLt, if_pos h]
theorem held1_kept (hO : Ok m) (c : Dev nD) (t : Fin grid0.N) (h : ¬New m t) : held1 m hO c (t.val + 1) = held1 m hO c t.val := by
  rw [held1, dif_pos t.isLt, if_neg h]
theorem held2_new (hO : Ok m) (c : Dev nD) (t : Fin grid0.N) (h : New m t) : held2 m hO c (t.val + 1) = rounded (iblk m hO c 3 t) := by
  rw [held2, dif_pos t.isLt, if_pos h]
theorem held2_kept (hO : Ok m) (c : Dev nD) (t : Fin grid0.N) (h : ¬New m t) : held2 m hO c (t.val + 1) = held2 m hO c t.val := by
  rw [held2, dif_pos t.isLt, if_neg h]
theorem flying_first (hO : Ok m) (c : Dev nD) (t : Fin grid0.N) (hl : Live m t) (hf : First m t) :
    flying m hO c (t.val + 1) = opened (itemLayer m hO c t) (lo m t) (hi m t) := by
  rw [flying, dif_pos t.isLt, if_pos hl, if_pos hf]
theorem flying_later (hO : Ok m) (c : Dev nD) (t : Fin grid0.N) (hl : Live m t) (hf : ¬First m t) :
    flying m hO c (t.val + 1) = added (itemLayer m hO c t) (lo m t) (hi m t) (flying m hO c t.val) := by
  rw [flying, dif_pos t.isLt, if_pos hl, if_neg hf]
theorem flying_idle (hO : Ok m) (c : Dev nD) (t : Fin grid0.N) (hl : ¬Live m t) : flying m hO c (t.val + 1) = flying m hO c t.val := by
  rw [flying, dif_pos t.isLt, if_neg hl]

/-! ## The proof data -/

/-- The invariant before point `n`: the scratch buffers at `held1`, `held2` (anything before the first point), the generator register, the tables. -/
def inv (hO : Ok m) (c : Dev nD) (n : ℕ) : sProp 𝕄 :=
  iprop(iprop(iprop((∃ a, ⌜n ≠ 0 → a = held1 m hO c n⌝ ∗ owns (c : Thread nD τ) scM0 fullShare a)
      ∗ (∃ a, ⌜n ≠ 0 → a = held2 m hO c n⌝ ∗ owns (c : Thread nD τ) scM1 fullShare a)) ∗ (∃ r, prngReg c r)) ∗ Pipeline.ΦT pre0 (tbl m) c)

/-- The call's proof data: the arrays as found, the blocks left in place, the result's block at `flying`, the invariant `inv`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => flying m hO c (t.val + 1)
  Φ t := inv m hO c t.val
  q _ := fullShare
  owed _ := 0

theorem A_eq (hO : Ok m) (c : Dev nD) (w : Fin (cfgM m hO).W) : (dats m hO 0 c).A w = V m c (Pipeline.arrRef spec0 w) := by
  dsimp only [dats]
theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = flying m hO c (t.val + 1) := by dsimp only [dats]; try rfl

/-! Each input's staging buffer holds its block at every point. -/

theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)
theorem before5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl)
      (fun t => by rw [after5]; unfold Dat.blockOf iblk; rw [A_eq]; try rfl) t d).trans
    (by unfold Dat.fetched Dat.blockOf iblk; rw [A_eq]; try rfl)

/-! ## The result's window: where it is idle, and what its buffer holds -/

/-- A table's word by its offsets is the word the body reads. -/
theorem word_eq (j : Fin 6) (i : grid0.Coords) (off : Fin 1 → ℕ) (inb : ∀ a, off a + S1.size a ≤ S159.size a) (f : S159.Idx → BitVec 32) :
    (if h : ∀ a, off a + 1 ≤ S159.size a then f (fun a => ⟨off a, h a⟩) else default)
      = f ((Rect.unit (s := S159) off S1.size inb).emb (Shape.Idx.first (numel1_S1.symm ▸ Nat.one_pos))) := by
  have h : ∀ a, off a + 1 ≤ S159.size a := fun a => by
    have := inb a; rw [show S1.size a = 1 from by rw [Subsingleton.elim a 0]; rfl] at this; exact this
  rw [dif_pos h]
  congr 1

/-- The result's window is idle at a point unless the item there owns rows and opens its tile or adds to it. -/
theorem idle6 (hO : Ok m) (t : Fin (cfgM m hO).N) :
    (cfgM m hO).idle 6 ((cfgM m hO).grid.coords t) = true → ¬(Live m t ∧ (First m t ∨ Later m t)) := by
  intro h
  have e : (cfgM m hO).idle 6 ((cfgM m hO).grid.coords t)
      = (!(k0_cond2 (lo m t) (hi m t) == 1#1 && k0_cond3 (rdFirst (F := F) 0 (grid0.coords t) (tbl m 4)) == 1#1)
        && !(k0_cond2 (lo m t) (hi m t) == 1#1 && k0_cond4 (rdLater (F := F) 0 (grid0.coords t) (tbl m 4)) == 1#1)) := by
    show idle0 (tbl m) 6 (grid0.coords t) = _
    simp only [idle0]
    have e2 := word_eq 2 (grid0.coords t) _ (k0_off2_inb (grid0.coords t)) (tbl m 2)
    have e3 := word_eq 3 (grid0.coords t) _ (k0_off2_inb (grid0.coords t)) (tbl m 3)
    have e4 := word_eq 4 (grid0.coords t) _ (k0_off3_inb (grid0.coords t)) (tbl m 4)
    have e5 := word_eq 4 (grid0.coords t) _ (k0_off4_inb (grid0.coords t)) (tbl m 4)
    exact congr (congrArg _ (congrArg not (congr (congrArg _ (congrArg (· == 1#1) (congr (congrArg _ e2) e3))) (congrArg (fun w => k0_cond3 w == 1#1) e4))))
      (congrArg not (congr (congrArg _ (congrArg (· == 1#1) (congr (congrArg _ e2) e3))) (congrArg (fun w => k0_cond4 w == 1#1) e5)))
  rw [e] at h
  rintro ⟨hl, hf | hf⟩
  · rw [show k0_cond2 (lo m t) (hi m t) = 1#1 from hl, show k0_cond3 (rdFirst (F := F) 0 (grid0.coords t) (tbl m 4)) = 1#1 from hf] at h
    simp at h
  · rw [show k0_cond2 (lo m t) (hi m t) = 1#1 from hl, show k0_cond4 (rdLater (F := F) 0 (grid0.coords t) (tbl m 4)) = 1#1 from hf] at h
    simp at h

variable {m} in
theorem Sched.not_live (hS : Sched m) (hO : Ok m) (t : Fin (cfgM m hO).N) (h : (cfgM m hO).idle 6 ((cfgM m hO).grid.coords t) = true) : ¬Live m t := fun hl =>
  idle6 m hO t h ⟨hl, (hS.kinds t hl).elim (fun k => .inl k.1) (fun k => .inr k.2)⟩

/-- The item before one of the same tile leaves the block in flight. -/
theorem flush_before (hO : Ok m) (n : ℕ) (h : n + 1 < grid0.N) (e : tileOf m ⟨n, by omega⟩ = tileOf m ⟨n + 1, h⟩) :
    ((cfgM m hO).win 6).flush ⟨n, by show n < grid0.N; omega⟩ = false := by
  rw [Pipeline.Window.flush_eq_flushOf]
  unfold Pipeline.Window.flushOf
  rw [Bool.and_eq_false_iff]; right
  rw [Bool.or_eq_false_iff]
  refine ⟨decide_eq_false (by show ¬(n + 1 = grid0.N); omega), decide_eq_false ?_⟩
  rintro ⟨h', hne⟩
  exact hne e.symm

/-- One more point: the block is not fresh after a point that neither writes it back nor finds it idle and fresh. -/
theorem fresh_after (hO : Ok m) (n : ℕ) (h : n < grid0.N) (hf : ((cfgM m hO).win 6).flush ⟨n, h⟩ = false)
    (hi : (cfgM m hO).idle 6 ((cfgM m hO).grid.coords ⟨n, h⟩) = true → (cfgM m hO).fresh 6 n = false) : (cfgM m hO).fresh 6 (n + 1) = false := by
  have e := Pipeline.Cfg.fresh_succ (cfgM m hO) 6 n h
  rw [hf, Bool.false_or] at e
  refine e.trans ?_
  by_cases k : (cfgM m hO).idle 6 ((cfgM m hO).grid.coords ⟨n, h⟩) = true
  · exact (congrArg _ (hi k)).trans (Bool.and_false _)
  · rw [Bool.not_eq_true] at k
    exact (congrArg (· && _) k).trans (Bool.false_and _)

variable {m} in
/-- At an item that does not open its tile the block in flight is the tile's. -/
theorem Sched.carried (hS : Sched m) (hO : Ok m) (n : ℕ) : ∀ h : n < grid0.N, ¬(Live m ⟨n, h⟩ ∧ First m ⟨n, h⟩) → (cfgM m hO).fresh 6 n = false := by
  induction n with
  | zero => exact fun h hn => absurd rfl (hS.carry ⟨0, h⟩ hn).1
  | succ n ih =>
    intro h hn
    obtain ⟨_, e⟩ := hS.carry ⟨n + 1, h⟩ hn
    exact fresh_after m hO n (by omega) (flush_before m hO n h e) fun hi => ih (by omega) fun k => hS.not_live hO ⟨n, by show n < grid0.N; omega⟩ hi k.1

variable {m} in
/-- There its staging buffer holds `flying`. -/
theorem Sched.before6 (hS : Sched m) (hO : Ok m) (c : Dev nD) (t : Fin (cfgM m hO).N) (d) (hn : ¬(Live m t ∧ First m t)) :
    (dats m hO 0 c).before 6 t d = flying m hO c t.val := by
  rw [(dats m hO 0 c).before_out_traj 6 rfl (fun _ _ => rfl) (fun t ht hi hf => by
    rw [after6, after6]
    have hp : t.val - 1 + 1 = t.val := by omega
    show flying m hO c (t.val + 1) = flying m hO c (t.val - 1 + 1)
    rw [hp, flying_idle m hO c t (hS.not_live hO t hi)]) t.val t rfl d, hS.carried hO t.val t.isLt hn, after6]
  show flying m hO c (t.val - 1 + 1) = _
  have := (hS.carry t hn).1
  rw [show t.val - 1 + 1 = t.val by omega]

/-! ## The body at a point -/

abbrev ms0 (hO : Ok m) (t : Fin (cfgM m hO).N) : Memref sig .tc .vmem S256x2048 .f32 := spec0_0.stage ((cfgM m hO).slots t 0)
abbrev ms1 (hO : Ok m) (t : Fin (cfgM m hO).N) : Memref sig .tc .vmem S1x1x2048x1024 .f32 := spec0_1.stage ((cfgM m hO).slots t 1)
abbrev ms2 (hO : Ok m) (t : Fin (cfgM m hO).N) : Memref sig .tc .vmem S1x1x1024 .f32 := spec0_2.stage ((cfgM m hO).slots t 2)
abbrev ms3 (hO : Ok m) (t : Fin (cfgM m hO).N) : Memref sig .tc .vmem S1x1x512x2048 .f32 := spec0_3.stage ((cfgM m hO).slots t 3)
abbrev ms4 (hO : Ok m) (t : Fin (cfgM m hO).N) : Memref sig .tc .vmem S1x1x2048 .f32 := spec0_4.stage ((cfgM m hO).slots t 4)
abbrev ms5 (hO : Ok m) (t : Fin (cfgM m hO).N) : Memref sig .tc .vmem S256x256 .bf16 := spec0_5.stage ((cfgM m hO).slots t 5)
abbrev ms6 (hO : Ok m) (t : Fin (cfgM m hO).N) : Memref sig .tc .vmem S256x2048 .f32 := spec0_6.stage ((cfgM m hO).slots t 6)

/-- The body at point `t` on the staging buffers of that point. -/
abbrev bodyAt (hO : Ok m) (t : Fin (cfgM m hO).N) : Prog (TpuEff nD τ sig (Elt F) Λ₀ .tc) PUnit :=
  cc0_moe_experts (grid0.coords t) tbM0 (Memref.isWhole_whole _) tbM1 (Memref.isWhole_whole _) tbM2 (Memref.isWhole_whole _) tbM3 (Memref.isWhole_whole _) tbM4 (Memref.isWhole_whole _) tbM5 (Memref.isWhole_whole _)
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4)) (ms5 m hO t) (hstage0_5 (((cfgM m hO).slots t 5).cast nbuf0_5))
    (ms6 m hO t) (hstage0_6 (((cfgM m hO).slots t 6).cast nbuf0_6)) scM0 (Memref.isWhole_whole _) scM1 (Memref.isWhole_whole _)

/-- What the body is handed at point `t`, -/
def bodyPre (hO : Ok m) (c : Dev nD) (t : Fin (cfgM m hO).N) : sProp 𝕄 :=
  iprop(inv m hO c t.val ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d)))

/-- and what it gives back. -/
def bodyPost (hO : Ok m) (c : Dev nD) (t : Fin (cfgM m hO).N) : sProp 𝕄 :=
  iprop(inv m hO c (t.val + 1) ∗ (dats m hO 0 c).owesAt () t.castSucc
    ∗ owns (c : Thread nD τ) (ms0 m hO t) fullShare (iblk m hO c 0 t)
    ∗ owns (c : Thread nD τ) (ms1 m hO t) fullShare (iblk m hO c 1 t)
    ∗ owns (c : Thread nD τ) (ms2 m hO t) fullShare (iblk m hO c 2 t)
    ∗ owns (c : Thread nD τ) (ms3 m hO t) fullShare (iblk m hO c 3 t)
    ∗ owns (c : Thread nD τ) (ms4 m hO t) fullShare (iblk m hO c 4 t)
    ∗ owns (c : Thread nD τ) (ms5 m hO t) fullShare (iblk m hO c 5 t)
    ∗ owns (c : Thread nD τ) (ms6 m hO t) fullShare (flying m hO c (t.val + 1)))

variable {m} in
set_option maxHeartbeats 3200000 in
/-- The body at any point: one of the six cases of the run. -/
theorem Sched.sound_body (hS : Sched m) (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4, before5]
  unfold inv
  rw [exists_held (show t.val + 1 ≠ 0 by omega) (held1 m hO c (t.val + 1)) (fun a => owns (c : Thread nD τ) scM0 fullShare a),
    exists_held (show t.val + 1 ≠ 0 by omega) (held2 m hO c (t.val + 1)) (fun a => owns (c : Thread nD τ) scM1 fullShare a), tables_eq]
  by_cases hn : New m t
  · rw [held1_new m hO c t hn, held2_new m hO c t hn]
    by_cases hl : Live m t
    · rcases hS.kinds t hl with ⟨hf, hg⟩ | ⟨hf, hg⟩
      · rw [flying_first m hO c t hl hf]
        unfold itemLayer
        rw [held1_new m hO c t hn, held2_new m hO c t hn]
        iintro ⟨⟨⟨⟨⟨%z0, -, HS0⟩, ⟨%z1, -, HS1⟩⟩, Hg⟩, ⟨HT0, HT1, HT2, HT3, HT4, HT5⟩⟩, Ho, ⟨%d0, H0⟩, ⟨%d1, H1⟩, ⟨%d2, H2⟩, ⟨%d3, H3⟩, ⟨%d4, H4⟩, ⟨%d5, H5⟩, ⟨%d6, H6⟩⟩
        iapply (run_new_first c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (View.canon []) (View.canon []) (View.canon []) (tbl m 0) (tbl m 1) (tbl m 2) (tbl m 3) (tbl m 4) (tbl m 5) hn hl hf hg Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexists _; iexact HS0
        isplitl [HS1]; · iexists _; iexact HS1
        isplitl [HT0]; · iexact HT0
        isplitl [HT1]; · iexact HT1
        isplitl [HT2]; · iexact HT2
        isplitl [HT3]; · iexact HT3
        isplitl [HT4]; · iexact HT4
        isplitl [HT5]; · iexact HT5
        iintro ⟨H0, H1, H2, H3, H4, H5, H6, HS0, HS1, HT0, HT1, HT2, HT3, HT4, HT5⟩
        isplitl [HS0 HS1 Hg HT0 HT1 HT2 HT3 HT4 HT5]
        · isplitl [HS0 HS1 Hg]
          · isplitl [HS0 HS1]
            · isplitl [HS0]; · iexact HS0
              iexact HS1
            iexact Hg
          isplitl [HT0]; · iexact HT0
          isplitl [HT1]; · iexact HT1
          isplitl [HT2]; · iexact HT2
          isplitl [HT3]; · iexact HT3
          isplitl [HT4]; · iexact HT4
          iexact HT5
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · simp only [hS.before6 hO c t _ (fun k => hf k.2)]
        rw [flying_later m hO c t hl hf]
        unfold itemLayer
        rw [held1_new m hO c t hn, held2_new m hO c t hn]
        iintro ⟨⟨⟨⟨⟨%z0, -, HS0⟩, ⟨%z1, -, HS1⟩⟩, Hg⟩, ⟨HT0, HT1, HT2, HT3, HT4, HT5⟩⟩, Ho, ⟨%d0, H0⟩, ⟨%d1, H1⟩, ⟨%d2, H2⟩, ⟨%d3, H3⟩, ⟨%d4, H4⟩, ⟨%d5, H5⟩, ⟨%d6, H6⟩⟩
        iapply (run_new_later c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (View.canon []) (View.canon []) (flying m hO c t.val) (tbl m 0) (tbl m 1) (tbl m 2) (tbl m 3) (tbl m 4) (tbl m 5) hn hl hf hg Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HT0]; · iexact HT0
        isplitl [HT1]; · iexact HT1
        isplitl [HT2]; · iexact HT2
        isplitl [HT3]; · iexact HT3
        isplitl [HT4]; · iexact HT4
        isplitl [HT5]; · iexact HT5
        iintro ⟨H0, H1, H2, H3, H4, H5, H6, HS0, HS1, HT0, HT1, HT2, HT3, HT4, HT5⟩
        isplitl [HS0 HS1 Hg HT0 HT1 HT2 HT3 HT4 HT5]
        · isplitl [HS0 HS1 Hg]
          · isplitl [HS0 HS1]
            · isplitl [HS0]; · iexact HS0
              iexact HS1
            iexact Hg
          isplitl [HT0]; · iexact HT0
          isplitl [HT1]; · iexact HT1
          isplitl [HT2]; · iexact HT2
          isplitl [HT3]; · iexact HT3
          isplitl [HT4]; · iexact HT4
          iexact HT5
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · simp only [hS.before6 hO c t _ (fun k => hl k.1)]
      rw [flying_idle m hO c t hl]
      iintro ⟨⟨⟨⟨⟨%z0, -, HS0⟩, ⟨%z1, -, HS1⟩⟩, Hg⟩, ⟨HT0, HT1, HT2, HT3, HT4, HT5⟩⟩, Ho, ⟨%d0, H0⟩, ⟨%d1, H1⟩, ⟨%d2, H2⟩, ⟨%d3, H3⟩, ⟨%d4, H4⟩, ⟨%d5, H5⟩, ⟨%d6, H6⟩⟩
      iapply (run_new_idle c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (View.canon []) (View.canon []) (flying m hO c t.val) (tbl m 0) (tbl m 1) (tbl m 2) (tbl m 3) (tbl m 4) (tbl m 5) hn hl Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HT0]; · iexact HT0
      isplitl [HT1]; · iexact HT1
      isplitl [HT2]; · iexact HT2
      isplitl [HT3]; · iexact HT3
      isplitl [HT4]; · iexact HT4
      isplitl [HT5]; · iexact HT5
      iintro ⟨H0, H1, H2, H3, H4, H5, H6, HS0, HS1, HT0, HT1, HT2, HT3, HT4, HT5⟩
      isplitl [HS0 HS1 Hg HT0 HT1 HT2 HT3 HT4 HT5]
      · isplitl [HS0 HS1 Hg]
        · isplitl [HS0 HS1]
          · isplitl [HS0]; · iexact HS0
            iexact HS1
          iexact Hg
        isplitl [HT0]; · iexact HT0
        isplitl [HT1]; · iexact HT1
        isplitl [HT2]; · iexact HT2
        isplitl [HT3]; · iexact HT3
        isplitl [HT4]; · iexact HT4
        iexact HT5
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have h0 : t.val ≠ 0 := fun h => hn (hS.new0 t h)
    rw [held1_kept m hO c t hn, held2_kept m hO c t hn,
      exists_held h0 (held1 m hO c t.val) (fun a => owns (c : Thread nD τ) scM0 fullShare a),
      exists_held h0 (held2 m hO c t.val) (fun a => owns (c : Thread nD τ) scM1 fullShare a)]
    by_cases hl : Live m t
    · rcases hS.kinds t hl with ⟨hf, hg⟩ | ⟨hf, hg⟩
      · rw [flying_first m hO c t hl hf]
        unfold itemLayer
        rw [held1_kept m hO c t hn, held2_kept m hO c t hn]
        iintro ⟨⟨⟨⟨HS0, HS1⟩, Hg⟩, ⟨HT0, HT1, HT2, HT3, HT4, HT5⟩⟩, Ho, ⟨%d0, H0⟩, ⟨%d1, H1⟩, ⟨%d2, H2⟩, ⟨%d3, H3⟩, ⟨%d4, H4⟩, ⟨%d5, H5⟩, ⟨%d6, H6⟩⟩
        iapply (run_kept_first c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (held1 m hO c t.val) (held2 m hO c t.val) (View.canon []) (tbl m 0) (tbl m 1) (tbl m 2) (tbl m 3) (tbl m 4) (tbl m 5) hn hl hf hg Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HT0]; · iexact HT0
        isplitl [HT1]; · iexact HT1
        isplitl [HT2]; · iexact HT2
        isplitl [HT3]; · iexact HT3
        isplitl [HT4]; · iexact HT4
        isplitl [HT5]; · iexact HT5
        iintro ⟨H0, H1, H2, H3, H4, H5, H6, HS0, HS1, HT0, HT1, HT2, HT3, HT4, HT5⟩
        isplitl [HS0 HS1 Hg HT0 HT1 HT2 HT3 HT4 HT5]
        · isplitl [HS0 HS1 Hg]
          · isplitl [HS0 HS1]
            · isplitl [HS0]; · iexact HS0
              iexact HS1
            iexact Hg
          isplitl [HT0]; · iexact HT0
          isplitl [HT1]; · iexact HT1
          isplitl [HT2]; · iexact HT2
          isplitl [HT3]; · iexact HT3
          isplitl [HT4]; · iexact HT4
          iexact HT5
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · simp only [hS.before6 hO c t _ (fun k => hf k.2)]
        rw [flying_later m hO c t hl hf]
        unfold itemLayer
        rw [held1_kept m hO c t hn, held2_kept m hO c t hn]
        iintro ⟨⟨⟨⟨HS0, HS1⟩, Hg⟩, ⟨HT0, HT1, HT2, HT3, HT4, HT5⟩⟩, Ho, ⟨%d0, H0⟩, ⟨%d1, H1⟩, ⟨%d2, H2⟩, ⟨%d3, H3⟩, ⟨%d4, H4⟩, ⟨%d5, H5⟩, ⟨%d6, H6⟩⟩
        iapply (run_kept_later c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (held1 m hO c t.val) (held2 m hO c t.val) (flying m hO c t.val) (tbl m 0) (tbl m 1) (tbl m 2) (tbl m 3) (tbl m 4) (tbl m 5) hn hl hf hg Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HT0]; · iexact HT0
        isplitl [HT1]; · iexact HT1
        isplitl [HT2]; · iexact HT2
        isplitl [HT3]; · iexact HT3
        isplitl [HT4]; · iexact HT4
        isplitl [HT5]; · iexact HT5
        iintro ⟨H0, H1, H2, H3, H4, H5, H6, HS0, HS1, HT0, HT1, HT2, HT3, HT4, HT5⟩
        isplitl [HS0 HS1 Hg HT0 HT1 HT2 HT3 HT4 HT5]
        · isplitl [HS0 HS1 Hg]
          · isplitl [HS0 HS1]
            · isplitl [HS0]; · iexact HS0
              iexact HS1
            iexact Hg
          isplitl [HT0]; · iexact HT0
          isplitl [HT1]; · iexact HT1
          isplitl [HT2]; · iexact HT2
          isplitl [HT3]; · iexact HT3
          isplitl [HT4]; · iexact HT4
          iexact HT5
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · simp only [hS.before6 hO c t _ (fun k => hl k.1)]
      rw [flying_idle m hO c t hl]
      iintro ⟨⟨⟨⟨HS0, HS1⟩, Hg⟩, ⟨HT0, HT1, HT2, HT3, HT4, HT5⟩⟩, Ho, ⟨%d0, H0⟩, ⟨%d1, H1⟩, ⟨%d2, H2⟩, ⟨%d3, H3⟩, ⟨%d4, H4⟩, ⟨%d5, H5⟩, ⟨%d6, H6⟩⟩
      iapply (run_kept_idle c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (held1 m hO c t.val) (held2 m hO c t.val) (flying m hO c t.val) (tbl m 0) (tbl m 1) (tbl m 2) (tbl m 3) (tbl m 4) (tbl m 5) hn hl Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HT0]; · iexact HT0
      isplitl [HT1]; · iexact HT1
      isplitl [HT2]; · iexact HT2
      isplitl [HT3]; · iexact HT3
      isplitl [HT4]; · iexact HT4
      isplitl [HT5]; · iexact HT5
      iintro ⟨H0, H1, H2, H3, H4, H5, H6, HS0, HS1, HT0, HT1, HT2, HT3, HT4, HT5⟩
      isplitl [HS0 HS1 Hg HT0 HT1 HT2 HT3 HT4 HT5]
      · isplitl [HS0 HS1 Hg]
        · isplitl [HS0 HS1]
          · isplitl [HS0]; · iexact HS0
            iexact HS1
          iexact Hg
        isplitl [HT0]; · iexact HT0
        isplitl [HT1]; · iexact HT1
        isplitl [HT2]; · iexact HT2
        isplitl [HT3]; · iexact HT3
        isplitl [HT4]; · iexact HT4
        iexact HT5
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The call's body at the staging buffers of point `t` is the body of that point. -/
theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

variable {m} in
/-- The result's buffer at `flying` is what the call asks back of it, whether the point is idle or not. -/
theorem Sched.leaves6 (hS : Sched m) (hO : Ok m) (c : Dev nD) (t : Fin (cfgM m hO).N) :
    owns (c : Thread nD τ) (ms6 m hO t) fullShare (flying m hO c (t.val + 1)) ⊢ (dats m hO 0 c).leavesExact 6 t := by
  by_cases hi : (cfgM m hO).idle 6 ((cfgM m hO).grid.coords t) = true
  · have hl := hS.not_live hO t hi
    cases hf : ((cfgM m hO).win 6).flush t
    · rw [(dats m hO 0 c).leavesExact_idle 6 t hi hf]
      simp only [hS.before6 hO c t _ (fun k => hl k.1)]
      rw [flying_idle m hO c t hl]
      iintro H
      iexists (flying m hO c t.val); iexact H
    · unfold Dat.leavesExact
      rw [hi, hf]
      show _ ⊢ owns (c : Thread nD τ) (ms6 m hO t) fullShare ((dats m hO 0 c).after 6 t)
      rw [after6]
  · rw [Bool.not_eq_true] at hi
    unfold Dat.leavesExact
    rw [hi]
    show _ ⊢ owns (c : Thread nD τ) (ms6 m hO t) fullShare ((dats m hO 0 c).after 6 t)
    rw [after6]

variable {m} in
/-- The body meets what the call asks of it, at every point. -/
theorem Sched.body_obligation (hS : Sched m) (hO : Ok m) (c : Dev nD) : BodyObligation (dats (F := F) m hO 0 c) (defs₀ (F := F)) Variants.none () Set.univ := fun t => by
  rw [bigSep_W0, bigSep_W0, body_row m hO]
  refine triple_restated (hS.sound_body hO c t) rfl .rfl fun _ => ?_
  unfold bodyPost
  rw [← after0 m hO c t, ← after1 m hO c t, ← after2 m hO c t, ← after3 m hO c t, ← after4 m hO c t, ← after5 m hO c t]
  iintro ⟨HI, Ho, H0, H1, H2, H3, H4, H5, H6⟩
  isplitl [HI]; · iapply (BIBase.Entails.of_eq (show inv m hO c (t.val + 1) = (dats m hO 0 c).Φ t.succ from rfl)); iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (hS.leaves6 hO c t)
  iexact H6

/-! ## The run -/

variable {m} in
set_option backward.isDefEq.respectTransparency.types false in
/-- The program runs to its end, leaving every array of the call at what the proof data say and every other buffer
    as the host operations left it, with every counter at zero. -/
theorem Sched.run_main (hS : Sched m) (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (hS.body_obligation hO c).loose) (hshare := fun c => (dats m hO 0 c).share_full fun _ => rfl)
    (howed := fun _ _ => rfl) (V := V m) (hmain := main_prefix m Variants.none) (hA := A_eq m hO) (hpf := V_table m)
    (hin := fun c => by
      show _ ⊢ inv m hO c 0
      unfold inv
      show iprop(Pipeline.ΦA spec0 c ∗ Pipeline.ΦT pre0 (tbl m) c) ⊢ _
      rw [rest_eq]
      iintro ⟨⟨⟨⟨%a, H0⟩, ⟨%b, H1⟩⟩, Hg⟩, HT⟩
      isplitl [H0 H1 Hg]
      · isplitl [H0 H1]
        · isplitl [H0]
          · iexists a; isplitr
            · ipureintro; exact fun h => absurd rfl h
            iexact H0
          iexists b; isplitr
          · ipureintro; exact fun h => absurd rfl h
          iexact H1
        iexact Hg
      iexact HT)
    (hout := fun c => by
      show inv m hO c grid0.N ⊢ Pipeline.ΦA spec0 c
      unfold inv
      rw [rest_eq]
      iintro ⟨⟨⟨⟨%a, -, H0⟩, ⟨%b, -, H1⟩⟩, Hg⟩, -⟩
      isplitl [H0 H1]
      · isplitl [H0]
        · iexists a; iexact H0
        iexists b; iexact H1
      iexact Hg)

/-- After such a run the arguments are as they were. -/
theorem kept (hO : Ok m) (r : PUnit × MemSt nD τ sig (Elt F)) (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (by decide : main_arg0 ∈ Pipeline.restRefs sig spec0)).trans (V_kept m c main_arg0 (by decide)),
    ((h c).2 main_arg1 (by decide : main_arg1 ∈ Pipeline.restRefs sig spec0)).trans (V_kept m c main_arg1 (by decide)),
    ((h c).2 main_arg2 (by decide : main_arg2 ∈ Pipeline.restRefs sig spec0)).trans (V_kept m c main_arg2 (by decide)),
    ((h c).2 main_arg3 (by decide : main_arg3 ∈ Pipeline.restRefs sig spec0)).trans (V_kept m c main_arg3 (by decide)),
    ((h c).2 main_arg4 (by decide : main_arg4 ∈ Pipeline.restRefs sig spec0)).trans (V_kept m c main_arg4 (by decide)),
    ((h c).2 main_arg5 (by decide : main_arg5 ∈ Pipeline.restRefs sig spec0)).trans (V_kept m c main_arg5 (by decide)),
    ((h c).1 0).trans (((dats m hO 0 c).arrAt_in 0 rfl _).trans ((A_eq m hO c 0).trans (V_kept m c main_arg6 (by decide)))),
    ((h c).1 1).trans (((dats m hO 0 c).arrAt_in 1 rfl _).trans ((A_eq m hO c 1).trans (V_kept m c main_arg7 (by decide)))),
    ((h c).2 main_arg8 (by decide : main_arg8 ∈ Pipeline.restRefs sig spec0)).trans (V_kept m c main_arg8 (by decide)),
    ((h c).1 3).trans (((dats m hO 0 c).arrAt_in 3 rfl _).trans ((A_eq m hO c 3).trans (V_kept m c main_arg9 (by decide)))),
    ((h c).2 main_arg10 (by decide : main_arg10 ∈ Pipeline.restRefs sig spec0)).trans (V_kept m c main_arg10 (by decide))⟩

variable {m} in
/-- The frame: the program runs to its end with the arguments unchanged and every counter at zero. -/
theorem Sched.frame (hS : Sched m) (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => kept m hO r h.1 c, h.2⟩) (hS.run_main ρ hO)

end Cert.Kernel4Ideal.Experts

end
-- ==== Proof.ScheduleIdeal4.lean ====
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.StableHlo.Predicate
public import proofs.«01_k».proof.Proof.Items4
public import proofs.«01_k».proof.Proof.FrameIdeal4

@[expose] public section

set_option maxRecDepth 16384

noncomputable section

namespace Cert.Kernel4Ideal.Experts

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The tables' words as the arguments' -/

/-- Item `t`. -/
abbrev item (t : Fin grid0.N) : Fin 159 := ⟨t.val, lt_of_lt_of_eq t.isLt N_0⟩

/-- The argument tables. -/
abbrev argTile : IVec S159 32 := m ((0 : Dev nD).tc.loc main_arg0)
abbrev argExpert : IVec S159 32 := m ((0 : Dev nD).tc.loc main_arg1)
abbrev argLo : IVec S159 32 := m ((0 : Dev nD).tc.loc main_arg2)
abbrev argHi : IVec S159 32 := m ((0 : Dev nD).tc.loc main_arg3)
abbrev argFirst : IVec S159 32 := m ((0 : Dev nD).tc.loc main_arg4)
abbrev argNew : IVec S159 32 := m ((0 : Dev nD).tc.loc main_arg5)

/-- The tables are well formed. -/
abbrev Wf : Prop := Cert.Items4.WellFormed (argTile m) (argExpert m) (argLo m) (argHi m) (argFirst m) (argNew m)

/-- The offset the kernel computes from a point is the point's number. -/
theorem off_eq : ∀ t : Fin grid0.N, k0_off1 (grid0.coords t) 0 = t.val ∧ k0_off2 (grid0.coords t) 0 = t.val ∧ k0_off3 (grid0.coords t) 0 = t.val ∧ k0_off4 (grid0.coords t) 0 = t.val := by
  decide +kernel

/-- A one-word rectangle of a table reads the item its offset names. -/
theorem word_at (f : S159.Idx → BitVec 32) (off : Fin 1 → ℕ) (inb : ∀ a, off a + S1.size a ≤ S159.size a) (n : Fin 159) (h : off 0 = n.val) :
    f ((Rect.unit (s := S159) off S1.size inb).emb (Shape.Idx.first (numel1_S1.symm ▸ Nat.one_pos))) = f (ix1 n) := by
  refine congrArg f (funext fun a => ?_)
  match a with
  | ⟨0, _⟩ => exact Fin.ext h

/-- The same word by the item's coordinate of the grid, at any point. -/
theorem point_of (i : grid0.Coords) : ∃ t : Fin grid0.N, i = grid0.coords t := by
  refine ⟨⟨(i 0).val, lt_of_lt_of_eq (i 0).isLt N_0.symm⟩, funext fun a => ?_⟩
  match a with
  | ⟨0, _⟩ =>
    refine Fin.ext ?_
    show (i 0).val = (i 0).val / 1 % 159
    have : (i 0).val < 159 := (i 0).isLt
    omega

theorem tbl0 : tbl m 0 = argTile m := V_kept m 0 main_arg0 (by decide)
theorem tbl1 : tbl m 1 = argExpert m := V_kept m 0 main_arg1 (by decide)
theorem tbl2 : tbl m 2 = argLo m := V_kept m 0 main_arg2 (by decide)
theorem tbl3 : tbl m 3 = argHi m := V_kept m 0 main_arg3 (by decide)
theorem tbl4 : tbl m 4 = argFirst m := V_kept m 0 main_arg4 (by decide)
theorem tbl5 : tbl m 5 = argNew m := V_kept m 0 main_arg5 (by decide)

theorem new_word (t : Fin grid0.N) : rdNew (F := F) 0 (grid0.coords t) (tbl m 5) = argNew m (ix1 (item t)) :=
  (word_at (tbl m 5) _ (k0_off1_inb _) (item t) (off_eq t).1).trans (congrFun (tbl5 m) _)
theorem lo_word (t : Fin grid0.N) : lo m t = argLo m (ix1 (item t)) :=
  (word_at (tbl m 2) _ (k0_off2_inb _) (item t) (off_eq t).2.1).trans (congrFun (tbl2 m) _)
theorem hi_word (t : Fin grid0.N) : hi m t = argHi m (ix1 (item t)) :=
  (word_at (tbl m 3) _ (k0_off2_inb _) (item t) (off_eq t).2.1).trans (congrFun (tbl3 m) _)
theorem first_word (t : Fin grid0.N) : rdFirst (F := F) 0 (grid0.coords t) (tbl m 4) = argFirst m (ix1 (item t)) :=
  (word_at (tbl m 4) _ (k0_off3_inb _) (item t) (off_eq t).2.2.1).trans (congrFun (tbl4 m) _)
theorem later_word (t : Fin grid0.N) : rdLater (F := F) 0 (grid0.coords t) (tbl m 4) = argFirst m (ix1 (item t)) :=
  (word_at (tbl m 4) _ (k0_off4_inb _) (item t) (off_eq t).2.2.2).trans (congrFun (tbl4 m) _)
theorem tile_word (t : Fin grid0.N) : Pipeline.Prefetch.Contents.at (tbl m) 0 (Rect.unit (s := S159) (k0_off1 (grid0.coords t)) S1.size (k0_off1_inb (grid0.coords t))) numel1_S1 = argTile m (ix1 (item t)) :=
  (word_at (tbl m 0) _ (k0_off1_inb _) (item t) (off_eq t).1).trans (congrFun (tbl0 m) _)
theorem expert_word (t : Fin grid0.N) : Pipeline.Prefetch.Contents.at (tbl m) 1 (Rect.unit (s := S159) (k0_off1 (grid0.coords t)) S1.size (k0_off1_inb (grid0.coords t))) numel1_S1 = argExpert m (ix1 (item t)) :=
  (word_at (tbl m 1) _ (k0_off1_inb _) (item t) (off_eq t).1).trans (congrFun (tbl1 m) _)

/-! The windows' block indices at point `t`. -/

theorem index0 (t : Fin grid0.N) : cc0_transform_0 k0_off1_inb numel1_S1 (tbl m) (grid0.coords t) = ![(argTile m (ix1 (item t))).toNat, 0] :=
  congrArg (fun w : BitVec 32 => (![w.toNat, (0#32).toNat] : Fin 2 → ℕ)) (tile_word m t)
theorem index1 (t : Fin grid0.N) : cc0_transform_1 k0_off1_inb numel1_S1 (tbl m) (grid0.coords t) = ![3, (argExpert m (ix1 (item t))).toNat, 0, 0] :=
  congrArg (fun w : BitVec 32 => (![(3#32).toNat, w.toNat, (0#32).toNat, (0#32).toNat] : Fin 4 → ℕ)) (expert_word m t)
theorem index2 (t : Fin grid0.N) : cc0_transform_2 k0_off1_inb numel1_S1 (tbl m) (grid0.coords t) = ![(argExpert m (ix1 (item t))).toNat, 0, 0] :=
  congrArg (fun w : BitVec 32 => (![w.toNat, (0#32).toNat, (0#32).toNat] : Fin 3 → ℕ)) (expert_word m t)
theorem index3 (t : Fin grid0.N) : cc0_transform_3 k0_off1_inb numel1_S1 (tbl m) (grid0.coords t) = ![3, (argExpert m (ix1 (item t))).toNat, 0, 0] :=
  congrArg (fun w : BitVec 32 => (![(3#32).toNat, w.toNat, (0#32).toNat, (0#32).toNat] : Fin 4 → ℕ)) (expert_word m t)
theorem index4 (t : Fin grid0.N) : cc0_transform_4 k0_off1_inb numel1_S1 (tbl m) (grid0.coords t) = ![(argExpert m (ix1 (item t))).toNat, 0, 0] :=
  congrArg (fun w : BitVec 32 => (![w.toNat, (0#32).toNat, (0#32).toNat] : Fin 3 → ℕ)) (expert_word m t)
theorem index6 (t : Fin grid0.N) : tileOf m t = ![(argTile m (ix1 (item t))).toNat, 0] :=
  congrArg (fun w : BitVec 32 => (![w.toNat, (0#32).toNat] : Fin 2 → ℕ)) (tile_word m t)

/-! ## The body's conditions on the tables' words -/

theorem bit_wide : ∀ b : BitVec 1, Scalar.cmpi .ne (Scalar.extui b : BitVec 32) 0#32 = 1#1 ↔ b = 1#1 := by decide

theorem isNew_iff (w : BitVec 32) : isNew w ↔ w = 1#32 := (bit_wide _).trans StableHlo.Predicate.cmpi_eq_iff
theorem isFirst_iff (w : BitVec 32) : isFirst w ↔ w = 1#32 := (bit_wide _).trans StableHlo.Predicate.cmpi_eq_iff
theorem isLater_iff (w : BitVec 32) : isLater w ↔ w = 0#32 := (bit_wide _).trans StableHlo.Predicate.cmpi_eq_iff
theorem isLive_iff (a b : BitVec 32) : isLive a b ↔ IntOp.cmpi .sgt b a = 1#1 := bit_wide _

variable {m} in
/-- Well-formed tables name blocks inside the arrays, -/
theorem ok_of (h : Wf m) : Ok m := by
  refine ⟨fun i => ?_, fun i => ?_, fun i => ?_, fun i => ?_, fun i => ?_, fun i => ?_⟩ <;>
    obtain ⟨t, rfl⟩ := point_of i <;> have ht := h.tile_lt (item t) <;> have he := h.e_lt (item t)
  · refine ⟨?_, .inl rfl⟩
    rw [index0]; intro a
    match a with
    | ⟨0, _⟩ => show ((argTile m (ix1 (item t))).toNat + 1) * 256 ≤ 32768; omega
    | ⟨1, _⟩ => show (0 + 1) * 2048 ≤ 2048; omega
  · refine ⟨?_, .inl rfl⟩
    rw [index1]; intro a
    match a with
    | ⟨0, _⟩ => show (3 + 1) * 1 ≤ 4; omega
    | ⟨1, _⟩ => show ((argExpert m (ix1 (item t))).toNat + 1) * 1 ≤ 32; omega
    | ⟨2, _⟩ => show (0 + 1) * 2048 ≤ 2048; omega
    | ⟨3, _⟩ => show (0 + 1) * 1024 ≤ 1024; omega
  · refine ⟨?_, .inl rfl⟩
    rw [index2]; intro a
    match a with
    | ⟨0, _⟩ => show ((argExpert m (ix1 (item t))).toNat + 1) * 1 ≤ 32; omega
    | ⟨1, _⟩ => show (0 + 1) * 1 ≤ 1; omega
    | ⟨2, _⟩ => show (0 + 1) * 1024 ≤ 1024; omega
  · refine ⟨?_, .inl rfl⟩
    rw [index3]; intro a
    match a with
    | ⟨0, _⟩ => show (3 + 1) * 1 ≤ 4; omega
    | ⟨1, _⟩ => show ((argExpert m (ix1 (item t))).toNat + 1) * 1 ≤ 32; omega
    | ⟨2, _⟩ => show (0 + 1) * 512 ≤ 512; omega
    | ⟨3, _⟩ => show (0 + 1) * 2048 ≤ 2048; omega
  · refine ⟨?_, .inl rfl⟩
    rw [index4]; intro a
    match a with
    | ⟨0, _⟩ => show ((argExpert m (ix1 (item t))).toNat + 1) * 1 ≤ 32; omega
    | ⟨1, _⟩ => show (0 + 1) * 1 ≤ 1; omega
    | ⟨2, _⟩ => show (0 + 1) * 2048 ≤ 2048; omega
  · refine ⟨?_, .inl rfl⟩
    rw [show cc0_transform_6 k0_off1_inb numel1_S1 (tbl m) (grid0.coords t) = ![(argTile m (ix1 (item t))).toNat, 0] from index6 m t]; intro a
    match a with
    | ⟨0, _⟩ => show ((argTile m (ix1 (item t))).toNat + 1) * 256 ≤ 32768; omega
    | ⟨1, _⟩ => show (0 + 1) * 2048 ≤ 2048; omega

/-- An item opens its tile exactly when its flag is one, and then it owns rows. -/
theorem first_iff (t : Fin grid0.N) : First m t ↔ argFirst m (ix1 (item t)) = 1#32 := by
  unfold First; rw [first_word, isFirst_iff]
theorem live_iff (t : Fin grid0.N) : Live m t ↔ IntOp.cmpi .sgt (argHi m (ix1 (item t))) (argLo m (ix1 (item t))) = 1#1 := by
  unfold Live; rw [lo_word, hi_word, isLive_iff]
theorem new_iff (t : Fin grid0.N) : New m t ↔ argNew m (ix1 (item t)) = 1#32 := by
  unfold New; rw [new_word, isNew_iff]

variable {m} in
theorem first_live (h : Wf m) (t : Fin grid0.N) (hf : First m t) : Live m t :=
  (live_iff m t).mpr (h.owns _ ((first_iff m t).mp hf))
variable {m} in
theorem first_iff_tile (h : Wf m) (t : Fin grid0.N) : First m t ↔ t.val = 0 ∨ argTile m (ix1 (item t)) ≠ argTile m (ix1 (Cert.Items4.prev (item t))) := by
  rw [first_iff, h.first_eq]
  split
  · rename_i k; exact ⟨fun _ => k, fun _ => rfl⟩
  · rename_i k; exact ⟨fun z => absurd z (by decide), fun z => absurd z k⟩
variable {m} in
theorem new_iff_expert (h : Wf m) (t : Fin grid0.N) : New m t ↔ t.val = 0 ∨ argExpert m (ix1 (item t)) ≠ argExpert m (ix1 (Cert.Items4.prev (item t))) := by
  rw [new_iff, h.new_eq]
  split
  · rename_i k; exact ⟨fun _ => k, fun _ => rfl⟩
  · rename_i k; exact ⟨fun z => absurd z (by decide), fun z => absurd z k⟩

variable {m} in
/-- and what the run needs of them. -/
theorem sched_of (h : Wf m) : Sched m where
  new0 t ht := (new_iff_expert h t).mpr (.inl ht)
  kinds t _ := by
    have q := h.first_eq (item t)
    have l : Later m t ↔ argFirst m (ix1 (item t)) = 0#32 := by unfold Later; rw [later_word, isLater_iff]
    rw [first_iff, l]
    split at q
    · left; rw [q]; exact ⟨rfl, by decide⟩
    · right; rw [q]; exact ⟨by decide, rfl⟩
  carry t hn := by
    have nf : ¬First m t := fun k => hn ⟨first_live h t k, k⟩
    rw [first_iff_tile h t, not_or, not_not] at nf
    refine ⟨nf.1, ?_⟩
    rw [index6, index6, nf.2]

end Cert.Kernel4Ideal.Experts

end
-- ==== Proof.Source4.lean ====
/- Where the columns of a gathered strip come from. -/
module

public import proofs.«01_k».proof.Proof.Gen.Kernel4Ideal

@[expose] public section

set_option maxRecDepth 16384

noncomputable section

namespace Cert.Kernel4Ideal.Experts

open Cert.Kernel4Ideal Cert.Kernel4Ideal.Gen Idealize.ShloMosaic

/-- The column of a strip that the gathered strip's column `q` comes from: the even ones first, then the odd ones. -/
abbrev source (q : ℕ) : ℕ := if q < 128 then 2 * q else 2 * (q - 128) + 1

end Cert.Kernel4Ideal.Experts

end
-- ==== Proof.Rows04.lean ====
/- The selection matrix's entries, rows 0 to 63: column `q` holds a one in row `source q` and zeros elsewhere. -/
module

public import proofs.«01_k».proof.Proof.Source4

@[expose] public section

set_option maxRecDepth 16384

noncomputable section

namespace Cert.Kernel4Ideal.Experts

open Cert.Kernel4Ideal Cert.Kernel4Ideal.Gen Idealize.ShloMosaic

theorem rows0 : ∀ p : Fin 16, ∀ q : Fin 256, lit0 ⟨(0 + p.val) * 256 + q.val, by omega⟩ = if 0 + p.val = source q.val then 0x3F80#16 else 0x0000#16 := by
  decide +kernel

theorem rows16 : ∀ p : Fin 16, ∀ q : Fin 256, lit0 ⟨(16 + p.val) * 256 + q.val, by omega⟩ = if 16 + p.val = source q.val then 0x3F80#16 else 0x0000#16 := by
  decide +kernel

theorem rows32 : ∀ p : Fin 16, ∀ q : Fin 256, lit0 ⟨(32 + p.val) * 256 + q.val, by omega⟩ = if 32 + p.val = source q.val then 0x3F80#16 else 0x0000#16 := by
  decide +kernel

theorem rows48 : ∀ p : Fin 16, ∀ q : Fin 256, lit0 ⟨(48 + p.val) * 256 + q.val, by omega⟩ = if 48 + p.val = source q.val then 0x3F80#16 else 0x0000#16 := by
  decide +kernel

end Cert.Kernel4Ideal.Experts

end
-- ==== Proof.Rows14.lean ====
/- The selection matrix's entries, rows 64 to 127: column `q` holds a one in row `source q` and zeros elsewhere. -/
module

public import proofs.«01_k».proof.Proof.Source4

@[expose] public section

set_option maxRecDepth 16384

noncomputable section

namespace Cert.Kernel4Ideal.Experts

open Cert.Kernel4Ideal Cert.Kernel4Ideal.Gen Idealize.ShloMosaic

theorem rows64 : ∀ p : Fin 16, ∀ q : Fin 256, lit0 ⟨(64 + p.val) * 256 + q.val, by omega⟩ = if 64 + p.val = source q.val then 0x3F80#16 else 0x0000#16 := by
  decide +kernel

theorem rows80 : ∀ p : Fin 16, ∀ q : Fin 256, lit0 ⟨(80 + p.val) * 256 + q.val, by omega⟩ = if 80 + p.val = source q.val then 0x3F80#16 else 0x0000#16 := by
  decide +kernel

theorem rows96 : ∀ p : Fin 16, ∀ q : Fin 256, lit0 ⟨(96 + p.val) * 256 + q.val, by omega⟩ = if 96 + p.val = source q.val then 0x3F80#16 else 0x0000#16 := by
  decide +kernel

theorem rows112 : ∀ p : Fin 16, ∀ q : Fin 256, lit0 ⟨(112 + p.val) * 256 + q.val, by omega⟩ = if 112 + p.val = source q.val then 0x3F80#16 else 0x0000#16 := by
  decide +kernel

end Cert.Kernel4Ideal.Experts

end
-- ==== Proof.Rows24.lean ====
/- The selection matrix's entries, rows 128 to 191: column `q` holds a one in row `source q` and zeros elsewhere. -/
module

public import proofs.«01_k».proof.Proof.Source4

@[expose] public section

set_option maxRecDepth 16384

noncomputable section

namespace Cert.Kernel4Ideal.Experts

open Cert.Kernel4Ideal Cert.Kernel4Ideal.Gen Idealize.ShloMosaic

theorem rows128 : ∀ p : Fin 16, ∀ q : Fin 256, lit0 ⟨(128 + p.val) * 256 + q.val, by omega⟩ = if 128 + p.val = source q.val then 0x3F80#16 else 0x0000#16 := by
  decide +kernel

theorem rows144 : ∀ p : Fin 16, ∀ q : Fin 256, lit0 ⟨(144 + p.val) * 256 + q.val, by omega⟩ = if 144 + p.val = source q.val then 0x3F80#16 else 0x0000#16 := by
  decide +kernel

theorem rows160 : ∀ p : Fin 16, ∀ q : Fin 256, lit0 ⟨(160 + p.val) * 256 + q.val, by omega⟩ = if 160 + p.val = source q.val then 0x3F80#16 else 0x0000#16 := by
  decide +kernel

theorem rows176 : ∀ p : Fin 16, ∀ q : Fin 256, lit0 ⟨(176 + p.val) * 256 + q.val, by omega⟩ = if 176 + p.val = source q.val then 0x3F80#16 else 0x0000#16 := by
  decide +kernel

end Cert.Kernel4Ideal.Experts

end
-- ==== Proof.Rows34.lean ====
/- The selection matrix's entries, rows 192 to 255: column `q` holds a one in row `source q` and zeros elsewhere. -/
module

public import proofs.«01_k».proof.Proof.Source4

@[expose] public section

set_option maxRecDepth 16384

noncomputable section

namespace Cert.Kernel4Ideal.Experts

open Cert.Kernel4Ideal Cert.Kernel4Ideal.Gen Idealize.ShloMosaic

theorem rows192 : ∀ p : Fin 16, ∀ q : Fin 256, lit0 ⟨(192 + p.val) * 256 + q.val, by omega⟩ = if 192 + p.val = source q.val then 0x3F80#16 else 0x0000#16 := by
  decide +kernel

theorem rows208 : ∀ p : Fin 16, ∀ q : Fin 256, lit0 ⟨(208 + p.val) * 256 + q.val, by omega⟩ = if 208 + p.val = source q.val then 0x3F80#16 else 0x0000#16 := by
  decide +kernel

theorem rows224 : ∀ p : Fin 16, ∀ q : Fin 256, lit0 ⟨(224 + p.val) * 256 + q.val, by omega⟩ = if 224 + p.val = source q.val then 0x3F80#16 else 0x0000#16 := by
  decide +kernel

theorem rows240 : ∀ p : Fin 16, ∀ q : Fin 256, lit0 ⟨(240 + p.val) * 256 + q.val, by omega⟩ = if 240 + p.val = source q.val then 0x3F80#16 else 0x0000#16 := by
  decide +kernel

end Cert.Kernel4Ideal.Experts

end
-- ==== Proof.Selection4.lean ====
/- The selection matrix the first weights' strips are multiplied by, entry by entry. -/
module

public import proofs.«01_k».proof.Proof.Rows04
public import proofs.«01_k».proof.Proof.Rows14
public import proofs.«01_k».proof.Proof.Rows24
public import proofs.«01_k».proof.Proof.Rows34

@[expose] public section

set_option maxRecDepth 16384

noncomputable section

namespace Cert.Kernel4Ideal.Experts

open Cert.Kernel4Ideal Cert.Kernel4Ideal.Gen Idealize.ShloMosaic

/-- The literal at row `p`, column `q`: one in row `source q`, zero elsewhere. -/
theorem literal (p q : Fin 256) : lit0 ⟨p.val * 256 + q.val, by omega⟩ = if p.val = source q.val then 0x3F80#16 else 0x0000#16 := by
  have key : ∀ (k : ℕ) (r : Fin 16) (e : k + r.val = p.val), (lit0 ⟨(k + r.val) * 256 + q.val, by omega⟩ = if k + r.val = source q.val then 0x3F80#16 else 0x0000#16) →
      lit0 ⟨p.val * 256 + q.val, by omega⟩ = if p.val = source q.val then 0x3F80#16 else 0x0000#16 := by
    intro k r e h
    simp only [e] at h
    exact h
  by_cases h0 : p.val < 16
  · exact key 0 ⟨p.val - 0, by omega⟩ (by show 0 + (p.val - 0) = p.val; omega) (rows0 ⟨p.val - 0, by omega⟩ q)
  by_cases h16 : p.val < 32
  · exact key 16 ⟨p.val - 16, by omega⟩ (by show 16 + (p.val - 16) = p.val; omega) (rows16 ⟨p.val - 16, by omega⟩ q)
  by_cases h32 : p.val < 48
  · exact key 32 ⟨p.val - 32, by omega⟩ (by show 32 + (p.val - 32) = p.val; omega) (rows32 ⟨p.val - 32, by omega⟩ q)
  by_cases h48 : p.val < 64
  · exact key 48 ⟨p.val - 48, by omega⟩ (by show 48 + (p.val - 48) = p.val; omega) (rows48 ⟨p.val - 48, by omega⟩ q)
  by_cases h64 : p.val < 80
  · exact key 64 ⟨p.val - 64, by omega⟩ (by show 64 + (p.val - 64) = p.val; omega) (rows64 ⟨p.val - 64, by omega⟩ q)
  by_cases h80 : p.val < 96
  · exact key 80 ⟨p.val - 80, by omega⟩ (by show 80 + (p.val - 80) = p.val; omega) (rows80 ⟨p.val - 80, by omega⟩ q)
  by_cases h96 : p.val < 112
  · exact key 96 ⟨p.val - 96, by omega⟩ (by show 96 + (p.val - 96) = p.val; omega) (rows96 ⟨p.val - 96, by omega⟩ q)
  by_cases h112 : p.val < 128
  · exact key 112 ⟨p.val - 112, by omega⟩ (by show 112 + (p.val - 112) = p.val; omega) (rows112 ⟨p.val - 112, by omega⟩ q)
  by_cases h128 : p.val < 144
  · exact key 128 ⟨p.val - 128, by omega⟩ (by show 128 + (p.val - 128) = p.val; omega) (rows128 ⟨p.val - 128, by omega⟩ q)
  by_cases h144 : p.val < 160
  · exact key 144 ⟨p.val - 144, by omega⟩ (by show 144 + (p.val - 144) = p.val; omega) (rows144 ⟨p.val - 144, by omega⟩ q)
  by_cases h160 : p.val < 176
  · exact key 160 ⟨p.val - 160, by omega⟩ (by show 160 + (p.val - 160) = p.val; omega) (rows160 ⟨p.val - 160, by omega⟩ q)
  by_cases h176 : p.val < 192
  · exact key 176 ⟨p.val - 176, by omega⟩ (by show 176 + (p.val - 176) = p.val; omega) (rows176 ⟨p.val - 176, by omega⟩ q)
  by_cases h192 : p.val < 208
  · exact key 192 ⟨p.val - 192, by omega⟩ (by show 192 + (p.val - 192) = p.val; omega) (rows192 ⟨p.val - 192, by omega⟩ q)
  by_cases h208 : p.val < 224
  · exact key 208 ⟨p.val - 208, by omega⟩ (by show 208 + (p.val - 208) = p.val; omega) (rows208 ⟨p.val - 208, by omega⟩ q)
  by_cases h224 : p.val < 240
  · exact key 224 ⟨p.val - 224, by omega⟩ (by show 224 + (p.val - 224) = p.val; omega) (rows224 ⟨p.val - 224, by omega⟩ q)
  · exact key 240 ⟨p.val - 240, by omega⟩ (by show 240 + (p.val - 240) = p.val; omega) (rows240 ⟨p.val - 240, by omega⟩ q)

end Cert.Kernel4Ideal.Experts

end
-- ==== Proof.Tiles4.lean ====
/- The blocks a point is handed, read off the arguments. -/
module

public import proofs.«01_k».proof.Proof.Layer4
public import proofs.«01_k».proof.Proof.Selection4
public import Idealize.ShloMosaic.Lib.Pipeline.Value
public import Idealize.ShloMosaic.Lib.Pipeline.ValueKit

@[expose] public section

set_option maxRecDepth 16384

noncomputable section

namespace Cert.Kernel4Ideal.Experts

open Cert.Kernel4Ideal Cert.Kernel4Ideal.Gen
open Idealize.ShloMosaic Idealize.ShloMosaic.Tactic Idealize.ShloMosaic.TcCoe
open Cert.Math

local notation "𝔻" => Ideal

variable (m : (ℓ : Loc nD τ sig) → Buf (Elt 𝔻) ℓ)

/-- Item `t`'s tile and expert as numbers. -/
abbrev tileNo (t : Fin grid0.N) : ℕ := (argTile m (ix1 (item t))).toNat
abbrev expertNo (t : Fin grid0.N) : ℕ := (argExpert m (ix1 (item t))).toNat

theorem iblk0 (hO : Ok m) (c : Dev nD) (t : Fin grid0.N) (r : Fin 256) (k : Fin 2048) (R : Fin 32768) (hR : R.val = tileNo m t * 256 + r.val) :
    iblk m hO c 0 t (ix2 r k) = m ((c : Thread nD τ).loc main_arg6) (ix2 R k) := by
  rw [← V_kept m c main_arg6 (by decide)]
  refine congrArg (V m c main_arg6) (funext fun a => Fin.ext ?_)
  refine (Pipeline.Window.rect_emb_val ((cfgM m hO).win 0) t (ix2 r k) a).trans ?_
  have e := congrFun (index0 m t) a
  match a with
  | ⟨0, _⟩ => exact (congrArg (· * 256 + r.val) e).trans hR.symm
  | ⟨1, _⟩ => exact (congrArg (· * 2048 + k.val) e).trans (by show 0 * 2048 + k.val = k.val; omega)

theorem iblk1 (hO : Ok m) (c : Dev nD) (t : Fin grid0.N) (k : Fin 2048) (q : Fin 1024) (E : Fin 32) (hE : E.val = expertNo m t) :
    iblk m hO c 1 t (ix4 0 0 k q) = m ((c : Thread nD τ).loc main_arg7) (ix4 3 E k q) := by
  rw [← V_kept m c main_arg7 (by decide)]
  refine congrArg (V m c main_arg7) (funext fun a => Fin.ext ?_)
  refine (Pipeline.Window.rect_emb_val ((cfgM m hO).win 1) t (ix4 0 0 k q) a).trans ?_
  have e := congrFun (index1 m t) a
  match a with
  | ⟨0, _⟩ => exact (congrArg (· * 1 + 0) e).trans rfl
  | ⟨1, _⟩ => exact (congrArg (· * 1 + 0) e).trans (by show expertNo m t * 1 + 0 = E.val; omega)
  | ⟨2, _⟩ => exact (congrArg (· * 2048 + k.val) e).trans (by show 0 * 2048 + k.val = k.val; omega)
  | ⟨3, _⟩ => exact (congrArg (· * 1024 + q.val) e).trans (by show 0 * 1024 + q.val = q.val; omega)

theorem iblk3 (hO : Ok m) (c : Dev nD) (t : Fin grid0.N) (k : Fin 512) (q : Fin 2048) (E : Fin 32) (hE : E.val = expertNo m t) :
    iblk m hO c 3 t (ix4 0 0 k q) = m ((c : Thread nD τ).loc main_arg9) (ix4 3 E k q) := by
  rw [← V_kept m c main_arg9 (by decide)]
  refine congrArg (V m c main_arg9) (funext fun a => Fin.ext ?_)
  refine (Pipeline.Window.rect_emb_val ((cfgM m hO).win 3) t (ix4 0 0 k q) a).trans ?_
  have e := congrFun (index3 m t) a
  match a with
  | ⟨0, _⟩ => exact (congrArg (· * 1 + 0) e).trans rfl
  | ⟨1, _⟩ => exact (congrArg (· * 1 + 0) e).trans (by show expertNo m t * 1 + 0 = E.val; omega)
  | ⟨2, _⟩ => exact (congrArg (· * 512 + k.val) e).trans (by show 0 * 512 + k.val = k.val; omega)
  | ⟨3, _⟩ => exact (congrArg (· * 2048 + q.val) e).trans (by show 0 * 2048 + q.val = q.val; omega)

/-- The split bias the call is handed. -/
theorem V_bias1 (c : Dev nD) (E : Fin 32) (q : Fin 1024) :
    V m c main_v2 (ix3 E 0 q) = m ((c : Thread nD τ).loc main_arg8) (ix2 E (joined q)) := by
  entry_read
  pointwise
  refine congrArg (m ((c : Thread nD τ).loc main_arg8)) (congrArg (ix2 E) (Fin.ext ?_))
  have hq := q.isLt
  have key : ∀ n : ℕ, n / 256 * 256 + n % 128 * 2 + n / 128 % 2 = n / 256 * 256 + (if n % 256 < 128 then 2 * (n % 256) else 2 * (n % 256 - 128) + 1) := by
    intro n
    by_cases h : n % 256 < 128
    · rw [if_pos h]; omega
    · rw [if_neg h]; omega
  exact key q.val

theorem V_bias2 (c : Dev nD) (E : Fin 32) (q : Fin 2048) :
    V m c main_v3 (ix3 E 0 q) = m ((c : Thread nD τ).loc main_arg10) (ix2 E q) := by
  entry_read
  pointwise

theorem V_perm (c : Dev nD) (a q : Fin 256) : V m c main_cst (ix2 a q) = Ideal.ofBits FTy.bf16 (lit0 (S256x256.rowMajor (ix2 a q))) := by
  entry_read
  rfl

/-- The constant matrix selects. -/
theorem selects (hO : Ok m) (c : Dev nD) (t : Fin grid0.N) : Selects (iblk m hO c 5 t) := by
  intro a q
  have e : S256x256.rowMajor (ix2 a q) = ⟨a.val * 256 + q.val, by have := a.isLt; have := q.isLt; show _ < 65536; omega⟩ := by
    exact Fin.ext (Shape.rowMajor_val_two (d := ![256, 256]) (ix2 a q))
  refine Eq.trans (b := V m c main_cst (ix2 a q)) ?_ ?_
  · refine congrArg (V m c main_cst) (funext fun x => Fin.ext ?_)
    refine (Pipeline.Window.rect_emb_val ((cfgM m hO).win 5) t (ix2 a q) x).trans ?_
    match x with
    | ⟨0, _⟩ => show 0 * 256 + a.val = a.val; omega
    | ⟨1, _⟩ => show 0 * 256 + q.val = q.val; omega
  · rw [V_perm, e, show lit0 ⟨a.val * 256 + q.val, _⟩ = _ from literal a q]
    by_cases h : a.val = source q.val
    · rw [if_pos h, if_pos h]; simp [Ideal.ofBits, Ideal.ieee]; rw [← EReal.coe_mul]; norm_num
    · rw [if_neg h, if_neg h]; simp [Ideal.ofBits, Ideal.ieee]

theorem iblk2 (hO : Ok m) (c : Dev nD) (t : Fin grid0.N) (q : Fin 1024) (E : Fin 32) (hE : E.val = expertNo m t) :
    iblk m hO c 2 t (ix3 0 0 (split q)) = m ((c : Thread nD τ).loc main_arg8) (ix2 E q) := by
  refine Eq.trans (b := V m c main_v2 (ix3 E 0 (split q))) ?_ ((V_bias1 m c E (split q)).trans (by rw [joined_split]))
  refine congrArg (V m c main_v2) (funext fun a => Fin.ext ?_)
  refine (Pipeline.Window.rect_emb_val ((cfgM m hO).win 2) t (ix3 0 0 (split q)) a).trans ?_
  have e := congrFun (index2 m t) a
  match a with
  | ⟨0, _⟩ => exact (congrArg (· * 1 + 0) e).trans (by show expertNo m t * 1 + 0 = E.val; omega)
  | ⟨1, _⟩ => exact (congrArg (· * 1 + 0) e).trans rfl
  | ⟨2, _⟩ => exact (congrArg (· * 1024 + (split q).val) e).trans (by show 0 * 1024 + (split q).val = (split q).val; omega)

theorem iblk4 (hO : Ok m) (c : Dev nD) (t : Fin grid0.N) (q : Fin 2048) (E : Fin 32) (hE : E.val = expertNo m t) :
    iblk m hO c 4 t (ix3 0 0 q) = m ((c : Thread nD τ).loc main_arg10) (ix2 E q) := by
  refine Eq.trans (b := V m c main_v3 (ix3 E 0 q)) ?_ (V_bias2 m c E q)
  refine congrArg (V m c main_v3) (funext fun a => Fin.ext ?_)
  refine (Pipeline.Window.rect_emb_val ((cfgM m hO).win 4) t (ix3 0 0 q) a).trans ?_
  have e := congrFun (index4 m t) a
  match a with
  | ⟨0, _⟩ => exact (congrArg (· * 1 + 0) e).trans (by show expertNo m t * 1 + 0 = E.val; omega)
  | ⟨1, _⟩ => exact (congrArg (· * 1 + 0) e).trans rfl
  | ⟨2, _⟩ => exact (congrArg (· * 2048 + q.val) e).trans (by show 0 * 2048 + q.val = q.val; omega)

/-! ## The scratch buffers and an item's layer -/

/-- The expert of item `s`, as an index. -/
def expertOf (h : Wf m) (s : Fin 159) : Fin 32 := ⟨(argExpert m (ix1 s)).toNat, h.e_lt s⟩

variable {m} in
/-- An item that keeps the scratch has the expert of the one before. -/
theorem expert_kept (h : Wf m) (t : Fin grid0.N) (hn : ¬New m t) :
    ∃ k : t.val ≠ 0, expertOf m h (item ⟨t.val - 1, by have := t.isLt; omega⟩) = expertOf m h (item t) := by
  rw [new_iff_expert h t, not_or, not_not] at hn
  exact ⟨hn.1, Fin.ext (by show (argExpert m (ix1 (Cert.Items4.prev (item t)))).toNat = (argExpert m (ix1 (item t))).toNat; rw [← hn.2])⟩

variable {m} in
/-- The first scratch after item `t`: its expert's first weights, split. -/
theorem held1_apply (h : Wf m) (hO : Ok m) (c : Dev nD) (k : Fin 2048) (q : Fin 1024) : ∀ (n : ℕ) (hn : n < grid0.N),
    held1 m hO c (n + 1) (ix2 k q) = m ((c : Thread nD τ).loc main_arg7) (ix4 3 (expertOf m h (item ⟨n, hn⟩)) k (joined q)) := by
  intro n
  induction n with
  | zero =>
    intro hn
    exact (congrFun (held1_new m hO c ⟨0, hn⟩ ((new_iff_expert h ⟨0, hn⟩).mpr (.inl rfl))) (ix2 k q)).trans
      ((gathered_apply _ _ (selects m hO c _) k q).trans (iblk1 m hO c _ _ _ (expertOf m h (item ⟨0, hn⟩)) rfl))
  | succ n ih =>
    intro hn
    by_cases hN : New m ⟨n + 1, hn⟩
    · exact (congrFun (held1_new m hO c ⟨n + 1, hn⟩ hN) (ix2 k q)).trans
        ((gathered_apply _ _ (selects m hO c _) k q).trans (iblk1 m hO c _ _ _ (expertOf m h (item ⟨n + 1, hn⟩)) rfl))
    · refine (congrFun (held1_kept m hO c ⟨n + 1, hn⟩ hN) (ix2 k q)).trans ((ih (by omega)).trans ?_)
      obtain ⟨_, e⟩ := expert_kept h ⟨n + 1, hn⟩ hN
      rw [← e]; rfl

variable {m} in
/-- The second scratch after item `t`: its expert's second weights. -/
theorem held2_apply (h : Wf m) (hO : Ok m) (c : Dev nD) (k : Fin 512) (q : Fin 2048) : ∀ (n : ℕ) (hn : n < grid0.N),
    held2 m hO c (n + 1) (ix2 k q) = m ((c : Thread nD τ).loc main_arg9) (ix4 3 (expertOf m h (item ⟨n, hn⟩)) k q) := by
  intro n
  induction n with
  | zero =>
    intro hn
    exact (congrFun (held2_new m hO c ⟨0, hn⟩ ((new_iff_expert h ⟨0, hn⟩).mpr (.inl rfl))) (ix2 k q)).trans
      ((rounded_apply _ k q).trans (iblk3 m hO c _ _ _ (expertOf m h (item ⟨0, hn⟩)) rfl))
  | succ n ih =>
    intro hn
    by_cases hN : New m ⟨n + 1, hn⟩
    · exact (congrFun (held2_new m hO c ⟨n + 1, hn⟩ hN) (ix2 k q)).trans
        ((rounded_apply _ k q).trans (iblk3 m hO c _ _ _ (expertOf m h (item ⟨n + 1, hn⟩)) rfl))
    · refine (congrFun (held2_kept m hO c ⟨n + 1, hn⟩ hN) (ix2 k q)).trans ((ih (by omega)).trans ?_)
      obtain ⟨_, e⟩ := expert_kept h ⟨n + 1, hn⟩ hN
      rw [← e]; rfl

/-- Expert `E`'s layer on row `R` of the argument, at column `d`. -/
def rowLayer (c : Dev nD) (R : Fin 32768) (E : Fin 32) (d : Fin 2048) : EReal :=
  expert (fun k => m ((c : Thread nD τ).loc main_arg6) (ix2 R k)) (fun k q => m ((c : Thread nD τ).loc main_arg7) (ix4 3 E k q))
    (fun q => m ((c : Thread nD τ).loc main_arg8) (ix2 E q)) (fun j d => m ((c : Thread nD τ).loc main_arg9) (ix4 3 E j d))
    (fun d => m ((c : Thread nD τ).loc main_arg10) (ix2 E d)) d

variable {m} in
/-- The layer of the item at point `t`, on row `r` of its tile. -/
theorem itemLayer_apply (h : Wf m) (hO : Ok m) (c : Dev nD) (t : Fin grid0.N) (r : Fin 256) (d : Fin 2048) (R : Fin 32768)
    (hR : R.val = tileNo m t * 256 + r.val) : itemLayer m hO c t (ix2 r d) = rowLayer m c R (expertOf m h (item t)) d := by
  unfold itemLayer rowLayer
  refine layer_apply _ _ _ _ _ _ _ _ _ _ r (fun k => iblk0 m hO c t r k R hR) (fun k q => ?_) (fun q => iblk2 m hO c t q _ rfl)
    (fun j d => held2_apply h hO c j d t.val t.isLt) (fun d => iblk4 m hO c t d _ rfl) d
  rw [held1_apply h hO c k (split q) t.val t.isLt, joined_split]

end Cert.Kernel4Ideal.Experts

end
-- ==== Proof.Values4.lean ====
/- What the result's array holds after the run: at a row whose tile some item names, the sum of the parts of the items. -/
module

public import proofs.«01_k».proof.Proof.Tiles4

@[expose] public section

set_option maxRecDepth 16384

noncomputable section

namespace Cert.Kernel4Ideal.Experts

open Cert.Kernel4Ideal Cert.Kernel4Ideal.Gen
open Idealize.ShloMosaic Idealize.ShloMosaic.Tactic Idealize.ShloMosaic.TcCoe
open Cert.Math

local notation "𝔻" => Ideal

variable (m : (ℓ : Loc nD τ sig) → Buf (Elt 𝔻) ℓ)

/-- Item `s` owns row `R`: the row is in its tile, within its bounds. -/
def Owns (s : Fin 159) (R : ℕ) : Prop :=
  (argTile m (ix1 s)).toNat = R / 256 ∧ Own (argLo m (ix1 s)) (argHi m (ix1 s)) (R % 256)

open Classical in
/-- Item `s`'s part of row `R`: its expert's layer if it owns the row. -/
def part (h : Wf m) (c : Dev nD) (R : Fin 32768) (d : Fin 2048) (s : Fin 159) : EReal :=
  if Owns m s R.val then rowLayer m c R (expertOf m h s) d else 0

variable {m} in
/-- Tiles do not decrease along the items. -/
theorem tile_le (h : Wf m) : ∀ (k : ℕ) (s : Fin 159) (hk : s.val + k < 159), (argTile m (ix1 s)).toNat ≤ (argTile m (ix1 ⟨s.val + k, hk⟩)).toNat := by
  intro k
  induction k with
  | zero => intro s hk; exact le_of_eq rfl
  | succ k ih =>
    intro s hk
    refine (ih s (by omega)).trans ?_
    exact h.tile_mono ⟨s.val + (k + 1), hk⟩ (by show s.val + (k + 1) ≠ 0; omega)

variable {m} in
theorem tile_le_of_le (h : Wf m) (s t : Fin 159) (hst : s.val ≤ t.val) : (argTile m (ix1 s)).toNat ≤ (argTile m (ix1 t)).toNat := by
  have := tile_le h (t.val - s.val) s (by have := t.isLt; omega)
  rwa [show (⟨s.val + (t.val - s.val), _⟩ : Fin 159) = t from Fin.ext (by show s.val + (t.val - s.val) = t.val; omega)] at this

/-- A sum over the items up to `t` is the sum over those before it and `t`'s term. -/
theorem sum_upto (f : Fin 159 → EReal) (t : Fin 159) :
    ∑ s ∈ Finset.univ.filter (fun s : Fin 159 => s.val ≤ t.val), f s = ∑ s ∈ Finset.univ.filter (fun s : Fin 159 => s.val < t.val), f s + f t := by
  rw [show Finset.univ.filter (fun s : Fin 159 => s.val ≤ t.val) = insert t (Finset.univ.filter (fun s : Fin 159 => s.val < t.val)) from by
    ext s; simp only [Finset.mem_filter, Finset.mem_univ, true_and, Finset.mem_insert, Fin.ext_iff]; omega,
    Finset.sum_insert (by simp), add_comm]

variable {m} in
open Classical in
/-- The block in flight after item `t`: the sum of the parts of the items so far. -/
theorem flying_apply (h : Wf m) (hO : Ok m) (c : Dev nD) (r : Fin 256) (d : Fin 2048) (R : Fin 32768) : ∀ (n : ℕ) (hn : n < grid0.N)
    (hR : R.val = tileNo m ⟨n, hn⟩ * 256 + r.val),
    flying m hO c (n + 1) (ix2 r d) = ∑ s ∈ Finset.univ.filter (fun s : Fin 159 => s.val ≤ n), part m h c R d s := by
  have hr := r.isLt
  have own : ∀ (t : Fin grid0.N), R.val = tileNo m t * 256 + r.val → (Owns m (item t) R.val ↔ Own (lo m t) (hi m t) r.val) := by
    intro t hR
    have e1 : R.val / 256 = tileNo m t := by omega
    have e2 : R.val % 256 = r.val := by omega
    unfold Owns
    rw [e1, e2, lo_word, hi_word]
    exact ⟨fun k => k.2, fun k => ⟨rfl, k⟩⟩
  have first : ∀ (t : Fin grid0.N), R.val = tileNo m t * 256 + r.val → First m t →
      flying m hO c (t.val + 1) (ix2 r d) = ∑ s ∈ Finset.univ.filter (fun s : Fin 159 => s.val ≤ t.val), part m h c R d s := by
    intro t hR hf
    rw [flying_first m hO c t (first_live h t hf) hf, opened_apply, sum_upto _ (item t), Finset.sum_eq_zero, zero_add]
    · unfold part
      rw [itemLayer_apply h hO c t r d R hR]
      exact if_congr (own t hR).symm rfl rfl
    · intro s hs
      have hst : s.val < t.val := (Finset.mem_filter.mp hs).2
      unfold part
      refine if_neg fun k => ?_
      have k1 := k.1
      rcases (first_iff_tile h t).mp hf with z | z
      · omega
      · have l1 := tile_le_of_le h s (Cert.Items4.prev (item t)) (by show s.val ≤ t.val - 1; omega)
        have l2 := h.tile_mono (item t) (by show t.val ≠ 0; omega)
        refine z (BitVec.eq_of_toNat_eq ?_)
        have e1 : R.val / 256 = tileNo m t := by omega
        have e3 : tileNo m t = (argTile m (ix1 (item t))).toNat := rfl
        omega
  intro n
  induction n with
  | zero =>
    intro hn hR
    exact first ⟨0, hn⟩ hR ((first_iff_tile h ⟨0, hn⟩).mpr (.inl rfl))
  | succ n ih =>
    intro hn hR
    by_cases hf : First m ⟨n + 1, hn⟩
    · exact first ⟨n + 1, hn⟩ hR hf
    have hf' := hf
    rw [first_iff_tile h, not_or, not_not] at hf'
    have before := ih (by omega) (hR.trans (congrArg (fun w : BitVec 32 => w.toNat * 256 + r.val) hf'.2))
    have upto : ∑ s ∈ Finset.univ.filter (fun s : Fin 159 => s.val ≤ n + 1), part m h c R d s
        = ∑ s ∈ Finset.univ.filter (fun s : Fin 159 => s.val ≤ n), part m h c R d s + part m h c R d (item ⟨n + 1, hn⟩) := by
      refine (sum_upto _ (item ⟨n + 1, hn⟩)).trans (congrArg (· + _) (Finset.sum_congr ?_ fun _ _ => rfl))
      ext s; simp only [Finset.mem_filter, Finset.mem_univ, true_and]; omega
    rw [upto, ← before]
    by_cases hl : Live m ⟨n + 1, hn⟩
    · rw [show flying m hO c (n + 1 + 1) = _ from flying_later m hO c ⟨n + 1, hn⟩ hl hf, added_apply]
      refine congrArg (_ + ·) ?_
      unfold part
      rw [itemLayer_apply h hO c ⟨n + 1, hn⟩ r d R hR]
      exact if_congr (own _ hR).symm rfl rfl
    · rw [show flying m hO c (n + 1 + 1) = flying m hO c (n + 1) from flying_idle m hO c ⟨n + 1, hn⟩ hl]
      unfold part
      rw [if_neg, add_zero]
      rw [own _ hR]
      rintro ⟨a, b⟩
      refine hl ?_
      show isLive (lo m _) (hi m _)
      rw [isLive_iff]
      unfold IntOp.cmpi
      rw [StableHlo.Predicate.ofBool_eq_one_iff]
      simp only [BitVec.slt_iff_toInt_lt]
      omega

/-! ## The array -/

variable {m} in
/-- The result's block goes back after the last item of its tile. -/
theorem flush_iff (hO : Ok m) (t : Fin grid0.N) : ((cfgM m hO).win 6).flush t = true ↔ t.val + 1 = grid0.N ∨ ∃ k : t.val + 1 < grid0.N, tileOf m ⟨t.val + 1, k⟩ ≠ tileOf m t := by
  rw [Pipeline.Window.flush_eq_flushOf]
  unfold Pipeline.Window.flushOf
  rw [show ((cfgM m hO).win 6).isOut = true from rfl, Bool.true_and, Bool.or_eq_true, decide_eq_true_iff, decide_eq_true_iff]
  rfl

variable {m} in
/-- Two write-backs are of different tiles. -/
theorem flush_ne (h : Wf m) (hO : Ok m) (t t' : Fin grid0.N) (ht : ((cfgM m hO).win 6).flush t = true) (hlt : t.val < t'.val) : tileOf m t ≠ tileOf m t' := by
  have hN : grid0.N = 159 := N_0
  have b := t'.isLt
  rcases (flush_iff hO t).mp ht with z | ⟨k, z⟩
  · omega
  · intro e
    rw [index6, index6] at z e
    have e0 := congrFun e 0
    have l1 := h.tile_mono (item ⟨t.val + 1, k⟩) (by show t.val + 1 ≠ 0; omega)
    have l2 := tile_le_of_le h (item ⟨t.val + 1, k⟩) (item t') (by show t.val + 1 ≤ t'.val; omega)
    have e0' : (argTile m (ix1 (item t))).toNat = (argTile m (ix1 (item t'))).toNat := e0
    have l1' : (argTile m (ix1 (item t))).toNat ≤ (argTile m (ix1 (item ⟨t.val + 1, k⟩))).toNat := l1
    refine z ?_
    rw [show (argTile m (ix1 (item ⟨t.val + 1, k⟩))).toNat = (argTile m (ix1 (item t))).toNat from by omega]

/-- Element `(r, d)` of the result's block at point `t` is row `tile * 256 + r` of the array. -/
theorem out_place (hO : Ok m) (t : Fin grid0.N) (A : Vec 𝔻 S32768x2048 .f32) (r : Fin 256) (d : Fin 2048) (R : Fin 32768) (hR : R.val = tileNo m t * 256 + r.val) :
    (((cfgM m hO).win 6).blk t).view.read (Elt 𝔻) A (ix2 r d) = A (ix2 R d) := by
  refine congrArg A (funext fun a => Fin.ext ?_)
  refine (Pipeline.Window.rect_emb_val ((cfgM m hO).win 6) t (ix2 r d) a).trans ?_
  have e := congrFun (index6 m t) a
  match a with
  | ⟨0, _⟩ => exact (congrArg (· * 256 + r.val) e).trans hR.symm
  | ⟨1, _⟩ => exact (congrArg (· * 2048 + d.val) e).trans (by show 0 * 2048 + d.val = d.val; omega)

variable {m} in
/-- After the run, a row whose tile some item names holds the sum of the items' parts. -/
theorem out_apply (h : Wf m) (hO : Ok m) (c : Dev nD) (R : Fin 32768) (d : Fin 2048) (hs : ∃ s : Fin 159, (argTile m (ix1 s)).toNat = R.val / 256) :
    (dats m hO 0 c).arrAt 6 (cfgM m hO).N (ix2 R d) = ∑ s : Fin 159, part m h c R d s := by
  have hN : grid0.N = 159 := N_0
  classical
  -- the last item of the row's tile
  obtain ⟨s, hs, hmax⟩ : ∃ s : Fin 159, (argTile m (ix1 s)).toNat = R.val / 256 ∧ ∀ s' : Fin 159, (argTile m (ix1 s')).toNat = R.val / 256 → s'.val ≤ s.val := by
    obtain ⟨s₀, h₀⟩ := hs
    have ne : (Finset.univ.filter fun s : Fin 159 => (argTile m (ix1 s)).toNat = R.val / 256).Nonempty := ⟨s₀, by simp [h₀]⟩
    refine ⟨Finset.max' _ ne, (Finset.mem_filter.mp (Finset.max'_mem _ ne)).2, fun s' k => ?_⟩
    exact Finset.le_max' _ s' (by simp [k])
  have hsN : s.val < grid0.N := by have := s.isLt; omega
  have fl : ((cfgM m hO).win 6).flush ⟨s.val, hsN⟩ = true := by
    rw [flush_iff]
    by_cases k : s.val + 1 = grid0.N
    · exact .inl k
    · refine .inr ⟨by show s.val + 1 < grid0.N; have := s.isLt; omega, fun e => ?_⟩
      rw [index6, index6] at e
      have e0 : (argTile m (ix1 ⟨s.val + 1, by have := s.isLt; omega⟩)).toNat = (argTile m (ix1 s)).toNat := congrFun e 0
      have := hmax ⟨s.val + 1, by have := s.isLt; omega⟩ (e0.trans hs)
      have : s.val + 1 ≤ s.val := this
      omega
  have disj : ∀ t t' : Fin (cfgM m hO).N, ((cfgM m hO).win 6).flush t = true → ((cfgM m hO).win 6).flush t' = true → t ≠ t' →
      Disjoint (((cfgM m hO).win 6).blk t).view.set (((cfgM m hO).win 6).blk t').view.set := by
    intro t t' ht ht' hne
    refine ((cfgM m hO).win 6).disjoint_blk ?_
    rcases Nat.lt_or_gt_of_ne (fun e => hne (Fin.ext e)) with k | k
    · exact flush_ne h hO t t' ht k
    · exact (flush_ne h hO t' t ht' k).symm
  have hr : R.val % 256 < 256 := Nat.mod_lt _ (by norm_num)
  have hR : R.val = tileNo m ⟨s.val, hsN⟩ * 256 + R.val % 256 := by
    have : tileNo m ⟨s.val, hsN⟩ = R.val / 256 := hs
    omega
  have read := congrFun ((dats m hO 0 c).read_blk_arrAt_eq_flushed 6 disj (cfgM m hO).N ⟨s.val, hsN⟩ hsN fl) (ix2 ⟨R.val % 256, hr⟩ d)
  refine (out_place m hO ⟨s.val, hsN⟩ _ ⟨R.val % 256, hr⟩ d R hR).symm.trans (read.trans ?_)
  refine Eq.trans (b := flying m hO c (s.val + 1) (ix2 ⟨R.val % 256, hr⟩ d)) ?_ ?_
  · exact congrFun (after6 m hO c ⟨s.val, hsN⟩) _
  rw [flying_apply h hO c ⟨R.val % 256, hr⟩ d R s.val hsN hR]
  refine Finset.sum_subset (Finset.filter_subset _ _) fun s' _ hs' => ?_
  unfold part
  refine if_neg fun k => hs' ?_
  exact Finset.mem_filter.mpr ⟨Finset.mem_univ _, hmax s' k.1⟩

end Cert.Kernel4Ideal.Experts

end
-- ==== Proof.Mixture4.lean ====
/- Sums of parts that indicators select, and the signed words that say which rows an item owns. -/
module

public import Idealize.ShloMosaic.Lib.Pointwise
public import Idealize.ShloMosaic.Lib.StableHlo.Predicate

@[expose] public section

noncomputable section

namespace Cert.Mixture4

open Idealize.ShloMosaic Idealize.ShloMosaic.StableHlo

/-- Over sums of nonnegative terms, multiplication distributes. -/
theorem sum_mul_of_nonneg {ι : Type} (S : Finset ι) (a : ι → EReal) (ha : ∀ i, 0 ≤ a i) (y : EReal) : (∑ i ∈ S, a i) * y = ∑ i ∈ S, a i * y := by
  classical
  induction S using Finset.induction_on with
  | empty => simp
  | insert i S hi ih =>
    rw [Finset.sum_insert hi, Finset.sum_insert hi, EReal.right_distrib_of_nonneg (ha i) (Finset.sum_nonneg fun j _ => ha j), ih]

/-- Combining the experts' values with the counts of owning items, expert by expert, sums the values of the owning items' experts. -/
theorem mix {n k : ℕ} (own : Fin n → Prop) [DecidablePred own] (E : Fin n → Fin k) (x : Fin k → EReal) :
    ∑ e : Fin k, (∑ s : Fin n, (if own s then (1 : EReal) else 0) * (if E s = e then 1 else 0)) * x e = ∑ s : Fin n, if own s then x (E s) else 0 := by
  have one : ∀ (p : Prop) [Decidable p], (0 : EReal) ≤ if p then 1 else 0 := fun p _ => by split <;> simp
  simp only [sum_mul_of_nonneg _ _ (fun s => mul_nonneg (one _) (one _))]
  rw [Finset.sum_comm]
  refine Finset.sum_congr rfl fun s _ => ?_
  rw [Finset.sum_eq_single (E s)]
  · by_cases h : own s <;> simp [h]
  · intro e _ he
    rw [if_neg (Ne.symm he), mul_zero, zero_mul]
  · intro h; exact absurd (Finset.mem_univ _) h

/-- A row's offset from a tile's first row, as a signed word, is the offset. -/
theorem offset (R : ℕ) (hR : R < 32768) (w : BitVec 32) (hw : w.toNat < 128) :
    (IntOp.subi (BitVec.ofNat 32 R) (IntOp.muli 256#32 w)).toInt = (R : ℤ) - 256 * (w.toNat : ℤ) := by
  show (BitVec.ofNat 32 R - 256#32 * w).toInt = _
  have e : (256#32 * w).toNat = 256 * w.toNat := by
    rw [BitVec.toNat_mul]; show 256 * w.toNat % 2 ^ 32 = _; omega
  rw [BitVec.toInt_eq_toNat_cond, BitVec.toNat_sub, BitVec.toNat_ofNat, e]
  split <;> omega

/-- The offset's word is between zero and 256 exactly on the tile's rows. -/
theorem tile_iff (R : ℕ) (hR : R < 32768) (w : BitVec 32) (hw : w.toNat < 128) :
    (IntOp.cmpi .sge (IntOp.subi (BitVec.ofNat 32 R) (IntOp.muli 256#32 w)) 0#32 = 1#1
      ∧ IntOp.cmpi .slt (IntOp.subi (BitVec.ofNat 32 R) (IntOp.muli 256#32 w)) 256#32 = 1#1) ↔ w.toNat = R / 256 := by
  simp only [IntOp.cmpi, Predicate.ofBool_eq_one_iff, BitVec.sle_iff_toInt_le, BitVec.slt_iff_toInt_lt, offset R hR w hw]
  rw [show (0#32 : BitVec 32).toInt = 0 from by decide, show (256#32 : BitVec 32).toInt = 256 from by decide]
  omega

/-- The conjunction of two bits is one exactly when both are. -/
theorem andi_iff (a b : BitVec 1) : IntOp.andi a b = 1#1 ↔ a = 1#1 ∧ b = 1#1 := by
  revert a b; decide

/-- The bit the reference computes: the item owns the row. -/
theorem owned_iff (R : ℕ) (hR : R < 32768) (w lo hi : BitVec 32) (hw : w.toNat < 128) :
    IntOp.andi (IntOp.andi (IntOp.andi (IntOp.cmpi .sge (IntOp.subi (BitVec.ofNat 32 R) (IntOp.muli 256#32 w)) lo)
      (IntOp.cmpi .slt (IntOp.subi (BitVec.ofNat 32 R) (IntOp.muli 256#32 w)) hi))
      (IntOp.cmpi .sge (IntOp.subi (BitVec.ofNat 32 R) (IntOp.muli 256#32 w)) 0#32))
      (IntOp.cmpi .slt (IntOp.subi (BitVec.ofNat 32 R) (IntOp.muli 256#32 w)) 256#32) = 1#1
    ↔ w.toNat = R / 256 ∧ lo.toInt ≤ ((R % 256 : ℕ) : ℤ) ∧ ((R % 256 : ℕ) : ℤ) < hi.toInt := by
  rw [andi_iff, andi_iff, andi_iff, and_assoc, tile_iff R hR w hw]
  simp only [IntOp.cmpi, Predicate.ofBool_eq_one_iff, BitVec.sle_iff_toInt_le, BitVec.slt_iff_toInt_lt, offset R hR w hw]
  constructor
  · rintro ⟨⟨a, b⟩, t⟩; refine ⟨t, ?_, ?_⟩ <;> omega
  · rintro ⟨t, a, b⟩; refine ⟨⟨?_, ?_⟩, t⟩ <;> omega

/-- A bit as a number is the indicator of its being one. -/
theorem indicator (b : BitVec 1) (p : Prop) [Decidable p] (h : b = 1#1 ↔ p) : (FloatOps.uitofp .f32 b : Ideal .f32) = ((if p then 1 else 0 : EReal)) := by
  have two : b = 1#1 ∨ b = 0#1 := by clear h; revert b; decide
  rcases two with rfl | rfl
  · rw [if_pos (h.1 rfl)]
    show (((1#1 : BitVec 1).toNat : ℝ) : EReal) = 1
    simp
  · rw [if_neg (fun q => absurd (h.2 q) (by decide))]
    show (((0#1 : BitVec 1).toNat : ℝ) : EReal) = 0
    simp

end Cert.Mixture4

end
-- ==== Proof.Reference4.lean ====
/- What the reference computes at a row: the sum, over the items that own the row, of their experts' layers. -/
module

public import proofs.«01_k».proof.Proof.Gen.Reference4Ideal.Read
public import proofs.«01_k».proof.Proof.Math
public import proofs.«01_k».proof.Proof.Mixture4
public import Idealize.ShloMosaic.Lib.IdealHost

@[expose] public section

set_option maxRecDepth 16384

noncomputable section

namespace Cert.Reference4Ideal.Experts

open Cert.Reference4Ideal Cert.Reference4Ideal.Gen Cert.Reference4Ideal.Read
open Idealize.ShloMosaic Cert.Math Cert.Mixture4

variable (x0 x1 x2 x3 : IVec S159 32) (x6 : FVec Ideal S32768x2048 .f32) (x7 : FVec Ideal S4x32x2048x1024 .f32) (x8 : FVec Ideal S32x1024 .f32)
  (x9 : FVec Ideal S4x32x512x2048 .f32) (x10 : FVec Ideal S32x2048 .f32)

/-- The first weights of expert `e` are those of the last layer's. -/
theorem w1_apply (e : Fin 32) (k : Fin 2048) (c : Fin 1024) : val_main_v31 (F := Ideal) x7 (ix3 e k c) = x7 (ix4 3 e k c) := by
  rw [val_main_v31_apply, val_main_v30_apply]
  refine congrArg x7 (funext fun a => Fin.ext ?_)
  have := e.isLt; have := k.isLt; have := c.isLt
  match a with
  | ⟨0, _⟩ => rfl
  | ⟨1, _⟩ => show ((e.val * 2048 + k.val) * 1024 + c.val) / 2097152 % 32 = e.val; omega
  | ⟨2, _⟩ => show ((e.val * 2048 + k.val) * 1024 + c.val) / 1024 % 2048 = k.val; omega
  | ⟨3, _⟩ => show ((e.val * 2048 + k.val) * 1024 + c.val) % 1024 = c.val; omega

/-- The second weights of expert `e` are those of the last layer's. -/
theorem w2_apply (e : Fin 32) (j : Fin 512) (d : Fin 2048) : val_main_v54 (F := Ideal) x9 (ix3 e j d) = x9 (ix4 3 e j d) := by
  rw [val_main_v54_apply, val_main_v53_apply]
  refine congrArg x9 (funext fun a => Fin.ext ?_)
  have := e.isLt; have := j.isLt; have := d.isLt
  match a with
  | ⟨0, _⟩ => rfl
  | ⟨1, _⟩ => show ((e.val * 512 + j.val) * 2048 + d.val) / 1048576 % 32 = e.val; omega
  | ⟨2, _⟩ => show ((e.val * 512 + j.val) * 2048 + d.val) / 2048 % 512 = j.val; omega
  | ⟨3, _⟩ => show ((e.val * 512 + j.val) * 2048 + d.val) % 2048 = d.val; omega

/-- The first layer of expert `e` on row `R`. -/
theorem first_apply (R : Fin 32768) (e : Fin 32) (c : Fin 1024) : val_main_v35 (F := Ideal) x6 x7 x8 (ix3 R e c)
    = pre (fun k => x6 (ix2 R k)) (fun k c => x7 (ix4 3 e k c)) (fun c => x8 (ix2 e c)) c := by
  rw [val_main_v35_apply, val_main_v32_apply, val_main_v34_apply, val_main_v33_apply]
  refine congrArg₂ (· + ·) (Finset.sum_congr rfl fun k _ => congrArg₂ (· * ·) (congrArg x6 ?_) ((congrArg _ ?_).trans (w1_apply x7 e k c))) (congrArg x8 ?_)
  · exact funext fun a => by match a with | ⟨0, _⟩ => rfl | ⟨1, _⟩ => rfl
  · exact funext fun a => by match a with | ⟨0, _⟩ => rfl | ⟨1, _⟩ => rfl | ⟨2, _⟩ => rfl
  · exact funext fun a => by match a with | ⟨0, _⟩ => rfl | ⟨1, _⟩ => rfl

/-- The gates are the even columns of the first layer. -/
theorem gate_apply (R : Fin 32768) (e : Fin 32) (j : Fin 512) : val_main_v36 (F := Ideal) x6 x7 x8 (ix3 R e j) = val_main_v35 (F := Ideal) x6 x7 x8 (ix3 R e (even j)) := by
  unfold val_main_v36
  generalize val_main_v35 (F := Ideal) x6 x7 x8 = y
  refine congrArg y (funext fun a => Fin.ext ?_)
  match a with
  | ⟨0, _⟩ => show 0 + 1 * R.val = R.val; omega
  | ⟨1, _⟩ => show 0 + 1 * e.val = e.val; omega
  | ⟨2, _⟩ => show 0 + 2 * j.val = 2 * j.val; omega

/-- The linear parts are the odd columns of the first layer. -/
theorem linear_apply (R : Fin 32768) (e : Fin 32) (j : Fin 512) : val_main_v37 (F := Ideal) x6 x7 x8 (ix3 R e j) = val_main_v35 (F := Ideal) x6 x7 x8 (ix3 R e (odd j)) := by
  unfold val_main_v37
  generalize val_main_v35 (F := Ideal) x6 x7 x8 = y
  refine congrArg y (funext fun a => Fin.ext ?_)
  match a with
  | ⟨0, _⟩ => show 0 + 1 * R.val = R.val; omega
  | ⟨1, _⟩ => show 0 + 1 * e.val = e.val; omega
  | ⟨2, _⟩ => show 1 + 2 * j.val = 2 * j.val + 1; omega

/-- The hidden units are the clamped gated units of the first layer's columns. -/
theorem hidden_apply (R : Fin 32768) (e : Fin 32) (j : Fin 512) : val_main_v52 (F := Ideal) x6 x7 x8 (ix3 R e j)
    = act (val_main_v35 (F := Ideal) x6 x7 x8 (ix3 R e (even j))) (val_main_v35 (F := Ideal) x6 x7 x8 (ix3 R e (odd j))) := by
  simp only [val_main_v52_apply, val_main_v51_apply, val_main_v50_apply, val_main_cst_7_apply, val_main_v49_apply, val_main_v48_apply, val_main_v47_apply,
    val_main_cst_6_apply, val_main_v46_apply, val_main_v45_apply, val_main_cst_5_apply, val_main_v44_apply, val_main_v43_apply, val_main_v42_apply,
    val_main_v41_apply, val_main_cst_4_apply, val_main_v40_apply, val_main_call0_v4_apply, val_main_call0_v3_apply, val_main_cst_3_apply,
    val_main_call0_v2_apply, val_main_call0_v1_apply, val_main_call0_v0_apply, val_main_cst_2_apply, val_main_v39_apply, val_main_v38_apply,
    val_main_cst_apply, gate_apply, linear_apply]
  generalize val_main_v35 (F := Ideal) x6 x7 x8 (ix3 R e (even j)) = g
  generalize val_main_v35 (F := Ideal) x6 x7 x8 (ix3 R e (odd j)) = l
  show min g (Ideal.ofBits FTy.f32 0x40E00000#32) * Ideal.div (Ideal.ofBits FTy.f32 0x3F800000#32) (Ideal.ofBits FTy.f32 0x3F800000#32 + Ideal.exp (-(Ideal.ofBits FTy.f32 0x3FD9DB23#32 * min g (Ideal.ofBits FTy.f32 0x40E00000#32))))
    * (min (Ideal.ofBits FTy.f32 0x40E00000#32) (max (Ideal.ofBits FTy.f32 0xC0E00000#32) l) + Ideal.ofBits FTy.f32 0x3F800000#32) = _
  rw [Ideal.ofBits_one_f32]
  rfl

/-- Expert `e`'s layer on row `R`. -/
theorem layer_apply (R : Fin 32768) (e : Fin 32) (d : Fin 2048) : val_main_v59 (F := Ideal) x6 x7 x8 x9 x10 (ix3 R e d)
    = expert (fun k => x6 (ix2 R k)) (fun k c => x7 (ix4 3 e k c)) (fun c => x8 (ix2 e c)) (fun j d => x9 (ix4 3 e j d)) (fun d => x10 (ix2 e d)) d := by
  rw [val_main_v59_apply, val_main_v56_apply, val_main_v55_apply, val_main_v58_apply, val_main_v57_apply]
  refine congrArg₂ (· + ·) (Finset.sum_congr rfl fun j _ => ?_) (congrArg x10 ?_)
  · rw [mul_comm]
    refine congrArg₂ (· * ·) ((congrArg _ ?_).trans ((hidden_apply x6 x7 x8 R e j).trans ?_)) ((congrArg _ ?_).trans (w2_apply x9 e j d))
    · exact funext fun a => by match a with | ⟨0, _⟩ => rfl | ⟨1, _⟩ => rfl | ⟨2, _⟩ => rfl
    · rw [first_apply, first_apply]
    · exact funext fun a => by match a with | ⟨0, _⟩ => rfl | ⟨1, _⟩ => rfl | ⟨2, _⟩ => rfl
  · exact funext fun a => by match a with | ⟨0, _⟩ => rfl | ⟨1, _⟩ => rfl

open Classical in
/-- Which rows item `s` owns. -/
theorem owned_apply (R : Fin 32768) (s : Fin 159) (hw : (x0 (ix1 s)).toNat < 128) : val_main_v28 (F := Ideal) x0 x2 x3 (ix2 R s)
    = (if (x0 (ix1 s)).toNat = R.val / 256 ∧ (x2 (ix1 s)).toInt ≤ ((R.val % 256 : ℕ) : ℤ) ∧ ((R.val % 256 : ℕ) : ℤ) < (x3 (ix1 s)).toInt then (1 : EReal) else 0) := by
  have i1 : ∀ i : S159.Idx, i 0 = s → i = ix1 s := fun i h => funext fun a => by match a with | ⟨0, _⟩ => exact h
  rw [val_main_v28_apply]
  refine indicator _ _ ?_
  rw [← owned_iff R.val R.isLt (x0 (ix1 s)) (x2 (ix1 s)) (x3 (ix1 s)) hw]
  simp only [val_main_v27_apply, val_main_v26_apply, val_main_v25_apply, val_main_c_1_apply, val_main_v24_apply, val_main_v23_apply, val_main_v22_apply,
    val_main_c_0_apply, val_main_v21_apply, val_main_v20_apply, val_main_v19_apply, val_main_v18_apply, val_main_v17_apply, val_main_v16_apply,
    val_main_v15_apply, val_main_v14_apply, val_main_v13_apply, val_main_v11_apply, val_main_v10_apply, val_main_c_apply, val_main_v9_apply,
    val_main_v12_apply, val_main_v8_apply, val_main_v7_apply]
  rw [i1 (idx_main_v9 _) rfl, i1 (idx_main_v15 _) rfl, i1 (idx_main_v18 _) rfl]
  exact Iff.rfl

open Classical in
/-- Whether item `s`'s expert is `e`. -/
theorem onehot_apply (s : Fin 159) (e E : Fin 32) (hE : (x1 (ix1 s)).toNat = E.val) : val_main_v6 (F := Ideal) x1 (ix2 s e) = (if E = e then (1 : EReal) else 0) := by
  have i1 : ∀ i : S159.Idx, i 0 = s → i = ix1 s := fun i h => funext fun a => by match a with | ⟨0, _⟩ => exact h
  rw [val_main_v6_apply]
  refine indicator _ _ ?_
  simp only [val_main_v5_apply, val_main_v4_apply, val_main_v3_apply, val_main_v2_apply, val_main_v1_apply, val_main_v0_apply]
  rw [i1 (idx_main_v0 _) rfl]
  show IntOp.cmpi .eq (x1 (ix1 s)) (BitVec.ofNat 32 e.val) = 1#1 ↔ E = e
  simp only [IntOp.cmpi, StableHlo.Predicate.ofBool_eq_one_iff, beq_iff_eq]
  have := e.isLt
  constructor
  · intro h
    refine Fin.ext ?_
    rw [← hE, h, BitVec.toNat_ofNat]; omega
  · rintro rfl
    refine BitVec.eq_of_toNat_eq ?_
    rw [hE, BitVec.toNat_ofNat]; omega

open Classical in
/-- The reference at `(R, d)`: the sum over the items that own row `R` of their experts' layers on it. -/
theorem result_apply (R : Fin 32768) (d : Fin 2048) (E : Fin 159 → Fin 32) (hE : ∀ s, (x1 (ix1 s)).toNat = (E s).val) (hw : ∀ s : Fin 159, (x0 (ix1 s)).toNat < 128) :
    val_main_v60 (F := Ideal) x0 x1 x2 x3 x6 x7 x8 x9 x10 (ix2 R d)
    = ∑ s : Fin 159, if (x0 (ix1 s)).toNat = R.val / 256 ∧ (x2 (ix1 s)).toInt ≤ ((R.val % 256 : ℕ) : ℤ) ∧ ((R.val % 256 : ℕ) : ℤ) < (x3 (ix1 s)).toInt then
        expert (fun k => x6 (ix2 R k)) (fun k c => x7 (ix4 3 (E s) k c)) (fun c => x8 (ix2 (E s) c)) (fun j d => x9 (ix4 3 (E s) j d)) (fun d => x10 (ix2 (E s) d)) d
      else 0 := by
  rw [val_main_v60_apply, ← mix _ E (fun e => expert (fun k => x6 (ix2 R k)) (fun k c => x7 (ix4 3 e k c)) (fun c => x8 (ix2 e c)) (fun j d => x9 (ix4 3 e j d)) (fun d => x10 (ix2 e d)) d)]
  refine Finset.sum_congr rfl fun e _ => congrArg₂ (· * ·) ?_ ((congrArg _ ?_).trans (layer_apply x6 x7 x8 x9 x10 R e d))
  · rw [val_main_v29_apply]
    refine Finset.sum_congr rfl fun s _ => congrArg₂ (· * ·) ((congrArg _ ?_).trans (owned_apply x0 x2 x3 R s (hw s))) ((congrArg _ ?_).trans (onehot_apply x1 s e (E s) (hE s)))
    · exact funext fun a => by match a with | ⟨0, _⟩ => rfl | ⟨1, _⟩ => rfl
    · exact funext fun a => by match a with | ⟨0, _⟩ => rfl | ⟨1, _⟩ => rfl
  · exact funext fun a => by match a with | ⟨0, _⟩ => rfl | ⟨1, _⟩ => rfl | ⟨2, _⟩ => rfl

end Cert.Reference4Ideal.Experts

end
-- ==== Proof.Mix.lean ====
/- One entry of a row that a mixer's two halves are projected out of, gated and added to: what the projections out of the mixers compute. -/
module

public import Idealize.ShloMosaic.Lib.Pointwise

@[expose] public section

noncomputable section

namespace Cert.Mix

open Idealize.ShloMosaic

/-- The two scans' sum and the skipped input, gated. -/
def scanned (yf yb xs z d : Fin 1024 → EReal) (k : Fin 1024) : EReal := (yf k + yb k + d k * xs k) * (z k * Ideal.logistic (z k))

/-- A row of 1024 divided by the root of its mean square, times its gain. -/
def normed (v g : Fin 1024 → EReal) (k : Fin 1024) : EReal :=
  v k * Ideal.rsqrt (Ideal.div (∑ j : Fin 1024, v j * v j) (Ideal.ofBits FTy.f32 0x44800000#32) + Ideal.ofBits FTy.f32 0x358637BD#32) * g k

/-- Column `j` of the head that column `k` belongs to, of four heads of 256. -/
def mate (k : Fin 1024) (j : Fin 256) : Fin 1024 := ⟨k.val / 256 * 256 + j.val, by omega⟩

/-- A row of four heads of 256, each divided by the root of its own mean square, times its gain, gated. -/
def headed (v g s : Fin 1024 → EReal) (k : Fin 1024) : EReal :=
  v k * Ideal.rsqrt (Ideal.div (∑ j : Fin 256, v (mate k j) * v (mate k j)) (Ideal.ofBits FTy.f32 0x43800000#32) + Ideal.ofBits FTy.f32 0x358637BD#32) * g k * Ideal.logistic (s k)

/-- A column of a head, over the root of the head's mean square, however its index and those of the head's columns are spelled. -/
theorem head_of (v : Fin 1024 → EReal) (k : Fin 1024) {k' : Fin 1024} (f : Fin 256 → Fin 1024) (hk : k'.val = k.val) (hf : ∀ j, (f j).val = k.val / 256 * 256 + j.val) :
    v k' * Ideal.rsqrt (Ideal.div (∑ j : Fin 256, v (f j) * v (f j)) (Ideal.ofBits FTy.f32 0x43800000#32) + Ideal.ofBits FTy.f32 0x358637BD#32)
      = v k * Ideal.rsqrt (Ideal.div (∑ j : Fin 256, v (mate k j) * v (mate k j)) (Ideal.ofBits FTy.f32 0x43800000#32) + Ideal.ofBits FTy.f32 0x358637BD#32) := by
  obtain rfl : k' = k := Fin.ext hk
  rw [show f = mate k' from funext fun j => Fin.ext (hf j)]

/-- The entry plus its gate times the two halves' products with a column of weights. -/
def added (x gate : EReal) (o y wa wb : Fin 1024 → EReal) : EReal := x + gate * (∑ k : Fin 1024, o k * wa k + ∑ k : Fin 1024, y k * wb k)

/-- Two such entries with equal parts are equal. -/
theorem added_congr {x x' gate gate' : EReal} {o o' y y' wa wa' wb wb' : Fin 1024 → EReal} (hx : x = x') (hgate : gate = gate') (ho : ∀ k, o k = o' k)
    (hy : y = y') (ha : ∀ k, wa k = wa' k) (hb : ∀ k, wb k = wb' k) : added x gate o y wa wb = added x' gate' o' y' wa' wb' := by
  rw [hx, hgate, funext ho, hy, funext ha, funext hb]

/-- Two normed scans of equal parts are equal. -/
theorem scanned_congr {yf yf' yb yb' xs xs' z z' d d' g g' : Fin 1024 → EReal} (hf : ∀ k, yf k = yf' k) (hb : ∀ k, yb k = yb' k) (hx : ∀ k, xs k = xs' k)
    (hz : ∀ k, z k = z' k) (hd : ∀ k, d k = d' k) (hg : ∀ k, g k = g' k) : normed (scanned yf yb xs z d) g = normed (scanned yf' yb' xs' z' d') g' := by
  rw [funext hf, funext hb, funext hx, funext hz, funext hd, funext hg]

/-- Two normed and gated rows of heads of equal parts are equal. -/
theorem headed_congr {v v' g g' s s' : Fin 1024 → EReal} (hv : ∀ k, v k = v' k) (hg : ∀ k, g k = g' k) (hs : ∀ k, s k = s' k) : headed v g s = headed v' g' s' := by
  rw [funext hv, funext hg, funext hs]

/-- The first and the second half of 2048 columns. -/
def low (k : Fin 1024) : Fin 2048 := ⟨k.val, by omega⟩
def high (k : Fin 1024) : Fin 2048 := ⟨1024 + k.val, by omega⟩

/-- A sum over 2048 columns is the sum over the first half plus the sum over the second. -/
theorem sum_halves (f : Fin 2048 → EReal) : ∑ k : Fin 2048, f k = ∑ k : Fin 1024, f (low k) + ∑ k : Fin 1024, f (high k) :=
  Fin.sum_univ_add (a := 1024) (b := 1024) f

end Cert.Mix

end
-- ==== Proof.OutProj5.lean ====
/- The projection out of the even layers' mixer: what the kernel leaves in the result, and what the reference computes there. -/
module

public import proofs.«01_k».proof.Proof.Gen.Kernel5Ideal.Value
public import proofs.«01_k».proof.Proof.Gen.Reference5Ideal.Read
public import proofs.«01_k».proof.Proof.Mix
public import Idealize.ShloMosaic.Lib.Pointwise
public import Idealize.ShloMosaic.Lib.MatmulPlain
public import Idealize.ShloMosaic.Lib.Pipeline.ValueKit
public import Idealize.ShloMosaic.Lib.IdealHost

@[expose] public section

set_option maxRecDepth 16384

noncomputable section

namespace Cert.Kernel5Ideal.Out

open Idealize.ShloMosaic Idealize.ShloMosaic.TcCoe Idealize.SL.Sem
open Idealize.ShloMosaic.Pipeline (Dat)
open Cert.Kernel5Ideal Cert.Kernel5Ideal.Gen Cert.Mix

variable (m : (ℓ : Loc nD τ sig) → Buf (Elt Ideal) ℓ)

/-- Where each window's block lies at grid point `t`, in blocks. -/
theorem idx : ∀ t : Fin cfg0.N, win0_0.index t = ![t.val / 9, t.val % 9, 0] ∧ win0_1.index t = ![t.val / 9, 0, t.val % 9, 0]
    ∧ win0_2.index t = ![t.val / 9, 1, t.val % 9, 0] ∧ win0_3.index t = ![t.val / 9, t.val % 9, 0] ∧ win0_4.index t = ![t.val / 9, t.val % 9, 2]
    ∧ win0_5.index t = ![0, 0] ∧ win0_6.index t = ![0, 0] ∧ win0_7.index t = ![0, 0] ∧ win0_8.index t = ![t.val / 9, t.val % 9, 0]
    ∧ win0_9.index t = ![t.val / 9, t.val % 9 / 8, 0, 0] ∧ win0_10.index t = ![t.val / 9, t.val % 9, 0] ∧ t.val < 36 :=
  (by decide +kernel : ∀ t : Fin grid0.N, _)

/-- One block's result at an index. -/
theorem block_apply (z : Vec Ideal S1x256x1024 .f32) (yf yb : Vec Ideal S1x1x256x1024 .f32) (d : Vec Ideal S1x1024 .f32) (xs : Vec Ideal S1x256x1024 .f32)
    (g : Vec Ideal S1x1024 .f32) (o : Vec Ideal S1x256x1024 .bf16) (wa wb : Vec Ideal S1024x2048 .bf16) (x : Vec Ideal S1x256x2048 .f32) (gate : Vec Ideal S1x1x1x2048 .f32)
    (r : Fin 256) (q : Fin 2048) :
    k0_pay1 (F := Ideal) (k0_pay2 z yf yb d xs g) (k0_pay3 o) wa wb x gate (ix3 0 r q)
      = added (x (ix3 0 r q)) (gate (ix4 0 0 0 q)) (fun k => o (ix3 0 r k))
          (normed (scanned (fun k => yf (ix4 0 0 r k)) (fun k => yb (ix4 0 0 r k)) (fun k => xs (ix3 0 r k)) (fun k => z (ix3 0 r k)) (fun k => d (ix2 0 k))) (fun k => g (ix2 0 k)))
          (fun k => wa (ix2 k q)) (fun k => wb (ix2 k q)) := by
  pointwise [k0_pay1, k0_pay2, k0_pay3]
  rfl

/-- The result at an index, from the argument arrays. -/
def out (o : FVec Ideal S4x2304x1024 .bf16) (ys : FVec Ideal S4x2x2304x1024 .f32) (xbc : FVec Ideal S4x2304x2048 .f32) (u : FVec Ideal S4x2304x4224 .f32)
    (d : FVec Ideal S16 .f32) (g : FVec Ideal S1024 .f32) (w : FVec Ideal S2048x2048 .f32) (x : FVec Ideal S4x2304x2048 .f32) (mods : FVec Ideal S4x2x8x2048 .f32)
    (i : S4x2304x2048.Idx) : EReal :=
  added (x (ix3 (i 0) (i 1) (i 2))) (mods (ix4 (i 0) ⟨(i 1).val / 2048, by have : (i 1).val < 2304 := (i 1).isLt; omega⟩ 2 (i 2))) (fun k => o (ix3 (i 0) (i 1) k))
    (normed (scanned (fun k => ys (ix4 (i 0) 0 (i 1) k)) (fun k => ys (ix4 (i 0) 1 (i 1) k)) (fun k => xbc (ix3 (i 0) (i 1) ⟨k.val, by omega⟩))
      (fun k => u (ix3 (i 0) (i 1) ⟨2048 + k.val, by omega⟩)) (fun k => d (ix1 ⟨k.val / 64, by omega⟩))) (fun k => g (ix1 k)))
    (fun k => w (ix2 (low k) (i 2))) (fun k => w (ix2 (high k) (i 2)))

/-- Where element `y` of the result's block at point `t` lies in the array. -/
theorem place (t : Fin cfg0.N) (y : S1x256x2048.Idx) :
    (((((cfg0.win 10).blk t).view.emb y) 0 : ℕ) = t.val / 9) ∧ (((((cfg0.win 10).blk t).view.emb y) 1 : ℕ) = t.val % 9 * 256 + (y 1).val)
      ∧ (((((cfg0.win 10).blk t).view.emb y) 2 : ℕ) = (y 2).val) := by
  have y0 : (y 0).val < 1 := (y 0).isLt
  refine ⟨?_, ?_, ?_⟩ <;> blk_simp [idx t] <;> (try omega)

/-- The skip's factors the call is handed. -/
theorem V_skip (c : Dev nD) (k : Fin 1024) : V m c main_v2 (ix2 0 k) = m ((c : Thread nD τ).loc main_arg4) (ix1 ⟨k.val / 64, by omega⟩) := by
  entry_read
  pointwise

/-- The gain the call is handed. -/
theorem V_gain (c : Dev nD) (k : Fin 1024) : V m c main_v3 (ix2 0 k) = m ((c : Thread nD τ).loc main_arg5) (ix1 k) := by
  entry_read
  pointwise

/-- The weights the call is handed. -/
theorem V_weights (c : Dev nD) (k q : Fin 2048) : V m c main_v4 (ix2 k q) = m ((c : Thread nD τ).loc main_arg6) (ix2 k q) := by
  entry_read
  rfl

/-- A block of the gain or of the skip's factors is the whole of it. -/
theorem row_apply (c : Dev nD) (t : Fin cfg0.N) (k : Fin 1024) : iblk m c 5 t (ix2 0 k) = V m c main_v2 (ix2 0 k) ∧ iblk m c 6 t (ix2 0 k) = V m c main_v3 (ix2 0 k) := by
  refine ⟨congrArg (V m c main_v2) (funext fun a => Fin.ext ?_), congrArg (V m c main_v3) (funext fun a => Fin.ext ?_)⟩
  · refine (Pipeline.Window.rect_emb_val (cfg0.win 5) t (ix2 0 k) a).trans ?_
    have e := congrFun (idx t).2.2.2.2.2.1 a
    match a with
    | ⟨0, _⟩ => exact (congrArg (· * 1 + 0) e).trans rfl
    | ⟨1, _⟩ => exact (congrArg (· * 1024 + k.val) e).trans (by show 0 * 1024 + k.val = k.val; omega)
  · refine (Pipeline.Window.rect_emb_val (cfg0.win 6) t (ix2 0 k) a).trans ?_
    have e := congrFun (idx t).2.2.2.2.2.2.1 a
    match a with
    | ⟨0, _⟩ => exact (congrArg (· * 1 + 0) e).trans rfl
    | ⟨1, _⟩ => exact (congrArg (· * 1024 + k.val) e).trans (by show 0 * 1024 + k.val = k.val; omega)

/-- The block of the weights is the whole of them. -/
theorem weights_apply (c : Dev nD) (t : Fin cfg0.N) (k q : Fin 2048) : iblk m c 7 t (ix2 k q) = m ((c : Thread nD τ).loc main_arg6) (ix2 k q) := by
  refine Eq.trans (b := V m c main_v4 (ix2 k q)) ?_ (V_weights m c k q)
  refine congrArg (V m c main_v4) (funext fun a => Fin.ext ?_)
  refine (Pipeline.Window.rect_emb_val (cfg0.win 7) t (ix2 k q) a).trans ?_
  have e := congrFun (idx t).2.2.2.2.2.2.2.1 a
  match a with
  | ⟨0, _⟩ => exact (congrArg (· * 2048 + k.val) e).trans (by show 0 * 2048 + k.val = k.val; omega)
  | ⟨1, _⟩ => exact (congrArg (· * 2048 + q.val) e).trans (by show 0 * 2048 + q.val = q.val; omega)

/-- The kernel's result array after the run. -/
theorem final (c : Dev nD) : (dats m 0 c).arrAt 10 cfg0.N
    = out (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) := by
  refine (dats m 0 c).arrAt_eq_of_covers 10 _ (by decide +kernel) fun t _ y => ?_
  blk_simp
  rw [after0_10]
  obtain ⟨p0, p1, p2⟩ := place t y
  generalize ((cfg0.win 10).blk t).view.emb y = i at p0 p1 p2 ⊢
  change S4x2304x2048.Idx at i
  idx_vars i
  unfold outsAt0
  frame_out
  idx_vars y
  obtain rfl : y0 = 0 := Subsingleton.elim _ _
  obtain rfl : y2 = i2 := Fin.ext (by omega)
  refine (block_apply _ _ _ _ _ _ _ _ _ _ _ y1 y2).trans ?_
  unfold out
  refine added_congr ?_ ?_ (fun k => ?_) (scanned_congr (fun k => ?_) (fun k => ?_) (fun k => ?_) (fun k => ?_) (fun k => ?_) (fun k => ?_)) (fun k => ?_) (fun k => ?_)
  · blk_ext [iblk, V, idx t]
  · pointwise; blk_ext [iblk, V, idx t]
  · blk_ext [iblk, V, idx t]
  · blk_ext [iblk, V, idx t]
  · blk_ext [iblk, V, idx t]
  · blk_ext [iblk, V, idx t]
  · unfold X0_4 Pipeline.Window.fill
    rw [dif_pos (moved0_4 t _)]
    blk_ext [iblk, V, idx t]
  · exact (row_apply m c t k).1.trans (V_skip m c k)
  · exact (row_apply m c t k).2.trans (V_gain m c k)
  · refine Eq.trans ?_ (weights_apply m c t (low k) y2)
    pointwise
    rfl
  · refine Eq.trans ?_ (weights_apply m c t (high k) y2)
    pointwise
    rfl

end Cert.Kernel5Ideal.Out

namespace Cert.Reference5Ideal.Out

open Cert.Reference5Ideal Cert.Reference5Ideal.Gen Cert.Reference5Ideal.Read
open Idealize.ShloMosaic Cert.Mix

variable (x0 : FVec Ideal S4x2304x1024 .bf16) (x1 : FVec Ideal S4x2x2304x1024 .f32) (x2 : FVec Ideal S4x2304x2048 .f32) (x3 : FVec Ideal S4x2304x4224 .f32)
  (x4 : FVec Ideal S16 .f32) (x5 : FVec Ideal S1024 .f32) (x6 : FVec Ideal S2048x2048 .f32) (x7 : FVec Ideal S4x2304x2048 .f32) (x8 : FVec Ideal S4x2x8x2048 .f32)

/-- A row's gated scan in the reference. -/
theorem scan_apply (b : Fin 4) (r : Fin 2304) (k : Fin 1024) : val_main_v16 (F := Ideal) x1 x2 x3 x4 (ix3 b r k)
    = scanned (fun k => x1 (ix4 b 0 r k)) (fun k => x1 (ix4 b 1 r k)) (fun k => x2 (ix3 b r ⟨k.val, by omega⟩)) (fun k => x3 (ix3 b r ⟨2048 + k.val, by omega⟩))
        (fun k => x4 (ix1 ⟨k.val / 64, by omega⟩)) k := by
  simp only [val_main_v16_apply, val_main_v15_apply, val_main_v14_apply, val_main_v13_apply, val_main_v12_apply, val_main_v11_apply, val_main_v10_apply,
    val_main_v9_apply, val_main_v8_apply, val_main_v7_apply, val_main_v6_apply, val_main_v5_apply, val_main_v4_apply, val_main_v3_apply, val_main_v2_apply,
    val_main_v1_apply, val_main_v0_apply, val_main_call0_v5_apply, val_main_call0_v4_apply, val_main_call0_cst_0_apply, val_main_call0_v3_apply,
    val_main_call0_v2_apply, val_main_call0_cst_apply, val_main_call0_v1_apply, val_main_call0_v0_apply]
  have hb := b.isLt
  have hr := r.isLt
  have hk := k.isLt
  have e5 : idx_main_v5 (idx_main_v14 (ix3 b r k)) = ix3 b r k := funext fun a => Fin.ext (by
    match a with
    | ⟨0, _⟩ => show _ = b.val; simp; try omega
    | ⟨1, _⟩ => show _ = r.val; simp; try omega
    | ⟨2, _⟩ => show _ = k.val; simp; try omega)
  have e7 : idx_main_v7 (idx_main_v14 (ix3 b r k)) = ix3 b r k := funext fun a => Fin.ext (by
    match a with
    | ⟨0, _⟩ => show _ = b.val; simp; try omega
    | ⟨1, _⟩ => show _ = r.val; simp; try omega
    | ⟨2, _⟩ => show _ = k.val; simp; try omega)
  have e1 : idx_main_v0 (idx_main_v1 (ix3 b r k)) = ix4 b 0 r k := funext fun a => Fin.ext (by
    match a with
    | ⟨0, _⟩ => show _ = b.val; simp; try omega
    | ⟨1, _⟩ => show _ = 0; simp; try omega
    | ⟨2, _⟩ => show _ = r.val; simp; try omega
    | ⟨3, _⟩ => show _ = k.val; simp; try omega)
  have e3 : idx_main_v2 (idx_main_v3 (ix3 b r k)) = ix4 b 1 r k := funext fun a => Fin.ext (by
    match a with
    | ⟨0, _⟩ => show _ = b.val; simp; try omega
    | ⟨1, _⟩ => show _ = 1; simp; try omega
    | ⟨2, _⟩ => show _ = r.val; simp; try omega
    | ⟨3, _⟩ => show _ = k.val; simp; try omega)
  have e6 : idx_main_v6 (ix3 b r k) = ix3 b r ⟨k.val, by omega⟩ := funext fun a => Fin.ext (by
    match a with
    | ⟨0, _⟩ => show _ = b.val; simp; try omega
    | ⟨1, _⟩ => show _ = r.val; simp; try omega
    | ⟨2, _⟩ => show _ = k.val; simp; try omega)
  have e8 : idx_main_v8 (ix3 b r k) = ix3 b r ⟨2048 + k.val, by omega⟩ := funext fun a => Fin.ext (by
    match a with
    | ⟨0, _⟩ => show _ = b.val; simp; try omega
    | ⟨1, _⟩ => show _ = r.val; simp; try omega
    | ⟨2, _⟩ => show _ = 2048 + k.val; simp; try omega)
  have e9 : idx_main_v9 (idx_main_v10 (idx_main_v11 (idx_main_v14 (ix3 b r k)))) = ix1 ⟨k.val / 64, by omega⟩ := funext fun a => Fin.ext (by
    match a with
    | ⟨0, _⟩ => show _ = k.val / 64; simp; try omega)
  simp only [e5, e7, e1, e3, e6, e8, e9]
  show (x1 _ + x1 _ + x4 _ * x2 _) * (x3 _ * Ideal.div (Ideal.ofBits FTy.f32 0x3F800000#32) (Ideal.ofBits FTy.f32 0x3F800000#32 + Ideal.exp (-(x3 _)))) = _
  rw [Ideal.ofBits_one_f32]
  rfl

/-- A row's normed scan in the reference. -/
theorem normed_apply (b : Fin 4) (r : Fin 2304) (k : Fin 1024) : val_main_v29 (F := Ideal) x1 x2 x3 x4 x5 (ix3 b r k)
    = normed (scanned (fun k => x1 (ix4 b 0 r k)) (fun k => x1 (ix4 b 1 r k)) (fun k => x2 (ix3 b r ⟨k.val, by omega⟩)) (fun k => x3 (ix3 b r ⟨2048 + k.val, by omega⟩))
        (fun k => x4 (ix1 ⟨k.val / 64, by omega⟩))) (fun k => x5 (ix1 k)) k := by
  simp only [val_main_v29_apply, val_main_v28_apply, val_main_v27_apply, val_main_v26_apply, val_main_v25_apply, val_main_v24_apply, val_main_v23_apply,
    val_main_v22_apply, val_main_cst_1_apply, val_main_v21_apply, val_main_v20_apply, val_main_cst_0_apply, val_main_v19_apply, val_main_v18_apply,
    val_main_cst_apply, val_main_v17_apply]
  have e18 : ∀ j : Fin 1024, idx_main_v18 (idx_main_v19 (idx_main_v25 (ix3 b r k))) j = ix3 b r j := fun j => funext fun a => Fin.ext (by
    match a with
    | ⟨0, _⟩ => rfl
    | ⟨1, _⟩ => rfl
    | ⟨2, _⟩ => rfl)
  have e27 : idx_main_v27 (idx_main_v28 (ix3 b r k)) = ix1 k := funext fun a => Fin.ext (by
    match a with
    | ⟨0, _⟩ => rfl)
  simp only [e18, e27, scan_apply]
  generalize hz : FloatOps.ofBits (F := Ideal) FTy.f32 0#32 = z
  obtain rfl : z = (0 : EReal) := hz.symm.trans (by simp [FloatOps.ofBits, Ideal.ofBits, Ideal.ieee])
  rw [zero_add]
  rfl

/-- The two halves of a row side by side, at an index. -/
theorem side (S T : FVec Ideal S4x2304x1024 .f32) (b : Fin 4) (r : Fin 2304) (q : Fin 2048) :
    concatenate S4x2304x2048 2 [⟨S4x2304x1024, S⟩, ⟨S4x2304x1024, T⟩] concatenates_S4x2304x1024_S4x2304x1024_S4x2304x2048_d2 (ix3 b r q)
      = if h : q.val < 1024 then S (ix3 b r ⟨q.val, h⟩) else T (ix3 b r ⟨q.val - 1024, by omega⟩) := by
  pointwise

/-- An entry of the projection in the reference. -/
theorem mixed_apply (b : Fin 4) (r : Fin 2304) (q : Fin 2048) : val_main_v32 (F := Ideal) x0 x1 x2 x3 x4 x5 x6 (ix3 b r q)
    = ∑ k : Fin 1024, x0 (ix3 b r k) * x6 (ix2 (low k) q)
      + ∑ k : Fin 1024, normed (scanned (fun k => x1 (ix4 b 0 r k)) (fun k => x1 (ix4 b 1 r k)) (fun k => x2 (ix3 b r ⟨k.val, by omega⟩))
          (fun k => x3 (ix3 b r ⟨2048 + k.val, by omega⟩)) (fun k => x4 (ix1 ⟨k.val / 64, by omega⟩))) (fun k => x5 (ix1 k)) k * x6 (ix2 (high k) q) := by
  rw [val_main_v32_apply, sum_halves]
  have el : ∀ k : Fin 2048, lidx_main_v32 (ix3 b r q) k = ix3 b r k := fun k => funext fun a => by match a with | ⟨0, _⟩ => rfl | ⟨1, _⟩ => rfl | ⟨2, _⟩ => rfl
  have er : ∀ k : Fin 2048, ridx_main_v32 (ix3 b r q) k = ix2 k q := fun k => funext fun a => by match a with | ⟨0, _⟩ => rfl | ⟨1, _⟩ => rfl
  refine congrArg₂ (· + ·) (Finset.sum_congr rfl fun k _ => ?_) (Finset.sum_congr rfl fun k _ => ?_)
  · rw [el, er]
    refine congrArg₂ (· * ·) ?_ rfl
    unfold val_main_v31
    rw [side, dif_pos (show (low k).val < 1024 from k.isLt)]
    rfl
  · rw [el, er]
    refine congrArg₂ (· * ·) ?_ rfl
    unfold val_main_v31
    rw [side, dif_neg (show ¬(high k).val < 1024 by show ¬(1024 + k.val < 1024); omega)]
    refine Eq.trans (congrArg _ ?_) (normed_apply x1 x2 x3 x4 x5 b r k)
    exact congrArg (ix3 b r) (Fin.ext (by show 1024 + k.val - 1024 = k.val; omega))

/-- The two parts of the rows, one under the other, at an index. -/
theorem glue (S : FVec Ideal S4x2048x2048 .f32) (T : FVec Ideal S4x256x2048 .f32) (b : Fin 4) (r : Fin 2304) (q : Fin 2048) :
    concatenate S4x2304x2048 1 [⟨S4x2048x2048, S⟩, ⟨S4x256x2048, T⟩] concatenates_S4x2048x2048_S4x256x2048_S4x2304x2048_d1 (ix3 b r q)
      = if h : r.val < 2048 then S (ix3 b ⟨r.val, h⟩ q) else T (ix3 b ⟨r.val - 2048, by omega⟩ q) := by
  pointwise

/-- The gates of the latent and of the context rows. -/
theorem latent_gate (b : Fin 4) (r q : Fin 2048) : idx_main_v33 (idx_main_v34 (idx_main_v38 (idx_main_v39 (idx_main_v40 (idx_main_v42 (ix3 b r q)))))) = ix4 b 0 2 q := by
  have hb := b.isLt
  have hq := q.isLt
  exact funext fun a => Fin.ext (by
    match a with
    | ⟨0, _⟩ => show _ = b.val; simp; try omega
    | ⟨1, _⟩ => show _ = 0; simp
    | ⟨2, _⟩ => show _ = 2; simp; try omega
    | ⟨3, _⟩ => show _ = q.val; simp; try omega)
theorem context_gate (b : Fin 4) (r : Fin 256) (q : Fin 2048) :
    idx_main_v35 (idx_main_v36 (idx_main_v46 (idx_main_v47 (idx_main_v48 (idx_main_v50 (ix3 b r q)))))) = ix4 b 1 2 q := by
  have hb := b.isLt
  have hq := q.isLt
  exact funext fun a => Fin.ext (by
    match a with
    | ⟨0, _⟩ => show _ = b.val; simp; try omega
    | ⟨1, _⟩ => show _ = 1; simp
    | ⟨2, _⟩ => show _ = 2; simp; try omega
    | ⟨3, _⟩ => show _ = q.val; simp; try omega)

/-- The reference's result is the kernel's. -/
theorem result : val_main_v53 (F := Ideal) x0 x1 x2 x3 x4 x5 x6 x7 x8 = Cert.Kernel5Ideal.Out.out x0 x1 x2 x3 x4 x5 x6 x7 x8 := by
  funext i
  obtain ⟨b, r, q, rfl⟩ : ∃ (b : Fin 4) (r : Fin 2304) (q : Fin 2048), i = ix3 b r q := ⟨i 0, i 1, i 2, eq_ix3 i⟩
  unfold val_main_v53 Cert.Kernel5Ideal.Out.out added
  rw [glue]
  by_cases h : r.val < 2048
  · have e : (⟨r.val / 2048, by omega⟩ : Fin 2) = 0 := Fin.ext (by show r.val / 2048 = 0; omega)
    have ex : idx_main_v37 (ix3 b ⟨r.val, h⟩ q) = ix3 b r q := funext fun a => Fin.ext (by
      match a with | ⟨0, _⟩ => rfl | ⟨1, _⟩ => rfl | ⟨2, _⟩ => rfl)
    have ey : idx_main_v41 (ix3 b ⟨r.val, h⟩ q) = ix3 b r q := funext fun a => Fin.ext (by
      match a with | ⟨0, _⟩ => rfl | ⟨1, _⟩ => rfl | ⟨2, _⟩ => rfl)
    rw [dif_pos h]
    simp only [val_main_v44_apply, val_main_v43_apply, val_main_v42_apply, val_main_v41_apply, val_main_v40_apply, val_main_v39_apply, val_main_v38_apply,
      val_main_v37_apply, val_main_v34_apply, val_main_v33_apply, ex, ey, latent_gate, mixed_apply, ix3_0, ix3_1, ix3_2, e]
    rfl
  · have e : (⟨r.val / 2048, by omega⟩ : Fin 2) = 1 := Fin.ext (by show r.val / 2048 = 1; omega)
    have ex : idx_main_v45 (ix3 b ⟨r.val - 2048, by omega⟩ q) = ix3 b r q := funext fun a => Fin.ext (by
      match a with | ⟨0, _⟩ => rfl | ⟨1, _⟩ => show 2048 + (r.val - 2048) = r.val; omega | ⟨2, _⟩ => rfl)
    have ey : idx_main_v49 (ix3 b ⟨r.val - 2048, by omega⟩ q) = ix3 b r q := funext fun a => Fin.ext (by
      match a with | ⟨0, _⟩ => rfl | ⟨1, _⟩ => show 2048 + (r.val - 2048) = r.val; omega | ⟨2, _⟩ => rfl)
    rw [dif_neg h]
    simp only [val_main_v52_apply, val_main_v51_apply, val_main_v50_apply, val_main_v49_apply, val_main_v48_apply, val_main_v47_apply, val_main_v46_apply,
      val_main_v45_apply, val_main_v36_apply, val_main_v35_apply, ex, ey, context_gate, mixed_apply, ix3_0, ix3_1, ix3_2, e]
    rfl

end Cert.Reference5Ideal.Out

end
-- ==== Proof.OutProj6.lean ====
/- The projection out of the odd layers' mixer: what the kernel leaves in the result, and what the reference computes there. -/
module

public import proofs.«01_k».proof.Proof.Gen.Kernel6Ideal.Value
public import proofs.«01_k».proof.Proof.Gen.Reference6Ideal.Read
public import proofs.«01_k».proof.Proof.OutProj5
public import Idealize.ShloMosaic.Lib.Pointwise
public import Idealize.ShloMosaic.Lib.MatmulPlain
public import Idealize.ShloMosaic.Lib.Pipeline.ValueKit
public import Idealize.ShloMosaic.Lib.IdealHost

@[expose] public section

set_option maxRecDepth 16384

noncomputable section

namespace Cert.Kernel6Ideal.Out

open Idealize.ShloMosaic Idealize.ShloMosaic.TcCoe Idealize.SL.Sem
open Idealize.ShloMosaic.Pipeline (Dat)
open Cert.Kernel6Ideal Cert.Kernel6Ideal.Gen Cert.Mix

variable (m : (ℓ : Loc nD τ sig) → Buf (Elt Ideal) ℓ)

/-- Where each window's block lies at grid point `t`, in blocks. -/
theorem idx : ∀ t : Fin cfg0.N, win0_0.index t = ![t.val / 9, t.val % 9, 0] ∧ win0_1.index t = ![t.val / 9, 0, t.val % 9, 0]
    ∧ win0_2.index t = ![t.val / 9, 1, t.val % 9, 0] ∧ win0_3.index t = ![t.val / 9, t.val % 9, 4] ∧ win0_4.index t = ![0, 0]
    ∧ win0_5.index t = ![0, 0] ∧ win0_6.index t = ![t.val / 9, t.val % 9, 0] ∧ win0_7.index t = ![t.val / 9, t.val % 9 / 8, 0, 0]
    ∧ win0_8.index t = ![t.val / 9, t.val % 9, 0] ∧ t.val < 36 :=
  (by decide +kernel : ∀ t : Fin grid0.N, _)

/-- One block's result at an index. -/
theorem block_apply (hf hb : Vec Ideal S1x1x256x1024 .f32) (s : Vec Ideal S1x256x1024 .f32)
    (g : Vec Ideal S1x1024 .f32) (o : Vec Ideal S1x256x1024 .bf16) (wa wb : Vec Ideal S1024x2048 .bf16) (x : Vec Ideal S1x256x2048 .f32) (gate : Vec Ideal S1x1x1x2048 .f32)
    (r : Fin 256) (q : Fin 2048) :
    k0_pay1 (F := Ideal) (k0_pay8 (k0_pay2 hf hb) (k0_pay3 s) (k0_pay4 hf hb) (k0_pay5 hf hb) (k0_pay6 hf hb) (k0_pay7 hf hb) g o wa wb x gate) (ix3 0 r q)
      = added (x (ix3 0 r q)) (gate (ix4 0 0 0 q)) (fun k => o (ix3 0 r k))
          (headed (fun k => hf (ix4 0 0 r k) + hb (ix4 0 0 r k)) (fun k => g (ix2 0 k)) (fun k => s (ix3 0 r k)))
          (fun k => wa (ix2 k q)) (fun k => wb (ix2 k q)) := by
  pointwise [k0_pay1, k0_pay2, k0_pay3, k0_pay4, k0_pay5, k0_pay6, k0_pay7, k0_pay8]
  unfold added
  refine congrArg (x (ix3 0 r q) + ·) (congrArg (gate (ix4 0 0 0 q) * ·) (congrArg (_ + ·) (Finset.sum_congr rfl fun k _ => congrArg (· * wb (ix2 k q)) ?_)))
  unfold headed
  refine congrArg (· * _) (congrArg (· * _) ?_)
  have hk := k.isLt
  by_cases h0 : k.val < 256
  · rw [dif_pos h0]
    exact head_of (fun k => hf (ix4 0 0 r k) + hb (ix4 0 0 r k)) k (fun j => ⟨j.val, by omega⟩) rfl fun j => by show j.val = _; omega
  rw [dif_neg h0]
  by_cases h1 : k.val - 256 < 256
  · rw [dif_pos h1]
    exact head_of (fun k => hf (ix4 0 0 r k) + hb (ix4 0 0 r k)) k (fun j => ⟨256 + j.val, by omega⟩) (by show 256 + (k.val - 256) = k.val; omega) fun j => by show 256 + j.val = _; omega
  rw [dif_neg h1]
  by_cases h2 : k.val - 256 - 256 < 256
  · rw [dif_pos h2]
    exact head_of (fun k => hf (ix4 0 0 r k) + hb (ix4 0 0 r k)) k (fun j => ⟨512 + j.val, by omega⟩) (by show 512 + (k.val - 256 - 256) = k.val; omega) fun j => by show 512 + j.val = _; omega
  rw [dif_neg h2]
  exact head_of (fun k => hf (ix4 0 0 r k) + hb (ix4 0 0 r k)) k (fun j => ⟨768 + j.val, by omega⟩) (by show 768 + (k.val - 256 - 256 - 256) = k.val; omega)
    fun j => by show 768 + j.val = _; omega

/-- The result at an index, from the argument arrays. -/
def out (o : FVec Ideal S4x2304x1024 .bf16) (hs : FVec Ideal S4x2x2304x1024 .f32) (u : FVec Ideal S4x2304x6272 .f32) (g : FVec Ideal S1024 .f32)
    (w : FVec Ideal S2048x2048 .f32) (x : FVec Ideal S4x2304x2048 .f32) (mods : FVec Ideal S4x2x8x2048 .f32) (i : S4x2304x2048.Idx) : EReal :=
  added (x (ix3 (i 0) (i 1) (i 2))) (mods (ix4 (i 0) ⟨(i 1).val / 2048, by have : (i 1).val < 2304 := (i 1).isLt; omega⟩ 2 (i 2))) (fun k => o (ix3 (i 0) (i 1) k))
    (headed (fun k => hs (ix4 (i 0) 0 (i 1) k) + hs (ix4 (i 0) 1 (i 1) k)) (fun k => g (ix1 k)) (fun k => u (ix3 (i 0) (i 1) ⟨4096 + k.val, by omega⟩)))
    (fun k => w (ix2 (low k) (i 2))) (fun k => w (ix2 (high k) (i 2)))

/-- Where element `y` of the result's block at point `t` lies in the array. -/
theorem place (t : Fin cfg0.N) (y : S1x256x2048.Idx) :
    (((((cfg0.win 8).blk t).view.emb y) 0 : ℕ) = t.val / 9) ∧ (((((cfg0.win 8).blk t).view.emb y) 1 : ℕ) = t.val % 9 * 256 + (y 1).val)
      ∧ (((((cfg0.win 8).blk t).view.emb y) 2 : ℕ) = (y 2).val) := by
  have y0 : (y 0).val < 1 := (y 0).isLt
  refine ⟨?_, ?_, ?_⟩ <;> blk_simp [idx t] <;> (try omega)

/-- The gain the call is handed. -/
theorem V_gain (c : Dev nD) (k : Fin 1024) : V m c main_v0 (ix2 0 k) = m ((c : Thread nD τ).loc main_arg3) (ix1 k) := by
  entry_read
  pointwise

/-- The weights the call is handed. -/
theorem V_weights (c : Dev nD) (k q : Fin 2048) : V m c main_v1 (ix2 k q) = m ((c : Thread nD τ).loc main_arg4) (ix2 k q) := by
  entry_read
  rfl

/-- The block of the gain is the whole of it. -/
theorem gain_apply (c : Dev nD) (t : Fin cfg0.N) (k : Fin 1024) : iblk m c 4 t (ix2 0 k) = m ((c : Thread nD τ).loc main_arg3) (ix1 k) := by
  refine Eq.trans (b := V m c main_v0 (ix2 0 k)) ?_ (V_gain m c k)
  refine congrArg (V m c main_v0) (funext fun a => Fin.ext ?_)
  refine (Pipeline.Window.rect_emb_val (cfg0.win 4) t (ix2 0 k) a).trans ?_
  have e := congrFun (idx t).2.2.2.2.1 a
  match a with
  | ⟨0, _⟩ => exact (congrArg (· * 1 + 0) e).trans rfl
  | ⟨1, _⟩ => exact (congrArg (· * 1024 + k.val) e).trans (by show 0 * 1024 + k.val = k.val; omega)

/-- The block of the weights is the whole of them. -/
theorem weights_apply (c : Dev nD) (t : Fin cfg0.N) (k q : Fin 2048) : iblk m c 5 t (ix2 k q) = m ((c : Thread nD τ).loc main_arg4) (ix2 k q) := by
  refine Eq.trans (b := V m c main_v1 (ix2 k q)) ?_ (V_weights m c k q)
  refine congrArg (V m c main_v1) (funext fun a => Fin.ext ?_)
  refine (Pipeline.Window.rect_emb_val (cfg0.win 5) t (ix2 k q) a).trans ?_
  have e := congrFun (idx t).2.2.2.2.2.1 a
  match a with
  | ⟨0, _⟩ => exact (congrArg (· * 2048 + k.val) e).trans (by show 0 * 2048 + k.val = k.val; omega)
  | ⟨1, _⟩ => exact (congrArg (· * 2048 + q.val) e).trans (by show 0 * 2048 + q.val = q.val; omega)

/-- The kernel's result array after the run. -/
theorem final (c : Dev nD) : (dats m 0 c).arrAt 8 cfg0.N
    = out (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  obtain ⟨p0, p1, p2⟩ := place t y
  generalize ((cfg0.win 8).blk t).view.emb y = i at p0 p1 p2 ⊢
  change S4x2304x2048.Idx at i
  idx_vars i
  unfold outsAt0
  frame_out
  idx_vars y
  obtain rfl : y0 = 0 := Subsingleton.elim _ _
  obtain rfl : y2 = i2 := Fin.ext (by omega)
  refine (block_apply _ _ _ _ _ _ _ _ _ y1 y2).trans ?_
  unfold out
  refine added_congr ?_ ?_ (fun k => ?_) (headed_congr (fun k => congrArg₂ (· + ·) ?_ ?_) (fun k => ?_) (fun k => ?_)) (fun k => ?_) (fun k => ?_)
  · blk_ext [iblk, V, idx t]
  · pointwise; blk_ext [iblk, V, idx t]
  · blk_ext [iblk, V, idx t]
  · blk_ext [iblk, V, idx t]
  · blk_ext [iblk, V, idx t]
  · exact gain_apply m c t k
  · unfold X0_3 Pipeline.Window.fill
    rw [dif_pos (moved0_3 t _)]
    blk_ext [iblk, V, idx t]
  · refine Eq.trans ?_ (weights_apply m c t (low k) y2)
    pointwise
    rfl
  · refine Eq.trans ?_ (weights_apply m c t (high k) y2)
    pointwise
    rfl

end Cert.Kernel6Ideal.Out

namespace Cert.Reference6Ideal.Out

open Cert.Reference6Ideal Cert.Reference6Ideal.Gen Cert.Reference6Ideal.Read
open Idealize.ShloMosaic Cert.Mix

variable (x0 : FVec Ideal S4x2304x1024 .bf16) (x1 : FVec Ideal S4x2x2304x1024 .f32) (x2 : FVec Ideal S4x2304x6272 .f32) (x3 : FVec Ideal S1024 .f32)
  (x4 : FVec Ideal S2048x2048 .f32) (x5 : FVec Ideal S4x2304x2048 .f32) (x6 : FVec Ideal S4x2x8x2048 .f32)

/-- A row's normed and gated heads in the reference. -/
theorem headed_apply (b : Fin 4) (r : Fin 2304) (k : Fin 1024) : val_main_v29 (F := Ideal) x1 x2 x3 (ix3 b r k)
    = headed (fun k => x1 (ix4 b 0 r k) + x1 (ix4 b 1 r k)) (fun k => x3 (ix1 k)) (fun k => x2 (ix3 b r ⟨4096 + k.val, by omega⟩)) k := by
  simp only [val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply, val_main_cst_3_apply]
  have hb := b.isLt
  have hr := r.isLt
  have hk := k.isLt
  have e9 : ∀ j : Fin 256, idx_main_v5 (idx_main_v9 (idx_main_v10 (idx_main_v16 (idx_main_v29 (ix3 b r k)))) j) = ix3 b r (mate k j) := fun j => funext fun a => Fin.ext (by
    have hj := j.isLt
    match a with
    | ⟨0, _⟩ => show _ = b.val; simp; try omega
    | ⟨1, _⟩ => show _ = r.val; simp; try omega
    | ⟨2, _⟩ => show _ = k.val / 256 * 256 + j.val; simp; try omega)
  have e5 : idx_main_v5 (idx_main_v29 (ix3 b r k)) = ix3 b r k := funext fun a => Fin.ext (by
    match a with
    | ⟨0, _⟩ => show _ = b.val; simp; try omega
    | ⟨1, _⟩ => show _ = r.val; simp; try omega
    | ⟨2, _⟩ => show _ = k.val; simp; try omega)
  have e27 : idx_main_v27 (idx_main_v29 (ix3 b r k)) = ix3 b r k := funext fun a => Fin.ext (by
    match a with
    | ⟨0, _⟩ => show _ = b.val; simp; try omega
    | ⟨1, _⟩ => show _ = r.val; simp; try omega
    | ⟨2, _⟩ => show _ = k.val; simp; try omega)
  have e1 : ∀ j : Fin 1024, idx_main_v0 (idx_main_v1 (ix3 b r j)) = ix4 b 0 r j := fun j => funext fun a => Fin.ext (by
    have hj := j.isLt
    match a with
    | ⟨0, _⟩ => show _ = b.val; simp; try omega
    | ⟨1, _⟩ => show _ = 0; simp; try omega
    | ⟨2, _⟩ => show _ = r.val; simp; try omega
    | ⟨3, _⟩ => show _ = j.val; simp; try omega)
  have e3 : ∀ j : Fin 1024, idx_main_v2 (idx_main_v3 (ix3 b r j)) = ix4 b 1 r j := fun j => funext fun a => Fin.ext (by
    have hj := j.isLt
    match a with
    | ⟨0, _⟩ => show _ = b.val; simp; try omega
    | ⟨1, _⟩ => show _ = 1; simp; try omega
    | ⟨2, _⟩ => show _ = r.val; simp; try omega
    | ⟨3, _⟩ => show _ = j.val; simp; try omega)
  have e6 : idx_main_v6 (ix3 b r k) = ix3 b r ⟨4096 + k.val, by omega⟩ := funext fun a => Fin.ext (by
    match a with
    | ⟨0, _⟩ => show _ = b.val; simp; try omega
    | ⟨1, _⟩ => show _ = r.val; simp; try omega
    | ⟨2, _⟩ => show _ = 4096 + k.val; simp; try omega)
  have e7 : idx_main_v7 (idx_main_v18 (idx_main_v19 (idx_main_v29 (ix3 b r k)))) = ix1 k := funext fun a => Fin.ext (by
    match a with
    | ⟨0, _⟩ => show _ = k.val; simp; try omega)
  simp only [e9, e5, e27, e1, e3, e6, e7]
  generalize hz : FloatOps.ofBits (F := Ideal) FTy.f32 0#32 = z
  obtain rfl : z = (0 : EReal) := hz.symm.trans (by simp [FloatOps.ofBits, Ideal.ofBits, Ideal.ieee])
  rw [zero_add]
  show (x1 _ + x1 _) * Ideal.rsqrt (Ideal.div (∑ j : Fin 256, (x1 (ix4 b 0 r (mate k j)) + x1 (ix4 b 1 r (mate k j))) * (x1 (ix4 b 0 r (mate k j)) + x1 (ix4 b 1 r (mate k j)))) (Ideal.ofBits FTy.f32 0x43800000#32)
    + Ideal.ofBits FTy.f32 0x358637BD#32) * x3 _ * Ideal.div (Ideal.ofBits FTy.f32 0x3F800000#32) (Ideal.ofBits FTy.f32 0x3F800000#32 + Ideal.exp (-(x2 _))) = _
  rw [Ideal.ofBits_one_f32]
  rfl

/-- The two halves of a row side by side, at an index. -/
theorem side (S T : FVec Ideal S4x2304x1024 .f32) (b : Fin 4) (r : Fin 2304) (q : Fin 2048) :
    concatenate S4x2304x2048 2 [⟨S4x2304x1024, S⟩, ⟨S4x2304x1024, T⟩] concatenates_S4x2304x1024_S4x2304x1024_S4x2304x2048_d2 (ix3 b r q)
      = if h : q.val < 1024 then S (ix3 b r ⟨q.val, h⟩) else T (ix3 b r ⟨q.val - 1024, by omega⟩) := by
  pointwise

/-- An entry of the projection in the reference. -/
theorem mixed_apply (b : Fin 4) (r : Fin 2304) (q : Fin 2048) : val_main_v32 (F := Ideal) x0 x1 x2 x3 x4 (ix3 b r q)
    = ∑ k : Fin 1024, x0 (ix3 b r k) * x4 (ix2 (low k) q)
      + ∑ k : Fin 1024, headed (fun k => x1 (ix4 b 0 r k) + x1 (ix4 b 1 r k)) (fun k => x3 (ix1 k)) (fun k => x2 (ix3 b r ⟨4096 + k.val, by omega⟩)) k * x4 (ix2 (high k) q) := by
  rw [val_main_v32_apply, sum_halves]
  have el : ∀ k : Fin 2048, lidx_main_v32 (ix3 b r q) k = ix3 b r k := fun k => funext fun a => by match a with | ⟨0, _⟩ => rfl | ⟨1, _⟩ => rfl | ⟨2, _⟩ => rfl
  have er : ∀ k : Fin 2048, ridx_main_v32 (ix3 b r q) k = ix2 k q := fun k => funext fun a => by match a with | ⟨0, _⟩ => rfl | ⟨1, _⟩ => rfl
  refine congrArg₂ (· + ·) (Finset.sum_congr rfl fun k _ => ?_) (Finset.sum_congr rfl fun k _ => ?_)
  · rw [el, er]
    refine congrArg₂ (· * ·) ?_ rfl
    unfold val_main_v31
    rw [side, dif_pos (show (low k).val < 1024 from k.isLt)]
    rfl
  · rw [el, er]
    refine congrArg₂ (· * ·) ?_ rfl
    unfold val_main_v31
    rw [side, dif_neg (show ¬(high k).val < 1024 by show ¬(1024 + k.val < 1024); omega)]
    refine Eq.trans (congrArg _ ?_) (headed_apply x1 x2 x3 b r k)
    exact congrArg (ix3 b r) (Fin.ext (by show 1024 + k.val - 1024 = k.val; omega))

/-- The two parts of the rows, one under the other, at an index. -/
theorem glue (S : FVec Ideal S4x2048x2048 .f32) (T : FVec Ideal S4x256x2048 .f32) (b : Fin 4) (r : Fin 2304) (q : Fin 2048) :
    concatenate S4x2304x2048 1 [⟨S4x2048x2048, S⟩, ⟨S4x256x2048, T⟩] concatenates_S4x2048x2048_S4x256x2048_S4x2304x2048_d1 (ix3 b r q)
      = if h : r.val < 2048 then S (ix3 b ⟨r.val, h⟩ q) else T (ix3 b ⟨r.val - 2048, by omega⟩ q) := by
  pointwise

/-- The gates of the latent and of the context rows. -/
theorem latent_gate (b : Fin 4) (r q : Fin 2048) : idx_main_v33 (idx_main_v34 (idx_main_v38 (idx_main_v39 (idx_main_v40 (idx_main_v42 (ix3 b r q)))))) = ix4 b 0 2 q :=
  Cert.Reference5Ideal.Out.latent_gate b r q
theorem context_gate (b : Fin 4) (r : Fin 256) (q : Fin 2048) :
    idx_main_v35 (idx_main_v36 (idx_main_v46 (idx_main_v47 (idx_main_v48 (idx_main_v50 (ix3 b r q)))))) = ix4 b 1 2 q :=
  Cert.Reference5Ideal.Out.context_gate b r q

/-- The reference's result is the kernel's. -/
theorem result : val_main_v53 (F := Ideal) x0 x1 x2 x3 x4 x5 x6 = Cert.Kernel6Ideal.Out.out x0 x1 x2 x3 x4 x5 x6 := by
  funext i
  obtain ⟨b, r, q, rfl⟩ : ∃ (b : Fin 4) (r : Fin 2304) (q : Fin 2048), i = ix3 b r q := ⟨i 0, i 1, i 2, eq_ix3 i⟩
  unfold val_main_v53 Cert.Kernel6Ideal.Out.out added
  rw [glue]
  by_cases h : r.val < 2048
  · have e : (⟨r.val / 2048, by omega⟩ : Fin 2) = 0 := Fin.ext (by show r.val / 2048 = 0; omega)
    have ex : idx_main_v37 (ix3 b ⟨r.val, h⟩ q) = ix3 b r q := funext fun a => Fin.ext (by
      match a with | ⟨0, _⟩ => rfl | ⟨1, _⟩ => rfl | ⟨2, _⟩ => rfl)
    have ey : idx_main_v41 (ix3 b ⟨r.val, h⟩ q) = ix3 b r q := funext fun a => Fin.ext (by
      match a with | ⟨0, _⟩ => rfl | ⟨1, _⟩ => rfl | ⟨2, _⟩ => rfl)
    rw [dif_pos h]
    simp only [val_main_v44_apply, val_main_v43_apply, val_main_v42_apply, val_main_v41_apply, val_main_v40_apply, val_main_v39_apply, val_main_v38_apply,
      val_main_v37_apply, val_main_v34_apply, val_main_v33_apply, ex, ey, latent_gate, mixed_apply, ix3_0, ix3_1, ix3_2, e]
    rfl
  · have e : (⟨r.val / 2048, by omega⟩ : Fin 2) = 1 := Fin.ext (by show r.val / 2048 = 1; omega)
    have ex : idx_main_v45 (ix3 b ⟨r.val - 2048, by omega⟩ q) = ix3 b r q := funext fun a => Fin.ext (by
      match a with | ⟨0, _⟩ => rfl | ⟨1, _⟩ => show 2048 + (r.val - 2048) = r.val; omega | ⟨2, _⟩ => rfl)
    have ey : idx_main_v49 (ix3 b ⟨r.val - 2048, by omega⟩ q) = ix3 b r q := funext fun a => Fin.ext (by
      match a with | ⟨0, _⟩ => rfl | ⟨1, _⟩ => show 2048 + (r.val - 2048) = r.val; omega | ⟨2, _⟩ => rfl)
    rw [dif_neg h]
    simp only [val_main_v52_apply, val_main_v51_apply, val_main_v50_apply, val_main_v49_apply, val_main_v48_apply, val_main_v47_apply, val_main_v46_apply,
      val_main_v45_apply, val_main_v36_apply, val_main_v35_apply, ex, ey, context_gate, mixed_apply, ix3_0, ix3_1, ix3_2, e]
    rfl

end Cert.Reference6Ideal.Out

end
-- ==== Proof.OutProj7.lean ====
/- The projection out of the last odd layer's mixer, of the latent rows only: what the kernel leaves in the result, and what the reference computes there. -/
module

public import proofs.«01_k».proof.Proof.Gen.Kernel7Ideal.Value
public import proofs.«01_k».proof.Proof.Gen.Reference7Ideal.Read
public import proofs.«01_k».proof.Proof.Mix
public import proofs.«01_k».proof.Proof.OutProj6
public import Idealize.ShloMosaic.Lib.Pointwise
public import Idealize.ShloMosaic.Lib.MatmulPlain
public import Idealize.ShloMosaic.Lib.Pipeline.ValueKit
public import Idealize.ShloMosaic.Lib.IdealHost

@[expose] public section

set_option maxRecDepth 16384

noncomputable section

namespace Cert.Kernel7Ideal.Out

open Idealize.ShloMosaic Idealize.ShloMosaic.TcCoe Idealize.SL.Sem
open Idealize.ShloMosaic.Pipeline (Dat)
open Cert.Kernel7Ideal Cert.Kernel7Ideal.Gen Cert.Mix

variable (m : (ℓ : Loc nD τ sig) → Buf (Elt Ideal) ℓ)

/-- Where each window's block lies at grid point `t`, in blocks. -/
theorem idx : ∀ t : Fin cfg0.N, win0_0.index t = ![t.val / 8, t.val % 8, 0] ∧ win0_1.index t = ![t.val / 8, 0, t.val % 8, 0]
    ∧ win0_2.index t = ![t.val / 8, 1, t.val % 8, 0] ∧ win0_3.index t = ![t.val / 8, t.val % 8, 4] ∧ win0_4.index t = ![0, 0]
    ∧ win0_5.index t = ![0, 0] ∧ win0_6.index t = ![t.val / 8, t.val % 8, 0] ∧ win0_7.index t = ![t.val / 8, t.val % 8 / 8, 0, 0]
    ∧ win0_8.index t = ![t.val / 8, t.val % 8, 0] ∧ t.val < 32 :=
  (by decide +kernel : ∀ t : Fin grid0.N, _)

/-- One block's result at an index. -/
theorem block_apply (hf hb : Vec Ideal S1x1x256x1024 .f32) (s : Vec Ideal S1x256x1024 .f32)
    (g : Vec Ideal S1x1024 .f32) (o : Vec Ideal S1x256x1024 .bf16) (wa wb : Vec Ideal S1024x2048 .bf16) (x : Vec Ideal S1x256x2048 .f32) (gate : Vec Ideal S1x1x1x2048 .f32)
    (r : Fin 256) (q : Fin 2048) :
    k0_pay1 (F := Ideal) (k0_pay8 (k0_pay2 hf hb) (k0_pay3 s) (k0_pay4 hf hb) (k0_pay5 hf hb) (k0_pay6 hf hb) (k0_pay7 hf hb) g o wa wb x gate) (ix3 0 r q)
      = added (x (ix3 0 r q)) (gate (ix4 0 0 0 q)) (fun k => o (ix3 0 r k))
          (headed (fun k => hf (ix4 0 0 r k) + hb (ix4 0 0 r k)) (fun k => g (ix2 0 k)) (fun k => s (ix3 0 r k)))
          (fun k => wa (ix2 k q)) (fun k => wb (ix2 k q)) :=
  Cert.Kernel6Ideal.Out.block_apply hf hb s g o wa wb x gate r q

/-- The row of the whole array that a latent row is. -/
def row (r : Fin 2048) : Fin 2304 := ⟨r.val, by omega⟩

/-- The result at an index, from the argument arrays. -/
def out (o : FVec Ideal S4x2304x1024 .bf16) (hs : FVec Ideal S4x2x2304x1024 .f32) (u : FVec Ideal S4x2304x6272 .f32) (g : FVec Ideal S1024 .f32)
    (w : FVec Ideal S2048x2048 .f32) (x : FVec Ideal S4x2304x2048 .f32) (mods : FVec Ideal S4x2x8x2048 .f32) (i : S4x2048x2048.Idx) : EReal :=
  added (x (ix3 (i 0) (row (i 1)) (i 2))) (mods (ix4 (i 0) 0 2 (i 2))) (fun k => o (ix3 (i 0) (row (i 1)) k))
    (headed (fun k => hs (ix4 (i 0) 0 (row (i 1)) k) + hs (ix4 (i 0) 1 (row (i 1)) k)) (fun k => g (ix1 k)) (fun k => u (ix3 (i 0) (row (i 1)) ⟨4096 + k.val, by omega⟩)))
    (fun k => w (ix2 (low k) (i 2))) (fun k => w (ix2 (high k) (i 2)))

/-- Where element `y` of the result's block at point `t` lies in the array. -/
theorem place (t : Fin cfg0.N) (y : S1x256x2048.Idx) :
    (((((cfg0.win 8).blk t).view.emb y) 0 : ℕ) = t.val / 8) ∧ (((((cfg0.win 8).blk t).view.emb y) 1 : ℕ) = t.val % 8 * 256 + (y 1).val)
      ∧ (((((cfg0.win 8).blk t).view.emb y) 2 : ℕ) = (y 2).val) := by
  have y0 : (y 0).val < 1 := (y 0).isLt
  refine ⟨?_, ?_, ?_⟩ <;> blk_simp [idx t] <;> (try omega)

/-- The gain the call is handed. -/
theorem V_gain (c : Dev nD) (k : Fin 1024) : V m c main_v0 (ix2 0 k) = m ((c : Thread nD τ).loc main_arg3) (ix1 k) := by
  entry_read
  pointwise

/-- The weights the call is handed. -/
theorem V_weights (c : Dev nD) (k q : Fin 2048) : V m c main_v1 (ix2 k q) = m ((c : Thread nD τ).loc main_arg4) (ix2 k q) := by
  entry_read
  rfl

/-- The block of the gain is the whole of it. -/
theorem gain_apply (c : Dev nD) (t : Fin cfg0.N) (k : Fin 1024) : iblk m c 4 t (ix2 0 k) = m ((c : Thread nD τ).loc main_arg3) (ix1 k) := by
  refine Eq.trans (b := V m c main_v0 (ix2 0 k)) ?_ (V_gain m c k)
  refine congrArg (V m c main_v0) (funext fun a => Fin.ext ?_)
  refine (Pipeline.Window.rect_emb_val (cfg0.win 4) t (ix2 0 k) a).trans ?_
  have e := congrFun (idx t).2.2.2.2.1 a
  match a with
  | ⟨0, _⟩ => exact (congrArg (· * 1 + 0) e).trans rfl
  | ⟨1, _⟩ => exact (congrArg (· * 1024 + k.val) e).trans (by show 0 * 1024 + k.val = k.val; omega)

/-- The block of the weights is the whole of them. -/
theorem weights_apply (c : Dev nD) (t : Fin cfg0.N) (k q : Fin 2048) : iblk m c 5 t (ix2 k q) = m ((c : Thread nD τ).loc main_arg4) (ix2 k q) := by
  refine Eq.trans (b := V m c main_v1 (ix2 k q)) ?_ (V_weights m c k q)
  refine congrArg (V m c main_v1) (funext fun a => Fin.ext ?_)
  refine (Pipeline.Window.rect_emb_val (cfg0.win 5) t (ix2 k q) a).trans ?_
  have e := congrFun (idx t).2.2.2.2.2.1 a
  match a with
  | ⟨0, _⟩ => exact (congrArg (· * 2048 + k.val) e).trans (by show 0 * 2048 + k.val = k.val; omega)
  | ⟨1, _⟩ => exact (congrArg (· * 2048 + q.val) e).trans (by show 0 * 2048 + q.val = q.val; omega)

/-- The kernel's result array after the run. -/
theorem final (c : Dev nD) : (dats m 0 c).arrAt 8 cfg0.N
    = out (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  obtain ⟨p0, p1, p2⟩ := place t y
  generalize ((cfg0.win 8).blk t).view.emb y = i at p0 p1 p2 ⊢
  change S4x2048x2048.Idx at i
  idx_vars i
  unfold outsAt0
  frame_out
  idx_vars y
  obtain rfl : y0 = 0 := Subsingleton.elim _ _
  obtain rfl : y2 = i2 := Fin.ext (by omega)
  refine (block_apply _ _ _ _ _ _ _ _ _ y1 y2).trans ?_
  unfold out row
  refine added_congr ?_ ?_ (fun k => ?_) (headed_congr (fun k => congrArg₂ (· + ·) ?_ ?_) (fun k => ?_) (fun k => ?_)) (fun k => ?_) (fun k => ?_)
  · blk_ext [iblk, V, idx t]
  · pointwise; blk_ext [iblk, V, idx t]
  · blk_ext [iblk, V, idx t]
  · blk_ext [iblk, V, idx t]
  · blk_ext [iblk, V, idx t]
  · exact gain_apply m c t k
  · unfold X0_3 Pipeline.Window.fill
    rw [dif_pos (moved0_3 t _)]
    blk_ext [iblk, V, idx t]
  · refine Eq.trans ?_ (weights_apply m c t (low k) y2)
    pointwise
    rfl
  · refine Eq.trans ?_ (weights_apply m c t (high k) y2)
    pointwise
    rfl

end Cert.Kernel7Ideal.Out

namespace Cert.Reference7Ideal.Out

open Cert.Reference7Ideal Cert.Reference7Ideal.Gen Cert.Reference7Ideal.Read
open Idealize.ShloMosaic Cert.Mix
open Cert.Kernel7Ideal.Out (row)

variable (x0 : FVec Ideal S4x2304x1024 .bf16) (x1 : FVec Ideal S4x2x2304x1024 .f32) (x2 : FVec Ideal S4x2304x6272 .f32) (x3 : FVec Ideal S1024 .f32)
  (x4 : FVec Ideal S2048x2048 .f32) (x5 : FVec Ideal S4x2304x2048 .f32) (x6 : FVec Ideal S4x2x8x2048 .f32)

/-- A row's normed and gated heads in the reference. -/
theorem headed_apply (b : Fin 4) (r : Fin 2048) (k : Fin 1024) : val_main_v32 (F := Ideal) x1 x2 x3 (ix3 b r k)
    = headed (fun k => x1 (ix4 b 0 (row r) k) + x1 (ix4 b 1 (row r) k)) (fun k => x3 (ix1 k)) (fun k => x2 (ix3 b (row r) ⟨4096 + k.val, by omega⟩)) k := by
  simp only [val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_cst_apply, val_main_cst_0_apply, val_main_cst_1_apply, val_main_cst_2_apply, val_main_cst_3_apply]
  have hb := b.isLt
  have hr := r.isLt
  have hk := k.isLt
  have e9 : ∀ j : Fin 256, idx_main_v8 (idx_main_v12 (idx_main_v13 (idx_main_v19 (idx_main_v32 (ix3 b r k)))) j) = ix3 b r (mate k j) := fun j => funext fun a => Fin.ext (by
    have hj := j.isLt
    match a with
    | ⟨0, _⟩ => show _ = b.val; simp; try omega
    | ⟨1, _⟩ => show _ = r.val; simp; try omega
    | ⟨2, _⟩ => show _ = k.val / 256 * 256 + j.val; simp; try omega)
  have e5 : idx_main_v8 (idx_main_v32 (ix3 b r k)) = ix3 b r k := funext fun a => Fin.ext (by
    match a with
    | ⟨0, _⟩ => show _ = b.val; simp; try omega
    | ⟨1, _⟩ => show _ = r.val; simp; try omega
    | ⟨2, _⟩ => show _ = k.val; simp; try omega)
  have e27 : idx_main_v30 (idx_main_v32 (ix3 b r k)) = ix3 b r k := funext fun a => Fin.ext (by
    match a with
    | ⟨0, _⟩ => show _ = b.val; simp; try omega
    | ⟨1, _⟩ => show _ = r.val; simp; try omega
    | ⟨2, _⟩ => show _ = k.val; simp; try omega)
  have e1 : ∀ j : Fin 1024, idx_main_v1 (idx_main_v3 (idx_main_v4 (ix3 b r j))) = ix4 b 0 (row r) j := fun j => funext fun a => Fin.ext (by
    have hj := j.isLt
    match a with
    | ⟨0, _⟩ => show _ = b.val; simp; try omega
    | ⟨1, _⟩ => show _ = 0; simp; try omega
    | ⟨2, _⟩ => show _ = r.val; simp; try omega
    | ⟨3, _⟩ => show _ = j.val; simp; try omega)
  have e3 : ∀ j : Fin 1024, idx_main_v1 (idx_main_v5 (idx_main_v6 (ix3 b r j))) = ix4 b 1 (row r) j := fun j => funext fun a => Fin.ext (by
    have hj := j.isLt
    match a with
    | ⟨0, _⟩ => show _ = b.val; simp; try omega
    | ⟨1, _⟩ => show _ = 1; simp; try omega
    | ⟨2, _⟩ => show _ = r.val; simp; try omega
    | ⟨3, _⟩ => show _ = j.val; simp; try omega)
  have e6 : idx_main_v2 (idx_main_v9 (ix3 b r k)) = ix3 b (row r) ⟨4096 + k.val, by omega⟩ := funext fun a => Fin.ext (by
    match a with
    | ⟨0, _⟩ => show _ = b.val; simp; try omega
    | ⟨1, _⟩ => show _ = r.val; simp; try omega
    | ⟨2, _⟩ => show _ = 4096 + k.val; simp; try omega)
  have e7 : idx_main_v10 (idx_main_v21 (idx_main_v22 (idx_main_v32 (ix3 b r k)))) = ix1 k := funext fun a => Fin.ext (by
    match a with
    | ⟨0, _⟩ => show _ = k.val; simp; try omega)
  simp only [e9, e5, e27, e1, e3, e6, e7]
  generalize hz : FloatOps.ofBits (F := Ideal) FTy.f32 0#32 = z
  obtain rfl : z = (0 : EReal) := hz.symm.trans (by simp [FloatOps.ofBits, Ideal.ofBits, Ideal.ieee])
  rw [zero_add]
  show (x1 _ + x1 _) * Ideal.rsqrt (Ideal.div (∑ j : Fin 256, (x1 (ix4 b 0 (row r) (mate k j)) + x1 (ix4 b 1 (row r) (mate k j))) * (x1 (ix4 b 0 (row r) (mate k j)) + x1 (ix4 b 1 (row r) (mate k j)))) (Ideal.ofBits FTy.f32 0x43800000#32)
    + Ideal.ofBits FTy.f32 0x358637BD#32) * x3 _ * Ideal.div (Ideal.ofBits FTy.f32 0x3F800000#32) (Ideal.ofBits FTy.f32 0x3F800000#32 + Ideal.exp (-(x2 _))) = _
  rw [Ideal.ofBits_one_f32]
  rfl

/-- The two halves of a row side by side, at an index. -/
theorem side (S T : FVec Ideal S4x2048x1024 .f32) (b : Fin 4) (r q : Fin 2048) :
    concatenate S4x2048x2048 2 [⟨S4x2048x1024, S⟩, ⟨S4x2048x1024, T⟩] concatenates_S4x2048x1024_S4x2048x1024_S4x2048x2048_d2 (ix3 b r q)
      = if h : q.val < 1024 then S (ix3 b r ⟨q.val, h⟩) else T (ix3 b r ⟨q.val - 1024, by omega⟩) := by
  pointwise

/-- An entry of the projection in the reference. -/
theorem mixed_apply (b : Fin 4) (r q : Fin 2048) : val_main_v35 (F := Ideal) x0 x1 x2 x3 x4 (ix3 b r q)
    = ∑ k : Fin 1024, x0 (ix3 b (row r) k) * x4 (ix2 (low k) q)
      + ∑ k : Fin 1024, headed (fun k => x1 (ix4 b 0 (row r) k) + x1 (ix4 b 1 (row r) k)) (fun k => x3 (ix1 k)) (fun k => x2 (ix3 b (row r) ⟨4096 + k.val, by omega⟩)) k * x4 (ix2 (high k) q) := by
  rw [val_main_v35_apply, sum_halves]
  have el : ∀ k : Fin 2048, lidx_main_v35 (ix3 b r q) k = ix3 b r k := fun k => funext fun a => by match a with | ⟨0, _⟩ => rfl | ⟨1, _⟩ => rfl | ⟨2, _⟩ => rfl
  have er : ∀ k : Fin 2048, ridx_main_v35 (ix3 b r q) k = ix2 k q := fun k => funext fun a => by match a with | ⟨0, _⟩ => rfl | ⟨1, _⟩ => rfl
  refine congrArg₂ (· + ·) (Finset.sum_congr rfl fun k _ => ?_) (Finset.sum_congr rfl fun k _ => ?_)
  · rw [el, er]
    refine congrArg₂ (· * ·) ?_ rfl
    unfold val_main_v34
    rw [side, dif_pos (show (low k).val < 1024 from k.isLt), val_main_v33_apply, val_main_v0_apply]
    have e0 : idx_main_v0 (ix3 b r k) = ix3 b (row r) k := funext fun a => Fin.ext (by
      match a with | ⟨0, _⟩ => rfl | ⟨1, _⟩ => rfl | ⟨2, _⟩ => rfl)
    exact congrArg x0 e0
  · rw [el, er]
    refine congrArg₂ (· * ·) ?_ rfl
    unfold val_main_v34
    rw [side, dif_neg (show ¬(high k).val < 1024 by show ¬(1024 + k.val < 1024); omega)]
    refine Eq.trans (congrArg _ ?_) (headed_apply x1 x2 x3 b r k)
    exact congrArg (ix3 b r) (Fin.ext (by show 1024 + k.val - 1024 = k.val; omega))

/-- The gates of the latent rows. -/
theorem latent_gate (b : Fin 4) (r q : Fin 2048) : idx_main_v37 (idx_main_v38 (idx_main_v39 (idx_main_v40 (ix3 b r q)))) = ix4 b 0 2 q := by
  have hb := b.isLt
  have hq := q.isLt
  exact funext fun a => Fin.ext (by
    match a with
    | ⟨0, _⟩ => show _ = b.val; simp; try omega
    | ⟨1, _⟩ => show _ = 0; simp
    | ⟨2, _⟩ => show _ = 2; simp; try omega
    | ⟨3, _⟩ => show _ = q.val; simp; try omega)

/-- The reference's result is the kernel's. -/
theorem result : val_main_v42 (F := Ideal) x0 x1 x2 x3 x4 x5 x6 = Cert.Kernel7Ideal.Out.out x0 x1 x2 x3 x4 x5 x6 := by
  funext i
  obtain ⟨b, r, q, rfl⟩ : ∃ (b : Fin 4) (r q : Fin 2048), i = ix3 b r q := ⟨i 0, i 1, i 2, eq_ix3 i⟩
  unfold Cert.Kernel7Ideal.Out.out added
  have ex : idx_main_v36 (ix3 b r q) = ix3 b (row r) q := funext fun a => Fin.ext (by
    match a with | ⟨0, _⟩ => rfl | ⟨1, _⟩ => rfl | ⟨2, _⟩ => rfl)
  simp only [val_main_v42_apply, val_main_v41_apply, val_main_v40_apply, val_main_v39_apply, val_main_v38_apply, val_main_v37_apply, val_main_v36_apply,
    ex, latent_gate, mixed_apply, ix3_0, ix3_1, ix3_2]
  rfl

end Cert.Reference7Ideal.Out

end
-- ==== Proof.Softmax.lean ====
/- The latent attention, as arithmetic on extended reals: dividing the weighted sum of the values once by the sum of the weights
   is the sum of the values weighted by the softmax. -/
module

public import Idealize.ShloMosaic.Lib.Pointwise
public import Idealize.ShloMosaic.PureOps.Ideal.Laws

@[expose] public section

set_option maxRecDepth 16384

noncomputable section

namespace Cert.Attend

open Idealize.ShloMosaic

/-- The pattern every running maximum starts from. -/
abbrev zed : EReal := Ideal.ofBits .f32 0xFF800000#32

/-- The pattern is minus infinity. -/
theorem zed_eq : zed = ⊥ := by
  simp [zed, Ideal.ofBits, Ideal.ieee]

/-- A sum scaled by a finite nonnegative factor is the sum of the scaled terms, whatever the terms are. -/
theorem sum_scale {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top _), ih]

/-- The sum of finitely many reals, taken in the extended reals, is their sum. -/
theorem sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The weight of a score: the exponential of the score less the largest score. -/
def weight {n : ℕ} (s : Fin n → EReal) (j : Fin n) : EReal := Ideal.exp (s j - Finset.fold max zed s Finset.univ)

/-- One row of the kernel: the weighted sum of the values over the sum of the weights. -/
def kernelRow {n : ℕ} (s v : Fin n → EReal) : EReal := Ideal.div (∑ j, weight s j * v j) (∑ j, weight s j)

/-- One row of the reference: the values weighted by the softmax of the scores. -/
def referenceRow {n : ℕ} (s v : Fin n → EReal) : EReal := ∑ j, v j * Ideal.div (weight s j) (∑ i, weight s i)

/-- For finite scores, at least one of them, the two rows are equal, whatever the values are. -/
theorem row_eq {n : ℕ} (hn : 0 < n) (s v : Fin n → EReal) (hs : ∀ j, ∃ x : ℝ, s j = (x : EReal)) : referenceRow s v = kernelRow s v := by
  haveI : Nonempty (Fin n) := ⟨⟨0, hn⟩⟩
  choose σ hσ using hs
  obtain ⟨i, hi⟩ := Finite.exists_max σ
  have hm : Finset.fold max zed s Finset.univ = (σ i : EReal) := by
    rw [zed_eq, ← hσ]
    refine le_antisymm ((Finset.fold_max_le _).2 ⟨bot_le, fun j _ => ?_⟩) ((Finset.le_fold_max _).2 (Or.inr ⟨i, Finset.mem_univ _, le_refl _⟩))
    rw [hσ, hσ]
    exact EReal.coe_le_coe_iff.2 (hi j)
  have hw : ∀ j, weight s j = ((Real.exp (σ j - σ i) : ℝ) : EReal) := fun j => by
    rw [weight, hm, hσ, ← EReal.coe_sub, Ideal.exp_coe]
  have hd : 0 < ∑ j, Real.exp (σ j - σ i) := Finset.sum_pos (fun j _ => Real.exp_pos _) Finset.univ_nonempty
  unfold kernelRow referenceRow
  simp only [hw]
  rw [sum_real, Ideal.div_coe hd.ne', sum_scale _ _ (by positivity)]
  refine Finset.sum_congr rfl fun j _ => ?_
  rw [Ideal.div_coe hd.ne', mul_left_comm, mul_assoc]

/-- A finite sum of products of finite entries is finite. -/
theorem dot_real {n : ℕ} (a b : Fin n → EReal) (ha : ∀ d, ∃ x : ℝ, a d = (x : EReal)) (hb : ∀ d, ∃ x : ℝ, b d = (x : EReal)) :
    ∃ x : ℝ, (∑ d, a d * b d) = (x : EReal) := by
  choose α hα using ha
  choose β hβ using hb
  exact ⟨∑ d, α d * β d, by rw [← sum_real]; exact Finset.sum_congr rfl fun d _ => by rw [hα, hβ, EReal.coe_mul]⟩

/-- The packed queries or keys: 2304 rows of eight heads, a head 256 lanes wide. -/
abbrev Keys : Type := FVec Ideal ⟨3, ![4, 2304, 2048]⟩ .bf16

/-- The packed values: a head is 128 lanes wide. -/
abbrev Values : Type := FVec Ideal ⟨3, ![4, 2304, 1024]⟩ .bf16

/-- Row `2048 + x`: the `x`-th of the context rows. -/
def ctx (x : Fin 256) : Fin 2304 := ⟨2048 + x.val, by omega⟩

/-- The score of query row `r` and key row `x` in head `h`. -/
def score (q k : Keys) (b : Fin 4) (h : Fin 8) (r x : Fin 2304) : EReal :=
  ∑ d : Fin 256, q (ix3 b r ⟨h.val * 256 + d.val, by omega⟩) * k (ix3 b x ⟨h.val * 256 + d.val, by omega⟩)

/-- Lane `e` of the values of head `h` at row `x`. -/
def value (v : Values) (b : Fin 4) (h : Fin 8) (e : Fin 128) (x : Fin 2304) : EReal := v (ix3 b x ⟨h.val * 128 + e.val, by omega⟩)

/-- The attention whose rows are `row`: rows below 2048 attend to every row, the others to the context rows. -/
def attention (row : (n : ℕ) → (Fin n → EReal) → (Fin n → EReal) → EReal) (q k : Keys) (v : Values) (b : Fin 4) (r : Fin 2304) (h : Fin 8) (e : Fin 128) : EReal :=
  if r.val < 2048 then row 2304 (score q k b h r) (value v b h e) else row 256 (fun x => score q k b h r (ctx x)) (fun x => value v b h e (ctx x))

/-- Finite queries and keys make the two attentions equal. -/
theorem attention_eq (q k : Keys) (v : Values) (hq : ∀ i, ∃ x : ℝ, q i = (x : EReal)) (hk : ∀ i, ∃ x : ℝ, k i = (x : EReal))
    (b : Fin 4) (r : Fin 2304) (h : Fin 8) (e : Fin 128) :
    attention @referenceRow q k v b r h e = attention @kernelRow q k v b r h e := by
  have hs : ∀ x, ∃ y : ℝ, score q k b h r x = (y : EReal) := fun x => dot_real _ _ (fun _ => hq _) (fun _ => hk _)
  unfold attention
  split
  · exact row_eq (by norm_num) _ _ hs
  · exact row_eq (by norm_num) _ _ fun _ => hs _

end Cert.Attend

end
-- ==== Proof.AttendKernel.lean ====
/- What the latent attention's kernel leaves in the result: at each index, the attention row over the argument arrays. -/
module

public import proofs.«01_k».proof.Proof.Gen.Kernel8Ideal.Value
public import proofs.«01_k».proof.Proof.Softmax
public import Idealize.ShloMosaic.Lib.Pipeline.ValueKit

@[expose] public section

set_option maxRecDepth 16384

noncomputable section

namespace Cert.Kernel8Ideal.Attend

open Idealize.ShloMosaic Idealize.ShloMosaic.TcCoe Idealize.SL.Sem
open Idealize.ShloMosaic.Pipeline (Dat)
open Cert.Kernel8Ideal Cert.Kernel8Ideal.Gen Cert.Attend

variable (m : (ℓ : Loc nD τ sig) → Buf (Elt Ideal) ℓ)

/-- Where each window's block lies at grid point `t`, in blocks. -/
theorem idx : ∀ t : Fin cfg0.N, win0_0.index t = ![t.val / 72, t.val % 9, t.val / 9 % 8]
    ∧ win0_1.index t = ![t.val / 72, 0, t.val / 9 % 8] ∧ win0_2.index t = ![t.val / 72, 0, t.val / 9 % 8]
    ∧ win0_3.index t = ![t.val / 72, t.val % 9, t.val / 9 % 8] ∧ t.val / 72 < 4 ∧ t.val < 288 :=
  (by decide +kernel : ∀ t : Fin grid0.N, _)

/-- A block of latent queries against every key, at an index. -/
theorem latent (q : FVec Ideal S1x256x256 .bf16) (k : FVec Ideal S1x2304x256 .bf16) (v : FVec Ideal S1x2304x128 .bf16) (r : Fin 256) (e : Fin 128) :
    k0_pay2 (F := Ideal) q k v (ix3 0 r e)
      = kernelRow (fun x : Fin 2304 => ∑ d : Fin 256, (q (ix3 0 r d) : EReal) * k (ix3 0 x d)) (fun x => v (ix3 0 x e)) := by
  pointwise [k0_pay2, k0_pay1]
  rfl

/-- The block of context queries against the context keys, at an index. -/
theorem context (q k : FVec Ideal S1x256x256 .bf16) (v : FVec Ideal S1x256x128 .bf16) (r : Fin 256) (e : Fin 128) :
    k0_pay3 (F := Ideal) q k v (ix3 0 r e)
      = kernelRow (fun x : Fin 256 => ∑ d : Fin 256, (q (ix3 0 r d) : EReal) * k (ix3 0 x d)) (fun x => v (ix3 0 x e)) := by
  pointwise [k0_pay3, k0_pay1]
  rfl

/-- The kernel's attention row at an index of the result array. -/
def out (q k : Keys) (v : Values) (i : S4x2304x1024.Idx) : EReal :=
  attention @kernelRow q k v (i 0) (i 1) ⟨(i 2).val / 128, by have : (i 2).val < 1024 := (i 2).isLt; omega⟩ ⟨(i 2).val % 128, by omega⟩

/-- Where element `y` of the result's block at point `t` lies in the array. -/
theorem place (t : Fin cfg0.N) (y : S1x256x128.Idx) :
    (((((cfg0.win 3).blk t).view.emb y) 0 : ℕ) = t.val / 72) ∧ (((((cfg0.win 3).blk t).view.emb y) 1 : ℕ) = t.val % 9 * 256 + (y 1).val)
      ∧ (((((cfg0.win 3).blk t).view.emb y) 2 : ℕ) = t.val / 9 % 8 * 128 + (y 2).val) := by
  have y0 : (y 0).val < 1 := (y 0).isLt
  refine ⟨?_, ?_, ?_⟩ <;> blk_simp [idx t] <;> (try omega)

/-- The kernel's result array after the run: the attention row at every index. -/
theorem final (c : Dev nD) : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  obtain ⟨p0, p1, p2⟩ := place t y
  generalize ((cfg0.win 3).blk t).view.emb y = i at p0 p1 p2 ⊢
  change S4x2304x1024.Idx at i
  idx_vars i
  by_cases g0 : t.val % 9 ≤ 7
  · rw [outsAt0_A m c t g0 (by omega)]
    frame_out
    idx_vars y
    obtain rfl : y0 = 0 := Subsingleton.elim _ _
    have hy : y1.val < 256 := y1.isLt
    refine (latent _ _ _ y1 y2).trans ?_
    unfold out attention
    rw [if_pos (by simp only [ix3_1]; omega)]
    refine congrArg₂ kernelRow (funext fun z => ?_) (funext fun z => ?_)
    · unfold score
      refine Finset.sum_congr rfl fun d _ => Ideal.mul_congr ?_ ?_
      · pointwise; blk_ext [iblk, V, idx t]
      · pointwise; blk_ext [iblk, V, idx t]
    · unfold value; pointwise; blk_ext [iblk, V, idx t]
  · rw [outsAt0_B m c t g0 (by omega)]
    frame_out
    idx_vars y
    obtain rfl : y0 = 0 := Subsingleton.elim _ _
    refine (context _ _ _ y1 y2).trans ?_
    unfold out attention
    rw [if_neg (by simp only [ix3_1]; omega)]
    refine congrArg₂ kernelRow (funext fun z => ?_) (funext fun z => ?_)
    · unfold score ctx
      refine Finset.sum_congr rfl fun d _ => Ideal.mul_congr ?_ ?_
      · pointwise; blk_ext [iblk, V, idx t]
      · pointwise; blk_ext [iblk, V, idx t]
    · unfold value ctx; pointwise; blk_ext [iblk, V, idx t]

end Cert.Kernel8Ideal.Attend

end
-- ==== Proof.AttendReference.lean ====
/- The latent attention's reference read at an index, and what the precondition says of the queries and keys. -/
module

public import proofs.«01_k».proof.Defs
public import proofs.«01_k».proof.Proof.Gen.Reference8Ideal.Read
public import proofs.«01_k».proof.Proof.Gen.Pre_finite
public import proofs.«01_k».proof.Proof.AttendKernel
public import Idealize.ShloMosaic.Lib.IdealHost

@[expose] public section

set_option maxRecDepth 16384

noncomputable section

namespace Cert.Reference8Ideal.Attend

open Idealize.ShloMosaic Idealize.ShloMosaic.TcCoe
open Cert.Reference8Ideal Cert.Reference8Ideal.Gen Cert.Reference8Ideal.Read Cert.Attend

/-- Comparing the running maximum with what it starts from changes nothing. -/
theorem fold_zed {n : ℕ} (s : Fin n → EReal) : max zed (Finset.fold max zed s Finset.univ) = Finset.fold max zed s Finset.univ := by
  rw [zed_eq, max_eq_right bot_le]

variable (q k : Keys) (v : Values) (b : Fin 4) (h : Fin 8)

/-- The scaled score of a query and a key (latent queries, all keys). -/
theorem score_latent (r : Fin 2048) (x : Fin 2304) : val_main_v9 (F := Ideal) q k (ix4 b h r x) = score q k b h ⟨r.val, by omega⟩ x := by
  pointwise [val_main_v9, val_main_v8, val_main_v7, val_main_v6, val_main_cst, val_main_v3, val_main_v2, val_main_v1, val_main_v0]
  rfl

/-- The maximum over the keys of an array, at a query, is the fold of `max` over its row. -/
theorem peak_latent (S : FVec Ideal S4x8x2048x2304 .f32) (r : Fin 2048) :
    Host.reduce FloatOps.maximumf S (constant (F := Ideal) S_ .f32 0xFF800000#32) reducesTo_S4x8x2048x2304_S4x8x2048_d3 h_S_ (ix3 b h r)
      = Finset.fold max zed (fun x : Fin 2304 => (S (ix4 b h r x) : EReal)) Finset.univ := by
  pointwise

/-- An array over the queries spread along the keys reads its own query. -/
theorem spread_latent (M : FVec Ideal S4x8x2048 .f32) (r : Fin 2048) (x : Fin 2304) :
    broadcastInDim S4x8x2048x2304 ![0, 1, 2, 3] bcast_S4x8x2048x1_S4x8x2048x2304_0_1_2_3
      (broadcastInDim S4x8x2048x1 ![0, 1, 2] bcast_S4x8x2048_S4x8x2048x1_0_1_2 M) (ix4 b h r x) = M (ix3 b h r) := by
  pointwise

/-- The array the row maxima start from holds minus infinity. -/
theorem fill_latent (r : Fin 2048) :
    broadcastInDim S4x8x2048 ![] bcast_S_S4x8x2048 (constant (F := Ideal) S_ .f32 0xFF800000#32) (ix3 b h r) = zed := by
  pointwise

/-- The larger of two arrays at an index is the larger of their entries. -/
theorem larger_at {s : Shape} (x y : FVec Ideal s .f32) (i : s.Idx) : maximumf x y i = max (x i : EReal) (y i) := rfl

/-- The largest score of a query (latent queries, all keys). -/
theorem max_latent (r : Fin 2048) : val_main_v12 (F := Ideal) q k (ix3 b h r)
    = Finset.fold max zed (fun x => score q k b h ⟨r.val, by omega⟩ x) Finset.univ := by
  have e : (fun x => score q k b h ⟨r.val, by omega⟩ x) = fun x : Fin 2304 => (val_main_v9 (F := Ideal) q k (ix4 b h r x) : EReal) :=
    funext fun x => (score_latent q k b h r x).symm
  rw [e, ← fold_zed]
  unfold val_main_v12 val_main_v11 val_main_v10 val_main_cst_0 val_main_cst_1
  generalize val_main_v9 (F := Ideal) q k = S
  rw [larger_at, fill_latent, peak_latent]

/-- The exponential of a score less the maximum of its row (latent queries, all keys). -/
theorem weight_latent (r : Fin 2048) (x : Fin 2304) : val_main_v16 (F := Ideal) q k (ix4 b h r x) = weight (score q k b h ⟨r.val, by omega⟩) x := by
  unfold weight
  rw [← max_latent, ← score_latent]
  unfold val_main_v16 val_main_v15 val_main_v14 val_main_v13
  generalize val_main_v9 (F := Ideal) q k = S
  generalize val_main_v12 (F := Ideal) q k = M
  exact congrArg (fun t : EReal => Ideal.exp ((S (ix4 b h r x) : EReal) - t)) (spread_latent b h M r x)

/-- The weight of a key: its exponential over the sum of its row (latent queries, all keys). -/
theorem prob_latent (r : Fin 2048) (x : Fin 2304) : val_main_v20 (F := Ideal) q k (ix4 b h r x)
    = Ideal.div (weight (score q k b h ⟨r.val, by omega⟩) x) (∑ y, weight (score q k b h ⟨r.val, by omega⟩) y) := by
  simp only [← weight_latent]
  unfold val_main_v20 val_main_v19 val_main_v18 val_main_v17 val_main_cst_2
  generalize val_main_v16 (F := Ideal) q k = S
  pointwise

/-- The attention of the latent queries, at a query and a lane. -/
theorem part_latent (r : Fin 2048) (e : Fin 128) : val_main_v22 (F := Ideal) q k v (ix4 b r h e)
    = referenceRow (score q k b h ⟨r.val, by omega⟩) (value v b h e) := by
  unfold referenceRow
  simp only [← prob_latent]
  unfold val_main_v22 val_main_v21
  generalize val_main_v20 (F := Ideal) q k = T
  pointwise [val_main_v5, val_main_v4]
  rfl

/-- The scaled score of a query and a key (context queries and keys). -/
theorem score_context (r : Fin 256) (x : Fin 256) : val_main_v28 (F := Ideal) q k (ix4 b h r x) = score q k b h (ctx r) (ctx x) := by
  pointwise [val_main_v28, val_main_v27, val_main_v26, val_main_v24, val_main_v23, val_main_cst_3, val_main_v3, val_main_v2, val_main_v1, val_main_v0]
  rfl

/-- The exponential of a score less the maximum of its row (context queries and keys). -/
theorem weight_context (r : Fin 256) (x : Fin 256) : val_main_v35 (F := Ideal) q k (ix4 b h r x) = weight (fun x => score q k b h (ctx r) (ctx x)) x := by
  rw [← funext (score_context q k b h r), weight, ← fold_zed]
  unfold val_main_v35 val_main_v34 val_main_v33 val_main_v32 val_main_v31 val_main_v30 val_main_v29 val_main_cst_4 val_main_cst_5
  generalize val_main_v28 (F := Ideal) q k = S
  pointwise

/-- The weight of a key: its exponential over the sum of its row (context queries and keys). -/
theorem prob_context (r : Fin 256) (x : Fin 256) : val_main_v39 (F := Ideal) q k (ix4 b h r x)
    = Ideal.div (weight (fun x => score q k b h (ctx r) (ctx x)) x) (∑ y, weight (fun x => score q k b h (ctx r) (ctx x)) y) := by
  simp only [← weight_context]
  unfold val_main_v39 val_main_v38 val_main_v37 val_main_v36 val_main_cst_6
  generalize val_main_v35 (F := Ideal) q k = S
  pointwise

/-- The attention of the context queries, at a query and a lane. -/
theorem part_context (r : Fin 256) (e : Fin 128) : val_main_v41 (F := Ideal) q k v (ix4 b r h e)
    = referenceRow (fun x => score q k b h (ctx r) (ctx x)) (fun x => value v b h e (ctx x)) := by
  unfold referenceRow
  simp only [← prob_context]
  unfold val_main_v41 val_main_v40
  generalize val_main_v39 (F := Ideal) q k = T
  pointwise [val_main_v25, val_main_v5, val_main_v4]
  rfl

/-- The latent queries come first and the context queries after them. -/
theorem glue (S : FVec Ideal S4x2048x8x128 .f32) (T : FVec Ideal S4x256x8x128 .f32) (r : Fin 2304) (e : Fin 128) :
    concatenate S4x2304x8x128 1 [⟨S4x2048x8x128, S⟩, ⟨S4x256x8x128, T⟩] concatenates_S4x2048x8x128_S4x256x8x128_S4x2304x8x128_d1 (ix4 b r h e)
      = (if hr : r.val < 2048 then S (ix4 b ⟨r.val, hr⟩ h e) else T (ix4 b ⟨r.val - 2048, by omega⟩ h e) : EReal) := by
  pointwise

/-- The heads side by side, rounded: column `y` is column `y % 128` of head `y / 128`. -/
theorem flat (U : FVec Ideal S4x2304x8x128 .f32) (r : Fin 2304) (y : Fin 1024) :
    truncf .bf16 (shapeCast S4x2304x1024 U shapeCasts_S4x2304x8x128_S4x2304x1024) bitsLt_bf16_f32 (ix3 b r y)
      = U (ix4 b r ⟨y.val / 128, by omega⟩ ⟨y.val % 128, by omega⟩) := by
  pointwise

/-- An extended real whose absolute value is below infinity is a real. -/
theorem real_of_abs {x : EReal} (h : BitVec.ofBool (decide (max x (-x) < Ideal.ofBits .f32 0x7F800000#32)) = 1#1) : ∃ r : ℝ, x = (r : EReal) := by
  have h' : max x (-x) < ⊤ := by
    by_contra hn
    rw [show Ideal.ofBits .f32 0x7F800000#32 = ⊤ by simp [Ideal.ofBits, Ideal.ieee], decide_eq_false hn] at h
    exact absurd h (by decide)
  refine ⟨EReal.toReal x, (EReal.coe_toReal (fun e => ?_) (fun e => ?_)).symm⟩ <;> · rw [e] at h'; simp at h'

open Cert.Pre_finite Cert.Pre_finite.Gen in
/-- Under the precondition the queries and the keys are finite. -/
theorem finite (p : (fn (F := Ideal) q k v).1 = (fun _ => 1#1) ∧ (fn (F := Ideal) q k v).2 = fun _ => 1#1) (i : S4x2304x2048.Idx) :
    (∃ r : ℝ, q i = (r : EReal)) ∧ ∃ r : ℝ, k i = (r : EReal) := by
  have hq := congrFun p.1 i
  have hk := congrFun p.2 i
  unfold fn at hq hk
  pointwise at hq
  pointwise at hk
  exact ⟨real_of_abs hq, real_of_abs hk⟩

/-- Under the precondition the reference's result is the kernel's. -/
theorem result (p : (Cert.Pre_finite.fn (F := Ideal) q k v).1 = (fun _ => 1#1) ∧ (Cert.Pre_finite.fn (F := Ideal) q k v).2 = fun _ => 1#1) :
    val_main_v44 (F := Ideal) q k v = Cert.Kernel8Ideal.Attend.out q k v := by
  funext i
  obtain ⟨b, r, y, rfl⟩ : ∃ (b : Fin 4) (r : Fin 2304) (y : Fin 1024), i = ix3 b r y := ⟨i 0, i 1, i 2, eq_ix3 i⟩
  refine Eq.trans ?_ (attention_eq q k v (fun i => (finite q k v p i).1) (fun i => (finite q k v p i).2) b r ⟨y.val / 128, by omega⟩ ⟨y.val % 128, by omega⟩)
  unfold val_main_v44 val_main_v43 val_main_v42 attention
  rw [flat, glue]
  by_cases hr : r.val < 2048
  · rw [dif_pos hr, if_pos hr, part_latent]
  · rw [dif_neg hr, if_neg hr, part_context, show ctx ⟨r.val - 2048, by omega⟩ = r from Fin.ext (by unfold ctx; dsimp only; omega)]

end Cert.Reference8Ideal.Attend

end
-- ==== Proof.Mask4.lean ====
/- What the mask says of a row: some item's tile holds it. -/
module

public import proofs.«01_k».proof.Defs
public import proofs.«01_k».proof.Proof.Gen.On_rows_visited_last
public import proofs.«01_k».proof.Proof.Mixture4
public import Idealize.ShloMosaic.Lib.Routing.OpsOrder
public import Idealize.ShloMosaic.Lib.Tactic.CleanTypes

@[expose] public section

set_option maxRecDepth 16384

noncomputable section

namespace Cert.Mask4

open Idealize.ShloMosaic Cert.On_rows_visited_last Cert.On_rows_visited_last.Gen Cert.Mixture4

variable (tile e lo hi first newe : IVec S159 32) (xs : FVec Ideal S32768x2048 .f32) (w1 : FVec Ideal S4x32x2048x1024 .f32) (b1 : FVec Ideal S32x1024 .f32)
  (w2 : FVec Ideal S4x32x512x2048 .f32) (b2 : FVec Ideal S32x2048 .f32)

/-- Where the mask is one, the row lies in some item's tile. -/
theorem visited (ht : ∀ s : Fin 159, (tile (ix1 s)).toNat < 128) (R : Fin 32768) (d : Fin 2048)
    (h : fn (F := Ideal) tile e lo hi first newe xs w1 b1 w2 b2 (ix2 R d) = 1#1) : ∃ s : Fin 159, (tile (ix1 s)).toNat = R.val / 256 := by
  unfold fn at h
  pointwise at h
  rw [Routing.fold_ori] at h
  obtain ⟨s, _, hs⟩ := h
  exact ⟨s, (tile_iff R.val R.isLt _ (ht s)).1 ((andi_iff _ _).1 hs)⟩

end Cert.Mask4

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_well_formed
public import proofs.«01_k».proof.Proof.Gen.On_rows_visited
public import proofs.«01_k».proof.Proof.Gen.Kernel2.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_well_formed_last
public import proofs.«01_k».proof.Proof.Gen.On_rows_visited_last
public import proofs.«01_k».proof.Proof.Gen.Kernel5.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite
public import Idealize.ShloMosaic.Adequacy
public import Idealize.ShloMosaic.Init
public import Idealize.ShloMosaic.Lib.Claim
public import proofs.«01_k».proof.Proof.ScheduleBits
public import proofs.«01_k».proof.Proof.Values
public import proofs.«01_k».proof.Proof.Reference
public import proofs.«01_k».proof.Proof.Mask
public import proofs.«01_k».proof.Proof.InProj2
public import proofs.«01_k».proof.Proof.InProj3
public import proofs.«01_k».proof.Proof.ScheduleBits4
public import proofs.«01_k».proof.Proof.Values4
public import proofs.«01_k».proof.Proof.Reference4
public import proofs.«01_k».proof.Proof.OutProj5
public import proofs.«01_k».proof.Proof.OutProj6
public import proofs.«01_k».proof.Proof.OutProj7
public import proofs.«01_k».proof.Proof.AttendReference
public import proofs.«01_k».proof.Proof.Mask4

@[expose] public section

set_option maxRecDepth 16384

noncomputable section

namespace Cert.Proof

open Idealize.ShloMosaic Idealize.SL.Sem

/-- The item tables of the kernel as printed are well formed under the precondition. -/
theorem wf_bits (m : (ℓ : Loc Cert.Kernel.nD Cert.Kernel.τ Cert.Kernel.sig) → Buf (Elt Bits) ℓ) (h : Pre_Kernel m) : Cert.Kernel.Experts.Wf m :=
  have q := h 0
  Cert.Items.wellFormed _ _ _ _ _ _ _ _ _ _ _ q.1 q.2.1 q.2.2.1 q.2.2.2.1 q.2.2.2.2

/-- The item tables of the idealized kernel are well formed under the precondition. -/
theorem wf_ideal (m : (ℓ : Loc Cert.KernelIdeal.nD Cert.KernelIdeal.τ Cert.KernelIdeal.sig) → Buf (Elt Ideal) ℓ) (h : Pre_KernelIdeal m) : Cert.KernelIdeal.Experts.Wf m :=
  have q := h 0
  Cert.Items.wellFormed _ _ _ _ _ _ _ _ _ _ _ q.1 q.2.1 q.2.2.1 q.2.2.2.1 q.2.2.2.2

open Cert.KernelIdeal in
open Cert.KernelIdeal.Experts in
/-- On a row that lies in some item's tile the reference's result is the array the kernel leaves. -/
theorem same (m : (ℓ : Loc nD τ sig) → Buf (Elt Ideal) ℓ) (h : Wf m) (hO : Ok m) (R : Fin 36864) (d : Fin 2048)
    (hs : ∃ s : Fin 175, (argTile m (ix1 s)).toNat = R.val / 256) :
    Cert.ReferenceIdeal.Read.val_main_v60 (F := Ideal) (argTile m) (argExpert m) (argLo m) (argHi m) (m ((0 : Dev nD).tc.loc main_arg6)) (m ((0 : Dev nD).tc.loc main_arg7))
      (m ((0 : Dev nD).tc.loc main_arg8)) (m ((0 : Dev nD).tc.loc main_arg9)) (m ((0 : Dev nD).tc.loc main_arg10)) (ix2 R d)
    = (dats m hO 0 0).arrAt 6 (cfgM m hO).N (ix2 R d) := by
  refine (Cert.ReferenceIdeal.Experts.result_apply _ _ _ _ _ _ _ _ _ R d (expertOf m h) (fun s => rfl) h.tile_lt).trans ?_
  refine Eq.trans (Finset.sum_congr rfl fun s _ => ?_) (out_apply h hO 0 R d hs).symm
  classical
  unfold part
  exact if_congr Iff.rfl rfl rfl

/-- The item tables of the last layer's kernel as printed are well formed under the precondition. -/
theorem wf_bits_last (m : (ℓ : Loc Cert.Kernel4.nD Cert.Kernel4.τ Cert.Kernel4.sig) → Buf (Elt Bits) ℓ) (h : Pre_Kernel4 m) : Cert.Kernel4.Experts.Wf m :=
  have q := h 0
  Cert.Items4.wellFormed _ _ _ _ _ _ _ _ _ _ _ q.1 q.2.1 q.2.2.1 q.2.2.2.1 q.2.2.2.2

/-- The item tables of the last layer's idealized kernel are well formed under the precondition. -/
theorem wf_ideal_last (m : (ℓ : Loc Cert.Kernel4Ideal.nD Cert.Kernel4Ideal.τ Cert.Kernel4Ideal.sig) → Buf (Elt Ideal) ℓ) (h : Pre_Kernel4Ideal m) : Cert.Kernel4Ideal.Experts.Wf m :=
  have q := h 0
  Cert.Items4.wellFormed _ _ _ _ _ _ _ _ _ _ _ q.1 q.2.1 q.2.2.1 q.2.2.2.1 q.2.2.2.2

open Cert.Kernel4Ideal in
open Cert.Kernel4Ideal.Experts in
/-- For the last layer: on a row that lies in some item's tile the reference's result is the array the kernel leaves. -/
theorem same_last (m : (ℓ : Loc nD τ sig) → Buf (Elt Ideal) ℓ) (h : Wf m) (hO : Ok m) (R : Fin 32768) (d : Fin 2048)
    (hs : ∃ s : Fin 159, (argTile m (ix1 s)).toNat = R.val / 256) :
    Cert.Reference4Ideal.Read.val_main_v60 (F := Ideal) (argTile m) (argExpert m) (argLo m) (argHi m) (m ((0 : Dev nD).tc.loc main_arg6)) (m ((0 : Dev nD).tc.loc main_arg7))
      (m ((0 : Dev nD).tc.loc main_arg8)) (m ((0 : Dev nD).tc.loc main_arg9)) (m ((0 : Dev nD).tc.loc main_arg10)) (ix2 R d)
    = (dats m hO 0 0).arrAt 6 (cfgM m hO).N (ix2 R d) := by
  refine (Cert.Reference4Ideal.Experts.result_apply _ _ _ _ _ _ _ _ _ R d (expertOf m h) (fun s => rfl) h.tile_lt).trans ?_
  refine Eq.trans (Finset.sum_congr rfl fun s _ => ?_) (out_apply h hO 0 R d hs).symm
  classical
  unfold part
  exact if_congr Iff.rfl rfl rfl

set_option maxHeartbeats 1000000 in
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_well_formed.Gen.facts, Cert.Pre_well_formed_last.Gen.facts, Cert.Pre_finite.Gen.facts, Cert.On_rows_visited.Gen.facts, Cert.On_rows_visited_last.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro m g hpre
    have h := wf_bits m hpre
    exact (Cert.Kernel.Experts.sched_of h).frame g (Cert.Kernel.Experts.ok_of h)
  · intro m g hpre
    have h := wf_ideal m hpre
    exact (Cert.KernelIdeal.Experts.sched_of h).frame g (Cert.KernelIdeal.Experts.ok_of h)
  · intro m g _
    exact θ_run_mono (Cert.ReferenceIdeal.Value.run m g) fun r hr =>
      ⟨fun c => (hr c).2, sem_eq_zero_of_no_sems (by decide) r.2⟩
  · intro m g _
    exact θ_run_mono (Cert.ReferenceIdeal.Value.run m g) fun r hr =>
      ⟨fun c => (hr c).2, sem_eq_zero_of_no_sems (by decide) r.2⟩
  · intro m g _
    run_from Cert.Kernel2.Gen.frame m g
  · intro m g _
    run_from Cert.Kernel2Ideal.Gen.frame m g
  · intro m g _
    exact θ_run_mono (Cert.Reference2Ideal.Value.run m g) fun r hr =>
      ⟨fun c => (hr c).2, sem_eq_zero_of_no_sems (by decide) r.2⟩
  · intro m g _
    run_from Cert.Kernel3.Gen.frame m g
  · intro m g _
    run_from Cert.Kernel3Ideal.Gen.frame m g
  · intro m g _
    exact θ_run_mono (Cert.Reference3Ideal.Value.run m g) fun r hr =>
      ⟨fun c => (hr c).2, sem_eq_zero_of_no_sems (by decide) r.2⟩
  · intro m g hpre
    have h := wf_bits_last m hpre
    exact (Cert.Kernel4.Experts.sched_of h).frame g (Cert.Kernel4.Experts.ok_of h)
  · intro m g hpre
    have h := wf_ideal_last m hpre
    exact (Cert.Kernel4Ideal.Experts.sched_of h).frame g (Cert.Kernel4Ideal.Experts.ok_of h)
  · intro m g _
    exact θ_run_mono (Cert.Reference4Ideal.Value.run m g) fun r hr =>
      ⟨fun c => (hr c).2, sem_eq_zero_of_no_sems (by decide) r.2⟩
  · intro m g _
    exact θ_run_mono (Cert.Reference4Ideal.Value.run m g) fun r hr =>
      ⟨fun c => (hr c).2, sem_eq_zero_of_no_sems (by decide) r.2⟩
  · intro m g _
    run_from Cert.Kernel5.Gen.frame m g
  · intro m g _
    run_from Cert.Kernel5Ideal.Gen.frame m g
  · intro m g _
    exact θ_run_mono (Cert.Reference5Ideal.Value.run m g) fun r hr =>
      ⟨fun c => (hr c).2, sem_eq_zero_of_no_sems (by decide) r.2⟩
  · intro m g _
    run_from Cert.Kernel6.Gen.frame m g
  · intro m g _
    run_from Cert.Kernel6Ideal.Gen.frame m g
  · intro m g _
    exact θ_run_mono (Cert.Reference6Ideal.Value.run m g) fun r hr =>
      ⟨fun c => (hr c).2, sem_eq_zero_of_no_sems (by decide) r.2⟩
  · intro m g _
    run_from Cert.Kernel7.Gen.frame m g
  · intro m g _
    run_from Cert.Kernel7Ideal.Gen.frame m g
  · intro m g _
    exact θ_run_mono (Cert.Reference7Ideal.Value.run m g) fun r hr =>
      ⟨fun c => (hr c).2, sem_eq_zero_of_no_sems (by decide) r.2⟩
  · intro m g _
    run_from Cert.Kernel8.Gen.frame m g
  · intro m g _
    run_from Cert.Kernel8Ideal.Gen.frame m g
  · intro m g _
    run_from Cert.Kernel8Ideal.Gen.frame m g
  · intro m g _
    exact θ_run_mono (Cert.Reference8Ideal.Value.run m g) fun r hr =>
      ⟨fun c => (hr c).2, sem_eq_zero_of_no_sems (by decide) r.2⟩
  · intro m g _
    exact θ_run_mono (Cert.Reference8Ideal.Value.run m g) fun r hr =>
      ⟨fun c => (hr c).2, sem_eq_zero_of_no_sems (by decide) r.2⟩
  · trivial
  · intro m g m' g' hpre hagree
    have h := wf_ideal m hpre
    have hO := Cert.KernelIdeal.Experts.ok_of h
    refine ⟨fun c => (Cert.KernelIdeal.Experts.dats m hO 0 c).arrAt 6 (Cert.KernelIdeal.Experts.cfgM m hO).N, ?_, ?_⟩
    · exact θ_run_mono ((Cert.KernelIdeal.Experts.sched_of h).run_main g hO) fun r hr c =>
        ⟨fun i _ => congrFun ((hr.1 c).1 6) i, Cert.KernelIdeal.Experts.kept m hO r hr.1 c⟩
    · refine θ_run_mono (Cert.ReferenceIdeal.Value.run m' g') fun r hr c => ⟨fun i hi => ?_, (hr c).2⟩
      obtain rfl : c = 0 := Subsingleton.elim _ _
      obtain ⟨R, d, rfl⟩ : ∃ (R : Fin 36864) (d : Fin 2048), i = ix2 R d := ⟨i 0, i 1, eq_ix2 i⟩
      have a := hagree 0
      refine (congrFun ((hr 0).1.trans (Cert.ReferenceIdeal.Read.val_main_v60_eq m' 0)) (ix2 R d)).trans ?_
      rw [a.1, a.2.1, a.2.2.1, a.2.2.2.1, a.2.2.2.2.2.2.1, a.2.2.2.2.2.2.2.1, a.2.2.2.2.2.2.2.2.1, a.2.2.2.2.2.2.2.2.2.1, a.2.2.2.2.2.2.2.2.2.2]
      exact same m h hO R d (Cert.Mask.visited _ _ _ _ _ _ _ _ _ _ _ h.tile_lt R d hi)
  · trivial
  · pair_intro
    · run_from Cert.Kernel2Ideal.Gen.run_main m g
    · run_from Cert.Reference2Ideal.Value.run m' g'
      rw [Cert.Reference2Ideal.Read.val_main_v58_eq, (hagree c).1, (hagree c).2.1, (hagree c).2.2.1, (hagree c).2.2.2]
      exact (Cert.Reference2Ideal.Project.result _ _ _ _).trans (Cert.Kernel2Ideal.Project.final m c).symm
  · trivial
  · pair_intro
    · run_from Cert.Kernel3Ideal.Gen.run_main m g
    · run_from Cert.Reference3Ideal.Value.run m' g'
      rw [Cert.Reference3Ideal.Read.val_main_v58_eq, (hagree c).1, (hagree c).2.1, (hagree c).2.2.1, (hagree c).2.2.2]
      exact (Cert.Reference3Ideal.Project.result _ _ _ _).trans (Cert.Kernel3Ideal.Project.final m c).symm
  · trivial
  · intro m g m' g' hpre hagree
    have h := wf_ideal_last m hpre
    have hO := Cert.Kernel4Ideal.Experts.ok_of h
    refine ⟨fun c => (Cert.Kernel4Ideal.Experts.dats m hO 0 c).arrAt 6 (Cert.Kernel4Ideal.Experts.cfgM m hO).N, ?_, ?_⟩
    · exact θ_run_mono ((Cert.Kernel4Ideal.Experts.sched_of h).run_main g hO) fun r hr c =>
        ⟨fun i _ => congrFun ((hr.1 c).1 6) i, Cert.Kernel4Ideal.Experts.kept m hO r hr.1 c⟩
    · refine θ_run_mono (Cert.Reference4Ideal.Value.run m' g') fun r hr c => ⟨fun i hi => ?_, (hr c).2⟩
      obtain rfl : c = 0 := Subsingleton.elim _ _
      obtain ⟨R, d, rfl⟩ : ∃ (R : Fin 32768) (d : Fin 2048), i = ix2 R d := ⟨i 0, i 1, eq_ix2 i⟩
      have a := hagree 0
      refine (congrFun ((hr 0).1.trans (Cert.Reference4Ideal.Read.val_main_v60_eq m' 0)) (ix2 R d)).trans ?_
      rw [a.1, a.2.1, a.2.2.1, a.2.2.2.1, a.2.2.2.2.2.2.1, a.2.2.2.2.2.2.2.1, a.2.2.2.2.2.2.2.2.1, a.2.2.2.2.2.2.2.2.2.1, a.2.2.2.2.2.2.2.2.2.2]
      exact same_last m h hO R d (Cert.Mask4.visited _ _ _ _ _ _ _ _ _ _ _ h.tile_lt R d hi)
  · trivial
  · pair_intro
    · run_from Cert.Kernel5Ideal.Gen.run_main m g
    · run_from Cert.Reference5Ideal.Value.run m' g'
      rw [Cert.Reference5Ideal.Read.val_main_v53_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact (Cert.Reference5Ideal.Out.result _ _ _ _ _ _ _ _ _).trans (Cert.Kernel5Ideal.Out.final m c).symm
  · trivial
  · pair_intro
    · run_from Cert.Kernel6Ideal.Gen.run_main m g
    · run_from Cert.Reference6Ideal.Value.run m' g'
      rw [Cert.Reference6Ideal.Read.val_main_v53_eq, (hagree c).1, (hagree c).2.1, (hagree c).2.2.1, (hagree c).2.2.2.1, (hagree c).2.2.2.2.1, (hagree c).2.2.2.2.2.1, (hagree c).2.2.2.2.2.2]
      exact (Cert.Reference6Ideal.Out.result _ _ _ _ _ _ _).trans (Cert.Kernel6Ideal.Out.final m c).symm
  · trivial
  · pair_intro
    · run_from Cert.Kernel7Ideal.Gen.run_main m g
    · run_from Cert.Reference7Ideal.Value.run m' g'
      rw [Cert.Reference7Ideal.Read.val_main_v42_eq]
      exact (Cert.Reference7Ideal.Out.result _ _ _ _ _ _ _).trans (Cert.Kernel7Ideal.Out.final m c).symm
  · trivial
  · pair_intro
    · run_from Cert.Kernel8Ideal.Gen.run_main m g
    · run_from Cert.Reference8Ideal.Value.run m' g'
      rw [Cert.Reference8Ideal.Read.val_main_v44_eq, (hagree c).1, (hagree c).2.1, (hagree c).2.2]
      exact (Cert.Reference8Ideal.Attend.result _ _ _ (hpre c)).trans (Cert.Kernel8Ideal.Attend.final m c).symm⟩

end Cert.Proof

end
